-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_nonsingular [hPre_finite_nonsingular : Cert.Pre_finite_nonsingular.Facts] (m : (ℓ : Loc Cert.KernelIdeal.nD Cert.KernelIdeal.τ Cert.KernelIdeal.sig) → Buf (Elt Ideal) ℓ) : Prop :=
  ∀ c : Dev Cert.KernelIdeal.nD,
    (Cert.Pre_finite_nonsingular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_nonsingular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_nonsingular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_nonsingular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_nonsingular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_nonsingular [hPre_finite_nonsingular : Cert.Pre_finite_nonsingular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_nonsingular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_nonsingular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_nonsingular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_nonsingular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_nonsingular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_nonsingular [hKernelIdeal : Cert.KernelIdeal.Facts] [hPre_finite_nonsingular : Cert.Pre_finite_nonsingular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_nonsingular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_nonsingular [hReferenceIdeal : Cert.ReferenceIdeal.Facts] [hPre_finite_nonsingular : Cert.Pre_finite_nonsingular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_nonsingular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_nonsingular [hKernelIdeal : Cert.KernelIdeal.Facts] [hReferenceIdeal : Cert.ReferenceIdeal.Facts] [hPre_finite_nonsingular : Cert.Pre_finite_nonsingular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_nonsingular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_nonsingular : Cert.Pre_finite_nonsingular.Facts),
    quiescent_Kernel (hKernel := hKernel)
    ∧ quiescent_KernelIdeal (hKernelIdeal := hKernelIdeal)
    ∧ quiescent_KernelIdeal_pre_finite_nonsingular (hKernelIdeal := hKernelIdeal) (hPre_finite_nonsingular := hPre_finite_nonsingular)
    ∧ quiescent_ReferenceIdeal (hReferenceIdeal := hReferenceIdeal)
    ∧ quiescent_ReferenceIdeal_pre_finite_nonsingular (hReferenceIdeal := hReferenceIdeal) (hPre_finite_nonsingular := hPre_finite_nonsingular)
    ∧ preserves_Kernel_KernelIdeal
    ∧ algebraic_KernelIdeal_ReferenceIdeal_pre_finite_nonsingular (hKernelIdeal := hKernelIdeal) (hReferenceIdeal := hReferenceIdeal) (hPre_finite_nonsingular := hPre_finite_nonsingular)
-- ==== Pre_finite_nonsingular.lean ====
abbrev S3x384x4096 : Shape := ⟨3, ![3, 384, 4096]⟩
abbrev S3x384x2048 : Shape := ⟨3, ![3, 384, 2048]⟩
abbrev S3x32x256x2 : Shape := ⟨4, ![3, 32, 256, 2]⟩
abbrev S3x32 : Shape := ⟨2, ![3, 32]⟩
abbrev S3x384x32 : Shape := ⟨3, ![3, 384, 32]⟩
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  bcast_S_S3x384x4096 : S_.BroadcastsInDim S3x384x4096 (![] : Fin 0 → Fin S3x384x4096.rank)
  bcast_S_S3x32 : S_.BroadcastsInDim S3x32 (![] : Fin 0 → Fin S3x32.rank)
  bcast_S_S3x384x32 : S_.BroadcastsInDim S3x384x32 (![] : Fin 0 → Fin S3x384x32.rank)

variable [Facts]

def fn_part1 {F : FTy → Type} [FloatOps F] (main_v6 : IVec S4096x4096 1) (main_v10 : IVec S4096x4096 1) (main_v13 : IVec S3x384x4096 1) (main_v16 : IVec S3x32 1) (main_v17 : FVec F S3x384x32 .f32) (main_v18 : FVec F S3x384x32 .f32) : IVec S3x384x4096 1 × IVec S3x32 1 × IVec S3x384x32 1 × IVec S4096x4096 1 × IVec S4096x4096 1 :=
  let main_v19 : IVec S3x384x32 1 := cmpf .olt main_v17 main_v18
  (main_v13, main_v16, main_v19, main_v6, main_v10)

def fn {F : FTy → Type} [FloatOps F] (main_arg0 : FVec F S3x384x4096 .bf16) (main_arg1 : IVec S3x384x2048 8) (main_arg2 : IVec S3x32x256x2 8) (main_arg3 : FVec F S3x32 .f32) (main_arg4 : FVec F S3x384x32 .f32) (main_arg5 : FVec F S4096x4096 .f32) : IVec S3x384x4096 1 × IVec S3x32 1 × IVec S3x384x32 1 × IVec S4096x4096 1 × IVec S4096x4096 1 :=
  let main_v0 : IVec S4096x4096 32 := iotaInDim S4096x4096 32 0
  let main_v1 : IVec S4096x4096 32 := iotaInDim S4096x4096 32 1
  let main_v2 : IVec S4096x4096 1 := cmpi .sgt main_v0 main_v1
  let main_v3 : FVec F S4096x4096 .f32 := Host.absf main_arg5
  let main_cst : FVec F S_ .f32 := constant S_ .f32 0x7F800000#32
  let main_v4 : FVec F S4096x4096 .f32 := broadcastInDim S4096x4096 ![] bcast_S_S4096x4096 main_cst
  let main_v5 : IVec S4096x4096 1 := cmpf .olt main_v3 main_v4
  let main_v6 : IVec S4096x4096 1 := ori main_v2 main_v5
  let main_v7 : IVec S4096x4096 1 := cmpi .ne main_v0 main_v1
  let main_cst_0 : FVec F S_ .f32 := constant S_ .f32 0x00000000#32
  let main_v8 : FVec F S4096x4096 .f32 := broadcastInDim S4096x4096 ![] bcast_S_S4096x4096 main_cst_0
  let main_v9 : IVec S4096x4096 1 := cmpf .une main_arg5 main_v8
  let main_v10 : IVec S4096x4096 1 := ori main_v7 main_v9
  let main_v11 : FVec F S3x384x4096 .bf16 := Host.absf main_arg0
  let main_cst_1 : FVec F S_ .bf16 := constant S_ .bf16 0x7F80#16
  let main_v12 : FVec F S3x384x4096 .bf16 := broadcastInDim S3x384x4096 ![] bcast_S_S3x384x4096 main_cst_1
  let main_v13 : IVec S3x384x4096 1 := cmpf .olt main_v11 main_v12
  let main_v14 : FVec F S3x32 .f32 := Host.absf main_arg3
  let main_cst_2 : FVec F S_ .f32 := constant S_ .f32 0x7F800000#32
  let main_v15 : FVec F S3x32 .f32 := broadcastInDim S3x32 ![] bcast_S_S3x32 main_cst_2
  let main_v16 : IVec S3x32 1 := cmpf .olt main_v14 main_v15
  let main_v17 : FVec F S3x384x32 .f32 := Host.absf main_arg4
  let main_cst_3 : FVec F S_ .f32 := constant S_ .f32 0x7F800000#32
  let main_v18 : FVec F S3x384x32 .f32 := broadcastInDim S3x384x32 ![] bcast_S_S3x384x32 main_cst_3
  fn_part1 (F := F) main_v6 main_v10 main_v13 main_v16 main_v17 main_v18
-- ==== Kernel.lean ====
abbrev S3x384x4096 : Shape := ⟨3, ![3, 384, 4096]⟩
abbrev S3x384x2048 : Shape := ⟨3, ![3, 384, 2048]⟩
abbrev S3x32x256x2 : Shape := ⟨4, ![3, 32, 256, 2]⟩
abbrev S3x32 : Shape := ⟨2, ![3, 32]⟩
abbrev S3x384x32 : Shape := ⟨3, ![3, 384, 32]⟩
abbrev S4096x4096 : Shape := ⟨2, ![4096, 4096]⟩
abbrev S3x32x2x128x2 : Shape := ⟨5, ![3, 32, 2, 128, 2]⟩
abbrev S3x32x128x2x2 : Shape := ⟨5, ![3, 32, 128, 2, 2]⟩
abbrev S3x32x128x4 : Shape := ⟨4, ![3, 32, 128, 4]⟩
abbrev S3x32x128 : Shape := ⟨3, ![3, 32, 128]⟩
abbrev S1152x32 : Shape := ⟨2, ![1152, 32]⟩
abbrev S_ : Shape := ⟨0, ![]⟩
abbrev S1152x128 : Shape := ⟨2, ![1152, 128]⟩
abbrev S16x256x256 : Shape := ⟨3, ![16, 256, 256]⟩
abbrev S256x256 : Shape := ⟨2, ![256, 256]⟩
abbrev S1x256x256 : Shape := ⟨3, ![1, 256, 256]⟩
abbrev S32x256 : Shape := ⟨2, ![32, 256]⟩
abbrev S32x128 : Shape := ⟨2, ![32, 128]⟩
abbrev S32x128x1 : Shape := ⟨3, ![32, 128, 1]⟩
abbrev S1x128 : Shape := ⟨2, ![1, 128]⟩
abbrev S64x256 : Shape := ⟨2, ![64, 256]⟩
abbrev S128x256 : Shape := ⟨2, ![128, 256]⟩
abbrev S1152x4096 : Shape := ⟨2, ![1152, 4096]⟩
abbrev S1152x2048 : Shape := ⟨2, ![1152, 2048]⟩
abbrev S1152x256 : Shape := ⟨2, ![1152, 256]⟩
abbrev S16x1152x256 : Shape := ⟨3, ![16, 1152, 256]⟩
abbrev S1x1152x256 : Shape := ⟨3, ![1, 1152, 256]⟩
abbrev S8x128 : Shape := ⟨2, ![8, 128]⟩
abbrev S1x1x128 : Shape := ⟨3, ![1, 1, 128]⟩
abbrev S1x1 : Shape := ⟨2, ![1, 1]⟩
abbrev S8x128x1 : Shape := ⟨3, ![8, 128, 1]⟩

abbrev nBuf : Space → Nat
  | .hbm => 21
  | .vmem => 20
  | .smem => 1
  | _ => 0

abbrev bufTy : (tb : Table) → Fin (tcTables nBuf tb) → BufTy
  | .hbm, ⟨0, _⟩ => ⟨S3x384x4096, .bf16⟩
  | .hbm, ⟨1, _⟩ => ⟨S3x384x2048, .i8⟩
  | .hbm, ⟨2, _⟩ => ⟨S3x32x256x2, .i8⟩
  | .hbm, ⟨3, _⟩ => ⟨S3x32, .f32⟩
  | .hbm, ⟨4, _⟩ => ⟨S3x384x32, .f32⟩
  | .hbm, ⟨5, _⟩ => ⟨S4096x4096, .f32⟩
  | .hbm, ⟨6, _⟩ => ⟨S3x32x2x128x2, .i8⟩
  | .hbm, ⟨7, _⟩ => ⟨S3x32x128x2x2, .i8⟩
  | .hbm, ⟨8, _⟩ => ⟨S3x32x128x4, .i8⟩
  | .hbm, ⟨9, _⟩ => ⟨S3x32x128, .i32⟩
  | .hbm, ⟨10, _⟩ => ⟨S1152x32, .f32⟩
  | .hbm, ⟨11, _⟩ => ⟨S_, .i32⟩
  | .hbm, ⟨12, _⟩ => ⟨S_, .f32⟩
  | .hbm, ⟨13, _⟩ => ⟨S1152x128, .f32⟩
  | .hbm, ⟨14, _⟩ => ⟨S16x256x256, .f32⟩
  | .hbm, ⟨15, _⟩ => ⟨S1152x4096, .bf16⟩
  | .hbm, ⟨16, _⟩ => ⟨S1152x2048, .i8⟩
  | .hbm, ⟨17, _⟩ => ⟨S1152x4096, .bf16⟩
  | .hbm, ⟨18, _⟩ => ⟨S1152x4096, .f32⟩
  | .hbm, ⟨19, _⟩ => ⟨S3x384x4096, .bf16⟩
  | .hbm, ⟨20, _⟩ => ⟨S3x384x4096, .f32⟩
  | .local _ .vmem, ⟨0, _⟩ => ⟨S256x256, .f32⟩
  | .local _ .vmem, ⟨1, _⟩ => ⟨S256x256, .f32⟩
  | .local _ .vmem, ⟨2, _⟩ => ⟨S1x256x256, .f32⟩
  | .local _ .vmem, ⟨3, _⟩ => ⟨S1x256x256, .f32⟩
  | .local _ .vmem, ⟨4, _⟩ => ⟨S1152x256, .bf16⟩
  | .local _ .vmem, ⟨5, _⟩ => ⟨S1152x256, .bf16⟩
  | .local _ .vmem, ⟨6, _⟩ => ⟨S1152x128, .i8⟩
  | .local _ .vmem, ⟨7, _⟩ => ⟨S1152x128, .i8⟩
  | .local _ .vmem, ⟨8, _⟩ => ⟨S3x32x128, .i32⟩
  | .local _ .vmem, ⟨9, _⟩ => ⟨S1152x128, .f32⟩
  | .local _ .vmem, ⟨10, _⟩ => ⟨S256x256, .f32⟩
  | .local _ .vmem, ⟨11, _⟩ => ⟨S256x256, .f32⟩
  | .local _ .vmem, ⟨12, _⟩ => ⟨S1x256x256, .f32⟩
  | .local _ .vmem, ⟨13, _⟩ => ⟨S1x256x256, .f32⟩
  | .local _ .vmem, ⟨14, _⟩ => ⟨S1152x256, .bf16⟩
  | .local _ .vmem, ⟨15, _⟩ => ⟨S1152x256, .bf16⟩
  | .local _ .vmem, ⟨16, _⟩ => ⟨S1152x256, .f32⟩
  | .local _ .vmem, ⟨17, _⟩ => ⟨S1152x256, .f32⟩
  | .local _ .vmem, ⟨18, _⟩ => ⟨S1152x256, .f32⟩
  | .local _ .vmem, ⟨19, _⟩ => ⟨S16x1152x256, .f32⟩
  | .local _ .smem, ⟨0, _⟩ => ⟨S3x32, .f32⟩
  | _, _ => ⟨S3x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc1_scratch0 : Ref sig .tc := ⟨.vmem, 18, rfl⟩
abbrev cc1_scratch1 : Ref sig .tc := ⟨.vmem, 19, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14
abbrev cc1_sem7_0 : DmaSem sig := 15
abbrev cc1_sem7_1 : DmaSem sig := 16
abbrev cc1_sem8_0 : DmaSem sig := 17
abbrev cc1_sem8_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  ![arg0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 16], ![false, false]⟩

def k1_cond2 (i : grid1.Coords) : BitVec 1 :=
  let arg1 : BitVec 32 := BitVec.ofNat 32 (i 1).val
  let arg0 : BitVec 32 := BitVec.ofNat 32 (i 0).val
  let v3 : BitVec 1 := Scalar.cmpi .slt arg1 arg0
  let v4 : BitVec 32 := Scalar.extui v3
  let c0_i32_1 : BitVec 32 := 0#32
  let v5 : BitVec 1 := Scalar.cmpi .ne v4 c0_i32_1
  v5

def k1_off1 (i : grid1.Coords) : Fin 3 → Nat :=
  let arg1 : BitVec 32 := BitVec.ofNat 32 (i 1).val
  let v10 : Index := Scalar.indexCast arg1
  let c0_4 : Index := 0#32
  let c0_5 : Index := 0#32
  ![v10.toNat, 0, 0]
def k1_cond3 (i : grid1.Coords) : BitVec 1 :=
  let arg1 : BitVec 32 := BitVec.ofNat 32 (i 1).val
  let arg0 : BitVec 32 := BitVec.ofNat 32 (i 0).val
  let v6 : BitVec 1 := Scalar.cmpi .eq arg1 arg0
  let v7 : BitVec 32 := Scalar.extui v6
  let c0_i32_2 : BitVec 32 := 0#32
  let v8 : BitVec 1 := Scalar.cmpi .ne v7 c0_i32_2
  v8

def k1_off2 (i : grid1.Coords) (c0_i32_3 : BitVec 32) : Fin 3 → Nat :=
  let c0 : Index := 0#32
  let c2_i32 : BitVec 32 := 2#32
  let arg0 : BitVec 32 := BitVec.ofNat 32 (i 0).val
  let v10 : BitVec 32 := Scalar.muli c2_i32 arg0
  let v11 : BitVec 32 := Scalar.addi v10 c0_i32_3
  let v12 : Index := Scalar.indexCast v11
  let c0_4 : Index := 0#32
  ![0, v12.toNat, 0]
def k1_off3 (i : grid1.Coords) (c0_i32_6 : BitVec 32) : Fin 2 → Nat :=
  let c0_7 : Index := 0#32
  let c2_i32_5 : BitVec 32 := 2#32
  let arg0 : BitVec 32 := BitVec.ofNat 32 (i 0).val
  let v18 : BitVec 32 := Scalar.muli c2_i32_5 arg0
  let v19 : BitVec 32 := Scalar.addi v18 c0_i32_6
  let v20 : Index := Scalar.indexCast v19
  ![0, v20.toNat]
@[reducible] def k1_t1_loop : Scf.Loop 32 :=
  let c0_i32_8 : BitVec 32 := 0#32
  let c12_i32 : BitVec 32 := 12#32
  let v22 : BitVec 32 := Scalar.addi c0_i32_8 c12_i32
  let c1_i32 : BitVec 32 := 1#32
  ⟨c0_i32_8, v22, c1_i32⟩
def k1_mult1 (k1_t1 : Fin k1_t1_loop.trips) : BitVec 32 :=
  let c0_i32_78 : BitVec 32 := 0#32
  let c0_i32_8 : BitVec 32 := 0#32
  let c1_i32 : BitVec 32 := 1#32
  let arg13 : BitVec 32 := Scf.iv c0_i32_8 c1_i32 k1_t1
  let c32_i32 : BitVec 32 := 32#32
  let v107 : BitVec 32 := Scalar.muli arg13 c32_i32
  let v108 : BitVec 32 := Scalar.addi c0_i32_78 v107
  v108
def k1_off4 (k1_t1 : Fin k1_t1_loop.trips) : Fin 2 → Nat :=
  let c0_i32_78 : BitVec 32 := 0#32
  let c0_i32_8 : BitVec 32 := 0#32
  let c1_i32 : BitVec 32 := 1#32
  let arg13 : BitVec 32 := Scf.iv c0_i32_8 c1_i32 k1_t1
  let c32_i32 : BitVec 32 := 32#32
  let v107 : BitVec 32 := Scalar.muli arg13 c32_i32
  let v108 : BitVec 32 := Scalar.addi c0_i32_78 v107
  let v109 : BitVec 32 := v108
  let v110 : Index := Scalar.indexCast v109
  let c0_79 : Index := 0#32
  ![v110.toNat, 0]
def k1_off5 (k1_t1 : Fin k1_t1_loop.trips) (c0_i32_99 : BitVec 32) : Fin 2 → Nat :=
  let c0_i32_78 : BitVec 32 := 0#32
  let c0_i32_8 : BitVec 32 := 0#32
  let c1_i32 : BitVec 32 := 1#32
  let arg13 : BitVec 32 := Scf.iv c0_i32_8 c1_i32 k1_t1
  let c32_i32 : BitVec 32 := 32#32
  let v107 : BitVec 32 := Scalar.muli arg13 c32_i32
  let v108 : BitVec 32 := Scalar.addi c0_i32_78 v107
  let v109 : BitVec 32 := v108
  let v189 : BitVec 32 := Scalar.addi v109 c0_i32_99
  let v190 : Index := Scalar.indexCast v189
  let c0_100 : Index := 0#32
  ![v190.toNat, 0]
def k1_off6 (k1_t1 : Fin k1_t1_loop.trips) (c0_i32_105 : BitVec 32) : Fin 2 → Nat :=
  let c0_i32_78 : BitVec 32 := 0#32
  let c0_i32_8 : BitVec 32 := 0#32
  let c1_i32 : BitVec 32 := 1#32
  let arg13 : BitVec 32 := Scf.iv c0_i32_8 c1_i32 k1_t1
  let c32_i32 : BitVec 32 := 32#32
  let v107 : BitVec 32 := Scalar.muli arg13 c32_i32
  let v108 : BitVec 32 := Scalar.addi c0_i32_78 v107
  let v109 : BitVec 32 := v108
  let v208 : BitVec 32 := Scalar.addi v109 c0_i32_105
  let v209 : Index := Scalar.indexCast v208
  let c0_106 : Index := 0#32
  ![v209.toNat, 0]
@[reducible] def k1_t2_loop : Scf.Loop 32 :=
  let c0_i32_17 : BitVec 32 := 0#32
  let c12_i32_18 : BitVec 32 := 12#32
  let v35 : BitVec 32 := Scalar.addi c0_i32_17 c12_i32_18
  let c1_i32_19 : BitVec 32 := 1#32
  ⟨c0_i32_17, v35, c1_i32_19⟩
def k1_mult2 (k1_t2 : Fin k1_t2_loop.trips) : BitVec 32 :=
  let c0_i32_78 : BitVec 32 := 0#32
  let c0_i32_17 : BitVec 32 := 0#32
  let c1_i32_19 : BitVec 32 := 1#32
  let arg13 : BitVec 32 := Scf.iv c0_i32_17 c1_i32_19 k1_t2
  let c32_i32 : BitVec 32 := 32#32
  let v107 : BitVec 32 := Scalar.muli arg13 c32_i32
  let v108 : BitVec 32 := Scalar.addi c0_i32_78 v107
  v108
def k1_off7 (k1_t2 : Fin k1_t2_loop.trips) : Fin 2 → Nat :=
  let c0_i32_78 : BitVec 32 := 0#32
  let c0_i32_17 : BitVec 32 := 0#32
  let c1_i32_19 : BitVec 32 := 1#32
  let arg13 : BitVec 32 := Scf.iv c0_i32_17 c1_i32_19 k1_t2
  let c32_i32 : BitVec 32 := 32#32
  let v107 : BitVec 32 := Scalar.muli arg13 c32_i32
  let v108 : BitVec 32 := Scalar.addi c0_i32_78 v107
  let v109 : BitVec 32 := v108
  let v110 : Index := Scalar.indexCast v109
  let c0_79 : Index := 0#32
  ![v110.toNat, 0]
def k1_off8 (k1_t2 : Fin k1_t2_loop.trips) (c0_i32_98 : BitVec 32) : Fin 2 → Nat :=
  let c0_i32_78 : BitVec 32 := 0#32
  let c0_i32_17 : BitVec 32 := 0#32
  let c1_i32_19 : BitVec 32 := 1#32
  let arg13 : BitVec 32 := Scf.iv c0_i32_17 c1_i32_19 k1_t2
  let c32_i32 : BitVec 32 := 32#32
  let v107 : BitVec 32 := Scalar.muli arg13 c32_i32
  let v108 : BitVec 32 := Scalar.addi c0_i32_78 v107
  let v109 : BitVec 32 := v108
  let v189 : BitVec 32 := Scalar.addi v109 c0_i32_98
  let v190 : Index := Scalar.indexCast v189
  let c0_99 : Index := 0#32
  ![v190.toNat, 0]
def k1_off9 (k1_t2 : Fin k1_t2_loop.trips) (c0_i32_104 : BitVec 32) : Fin 2 → Nat :=
  let c0_i32_78 : BitVec 32 := 0#32
  let c0_i32_17 : BitVec 32 := 0#32
  let c1_i32_19 : BitVec 32 := 1#32
  let arg13 : BitVec 32 := Scf.iv c0_i32_17 c1_i32_19 k1_t2
  let c32_i32 : BitVec 32 := 32#32
  let v107 : BitVec 32 := Scalar.muli arg13 c32_i32
  let v108 : BitVec 32 := Scalar.addi c0_i32_78 v107
  let v109 : BitVec 32 := v108
  let v208 : BitVec 32 := Scalar.addi v109 c0_i32_104
  let v209 : Index := Scalar.indexCast v208
  let c128 : Index := 128#32
  ![v209.toNat, 128]
def k1_off10 (i : grid1.Coords) (c0_i32_22 : BitVec 32) : Fin 3 → Nat :=
  let c1 : Index := 1#32
  let c2_i32_21 : BitVec 32 := 2#32
  let arg0 : BitVec 32 := BitVec.ofNat 32 (i 0).val
  let v36 : BitVec 32 := Scalar.muli c2_i32_21 arg0
  let v37 : BitVec 32 := Scalar.addi v36 c0_i32_22
  let v38 : Index := Scalar.indexCast v37
  let c0_23 : Index := 0#32
  ![1, v38.toNat, 0]
def k1_off11 (i : grid1.Coords) (c0_i32_25 : BitVec 32) : Fin 2 → Nat :=
  let c1_26 : Index := 1#32
  let c2_i32_24 : BitVec 32 := 2#32
  let arg0 : BitVec 32 := BitVec.ofNat 32 (i 0).val
  let v44 : BitVec 32 := Scalar.muli c2_i32_24 arg0
  let v45 : BitVec 32 := Scalar.addi v44 c0_i32_25
  let v46 : Index := Scalar.indexCast v45
  ![1, v46.toNat]
@[reducible] def k1_t3_loop : Scf.Loop 32 :=
  let c0_i32_27 : BitVec 32 := 0#32
  let c12_i32_28 : BitVec 32 := 12#32
  let v48 : BitVec 32 := Scalar.addi c0_i32_27 c12_i32_28
  let c1_i32_29 : BitVec 32 := 1#32
  ⟨c0_i32_27, v48, c1_i32_29⟩
def k1_mult3 (k1_t3 : Fin k1_t3_loop.trips) : BitVec 32 :=
  let c384_i32 : BitVec 32 := 384#32
  let c0_i32_27 : BitVec 32 := 0#32
  let c1_i32_29 : BitVec 32 := 1#32
  let arg13 : BitVec 32 := Scf.iv c0_i32_27 c1_i32_29 k1_t3
  let c32_i32 : BitVec 32 := 32#32
  let v107 : BitVec 32 := Scalar.muli arg13 c32_i32
  let v108 : BitVec 32 := Scalar.addi c384_i32 v107
  v108
def k1_off12 (k1_t3 : Fin k1_t3_loop.trips) : Fin 2 → Nat :=
  let c384_i32 : BitVec 32 := 384#32
  let c0_i32_27 : BitVec 32 := 0#32
  let c1_i32_29 : BitVec 32 := 1#32
  let arg13 : BitVec 32 := Scf.iv c0_i32_27 c1_i32_29 k1_t3
  let c32_i32 : BitVec 32 := 32#32
  let v107 : BitVec 32 := Scalar.muli arg13 c32_i32
  let v108 : BitVec 32 := Scalar.addi c384_i32 v107
  let v109 : BitVec 32 := v108
  let v110 : Index := Scalar.indexCast v109
  let c0_78 : Index := 0#32
  ![v110.toNat, 0]
def k1_off13 (k1_t3 : Fin k1_t3_loop.trips) (c0_i32_98 : BitVec 32) : Fin 2 → Nat :=
  let c384_i32 : BitVec 32 := 384#32
  let c0_i32_27 : BitVec 32 := 0#32
  let c1_i32_29 : BitVec 32 := 1#32
  let arg13 : BitVec 32 := Scf.iv c0_i32_27 c1_i32_29 k1_t3
  let c32_i32 : BitVec 32 := 32#32
  let v107 : BitVec 32 := Scalar.muli arg13 c32_i32
  let v108 : BitVec 32 := Scalar.addi c384_i32 v107
  let v109 : BitVec 32 := v108
  let v189 : BitVec 32 := Scalar.addi v109 c0_i32_98
  let v190 : Index := Scalar.indexCast v189
  let c0_99 : Index := 0#32
  ![v190.toNat, 0]
def k1_off14 (k1_t3 : Fin k1_t3_loop.trips) (c0_i32_104 : BitVec 32) : Fin 2 → Nat :=
  let c384_i32 : BitVec 32 := 384#32
  let c0_i32_27 : BitVec 32 := 0#32
  let c1_i32_29 : BitVec 32 := 1#32
  let arg13 : BitVec 32 := Scf.iv c0_i32_27 c1_i32_29 k1_t3
  let c32_i32 : BitVec 32 := 32#32
  let v107 : BitVec 32 := Scalar.muli arg13 c32_i32
  let v108 : BitVec 32 := Scalar.addi c384_i32 v107
  let v109 : BitVec 32 := v108
  let v208 : BitVec 32 := Scalar.addi v109 c0_i32_104
  let v209 : Index := Scalar.indexCast v208
  let c0_105 : Index := 0#32
  ![v209.toNat, 0]
@[reducible] def k1_t4_loop : Scf.Loop 32 :=
  let c0_i32_38 : BitVec 32 := 0#32
  let c12_i32_39 : BitVec 32 := 12#32
  let v61 : BitVec 32 := Scalar.addi c0_i32_38 c12_i32_39
  let c1_i32_40 : BitVec 32 := 1#32
  ⟨c0_i32_38, v61, c1_i32_40⟩
def k1_mult4 (k1_t4 : Fin k1_t4_loop.trips) : BitVec 32 :=
  let c384_i32 : BitVec 32 := 384#32
  let c0_i32_38 : BitVec 32 := 0#32
  let c1_i32_40 : BitVec 32 := 1#32
  let arg13 : BitVec 32 := Scf.iv c0_i32_38 c1_i32_40 k1_t4
  let c32_i32 : BitVec 32 := 32#32
  let v107 : BitVec 32 := Scalar.muli arg13 c32_i32
  let v108 : BitVec 32 := Scalar.addi c384_i32 v107
  v108
def k1_off15 (k1_t4 : Fin k1_t4_loop.trips) : Fin 2 → Nat :=
  let c384_i32 : BitVec 32 := 384#32
  let c0_i32_38 : BitVec 32 := 0#32
  let c1_i32_40 : BitVec 32 := 1#32
  let arg13 : BitVec 32 := Scf.iv c0_i32_38 c1_i32_40 k1_t4
  let c32_i32 : BitVec 32 := 32#32
  let v107 : BitVec 32 := Scalar.muli arg13 c32_i32
  let v108 : BitVec 32 := Scalar.addi c384_i32 v107
  let v109 : BitVec 32 := v108
  let v110 : Index := Scalar.indexCast v109
  let c0_78 : Index := 0#32
  ![v110.toNat, 0]
def k1_off16 (k1_t4 : Fin k1_t4_loop.trips) (c0_i32_97 : BitVec 32) : Fin 2 → Nat :=
  let c384_i32 : BitVec 32 := 384#32
  let c0_i32_38 : BitVec 32 := 0#32
  let c1_i32_40 : BitVec 32 := 1#32
  let arg13 : BitVec 32 := Scf.iv c0_i32_38 c1_i32_40 k1_t4
  let c32_i32 : BitVec 32 := 32#32
  let v107 : BitVec 32 := Scalar.muli arg13 c32_i32
  let v108 : BitVec 32 := Scalar.addi c384_i32 v107
  let v109 : BitVec 32 := v108
  let v189 : BitVec 32 := Scalar.addi v109 c0_i32_97
  let v190 : Index := Scalar.indexCast v189
  let c0_98 : Index := 0#32
  ![v190.toNat, 0]
def k1_off17 (k1_t4 : Fin k1_t4_loop.trips) (c0_i32_103 : BitVec 32) : Fin 2 → Nat :=
  let c384_i32 : BitVec 32 := 384#32
  let c0_i32_38 : BitVec 32 := 0#32
  let c1_i32_40 : BitVec 32 := 1#32
  let arg13 : BitVec 32 := Scf.iv c0_i32_38 c1_i32_40 k1_t4
  let c32_i32 : BitVec 32 := 32#32
  let v107 : BitVec 32 := Scalar.muli arg13 c32_i32
  let v108 : BitVec 32 := Scalar.addi c384_i32 v107
  let v109 : BitVec 32 := v108
  let v208 : BitVec 32 := Scalar.addi v109 c0_i32_103
  let v209 : Index := Scalar.indexCast v208
  let c128 : Index := 128#32
  ![v209.toNat, 128]
def k1_off18 (i : grid1.Coords) (c0_i32_43 : BitVec 32) : Fin 3 → Nat :=
  let c2 : Index := 2#32
  let c2_i32_42 : BitVec 32 := 2#32
  let arg0 : BitVec 32 := BitVec.ofNat 32 (i 0).val
  let v62 : BitVec 32 := Scalar.muli c2_i32_42 arg0
  let v63 : BitVec 32 := Scalar.addi v62 c0_i32_43
  let v64 : Index := Scalar.indexCast v63
  let c0_44 : Index := 0#32
  ![2, v64.toNat, 0]
def k1_off19 (i : grid1.Coords) (c0_i32_46 : BitVec 32) : Fin 2 → Nat :=
  let c2_47 : Index := 2#32
  let c2_i32_45 : BitVec 32 := 2#32
  let arg0 : BitVec 32 := BitVec.ofNat 32 (i 0).val
  let v70 : BitVec 32 := Scalar.muli c2_i32_45 arg0
  let v71 : BitVec 32 := Scalar.addi v70 c0_i32_46
  let v72 : Index := Scalar.indexCast v71
  ![2, v72.toNat]
@[reducible] def k1_t5_loop : Scf.Loop 32 :=
  let c0_i32_48 : BitVec 32 := 0#32
  let c12_i32_49 : BitVec 32 := 12#32
  let v74 : BitVec 32 := Scalar.addi c0_i32_48 c12_i32_49
  let c1_i32_50 : BitVec 32 := 1#32
  ⟨c0_i32_48, v74, c1_i32_50⟩
def k1_mult5 (k1_t5 : Fin k1_t5_loop.trips) : BitVec 32 :=
  let c768_i32 : BitVec 32 := 768#32
  let c0_i32_48 : BitVec 32 := 0#32
  let c1_i32_50 : BitVec 32 := 1#32
  let arg13 : BitVec 32 := Scf.iv c0_i32_48 c1_i32_50 k1_t5
  let c32_i32 : BitVec 32 := 32#32
  let v107 : BitVec 32 := Scalar.muli arg13 c32_i32
  let v108 : BitVec 32 := Scalar.addi c768_i32 v107
  v108
def k1_off20 (k1_t5 : Fin k1_t5_loop.trips) : Fin 2 → Nat :=
  let c768_i32 : BitVec 32 := 768#32
  let c0_i32_48 : BitVec 32 := 0#32
  let c1_i32_50 : BitVec 32 := 1#32
  let arg13 : BitVec 32 := Scf.iv c0_i32_48 c1_i32_50 k1_t5
  let c32_i32 : BitVec 32 := 32#32
  let v107 : BitVec 32 := Scalar.muli arg13 c32_i32
  let v108 : BitVec 32 := Scalar.addi c768_i32 v107
  let v109 : BitVec 32 := v108
  let v110 : Index := Scalar.indexCast v109
  let c0_78 : Index := 0#32
  ![v110.toNat, 0]
def k1_off21 (k1_t5 : Fin k1_t5_loop.trips) (c0_i32_98 : BitVec 32) : Fin 2 → Nat :=
  let c768_i32 : BitVec 32 := 768#32
  let c0_i32_48 : BitVec 32 := 0#32
  let c1_i32_50 : BitVec 32 := 1#32
  let arg13 : BitVec 32 := Scf.iv c0_i32_48 c1_i32_50 k1_t5
  let c32_i32 : BitVec 32 := 32#32
  let v107 : BitVec 32 := Scalar.muli arg13 c32_i32
  let v108 : BitVec 32 := Scalar.addi c768_i32 v107
  let v109 : BitVec 32 := v108
  let v189 : BitVec 32 := Scalar.addi v109 c0_i32_98
  let v190 : Index := Scalar.indexCast v189
  let c0_99 : Index := 0#32
  ![v190.toNat, 0]
def k1_off22 (k1_t5 : Fin k1_t5_loop.trips) (c0_i32_104 : BitVec 32) : Fin 2 → Nat :=
  let c768_i32 : BitVec 32 := 768#32
  let c0_i32_48 : BitVec 32 := 0#32
  let c1_i32_50 : BitVec 32 := 1#32
  let arg13 : BitVec 32 := Scf.iv c0_i32_48 c1_i32_50 k1_t5
  let c32_i32 : BitVec 32 := 32#32
  let v107 : BitVec 32 := Scalar.muli arg13 c32_i32
  let v108 : BitVec 32 := Scalar.addi c768_i32 v107
  let v109 : BitVec 32 := v108
  let v208 : BitVec 32 := Scalar.addi v109 c0_i32_104
  let v209 : Index := Scalar.indexCast v208
  let c0_105 : Index := 0#32
  ![v209.toNat, 0]
@[reducible] def k1_t6_loop : Scf.Loop 32 :=
  let c0_i32_59 : BitVec 32 := 0#32
  let c12_i32_60 : BitVec 32 := 12#32
  let v87 : BitVec 32 := Scalar.addi c0_i32_59 c12_i32_60
  let c1_i32_61 : BitVec 32 := 1#32
  ⟨c0_i32_59, v87, c1_i32_61⟩
def k1_mult6 (k1_t6 : Fin k1_t6_loop.trips) : BitVec 32 :=
  let c768_i32 : BitVec 32 := 768#32
  let c0_i32_59 : BitVec 32 := 0#32
  let c1_i32_61 : BitVec 32 := 1#32
  let arg13 : BitVec 32 := Scf.iv c0_i32_59 c1_i32_61 k1_t6
  let c32_i32 : BitVec 32 := 32#32
  let v107 : BitVec 32 := Scalar.muli arg13 c32_i32
  let v108 : BitVec 32 := Scalar.addi c768_i32 v107
  v108
def k1_off23 (k1_t6 : Fin k1_t6_loop.trips) : Fin 2 → Nat :=
  let c768_i32 : BitVec 32 := 768#32
  let c0_i32_59 : BitVec 32 := 0#32
  let c1_i32_61 : BitVec 32 := 1#32
  let arg13 : BitVec 32 := Scf.iv c0_i32_59 c1_i32_61 k1_t6
  let c32_i32 : BitVec 32 := 32#32
  let v107 : BitVec 32 := Scalar.muli arg13 c32_i32
  let v108 : BitVec 32 := Scalar.addi c768_i32 v107
  let v109 : BitVec 32 := v108
  let v110 : Index := Scalar.indexCast v109
  let c0_78 : Index := 0#32
  ![v110.toNat, 0]
def k1_off24 (k1_t6 : Fin k1_t6_loop.trips) (c0_i32_97 : BitVec 32) : Fin 2 → Nat :=
  let c768_i32 : BitVec 32 := 768#32
  let c0_i32_59 : BitVec 32 := 0#32
  let c1_i32_61 : BitVec 32 := 1#32
  let arg13 : BitVec 32 := Scf.iv c0_i32_59 c1_i32_61 k1_t6
  let c32_i32 : BitVec 32 := 32#32
  let v107 : BitVec 32 := Scalar.muli arg13 c32_i32
  let v108 : BitVec 32 := Scalar.addi c768_i32 v107
  let v109 : BitVec 32 := v108
  let v189 : BitVec 32 := Scalar.addi v109 c0_i32_97
  let v190 : Index := Scalar.indexCast v189
  let c0_98 : Index := 0#32
  ![v190.toNat, 0]
def k1_off25 (k1_t6 : Fin k1_t6_loop.trips) (c0_i32_103 : BitVec 32) : Fin 2 → Nat :=
  let c768_i32 : BitVec 32 := 768#32
  let c0_i32_59 : BitVec 32 := 0#32
  let c1_i32_61 : BitVec 32 := 1#32
  let arg13 : BitVec 32 := Scf.iv c0_i32_59 c1_i32_61 k1_t6
  let c32_i32 : BitVec 32 := 32#32
  let v107 : BitVec 32 := Scalar.muli arg13 c32_i32
  let v108 : BitVec 32 := Scalar.addi c768_i32 v107
  let v109 : BitVec 32 := v108
  let v208 : BitVec 32 := Scalar.addi v109 c0_i32_103
  let v209 : Index := Scalar.indexCast v208
  let c128 : Index := 128#32
  ![v209.toNat, 128]
def k1_off26 (i : grid1.Coords) : Fin 3 → Nat :=
  let arg0 : BitVec 32 := BitVec.ofNat 32 (i 0).val
  let v102 : Index := Scalar.indexCast arg0
  let c0_74 : Index := 0#32
  let c0_75 : Index := 0#32
  ![v102.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let v0 : BitVec 32 := Scalar.minsi arg1 arg0
  let c0_i32 : BitVec 32 := 0#32
  ![v0.toNat, arg0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .smem S3x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1152x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1152x128 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S3x32x128 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1152x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1152x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1152x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== ReferenceIdeal.lean ====
abbrev S3x384x4096 : Shape := ⟨3, ![3, 384, 4096]⟩
abbrev S3x384x2048 : Shape := ⟨3, ![3, 384, 2048]⟩
abbrev S3x32x256x2 : Shape := ⟨4, ![3, 32, 256, 2]⟩
abbrev S3x32 : Shape := ⟨2, ![3, 32]⟩
abbrev S3x384x32 : Shape := ⟨3, ![3, 384, 32]⟩
abbrev S4096x4096 : Shape := ⟨2, ![4096, 4096]⟩
abbrev S3x384x32x64 : Shape := ⟨4, ![3, 384, 32, 64]⟩
abbrev S3 : Shape := ⟨1, ![3]⟩
abbrev S3x1x1x1 : Shape := ⟨4, ![3, 1, 1, 1]⟩
abbrev S32 : Shape := ⟨1, ![32]⟩
abbrev S1x1x32x1 : Shape := ⟨4, ![1, 1, 32, 1]⟩
abbrev S_ : Shape := ⟨0, ![]⟩
abbrev S3x384x32x64x1 : Shape := ⟨5, ![3, 384, 32, 64, 1]⟩
abbrev S3x384x32x64x3 : Shape := ⟨5, ![3, 384, 32, 64, 3]⟩
abbrev S3x384x32x64x2 : Shape := ⟨5, ![3, 384, 32, 64, 2]⟩
abbrev S3x1x32x1x1 : Shape := ⟨5, ![3, 1, 32, 1, 1]⟩
abbrev S3x384x32x1x1 : Shape := ⟨5, ![3, 384, 32, 1, 1]⟩
abbrev S1152x4096 : Shape := ⟨2, ![1152, 4096]⟩
abbrev S4096 : Shape := ⟨1, ![4096]⟩
abbrev S2x4096 : Shape := ⟨2, ![2, 4096]⟩
abbrev S2x2 : Shape := ⟨2, ![2, 2]⟩
abbrev S1x1 : Shape := ⟨2, ![1, 1]⟩
abbrev S1152x2 : Shape := ⟨2, ![1152, 2]⟩
abbrev S1152x1 : Shape := ⟨2, ![1152, 1]⟩
abbrev S1152 : Shape := ⟨1, ![1152]⟩
abbrev S1x4096 : Shape := ⟨2, ![1, 4096]⟩

abbrev nBuf : Space → Nat
  | .hbm => 149
  | .vmem => 0
  | .smem => 0
  | _ => 0

abbrev hbmTy0_0 (i : Nat) : BufTy := match i % 128 with
  | 0 => ⟨S3x384x4096, .bf16⟩
  | 1 => ⟨S3x384x2048, .i8⟩
  | 2 => ⟨S3x32x256x2, .i8⟩
  | 3 => ⟨S3x32, .f32⟩
  | 4 => ⟨S3x384x32, .f32⟩
  | 5 => ⟨S4096x4096, .f32⟩
  | 6 => ⟨S3x384x32x64, .i8⟩
  | 7 => ⟨S3x384x32x64, .i32⟩
  | 8 => ⟨S3, .i32⟩
  | 9 => ⟨S3x1x1x1, .i32⟩
  | 10 => ⟨S32, .i32⟩
  | 11 => ⟨S1x1x32x1, .i32⟩
  | 12 => ⟨S_, .i32⟩
  | 13 => ⟨S3x1x1x1, .i32⟩
  | 14 => ⟨S3x1x1x1, .i1⟩
  | 15 => ⟨S_, .i32⟩
  | 16 => ⟨S3x1x1x1, .i32⟩
  | 17 => ⟨S3x1x1x1, .i32⟩
  | 18 => ⟨S3x1x1x1, .i32⟩
  | 19 => ⟨S_, .i32⟩
  | 20 => ⟨S1x1x32x1, .i32⟩
  | 21 => ⟨S1x1x32x1, .i1⟩
  | 22 => ⟨S_, .i32⟩
  | 23 => ⟨S1x1x32x1, .i32⟩
  | 24 => ⟨S1x1x32x1, .i32⟩
  | 25 => ⟨S1x1x32x1, .i32⟩
  | 26 => ⟨S_, .i32⟩
  | 27 => ⟨S3x384x32x64, .i32⟩
  | 28 => ⟨S3x384x32x64, .i1⟩
  | 29 => ⟨S_, .i32⟩
  | 30 => ⟨S3x384x32x64, .i32⟩
  | 31 => ⟨S3x384x32x64, .i32⟩
  | 32 => ⟨S3x384x32x64, .i32⟩
  | 33 => ⟨S3x384x32x64, .i32⟩
  | 34 => ⟨S3x384x32x64, .i32⟩
  | 35 => ⟨S3x384x32x64x1, .i32⟩
  | 36 => ⟨S3x384x32x64x1, .i32⟩
  | 37 => ⟨S3x384x32x64x1, .i32⟩
  | 38 => ⟨S3x384x32x64x3, .i32⟩
  | 39 => ⟨S3x384x32x64x2, .i8⟩
  | 40 => ⟨S3x384x32x64x2, .i32⟩
  | 41 => ⟨S3x384x32x64x2, .f32⟩
  | 42 => ⟨S3x1x32x1x1, .f32⟩
  | 43 => ⟨S3x384x32x64x2, .f32⟩
  | 44 => ⟨S3x384x32x64x2, .f32⟩
  | 45 => ⟨S3x384x32x1x1, .f32⟩
  | 46 => ⟨S3x384x32x64x2, .f32⟩
  | 47 => ⟨S3x384x32x64x2, .f32⟩
  | 48 => ⟨S3x384x32x64x2, .bf16⟩
  | 49 => ⟨S3x384x4096, .bf16⟩
  | 50 => ⟨S3x384x4096, .f32⟩
  | 51 => ⟨S1152x4096, .f32⟩
  | 52 => ⟨S3x384x4096, .f32⟩
  | 53 => ⟨S1152x4096, .f32⟩
  | 54 => ⟨S_, .f32⟩
  | 55 => ⟨S1152x4096, .f32⟩
  | 56 => ⟨S4096, .i32⟩
  | 57 => ⟨S_, .i32⟩
  | 58 => ⟨S_, .i32⟩
  | 59 => ⟨S4096x4096, .f32⟩
  | 60 => ⟨S1152x4096, .f32⟩
  | 61 => ⟨S4096, .i32⟩
  | 62 => ⟨S_, .i32⟩
  | 63 => ⟨S_, .i32⟩
  | 64 => ⟨S1152x4096, .f32⟩
  | 65 => ⟨S1152x4096, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S2x4096, .f32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S_, .i32⟩
  | 87 => ⟨S2x2, .f32⟩
  | 88 => ⟨S1x1, .f32⟩
  | 89 => ⟨S_, .f32⟩
  | 90 => ⟨S1x1, .f32⟩
  | 91 => ⟨S_, .f32⟩
  | 92 => ⟨S1x1, .f32⟩
  | 93 => ⟨S_, .f32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S1152x2, .f32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S1152x2, .f32⟩
  | 110 => ⟨S1152x2, .f32⟩
  | 111 => ⟨S1152x1, .f32⟩
  | 112 => ⟨S1152, .f32⟩
  | 113 => ⟨S1152, .f32⟩
  | 114 => ⟨S1152, .f32⟩
  | 115 => ⟨S1152x1, .f32⟩
  | 116 => ⟨S1152, .f32⟩
  | 117 => ⟨S1152, .f32⟩
  | 118 => ⟨S1152, .f32⟩
  | 119 => ⟨S1152, .f32⟩
  | 120 => ⟨S1152, .f32⟩
  | 121 => ⟨S1152, .f32⟩
  | 122 => ⟨S1152x1, .f32⟩
  | 123 => ⟨S1152x1, .f32⟩
  | 124 => ⟨S1152x2, .f32⟩
  | 125 => ⟨S_, .i32⟩
  | 126 => ⟨S_, .i1⟩
  | 127 => ⟨S_, .i32⟩
  | _ => ⟨S3x384x4096, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1152x4096, .f32⟩
  | 5 => ⟨S1x4096, .i32⟩
  | 6 => ⟨S_, .i32⟩
  | 7 => ⟨S_, .i32⟩
  | 8 => ⟨S_, .i32⟩
  | 9 => ⟨S1x4096, .i32⟩
  | 10 => ⟨S1x4096, .i1⟩
  | 11 => ⟨S_, .f32⟩
  | 12 => ⟨S_, .f32⟩
  | 13 => ⟨S2x4096, .i1⟩
  | 14 => ⟨S2x4096, .f32⟩
  | 15 => ⟨S2x4096, .f32⟩
  | 16 => ⟨S1152x4096, .f32⟩
  | 17 => ⟨S1152x4096, .f32⟩
  | 18 => ⟨S_, .i32⟩
  | 19 => ⟨S_, .i32⟩
  | 20 => ⟨S3x384x4096, .f32⟩
  | _ => ⟨S3x384x4096, .bf16⟩

abbrev hbmTy (i : Nat) : BufTy := match i / 128 with
  | 0 => hbmTy0_0 i
  | 1 => hbmTy0_1 i
  | _ => ⟨S3x384x4096, .bf16⟩

abbrev bufTy : (tb : Table) → Fin (tcTables nBuf tb) → BufTy
  | .hbm, ⟨i, _⟩ => hbmTy i
  | _, _ => ⟨S3x384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst : Ref sig .tc := ⟨.hbm, 54, rfl⟩
abbrev main_v42 : Ref sig .tc := ⟨.hbm, 55, rfl⟩
abbrev main_v43 : Ref sig .tc := ⟨.hbm, 56, rfl⟩
abbrev main_c_5 : Ref sig .tc := ⟨.hbm, 57, rfl⟩
abbrev main_c_6 : Ref sig .tc := ⟨.hbm, 58, rfl⟩
abbrev main_v44_0 : Ref sig .tc := ⟨.hbm, 59, rfl⟩
abbrev main_v44_1 : Ref sig .tc := ⟨.hbm, 60, rfl⟩
abbrev main_v44_2 : Ref sig .tc := ⟨.hbm, 61, rfl⟩
abbrev main_v44_3 : Ref sig .tc := ⟨.hbm, 62, rfl⟩
abbrev main_v44_4 : Ref sig .tc := ⟨.hbm, 63, rfl⟩
abbrev main_v44_5 : Ref sig .tc := ⟨.hbm, 64, rfl⟩
abbrev main_v44_6 : Ref sig .tc := ⟨.hbm, 65, rfl⟩
abbrev main_while0c_c_13 : Ref sig .tc := ⟨.hbm, 66, rfl⟩
abbrev main_while0c_v46 : Ref sig .tc := ⟨.hbm, 67, rfl⟩
abbrev main_while0b_c_13 : Ref sig .tc := ⟨.hbm, 68, rfl⟩
abbrev main_while0b_v46 : Ref sig .tc := ⟨.hbm, 69, rfl⟩
abbrev main_while0b_c_14 : Ref sig .tc := ⟨.hbm, 70, rfl⟩
abbrev main_while0b_v47 : Ref sig .tc := ⟨.hbm, 71, rfl⟩
abbrev main_while0b_c_15 : Ref sig .tc := ⟨.hbm, 72, rfl⟩
abbrev main_while0b_v48 : Ref sig .tc := ⟨.hbm, 73, rfl⟩
abbrev main_while0b_v49 : Ref sig .tc := ⟨.hbm, 74, rfl⟩
abbrev main_while0b_c_16 : Ref sig .tc := ⟨.hbm, 75, rfl⟩
abbrev main_while0b_v50 : Ref sig .tc := ⟨.hbm, 76, rfl⟩
abbrev main_while0b_v51 : Ref sig .tc := ⟨.hbm, 77, rfl⟩
abbrev main_while0b_c_17 : Ref sig .tc := ⟨.hbm, 78, rfl⟩
abbrev main_while0b_v52 : Ref sig .tc := ⟨.hbm, 79, rfl⟩
abbrev main_while0b_c_18 : Ref sig .tc := ⟨.hbm, 80, rfl⟩
abbrev main_while0b_v53 : Ref sig .tc := ⟨.hbm, 81, rfl⟩
abbrev main_while0b_v54 : Ref sig .tc := ⟨.hbm, 82, rfl⟩
abbrev main_while0b_c_19 : Ref sig .tc := ⟨.hbm, 83, rfl⟩
abbrev main_while0b_v55 : Ref sig .tc := ⟨.hbm, 84, rfl⟩
abbrev main_while0b_v56 : Ref sig .tc := ⟨.hbm, 85, rfl⟩
abbrev main_while0b_c_20 : Ref sig .tc := ⟨.hbm, 86, rfl⟩
abbrev main_while0b_v57 : Ref sig .tc := ⟨.hbm, 87, rfl⟩
abbrev main_while0b_v58 : Ref sig .tc := ⟨.hbm, 88, rfl⟩
abbrev main_while0b_v59 : Ref sig .tc := ⟨.hbm, 89, rfl⟩
abbrev main_while0b_v60 : Ref sig .tc := ⟨.hbm, 90, rfl⟩
abbrev main_while0b_v61 : Ref sig .tc := ⟨.hbm, 91, rfl⟩
abbrev main_while0b_v62 : Ref sig .tc := ⟨.hbm, 92, rfl⟩
abbrev main_while0b_v63 : Ref sig .tc := ⟨.hbm, 93, rfl⟩
abbrev main_while0b_c_21 : Ref sig .tc := ⟨.hbm, 94, rfl⟩
abbrev main_while0b_v64 : Ref sig .tc := ⟨.hbm, 95, rfl⟩
abbrev main_while0b_v65 : Ref sig .tc := ⟨.hbm, 96, rfl⟩
abbrev main_while0b_c_22 : Ref sig .tc := ⟨.hbm, 97, rfl⟩
abbrev main_while0b_v66 : Ref sig .tc := ⟨.hbm, 98, rfl⟩
abbrev main_while0b_v67 : Ref sig .tc := ⟨.hbm, 99, rfl⟩
abbrev main_while0b_c_23 : Ref sig .tc := ⟨.hbm, 100, rfl⟩
abbrev main_while0b_v68 : Ref sig .tc := ⟨.hbm, 101, rfl⟩
abbrev main_while0b_c_24 : Ref sig .tc := ⟨.hbm, 102, rfl⟩
abbrev main_while0b_v69 : Ref sig .tc := ⟨.hbm, 103, rfl⟩
abbrev main_while0b_v70 : Ref sig .tc := ⟨.hbm, 104, rfl⟩
abbrev main_while0b_c_25 : Ref sig .tc := ⟨.hbm, 105, rfl⟩
abbrev main_while0b_v71 : Ref sig .tc := ⟨.hbm, 106, rfl⟩
abbrev main_while0b_v72 : Ref sig .tc := ⟨.hbm, 107, rfl⟩
abbrev main_while0b_c_26 : Ref sig .tc := ⟨.hbm, 108, rfl⟩
abbrev main_while0b_v73 : Ref sig .tc := ⟨.hbm, 109, rfl⟩
abbrev main_while0b_v74 : Ref sig .tc := ⟨.hbm, 110, rfl⟩
abbrev main_while0b_v75 : Ref sig .tc := ⟨.hbm, 111, rfl⟩
abbrev main_while0b_v76 : Ref sig .tc := ⟨.hbm, 112, rfl⟩
abbrev main_while0b_v77 : Ref sig .tc := ⟨.hbm, 113, rfl⟩
abbrev main_while0b_v78 : Ref sig .tc := ⟨.hbm, 114, rfl⟩
abbrev main_while0b_v79 : Ref sig .tc := ⟨.hbm, 115, rfl⟩
abbrev main_while0b_v80 : Ref sig .tc := ⟨.hbm, 116, rfl⟩
abbrev main_while0b_v81 : Ref sig .tc := ⟨.hbm, 117, rfl⟩
abbrev main_while0b_v82 : Ref sig .tc := ⟨.hbm, 118, rfl⟩
abbrev main_while0b_v83 : Ref sig .tc := ⟨.hbm, 119, rfl⟩
abbrev main_while0b_v84 : Ref sig .tc := ⟨.hbm, 120, rfl⟩
abbrev main_while0b_v85 : Ref sig .tc := ⟨.hbm, 121, rfl⟩
abbrev main_while0b_v86 : Ref sig .tc := ⟨.hbm, 122, rfl⟩
abbrev main_while0b_v87 : Ref sig .tc := ⟨.hbm, 123, rfl⟩
abbrev main_while0b_v88 : Ref sig .tc := ⟨.hbm, 124, rfl⟩
abbrev main_while0b_c_27 : Ref sig .tc := ⟨.hbm, 125, rfl⟩
abbrev main_while0b_v89 : Ref sig .tc := ⟨.hbm, 126, rfl⟩
abbrev main_while0b_v90 : Ref sig .tc := ⟨.hbm, 127, rfl⟩
abbrev main_while0b_c_28 : Ref sig .tc := ⟨.hbm, 128, rfl⟩
abbrev main_while0b_v91 : Ref sig .tc := ⟨.hbm, 129, rfl⟩
abbrev main_while0b_v92 : Ref sig .tc := ⟨.hbm, 130, rfl⟩
abbrev main_while0b_c_29 : Ref sig .tc := ⟨.hbm, 131, rfl⟩
abbrev main_while0b_v93 : Ref sig .tc := ⟨.hbm, 132, rfl⟩
abbrev main_while0b_v94 : Ref sig .tc := ⟨.hbm, 133, rfl⟩
abbrev main_while0b_c_30 : Ref sig .tc := ⟨.hbm, 134, rfl⟩
abbrev main_while0b_v95 : Ref sig .tc := ⟨.hbm, 135, rfl⟩
abbrev main_while0b_v96 : Ref sig .tc := ⟨.hbm, 136, rfl⟩
abbrev main_while0b_v97 : Ref sig .tc := ⟨.hbm, 137, rfl⟩
abbrev main_while0b_v98 : Ref sig .tc := ⟨.hbm, 138, rfl⟩
abbrev main_while0b_cst_31 : Ref sig .tc := ⟨.hbm, 139, rfl⟩
abbrev main_while0b_call0_v0 : Ref sig .tc := ⟨.hbm, 140, rfl⟩
abbrev main_while0b_call0_v1 : Ref sig .tc := ⟨.hbm, 141, rfl⟩
abbrev main_while0b_call0_v2 : Ref sig .tc := ⟨.hbm, 142, rfl⟩
abbrev main_while0b_v99 : Ref sig .tc := ⟨.hbm, 143, rfl⟩
abbrev main_while0b_v100 : Ref sig .tc := ⟨.hbm, 144, rfl⟩
abbrev main_while0b_v101 : Ref sig .tc := ⟨.hbm, 145, rfl⟩
abbrev main_while0b_c_32 : Ref sig .tc := ⟨.hbm, 146, rfl⟩
abbrev main_while0b_v102 : Ref sig .tc := ⟨.hbm, 147, rfl⟩
abbrev main_v45 : Ref sig .tc := ⟨.hbm, 148, rfl⟩

abbrev nD : Nat := 1
abbrev τ : Topo := Topo.v7x

variable {F : FTy → Type} [FloatOps F]

abbrev main_while0_count : Scf.Loop 32 := ⟨0#32, 2048#32, 1#32⟩
-- ==== Proof.K.Region0.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- `W c`: the contents of core `c`'s buffers when the region is entered
variable (W : Dev nD → Valuation τ sig (Elt F))

/-! ## The windows' blocks -/

/-- Window `w`'s block at point `t`, read off its array as the region finds it (`W`). -/
def iblk0 (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- Input window 0's current staging buffer holds its block at every point, fetched there or not, for ANY proof
    data whose array is `W`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = W c (Pipeline.arrRef spec0 0))
    (hafter : ∀ t, dat.after 0 t = iblk0 W c 0 t) (t : Fin cfg0.N) (d) : dat.before 0 t d = iblk0 W c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x256 := Rect.unit (s := S256x256) ![0, 0] S256x256.size inb_S256x256_S256x256_0_0
abbrev r0_1 : Rect S1x256x256 := Rect.unit (s := S1x256x256) ![0, 0, 0] S1x256x256.size inb_S1x256x256_S1x256x256_0_0_0

/-! ## What the body leaves in each output window's buffer -/

/-! ### Values of the body that the stores' payloads, spelt out, would write more than once

    Each is a vector the body binds (often a part call's result), stated over the input windows' blocks and
    numbered on from the skeleton's payload functions (`k0_pay168` …, after `k0_pay167`), so that
    `out0_1` and the values after it name it instead of spelling it out (`unfold_out out0_1` opens a canon
    with them, `unfold_payloads` opens them with the payloads); the comment after each is the printed function's
    name for the value (a count appended where that name is bound again). -/

def k0_pay168 (x0 : Vec F S256x256 .f32) : IVec S256x256 32 :=
  iota .tc S256x256 32 [0] iota_S256x256_d0_w32 -- `v1`
def k0_pay169 (x0 : Vec F S256x256 .f32) : IVec S256x256 32 :=
  iota .tc S256x256 32 [1] iota_S256x256_d1_w32 -- `v2`
def k0_pay170 (x0 : Vec F S256x256 .f32) : IVec S32x256 32 :=
  iota .tc S32x256 32 [1] iota_S32x256_d1_w32 -- `v4`
def k0_pay171 (x0 : Vec F S256x256 .f32) : FVec F S32x256 .f32 :=
  k0_pay10 (View.ld x0 r0_0) (k0_pay170 x0) (k0_pay7 (View.ld x0 r0_0) (k0_pay170 x0) (k0_pay5 (View.ld x0 r0_0) (k0_pay170 x0) (k0_pay2 (View.ld x0 r0_0)) 32#32 k0_pay3 k0_pay4 (Scalar.extui (Scalar.cmpi .sgt 32#32 0#32))) 32#32 (k0_pay6 (k0_pay170 x0))) (k0_pay8 (k0_pay170 x0)) (k0_pay9 (k0_pay170 x0)) -- `v172`
def k0_pay172 (x0 : Vec F S256x256 .f32) : IVec S32x256 32 :=
  k0_pay11 (k0_pay170 x0) -- `v174`
def k0_pay173 (x0 : Vec F S256x256 .f32) : IVec S32x256 32 :=
  k0_pay12 (k0_pay170 x0) -- `v181`
def k0_pay174 (x0 : Vec F S256x256 .f32) : IVec S32x128 32 :=
  iota .tc S32x128 32 [1] iota_S32x128_d1_w32 -- `v230`
def k0_pay175 (x0 : Vec F S256x256 .f32) : IVec S32x128 32 :=
  iota .tc S32x128 32 [0] iota_S32x128_d0_w32 -- `v231`
def k0_pay176 (x0 : Vec F S256x256 .f32) : FVec F S32x128 .f32 :=
  k0_pay14 (View.ld x0 r0_0) (k0_pay170 x0) (k0_pay171 x0) 32#32 (k0_pay172 x0) (k0_pay173 x0) (Scalar.extui (Scalar.cmpi .sgt 32#32 0#32)) -- `v229`
def k0_pay177 (x0 : Vec F S256x256 .f32) : IVec S32x128 32 :=
  k0_pay16 (k0_pay174 x0) -- `v268`
def k0_pay178 (x0 : Vec F S256x256 .f32) : FVec F S32x128 .f32 :=
  k0_pay22 (k0_pay176 x0) (k0_pay175 x0) (k0_pay177 x0) (k0_pay20 (k0_pay176 x0) (k0_pay175 x0) (k0_pay15 (F := F) (k0_pay174 x0) (k0_pay175 x0)) (k0_pay177 x0) (k0_pay17 (k0_pay174 x0)) (k0_pay18 (k0_pay174 x0)) (k0_pay19 (k0_pay174 x0))) (k0_pay21 (k0_pay177 x0)) -- `v364`
def k0_pay179 (x0 : Vec F S256x256 .f32) : FVec F S32x128 .f32 :=
  k0_pay23 (k0_pay176 x0) (k0_pay177 x0) -- `v374`
def k0_pay180 (x0 : Vec F S256x256 .f32) : FVec F S32x128 .f32 :=
  k0_pay24 (k0_pay176 x0) (k0_pay175 x0) (k0_pay177 x0) (k0_pay178 x0) (k0_pay179 x0) -- `v412`
def k0_pay181 (x0 : Vec F S256x256 .f32) : FVec F S32x128 .f32 :=
  k0_pay25 (k0_pay176 x0) (k0_pay177 x0) -- `v422`
def k0_pay182 (x0 : Vec F S256x256 .f32) : FVec F S1x128 .f32 :=
  k0_pay26 (k0_pay176 x0) (k0_pay175 x0) (k0_pay177 x0) (k0_pay178 x0) (k0_pay179 x0) -- `v423`
def k0_pay183 (x0 : Vec F S256x256 .f32) : FVec F S1x128 .f32 :=
  k0_pay27 (k0_pay176 x0) (k0_pay177 x0) -- `v424`
def k0_pay184 (x0 : Vec F S256x256 .f32) : FVec F S32x128 .f32 :=
  k0_pay28 (k0_pay176 x0) (k0_pay175 x0) (k0_pay177 x0) (k0_pay180 x0) (k0_pay181 x0) (k0_pay182 x0) (k0_pay183 x0) -- `v460`
def k0_pay185 (x0 : Vec F S256x256 .f32) : FVec F S32x128 .f32 :=
  k0_pay29 (k0_pay176 x0) (k0_pay177 x0) -- `v470`
def k0_pay186 (x0 : Vec F S256x256 .f32) : FVec F S1x128 .f32 :=
  k0_pay30 (k0_pay176 x0) (k0_pay175 x0) (k0_pay177 x0) (k0_pay180 x0) (k0_pay181 x0) (k0_pay182 x0) (k0_pay183 x0) -- `v473`
def k0_pay187 (x0 : Vec F S256x256 .f32) : FVec F S32x128 .f32 :=
  k0_pay31 (k0_pay176 x0) (k0_pay175 x0) (k0_pay177 x0) (k0_pay184 x0) (k0_pay185 x0) (k0_pay186 x0) 23#32 -- `v508`
def k0_pay188 (x0 : Vec F S256x256 .f32) : FVec F S32x128 .f32 :=
  k0_pay32 (k0_pay176 x0) (k0_pay177 x0) -- `v518`
def k0_pay189 (x0 : Vec F S256x256 .f32) : FVec F S1x128 .f32 :=
  k0_pay33 (k0_pay176 x0) (k0_pay175 x0) (k0_pay177 x0) (k0_pay184 x0) (k0_pay185 x0) (k0_pay186 x0) 23#32 -- `v521`
def k0_pay190 (x0 : Vec F S256x256 .f32) : IVec S32x128 1 :=
  k0_pay34 (k0_pay175 x0) -- `v523`
def k0_pay191 (x0 : Vec F S256x256 .f32) : FVec F S32x128 .f32 :=
  k0_pay35 (k0_pay176 x0) (k0_pay175 x0) (k0_pay177 x0) (k0_pay187 x0) (k0_pay188 x0) (k0_pay189 x0) (k0_pay190 x0) -- `v556`
def k0_pay192 (x0 : Vec F S256x256 .f32) : FVec F S32x128 .f32 :=
  k0_pay36 (k0_pay176 x0) (k0_pay177 x0) -- `v566`
def k0_pay193 (x0 : Vec F S256x256 .f32) : FVec F S1x128 .f32 :=
  k0_pay37 (k0_pay176 x0) (k0_pay175 x0) (k0_pay177 x0) (k0_pay187 x0) (k0_pay188 x0) (k0_pay189 x0) (k0_pay190 x0) -- `v569`
def k0_pay194 (x0 : Vec F S256x256 .f32) : IVec S32x128 1 :=
  k0_pay38 (k0_pay175 x0) -- `v571`
def k0_pay195 (x0 : Vec F S256x256 .f32) : IVec S32x128 32 :=
  k0_pay39 -- `v572`
def k0_pay196 (x0 : Vec F S256x256 .f32) : FVec F S32x128 .f32 :=
  k0_pay40 (k0_pay176 x0) (k0_pay175 x0) (k0_pay177 x0) (k0_pay191 x0) (k0_pay192 x0) (k0_pay193 x0) (k0_pay194 x0) (k0_pay195 x0) -- `v604`
def k0_pay197 (x0 : Vec F S256x256 .f32) : FVec F S32x128 .f32 :=
  k0_pay41 (k0_pay176 x0) (k0_pay177 x0) -- `v614`
def k0_pay198 (x0 : Vec F S256x256 .f32) : FVec F S1x128 .f32 :=
  k0_pay42 (k0_pay176 x0) (k0_pay175 x0) (k0_pay177 x0) (k0_pay191 x0) (k0_pay192 x0) (k0_pay193 x0) (k0_pay194 x0) (k0_pay195 x0) -- `v617`
def k0_pay199 (x0 : Vec F S256x256 .f32) : IVec S32x128 1 :=
  k0_pay43 (k0_pay175 x0) -- `v619`
def k0_pay200 (x0 : Vec F S256x256 .f32) : IVec S32x128 1 :=
  k0_pay44 (k0_pay175 x0) -- `v621`
def k0_pay201 (x0 : Vec F S256x256 .f32) : FVec F S32x128 .f32 :=
  k0_pay45 (k0_pay176 x0) (k0_pay175 x0) (k0_pay177 x0) (k0_pay191 x0) (k0_pay192 x0) (k0_pay193 x0) (k0_pay194 x0) (k0_pay195 x0) -- `v622`
def k0_pay202 (x0 : Vec F S256x256 .f32) : FVec F S32x128 .f32 :=
  k0_pay46 (k0_pay176 x0) (k0_pay175 x0) (k0_pay177 x0) (k0_pay196 x0) (k0_pay197 x0) (k0_pay198 x0) (k0_pay199 x0) (k0_pay200 x0) (k0_pay201 x0) -- `v652`
def k0_pay203 (x0 : Vec F S256x256 .f32) : FVec F S1x128 .f32 :=
  k0_pay48 (k0_pay176 x0) (k0_pay175 x0) (k0_pay177 x0) (k0_pay196 x0) (k0_pay197 x0) (k0_pay198 x0) (k0_pay199 x0) (k0_pay200 x0) (k0_pay201 x0) -- `v665`
def k0_pay204 (x0 : Vec F S256x256 .f32) : IVec S32x128 1 :=
  k0_pay49 (k0_pay175 x0) -- `v667`
def k0_pay205 (x0 : Vec F S256x256 .f32) : IVec S32x128 1 :=
  k0_pay50 (k0_pay175 x0) -- `v669`
def k0_pay206 (x0 : Vec F S256x256 .f32) : FVec F S32x128 .f32 :=
  k0_pay51 (k0_pay176 x0) (k0_pay175 x0) (k0_pay177 x0) (k0_pay196 x0) (k0_pay197 x0) (k0_pay198 x0) (k0_pay199 x0) (k0_pay200 x0) (k0_pay201 x0) -- `v672`
def k0_pay207 (x0 : Vec F S256x256 .f32) : IVec S32x128 32 :=
  iota .tc S32x128 32 [1] iota_S32x128_d1_w32 -- `v1038`
def k0_pay208 (x0 : Vec F S256x256 .f32) : IVec S32x128 32 :=
  iota .tc S32x128 32 [0] iota_S32x128_d0_w32 -- `v1039`
def k0_pay209 (x0 : Vec F S256x256 .f32) : FVec F S32x128 .f32 :=
  k0_pay73 (k0_pay13 (View.ld x0 r0_0) (k0_pay170 x0) (k0_pay171 x0) 32#32 (k0_pay172 x0) (k0_pay173 x0) (Scalar.extui (Scalar.cmpi .sgt 32#32 0#32))) -- `v1037`
def k0_pay210 (x0 : Vec F S256x256 .f32) : FVec F S32x128 .f32 :=
  k0_pay74 (F := F) -- `v1059`
def k0_pay211 (x0 : Vec F S256x256 .f32) : IVec S32x128 32 :=
  k0_pay75 -- `v1063`
def k0_pay212 (x0 : Vec F S256x256 .f32) : IVec S32x128 1 :=
  k0_pay76 -- `v1065`
def k0_pay213 (x0 : Vec F S256x256 .f32) : IVec S32x128 32 :=
  k0_pay77 (k0_pay207 x0) (Scalar.select (Scalar.cmpi .eq 32#32 0#32) 1#32 32#32) (k0_pay211 x0) (k0_pay212 x0) -- `v1076`
def k0_pay214 (x0 : Vec F S256x256 .f32) : FVec F S32x128 .f32 :=
  k0_pay78 (k0_pay209 x0) (k0_pay207 x0) (k0_pay208 x0) (k0_pay210 x0) (Scalar.select (Scalar.cmpi .eq 32#32 0#32) 1#32 32#32) (k0_pay211 x0) (k0_pay212 x0) -- `v1100`
def k0_pay215 (x0 : Vec F S256x256 .f32) : FVec F S32x128 .f32 :=
  k0_pay79 (k0_pay209 x0) (k0_pay207 x0) (Scalar.select (Scalar.cmpi .eq 32#32 0#32) 1#32 32#32) (k0_pay211 x0) (k0_pay212 x0) -- `v1110`
def k0_pay216 (x0 : Vec F S256x256 .f32) : FVec F S1x128 .f32 :=
  k0_pay80 (k0_pay209 x0) (k0_pay207 x0) (k0_pay208 x0) (k0_pay210 x0) (Scalar.select (Scalar.cmpi .eq 32#32 0#32) 1#32 32#32) (k0_pay211 x0) (k0_pay212 x0) -- `v1113`
def k0_pay217 (x0 : Vec F S256x256 .f32) : IVec S32x128 32 :=
  k0_pay81 -- `v1114`
def k0_pay218 (x0 : Vec F S256x256 .f32) : FVec F S32x128 .f32 :=
  k0_pay82 (k0_pay209 x0) (k0_pay208 x0) (k0_pay213 x0) (k0_pay214 x0) (k0_pay215 x0) (k0_pay216 x0) (k0_pay217 x0) -- `v1148`
def k0_pay219 (x0 : Vec F S256x256 .f32) : FVec F S32x128 .f32 :=
  k0_pay83 (k0_pay209 x0) (k0_pay213 x0) -- `v1158`
def k0_pay220 (x0 : Vec F S256x256 .f32) : FVec F S1x128 .f32 :=
  k0_pay84 (k0_pay209 x0) (k0_pay208 x0) (k0_pay213 x0) (k0_pay214 x0) (k0_pay215 x0) (k0_pay216 x0) (k0_pay217 x0) -- `v1161`
def k0_pay221 (x0 : Vec F S256x256 .f32) : IVec S32x128 1 :=
  k0_pay85 (k0_pay208 x0) -- `v1163`
def k0_pay222 (x0 : Vec F S256x256 .f32) : FVec F S32x128 .f32 :=
  k0_pay86 (k0_pay209 x0) (k0_pay208 x0) (k0_pay213 x0) (k0_pay218 x0) (k0_pay219 x0) (k0_pay220 x0) (k0_pay221 x0) 28#32 -- `v1196`
def k0_pay223 (x0 : Vec F S256x256 .f32) : FVec F S32x128 .f32 :=
  k0_pay87 (k0_pay209 x0) (k0_pay213 x0) -- `v1206`
def k0_pay224 (x0 : Vec F S256x256 .f32) : FVec F S1x128 .f32 :=
  k0_pay88 (k0_pay209 x0) (k0_pay208 x0) (k0_pay213 x0) (k0_pay218 x0) (k0_pay219 x0) (k0_pay220 x0) (k0_pay221 x0) 28#32 -- `v1209`
def k0_pay225 (x0 : Vec F S256x256 .f32) : IVec S32x128 1 :=
  k0_pay89 (k0_pay208 x0) -- `v1211`
def k0_pay226 (x0 : Vec F S256x256 .f32) : IVec S32x128 1 :=
  k0_pay90 (k0_pay208 x0) -- `v1213`
def k0_pay227 (x0 : Vec F S256x256 .f32) : FVec F S32x128 .f32 :=
  k0_pay91 (k0_pay209 x0) (k0_pay208 x0) (k0_pay213 x0) (k0_pay222 x0) (k0_pay223 x0) (k0_pay224 x0) (k0_pay225 x0) (k0_pay226 x0) -- `v1244`
def k0_pay228 (x0 : Vec F S256x256 .f32) : FVec F S1x128 .f32 :=
  k0_pay93 (k0_pay209 x0) (k0_pay208 x0) (k0_pay213 x0) (k0_pay222 x0) (k0_pay223 x0) (k0_pay224 x0) (k0_pay225 x0) (k0_pay226 x0) -- `v1257`
def k0_pay229 (x0 : Vec F S256x256 .f32) : IVec S32x128 1 :=
  k0_pay94 (k0_pay208 x0) -- `v1259`
def k0_pay230 (x0 : Vec F S256x256 .f32) : IVec S32x128 1 :=
  k0_pay95 (k0_pay208 x0) -- `v1261`
def k0_pay231 (x0 : Vec F S256x256 .f32) : FVec F S32x128 .f32 :=
  k0_pay96 (k0_pay209 x0) (k0_pay208 x0) (k0_pay213 x0) (k0_pay222 x0) (k0_pay223 x0) (k0_pay224 x0) (k0_pay225 x0) (k0_pay226 x0) -- `v1263`
def k0_pay232 (x0 : Vec F S256x256 .f32) : FVec F S1x128 .f32 :=
  k0_pay99 (k0_pay209 x0) (k0_pay208 x0) (k0_pay213 x0) (k0_pay227 x0) (k0_pay228 x0) (k0_pay229 x0) (k0_pay230 x0) (k0_pay231 x0) -- `v1305`
def k0_pay233 (x0 : Vec F S256x256 .f32) : IVec S32x128 1 :=
  k0_pay100 (k0_pay208 x0) -- `v1307`
def k0_pay234 (x0 : Vec F S256x256 .f32) : FVec F S32x128 .f32 :=
  k0_pay101 (k0_pay209 x0) (k0_pay208 x0) (k0_pay213 x0) (k0_pay227 x0) (k0_pay228 x0) (k0_pay229 x0) (k0_pay230 x0) (k0_pay231 x0) -- `v1313`
def k0_pay235 (x0 : Vec F S256x256 .f32) : FVec F S32x128 .f32 :=
  k0_pay123 (k0_pay209 x0) (k0_pay208 x0) (k0_pay213 x0) (k0_pay121 (k0_pay209 x0) (k0_pay208 x0) (k0_pay213 x0) (k0_pay117 (k0_pay209 x0) (k0_pay208 x0) (k0_pay213 x0) (k0_pay114 (k0_pay209 x0) (k0_pay208 x0) (k0_pay213 x0) (k0_pay111 (k0_pay209 x0) (k0_pay208 x0) (k0_pay213 x0) (k0_pay109 (k0_pay209 x0) (k0_pay208 x0) (k0_pay213 x0) (k0_pay108 (k0_pay209 x0) (k0_pay208 x0) (k0_pay213 x0) (k0_pay105 (k0_pay208 x0)) (k0_pay106 (k0_pay209 x0) (k0_pay208 x0) (k0_pay213 x0) (k0_pay232 x0) (k0_pay233 x0) (k0_pay234 x0)) (k0_pay107 (k0_pay209 x0) (k0_pay208 x0) (k0_pay213 x0) (k0_pay232 x0) (k0_pay233 x0) (k0_pay234 x0))) 17#32) (k0_pay110 (k0_pay213 x0))) (k0_pay112 (k0_pay213 x0)) k0_pay113) (k0_pay115 (k0_pay213 x0)) (k0_pay116 (k0_pay213 x0)) 128#32) (k0_pay118 (k0_pay213 x0)) (k0_pay119 (k0_pay213 x0)) (k0_pay120 (k0_pay213 x0))) (k0_pay122 (k0_pay213 x0)) -- `v1700`
def k0_pay236 (x0 : Vec F S256x256 .f32) : FVec F S32x128 .f32 :=
  k0_pay124 (k0_pay209 x0) (k0_pay213 x0) -- `v1710`
def k0_pay237 (x0 : Vec F S256x256 .f32) : FVec F S32x128 .f32 :=
  k0_pay125 (k0_pay209 x0) (k0_pay208 x0) (k0_pay213 x0) (k0_pay235 x0) (k0_pay236 x0) -- `v1748`
def k0_pay238 (x0 : Vec F S256x256 .f32) : FVec F S32x128 .f32 :=
  k0_pay126 (k0_pay209 x0) (k0_pay213 x0) -- `v1758`
def k0_pay239 (x0 : Vec F S256x256 .f32) : FVec F S1x128 .f32 :=
  k0_pay127 (k0_pay209 x0) (k0_pay208 x0) (k0_pay213 x0) (k0_pay235 x0) (k0_pay236 x0) -- `v1759`
def k0_pay240 (x0 : Vec F S256x256 .f32) : FVec F S1x128 .f32 :=
  k0_pay128 (k0_pay209 x0) (k0_pay213 x0) -- `v1760`
def k0_pay241 (x0 : Vec F S256x256 .f32) : FVec F S32x256 .f32 :=
  k0_pay132 (k0_pay72 (k0_pay176 x0) (k0_pay175 x0) (k0_pay70 (k0_pay176 x0) (k0_pay175 x0) (k0_pay177 x0) (k0_pay66 (k0_pay176 x0) (k0_pay175 x0) (k0_pay177 x0) (k0_pay63 (k0_pay176 x0) (k0_pay175 x0) (k0_pay177 x0) (k0_pay61 (k0_pay176 x0) (k0_pay175 x0) (k0_pay177 x0) (k0_pay59 (k0_pay176 x0) (k0_pay175 x0) (k0_pay177 x0) (k0_pay58 (k0_pay176 x0) (k0_pay175 x0) (k0_pay177 x0) (k0_pay55 (k0_pay175 x0)) (k0_pay56 (k0_pay176 x0) (k0_pay175 x0) (k0_pay177 x0) (k0_pay202 x0) (k0_pay203 x0) (k0_pay204 x0) (k0_pay205 x0) (k0_pay206 x0)) (k0_pay57 (k0_pay176 x0) (k0_pay175 x0) (k0_pay177 x0) (k0_pay202 x0) (k0_pay203 x0) (k0_pay204 x0) (k0_pay205 x0) (k0_pay206 x0)))) k0_pay60) (k0_pay62 (k0_pay177 x0)) 0#32) (k0_pay64 (k0_pay177 x0)) (k0_pay65 (k0_pay177 x0))) (k0_pay67 (k0_pay177 x0)) (k0_pay68 (k0_pay177 x0)) k0_pay69) (k0_pay71 (k0_pay177 x0))) (k0_pay209 x0) (k0_pay208 x0) (k0_pay213 x0) (k0_pay129 (k0_pay209 x0) (k0_pay208 x0) (k0_pay213 x0) (k0_pay237 x0) (k0_pay238 x0) (k0_pay239 x0) (k0_pay240 x0)) (k0_pay130 (k0_pay209 x0) (k0_pay213 x0)) (k0_pay131 (k0_pay209 x0) (k0_pay208 x0) (k0_pay213 x0) (k0_pay237 x0) (k0_pay238 x0) (k0_pay239 x0) (k0_pay240 x0)) 1#32 -- `v1845`
def k0_pay242 (x0 : Vec F S256x256 .f32) : IVec S256x256 1 :=
  k0_pay135 (k0_pay169 x0) 32#32 (k0_pay133 (k0_pay169 x0)) (k0_pay134 (k0_pay169 x0)) (Scalar.extui (Scalar.cmpi .sgt 32#32 0#32)) (Scalar.extui (Scalar.cmpi .slt 32#32 0#32)) -- `v1887`
def k0_pay243 (x0 : Vec F S256x256 .f32) : IVec S256x256 1 :=
  k0_pay147 (k0_pay144 (k0_pay169 x0)) (k0_pay145 (k0_pay169 x0)) k0_pay146 -- `v2045`
def k0_pay244 (x0 : Vec F S256x256 .f32) : FVec F S128x256 .f32 :=
  k0_pay156 (View.ld x0 r0_0) (k0_pay169 x0) (k0_pay143 (k0_pay241 x0) (k0_pay242 x0) (k0_pay142 (View.ld x0 r0_0) (k0_pay168 x0) (k0_pay169 x0) (k0_pay241 x0) (k0_pay242 x0) (k0_pay139 (k0_pay168 x0) (k0_pay169 x0) (k0_pay242 x0) (k0_pay136 (k0_pay168 x0)) (k0_pay137 (k0_pay168 x0)) k0_pay138) 32#32 (k0_pay140 (k0_pay168 x0)) (k0_pay141 (k0_pay168 x0)) (Scalar.extui (Scalar.cmpi .sgt 32#32 0#32)))) (k0_pay243 x0) (k0_pay152 (k0_pay243 x0) (k0_pay148 (k0_pay168 x0)) (k0_pay149 (k0_pay169 x0)) (k0_pay150 (k0_pay169 x0)) (k0_pay151 (k0_pay169 x0)) 0#32) (k0_pay153 (k0_pay168 x0)) 64#32 (k0_pay154 (k0_pay169 x0)) (k0_pay155 (k0_pay169 x0)) (Scalar.extui (Scalar.cmpi .sgt 64#32 0#32)) (Scalar.cmpi .slt 64#32 0#32) -- `v2161`
def k0_pay245 (x0 : Vec F S256x256 .f32) : IVec S256x256 1 :=
  k0_pay160 (k0_pay157 (k0_pay169 x0)) (k0_pay158 (k0_pay169 x0)) (k0_pay159 (k0_pay169 x0)) 0#32 -- `v2203`

/-- Window 1's staging buffer after the body, from the input windows' blocks: its 1 store as pieces, LAST
    FIRST (Lib/Pipeline/FrameBody.lean `View.canon`; the payloads are the skeleton's and the values stated above). -/
def out0_1 (x0 : Vec F S256x256 .f32) : Vec F S1x256x256 .f32 :=
  View.canon [⟨r0_1, k0_pay1 (k0_pay244 x0) (k0_pay166 (k0_pay245 x0)) (k0_pay167 (View.ld x0 r0_0) (k0_pay168 x0) (k0_pay169 x0) (k0_pay244 x0) (k0_pay245 x0) (k0_pay163 (k0_pay169 x0) (k0_pay245 x0) (k0_pay161 (k0_pay168 x0)) (k0_pay162 (k0_pay168 x0)) 1#32) 128#32 (k0_pay164 (k0_pay168 x0)) (k0_pay165 (k0_pay168 x0))) (Scalar.ofBits .f32 0x00000000#32)⟩]

/-- Its stores tile the buffer (checked by evaluation), so they cover it. -/
theorem cover0_1 (p0 : Vec F S1x256x256 .f32) (y : S1x256x256.Idx) :
    ∃ pc ∈ ([⟨r0_1, p0⟩] : List (View.Piece (Elt F) S1x256x256 .f32)), y ∈ pc.1.set :=
  View.cover_of_tiled [⟨r0_1, p0⟩] S1x256x256.size (by rfl) y

/-! ## The body's triple -/

set_option maxHeartbeats 539674950 in
/-- The kernel body on whole staging memrefs, the inputs' at read contents `xW` and the outputs' at anything, runs to
    the continuation holding the inputs' as they were and each output's at `out0_1` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x256 .f32) (harg1 : arg1.IsWhole) (arg2 : Memref sig .tc .vmem S1x256x256 .f32) (harg2 : arg2.IsWhole)
    (x0 : Vec F S256x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_diag_inverse i arg1 harg1 arg2 harg2) K := by
  simp only [cc0_diag_inverse_eq_skeleton]; unfold cc0_diag_inverse_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover0_1 _)).trans ?_
  rfl

/-! ## The pipeline's proof data -/

/-- The proof data of the one pipeline on core `c`: the arrays as the region finds them (`W`); after the body at
    point `t` each input's buffer at its block and each output's at `out0_1` of the input blocks; the invariant the
    scoped buffers the call does not stage, untouched; nothing owed; full shares. -/
def dat0 (c : Dev nD) : Dat τ (Elt F) Unit ℕ (UR sig nD τ) ℕ cfg0 c where
  A w := W c (Pipeline.arrRef spec0 w)
  after w t := match w with
    | ⟨0, _⟩ => iblk0 W c 0 t
    | ⟨1, _⟩ => out0_1 (iblk0 W c 0 t)
  Φ _ := Pipeline.scopedRest (Ix := Unit) (Name := ℕ) (U := UR sig nD τ) (Lvl := ℕ) (Val := Elt F) spec0 c
  q _ := fullShare
  owed _ := 0

/-- The proof data's arrays are the region-entry contents: the proof data's definition projected (`dsimp`), so that
    `W` is never unfolded to check it. -/
theorem A_eq0 (c : Dev nD) (w : Fin cfg0.W) : (dat0 W c).A w = W c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 W c).after 0 t = iblk0 W c 0 t := by dsimp only [dat0]
theorem after0_1 (c : Dev nD) (t : Fin cfg0.N) : (dat0 W c).after 1 t = out0_1 (iblk0 W c 0 t) := by dsimp only [dat0]

/-- Each input's current staging buffer holds its block at every point, fetched there or not (`beforeK_W_of`). -/
theorem before0_0 (c : Dev nD) (t : Fin cfg0.N) (d) : (dat0 W c).before 0 t d = iblk0 W c 0 t :=
  before0_0_of W (dat0 W c) (A_eq0 W c 0) (after0_0 W c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d)))

/-- and what it returns. -/
def bodyPost0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t))

/-- The body at any point: the inputs' memrefs hold their blocks (`before0_W`), so `sound_kernel0` applies; the invariant and
    the core's `owes` pass through unread. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0]
  rw [show (dat0 W c).Φ t.succ = (dat0 W c).Φ t.castSucc from rfl,
    show (dat0 W c).owesAt () t.succ = (dat0 W c).owesAt () t.castSucc from rfl,
    after0_0, after0_1]
  iintro ⟨HΦ, Ho, ⟨%d0, H0⟩, ⟨%d1, H1⟩⟩
  iapply (sound_kernel0 c Set.univ (grid0.coords t) _ _ _ _ (iblk0 W c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) W c) (defs₀ (F := F)) Variants.none () Set.univ := fun t => by
  rw [bigSep_W0, bigSep_W0, defs₀_row0]
  exact triple_restated (sound_body0 W c t) rfl .rfl fun _ => .rfl

end Cert.Kernel.Gen

end
-- ==== Proof.K.Region1Dq.lean ====
module

public import proofs.«01_k».proof.Proof.Gen.Kernel.Loops
public import Idealize.ShloMosaic.Lib.Pipeline.FrameBody
public import Idealize.ShloMosaic.Lib.Writes
public import Idealize.ShloMosaic.Lib.Pipeline.ValueKit.Tiles

/-! # The dequantised block of the solve step

Six counted loops fill a block of 1152 rows and 256 columns with dequantised weights, eight rows and
128 columns at a time. This module gives the value of the whole filled block as one function of the
coordinates (`dqG`), and proves that every piece the loops write agrees with it and that the pieces
reach every place. -/

@[expose] public section
set_option maxRecDepth 16384
noncomputable section
namespace Cert.Kernel.Gen
open Idealize.ShloMosaic Idealize.ShloMosaic.TcCoe Idealize.ShloMosaic.Tactic
variable {F : FTy → Type} [FloatOps F]

/-- The place (row `p`, column `q`) of an `m` by `n` array, both taken modulo the size, so that no
bound has to be carried along. -/
def ix2 {m n : ℕ} (hm : 0 < m) (hn : 0 < n) (p q : ℕ) : (⟨2, ![m, n]⟩ : Shape).Idx :=
  Fin.cons (α := fun a : Fin 2 => Fin ((⟨2, ![m, n]⟩ : Shape).size a)) ⟨p % m, Nat.mod_lt _ hm⟩
    (Fin.cons (α := fun a : Fin 1 => Fin ((⟨2, ![m, n]⟩ : Shape).size a.succ)) ⟨q % n, Nat.mod_lt _ hn⟩ (fun a => a.elim0))

/-- Two places of a two-dimensional array with the same coordinates are the same place. -/
theorem idx2_ext {m n : ℕ} {x y : (⟨2, ![m, n]⟩ : Shape).Idx} (h0 : (x 0).val = (y 0).val)
    (h1 : (x 1).val = (y 1).val) : x = y := by
  funext a; apply Fin.ext; fin_cases a
  · exact h0
  · exact h1

/-- The row of `ix2`. -/
theorem ix2_zero {m n : ℕ} (hm : 0 < m) (hn : 0 < n) (p q : ℕ) : ((ix2 hm hn p q) 0).val = p % m := rfl
/-- The column of `ix2`. -/
theorem ix2_one {m n : ℕ} (hm : 0 < m) (hn : 0 < n) (p q : ℕ) : ((ix2 hm hn p q) 1).val = q % n := rfl

/-- The decoded indices of 32 rows of packed codes: the words of four rows, gathered along the lanes
at half the lane number plus the word offset `hoff`, cut into bytes again. -/
def decIdx (hoff : BitVec 32) (v9 : IVec S8x128 32) (v111 : Vec F S32x128 .i8) : IVec S32x128 32 :=
  have v112 : IVec S32x128 8 := shapeCast S32x128 v111 shapeCasts_S32x128_S32x128
  have v113 : IVec S8x128 32 := bitcast S8x128 32 v112 bitcasts_S32x128_w8_S8x128_w32
  have v114 : IVec S8x128 32 := broadcast S8x128 2#32
  have v115 : IVec S8x128 32 := divsi v9 v114
  have v116 : IVec S8x128 32 := broadcast S8x128 0#32
  have v117 : IVec S8x128 1 := cmpi .sgt v9 v116
  have v118 : IVec S8x128 32 := extui 32 v117 natLt_1_32
  have v119 : IVec S8x128 32 := broadcast S8x128 0#32
  have v120 : IVec S8x128 1 := cmpi .slt v9 v119
  have v121 : IVec S8x128 32 := extui 32 v120 natLt_1_32
  have v122 : IVec S8x128 32 := subi v118 v121
  let v123 : BitVec 1 := Scalar.cmpi .sgt 2#32 0#32
  let v124 : BitVec 32 := Scalar.extui v123
  let v125 : BitVec 1 := Scalar.cmpi .slt 2#32 0#32
  let v126 : BitVec 32 := Scalar.extui v125
  let v127 : BitVec 32 := Scalar.subi v124 v126
  have v128 : IVec S8x128 32 := broadcast S8x128 v127
  have v129 : IVec S8x128 1 := cmpi .ne v122 v128
  have v130 : IVec S8x128 32 := broadcast S8x128 2#32
  have v131 : IVec S8x128 32 := remsi v9 v130
  have v132 : IVec S8x128 32 := broadcast S8x128 0#32
  have v133 : IVec S8x128 1 := cmpi .ne v131 v132
  have v134 : IVec S8x128 1 := andi v129 v133
  have v135 : IVec S8x128 32 := broadcast S8x128 1#32
  have v136 : IVec S8x128 32 := subi v115 v135
  have v137 : IVec S8x128 32 := select v134 v136 v115
  have v138 : IVec S8x128 32 := broadcast S8x128 hoff
  have v139 : IVec S8x128 32 := addi v137 v138
  have v140 : IVec S8x128 32 := broadcast S8x128 0#32
  have v141 : IVec S8x128 1 := cmpi .slt v139 v140
  have v142 : IVec S8x128 32 := broadcast S8x128 128#32
  have v143 : IVec S8x128 32 := addi v139 v142
  have v144 : IVec S8x128 32 := select v141 v143 v139
  have v145 : IVec S8x128x1 32 := shapeCast S8x128x1 v144 shapeCasts_S8x128_S8x128x1
  have v146 : IVec S8x128 32 := shapeCast S8x128 v145 shapeCasts_S8x128x1_S8x128
  have v147 : IVec S8x128 32 := dynamicGather 1 v113 v146
  have v148 : IVec S32x128 8 := bitcast S32x128 8 v147 bitcasts_S8x128_w32_S32x128_w8
  have v149 : IVec S32x128 32 := extui 32 v148 natLt_8_32
  v149

/-- Eight consecutive rows of the decoded indices. -/
def rows8 (j : ℕ) (v : IVec S32x128 32) : IVec S8x128 32 := fun y =>
  v (ix2 (by decide) (by decide) (8 * j + (y 0).val) (y 1).val)

/-- Thirty-two consecutive rows of the packed codes. -/
def rows32 (R : ℕ) (x : Vec F S1152x128 .i8) : Vec F S32x128 .i8 := fun y =>
  x (ix2 (by decide) (by decide) (32 * R + (y 0).val) (y 1).val)

/-- Eight consecutive rows of the row scales. -/
def rowsF (R : ℕ) (x : Vec F S1152x128 .f32) : Vec F S8x128 .f32 := fun y =>
  x (ix2 (by decide) (by decide) (8 * R + (y 0).val) (y 1).val)

/-- The dequantised piece of eight rows and 128 columns: the table entry at each index, as a float,
times the codebook scale, times the row scale of column `w`. -/
def pieceV (w : BitVec 32) (sc : Elt F .f32) (v9 : IVec S8x128 32) (tab : Vec F S1x1x128 .i32)
    (idx : IVec S8x128 32) (rs : Vec F S8x128 .f32) : FVec F S8x128 .f32 :=
  k1_pay9 sc (k1_pay7 v9 (k1_pay102 tab) idx k1_pay6) (k1_pay8 rs) w

/-- The whole dequantised block, by coordinates. Row `r` belongs to codebook `r / 384`; column `l`
to the column group `2 * arg0 + l / 128`. -/
def dqG (v9 : IVec S8x128 32) (arg0 : BitVec 32) (sc : ℕ → ℕ → Elt F .f32)
    (tab : ℕ → ℕ → Vec F S1x1x128 .i32) (x2 : Vec F S1152x128 .i8) (x4 : Vec F S1152x128 .f32) :
    Vec F S1152x256 .f32 := fun y =>
  pieceV (Scalar.addi (Scalar.muli 2#32 arg0) (BitVec.ofNat 32 ((y 1).val / 128)))
    (sc ((y 0).val / 384) ((y 1).val / 128)) v9 (tab ((y 0).val / 384) ((y 1).val / 128))
    (rows8 (((y 0).val % 32) / 8) (decIdx (BitVec.ofNat 32 (64 * ((y 1).val / 128))) v9 (rows32 ((y 0).val / 32) x2)))
    (rowsF ((y 0).val / 8) x4) (ix2 (by decide) (by decide) ((y 0).val % 8) ((y 1).val % 128))

/-- A slice of eight rows is `rows8`. -/
theorem slice_rows8 (j : ℕ) (hj : j < 4) (v : IVec S32x128 32) (off : Fin 2 → ℕ) (ho : off = ![8 * j, 0])
    (h : S32x128.Slices off S8x128) : extractStridedSlice S8x128 off v h = rows8 j v := by
  subst ho; funext y; unfold rows8 extractStridedSlice
  have h0 : (y 0).val < 8 := (y 0).isLt
  have h1 : (y 1).val < 128 := (y 1).isLt
  refine congrArg v (idx2_ext ?_ ?_)
  · rw [ix2_zero, Nat.mod_eq_of_lt (by omega)]; rfl
  · rw [ix2_one, Nat.mod_eq_of_lt (by omega)]; exact Nat.zero_add _

/-- Thirty-two rows of the codes, loaded at a row offset. -/
theorem load_rows32 (v : View sig .tc .vmem S1152x128 .i8) (X : BufTy.Contents (Elt F) v.ty) (R : ℕ) (hR : R < 36)
    (off : Fin 2 → ℕ) (ho : off = ![32 * R, 0]) (inb : ∀ a, off a + S32x128.size a ≤ S1152x128.size a) :
    View.readAt (Elt F) v (Rect.unit (s := S1152x128) off S32x128.size inb).toLoadRect X = rows32 R (v.read (Elt F) X) := by
  subst ho; funext y; unfold rows32
  have h0 : (y 0).val < 32 := (y 0).isLt
  have h1 : (y 1).val < 128 := (y 1).isLt
  refine congrArg (v.read (Elt F) X) (idx2_ext ?_ ?_)
  · rw [ix2_zero, Nat.mod_eq_of_lt (by omega)]; exact Rect.idx_unit_val _ _ _ _ _
  · rw [ix2_one, Nat.mod_eq_of_lt (by omega)]; exact (Rect.idx_unit_val _ _ _ _ _).trans (Nat.zero_add _)

/-- Eight rows of the row scales, loaded at a row offset. -/
theorem load_rowsF (v : View sig .tc .vmem S1152x128 .f32) (X : BufTy.Contents (Elt F) v.ty) (R : ℕ) (hR : R < 144)
    (off : Fin 2 → ℕ) (ho : off = ![8 * R, 0]) (inb : ∀ a, off a + S8x128.size a ≤ S1152x128.size a) :
    View.readAt (Elt F) v (Rect.unit (s := S1152x128) off S8x128.size inb).toLoadRect X = rowsF R (v.read (Elt F) X) := by
  subst ho; funext y; unfold rowsF
  have h0 : (y 0).val < 8 := (y 0).isLt
  have h1 : (y 1).val < 128 := (y 1).isLt
  refine congrArg (v.read (Elt F) X) (idx2_ext ?_ ?_)
  · rw [ix2_zero, Nat.mod_eq_of_lt (by omega)]; exact Rect.idx_unit_val _ _ _ _ _
  · rw [ix2_one, Nat.mod_eq_of_lt (by omega)]; exact (Rect.idx_unit_val _ _ _ _ _).trans (Nat.zero_add _)

/-- A piece agrees with the dequantised block on its rectangle. -/
def Good (v9 : IVec S8x128 32) (arg0 : BitVec 32) (sc : ℕ → ℕ → Elt F .f32)
    (tab : ℕ → ℕ → Vec F S1x1x128 .i32) (x2 : Vec F S1152x128 .i8) (x4 : Vec F S1152x128 .f32)
    (p : View.Piece (Elt F) S1152x256 .f32) : Prop :=
  ∀ x, p.2 x = dqG v9 arg0 sc tab x2 x4 (p.1.emb x)

/-- The piece of codebook `m`, loop step `k`, byte `j` and half `h`, written at its own rectangle from
values loaded at the matching rows, agrees with the dequantised block. -/
theorem piece_good (v9 : IVec S8x128 32) (arg0 : BitVec 32) (sc : ℕ → ℕ → Elt F .f32)
    (tab : ℕ → ℕ → Vec F S1x1x128 .i32) (v4 : View sig .tc .vmem S1152x128 .i8) (X4 : BufTy.Contents (Elt F) v4.ty)
    (v6 : View sig .tc .vmem S1152x128 .f32) (X6 : BufTy.Contents (Elt F) v6.ty)
    (m k j h : ℕ) (hm : m < 3) (hk : k < 12) (hj : j < 4) (hh : h < 2)
    {off off4 off6 offs : Fin 2 → ℕ} (ho : off = ![384 * m + 32 * k + 8 * j, 128 * h])
    (ho4 : off4 = ![32 * (12 * m + k), 0]) (ho6 : off6 = ![8 * (48 * m + 4 * k + j), 0]) (hos : offs = ![8 * j, 0])
    {inb : ∀ a, off a + S8x128.size a ≤ S1152x256.size a}
    (inb4 : ∀ a, off4 a + S32x128.size a ≤ S1152x128.size a)
    (inb6 : ∀ a, off6 a + S8x128.size a ≤ S1152x128.size a)
    (hs : S32x128.Slices offs S8x128) (hoff w : BitVec 32) (hhoff : hoff = BitVec.ofNat 32 (64 * h))
    (hw : w = Scalar.addi (Scalar.muli 2#32 arg0) (BitVec.ofNat 32 h))
    {val : FVec F S8x128 .f32}
    (hv : val = pieceV w (sc m h) v9 (tab m h) (extractStridedSlice S8x128 offs (decIdx hoff v9
        (View.readAt (Elt F) v4 (Rect.unit (s := S1152x128) off4 S32x128.size inb4).toLoadRect X4)) hs)
        (View.readAt (Elt F) v6 (Rect.unit (s := S1152x128) off6 S8x128.size inb6).toLoadRect X6)) :
    Good v9 arg0 sc tab (v4.read (Elt F) X4) (v6.read (Elt F) X6)
      ⟨Rect.unit (s := S1152x256) off S8x128.size inb, val⟩ := by
  rw [slice_rows8 j hj _ _ hos, load_rows32 v4 X4 _ (by omega) _ ho4, load_rowsF v6 X6 _ (by omega) _ ho6] at hv
  subst hv hhoff hw ho
  intro (x : S8x128.Idx)
  have h0 : (x 0).val < 8 := (x 0).isLt
  have h1 : (x 1).val < 128 := (x 1).isLt
  have e0 : (((Rect.unit (s := S1152x256) ![384 * m + 32 * k + 8 * j, 128 * h] S8x128.size inb).emb x) 0).val
      = 384 * m + 32 * k + 8 * j + (x 0).val := Rect.idx_unit_val _ _ _ _ _
  have e1 : (((Rect.unit (s := S1152x256) ![384 * m + 32 * k + 8 * j, 128 * h] S8x128.size inb).emb x) 1).val
      = 128 * h + (x 1).val := Rect.idx_unit_val _ _ _ _ _
  unfold dqG
  rw [e0, e1]
  have a1 : (384 * m + 32 * k + 8 * j + (x 0).val) / 384 = m := by omega
  have a2 : (384 * m + 32 * k + 8 * j + (x 0).val) / 32 = 12 * m + k := by omega
  have a3 : (384 * m + 32 * k + 8 * j + (x 0).val) % 32 / 8 = j := by omega
  have a4 : (384 * m + 32 * k + 8 * j + (x 0).val) / 8 = 48 * m + 4 * k + j := by omega
  have a5 : (128 * h + (x 1).val) / 128 = h := by omega
  rw [a1, a2, a3, a4, a5]
  refine congrArg _ (idx2_ext ?_ ?_)
  · rw [ix2_zero]; omega
  · rw [ix2_one]; omega

/-- A property of every piece of every trip is a property of every piece of the trips so far. -/
theorem pb_all {α : Type} {n : ℕ} (pb : ℕ → List α) (trip : Fin n → List α) (h0 : pb 0 = [])
    (hs : ∀ k : Fin n, pb (k.val + 1) = trip k ++ pb k.val) (P : α → Prop) (hP : ∀ k, ∀ p ∈ trip k, P p) :
    ∀ k ≤ n, ∀ p ∈ pb k, P p := by
  intro k
  induction k with
  | zero => intro _ p hp; rw [h0] at hp; exact absurd hp List.not_mem_nil
  | succ k ih =>
    intro hk p hp
    rw [hs ⟨k, hk⟩] at hp
    rcases List.mem_append.mp hp with h | h
    · exact hP _ _ h
    · exact ih (by omega) _ h

/-- The pieces of one trip are among the pieces of all the trips. -/
theorem pb_mem {α : Type} {n : ℕ} (pb : ℕ → List α) (trip : Fin n → List α)
    (hs : ∀ k : Fin n, pb (k.val + 1) = trip k ++ pb k.val) (i : Fin n) (p : α) (hp : p ∈ trip i) :
    ∀ k ≤ n, i.val < k → p ∈ pb k := by
  intro k
  induction k with
  | zero => intro _ h; omega
  | succ k ih =>
    intro hk hi
    rw [hs ⟨k, hk⟩]
    rcases Nat.lt_or_ge i.val k with h | h
    · exact List.mem_append_right _ (ih (by omega) h)
    · have : i = ⟨k, hk⟩ := Fin.ext (by simp; omega)
      exact List.mem_append_left _ (this ▸ hp)

/-- The list reaches every place of codebook `m`'s rows in the column half `h`. -/
def Covers (m h : ℕ) (L : List (View.Piece (Elt F) S1152x256 .f32)) : Prop :=
  ∀ y : S1152x256.Idx, (y 0).val / 384 = m → (y 1).val / 128 = h → ∃ p ∈ L, y ∈ p.1.set

/-- Pieces at the rectangles of the trips reach the rows of codebook `m` in half `h`. -/
theorem covers_of {n : ℕ} (hn : n = 12) (pb : ℕ → List (View.Piece (Elt F) S1152x256 .f32))
    (trip : Fin n → List (View.Piece (Elt F) S1152x256 .f32))
    (hs : ∀ k : Fin n, pb (k.val + 1) = trip k ++ pb k.val) (m h : ℕ)
    (ht : ∀ k : Fin n, ∀ j : Fin 4, ∃ p ∈ trip k, ∀ y : S1152x256.Idx,
      ((384 * m + 32 * k.val + 8 * j.val ≤ (y 0).val ∧ (y 0).val < 384 * m + 32 * k.val + 8 * j.val + 8) ∧
        128 * h ≤ (y 1).val ∧ (y 1).val < 128 * h + 128) → y ∈ p.1.set) : Covers m h (pb n) := by
  intro y h0 h1
  have hlt : (y 0).val < 1152 := (y 0).isLt
  obtain ⟨p, hp, hy⟩ := ht ⟨(y 0).val % 384 / 32, by omega⟩ ⟨(y 0).val % 32 / 8, by omega⟩
  refine ⟨p, pb_mem pb trip hs _ p hp n le_rfl (by simp; omega), hy y ?_⟩
  simp only
  omega

/-- Membership in the rectangle of one piece, in coordinates. -/
theorem mem_piece {off : Fin 2 → ℕ} {R C : ℕ} (ho : off = ![R, C]) {inb : ∀ a, off a + S8x128.size a ≤ S1152x256.size a}
    (y : S1152x256.Idx) (hy : (R ≤ (y 0).val ∧ (y 0).val < R + 8) ∧ C ≤ (y 1).val ∧ (y 1).val < C + 128) :
    y ∈ (Rect.unit (s := S1152x256) off S8x128.size inb).set := by
  subst ho
  rw [Rect.mem_set_unit]
  intro a; fin_cases a
  · exact hy.1
  · exact hy.2

section Loops
variable (𝒱 : Variants) (c : Dev nD) (bd : Option 𝒱.V) (i : grid1.Coords)
  (arg2 : Memref sig .tc .smem S3x32 .f32) (harg2 : arg2.IsWhole) (arg3 : Memref sig .tc .vmem S1152x256 .bf16) (harg3 : arg3.IsWhole) (arg4 : Memref sig .tc .vmem S1152x128 .i8) (harg4 : arg4.IsWhole) (arg5 : Memref sig .tc .vmem S3x32x128 .i32) (harg5 : arg5.IsWhole) (arg6 : Memref sig .tc .vmem S1152x128 .f32) (harg6 : arg6.IsWhole) (arg7 : Memref sig .tc .vmem S256x256 .f32) (harg7 : arg7.IsWhole) (arg8 : Memref sig .tc .vmem S1x256x256 .f32) (harg8 : arg8.IsWhole) (arg9 : Memref sig .tc .vmem S1152x256 .bf16) (harg9 : arg9.IsWhole) (arg10 : Memref sig .tc .vmem S1152x256 .f32) (harg10 : arg10.IsWhole) (arg11 : Memref sig .tc .vmem S1152x256 .f32) (harg11 : arg11.IsWhole) (arg12 : Memref sig .tc .vmem S16x1152x256 .f32) (harg12 : arg12.IsWhole)
  (arg0 : BitVec 32) (k1_h3 : k1_cond3 i = 1#1) (v9 : IVec S8x128 32) (sc : ℕ → ℕ → Elt F .f32)
  (tab : ℕ → ℕ → Vec F S1x1x128 .i32)
  (X4 : BufTy.Contents (Elt F) arg4.view.ty) (X6 : BufTy.Contents (Elt F) arg6.view.ty)

/-- The rectangles of loop 1 in coordinates. -/
theorem geo_t1 : k1_t1_loop.trips = 12 ∧ ∀ k : Fin k1_t1_loop.trips,
    k1_off4 k = ![32 * (12 * 0 + k.val), 0] ∧
    (k1_off5 k 0#32 = ![8 * (48 * 0 + 4 * k.val + 0), 0] ∧ k1_off5 k 8#32 = ![8 * (48 * 0 + 4 * k.val + 1), 0] ∧
     k1_off5 k 16#32 = ![8 * (48 * 0 + 4 * k.val + 2), 0] ∧ k1_off5 k 24#32 = ![8 * (48 * 0 + 4 * k.val + 3), 0]) ∧
    (k1_off6 k 0#32 = ![384 * 0 + 32 * k.val + 8 * 0, 128 * 0] ∧ k1_off6 k 8#32 = ![384 * 0 + 32 * k.val + 8 * 1, 128 * 0] ∧
     k1_off6 k 16#32 = ![384 * 0 + 32 * k.val + 8 * 2, 128 * 0] ∧ k1_off6 k 24#32 = ![384 * 0 + 32 * k.val + 8 * 3, 128 * 0]) := by
  decide +kernel

/-- Loop 1 writes pieces of the dequantised block, and reaches codebook 0's rows in half 0. -/
theorem loop_t1 :
    (∀ p ∈ pb_k1_t1 (F := F) 𝒱 c bd i arg2 harg2 arg3 harg3 arg4 harg4 arg5 harg5 arg6 harg6 arg7 harg7 arg8 harg8 arg9 harg9 arg10 harg10 arg11 harg11 arg12 harg12 arg0 k1_h3 v9 (tab 0 0) (sc 0 0) X4 X6 k1_t1_loop.trips,
      Good v9 arg0 sc tab (arg4.view.read (Elt F) X4) (arg6.view.read (Elt F) X6) p) ∧
    Covers 0 0 (pb_k1_t1 (F := F) 𝒱 c bd i arg2 harg2 arg3 harg3 arg4 harg4 arg5 harg5 arg6 harg6 arg7 harg7 arg8 harg8 arg9 harg9 arg10 harg10 arg11 harg11 arg12 harg12 arg0 k1_h3 v9 (tab 0 0) (sc 0 0) X4 X6 k1_t1_loop.trips) := by
  obtain ⟨hn, hg⟩ := geo_t1
  constructor
  · refine pb_all _ (tripL_k1_t1 (F := F) 𝒱 c bd i arg2 harg2 arg3 harg3 arg4 harg4 arg5 harg5 arg6 harg6 arg7 harg7 arg8 harg8 arg9 harg9 arg10 harg10 arg11 harg11 arg12 harg12 arg0 k1_h3 v9 (tab 0 0) (sc 0 0) X4 X6) rfl
      (fun k => pb_k1_t1_succ 𝒱 c bd i arg2 harg2 arg3 harg3 arg4 harg4 arg5 harg5 arg6 harg6 arg7 harg7 arg8 harg8 arg9 harg9 arg10 harg10 arg11 harg11 arg12 harg12 arg0 k1_h3 v9 (tab 0 0) (sc 0 0) X4 X6 k) _ ?_ _ le_rfl
    intro k p hp
    obtain ⟨g4, ⟨r0, r1, r2, r3⟩, s0, s1, s2, s3⟩ := hg k
    have hk : k.val < 12 := hn ▸ k.isLt
    unfold tripL_k1_t1 trip_k1_t1 at hp
    dsimp only at hp
    simp only [List.mem_cons, List.not_mem_nil, or_false] at hp
    rcases hp with rfl | rfl | rfl | rfl
    · exact piece_good v9 arg0 sc tab arg4.view X4 arg6.view X6 0 k.val 3 0 (by omega) hk (by omega) (by omega)
        s3 g4 r3 (offs := ![24, 0]) rfl _ _ slices_S32x128_o24_0_S8x128 0#32 (Scalar.addi (Scalar.muli 2#32 arg0) 0#32) rfl rfl rfl
    · exact piece_good v9 arg0 sc tab arg4.view X4 arg6.view X6 0 k.val 2 0 (by omega) hk (by omega) (by omega)
        s2 g4 r2 (offs := ![16, 0]) rfl _ _ slices_S32x128_o16_0_S8x128 0#32 (Scalar.addi (Scalar.muli 2#32 arg0) 0#32) rfl rfl rfl
    · exact piece_good v9 arg0 sc tab arg4.view X4 arg6.view X6 0 k.val 1 0 (by omega) hk (by omega) (by omega)
        s1 g4 r1 (offs := ![8, 0]) rfl _ _ slices_S32x128_o8_0_S8x128 0#32 (Scalar.addi (Scalar.muli 2#32 arg0) 0#32) rfl rfl rfl
    · exact piece_good v9 arg0 sc tab arg4.view X4 arg6.view X6 0 k.val 0 0 (by omega) hk (by omega) (by omega)
        s0 g4 r0 (offs := ![0, 0]) rfl _ _ slices_S32x128_o0_0_S8x128 0#32 (Scalar.addi (Scalar.muli 2#32 arg0) 0#32) rfl rfl rfl
  · refine covers_of hn _ (tripL_k1_t1 (F := F) 𝒱 c bd i arg2 harg2 arg3 harg3 arg4 harg4 arg5 harg5 arg6 harg6 arg7 harg7 arg8 harg8 arg9 harg9 arg10 harg10 arg11 harg11 arg12 harg12 arg0 k1_h3 v9 (tab 0 0) (sc 0 0) X4 X6)
      (fun k => pb_k1_t1_succ 𝒱 c bd i arg2 harg2 arg3 harg3 arg4 harg4 arg5 harg5 arg6 harg6 arg7 harg7 arg8 harg8 arg9 harg9 arg10 harg10 arg11 harg11 arg12 harg12 arg0 k1_h3 v9 (tab 0 0) (sc 0 0) X4 X6 k) 0 0 ?_
    intro k j
    obtain ⟨-, -, s0, s1, s2, s3⟩ := hg k
    unfold tripL_k1_t1 trip_k1_t1
    dsimp only
    fin_cases j
    · refine ⟨_, List.mem_cons_of_mem _ (List.mem_cons_of_mem _ (List.mem_cons_of_mem _ List.mem_cons_self)), ?_⟩; intro y hy; dsimp only; exact mem_piece s0 y hy
    · refine ⟨_, List.mem_cons_of_mem _ (List.mem_cons_of_mem _ List.mem_cons_self), ?_⟩; intro y hy; dsimp only; exact mem_piece s1 y hy
    · refine ⟨_, List.mem_cons_of_mem _ List.mem_cons_self, ?_⟩; intro y hy; dsimp only; exact mem_piece s2 y hy
    · refine ⟨_, List.mem_cons_self, ?_⟩; intro y hy; dsimp only; exact mem_piece s3 y hy

/-- The rectangles of loop 2 in coordinates. -/
theorem geo_t2 : k1_t2_loop.trips = 12 ∧ ∀ k : Fin k1_t2_loop.trips,
    k1_off7 k = ![32 * (12 * 0 + k.val), 0] ∧
    (k1_off8 k 0#32 = ![8 * (48 * 0 + 4 * k.val + 0), 0] ∧ k1_off8 k 8#32 = ![8 * (48 * 0 + 4 * k.val + 1), 0] ∧
     k1_off8 k 16#32 = ![8 * (48 * 0 + 4 * k.val + 2), 0] ∧ k1_off8 k 24#32 = ![8 * (48 * 0 + 4 * k.val + 3), 0]) ∧
    (k1_off9 k 0#32 = ![384 * 0 + 32 * k.val + 8 * 0, 128 * 1] ∧ k1_off9 k 8#32 = ![384 * 0 + 32 * k.val + 8 * 1, 128 * 1] ∧
     k1_off9 k 16#32 = ![384 * 0 + 32 * k.val + 8 * 2, 128 * 1] ∧ k1_off9 k 24#32 = ![384 * 0 + 32 * k.val + 8 * 3, 128 * 1]) := by
  decide +kernel

/-- Loop 2 writes pieces of the dequantised block, and reaches codebook 0's rows in half 1. -/
theorem loop_t2 :
    (∀ p ∈ pb_k1_t2 (F := F) 𝒱 c bd i arg2 harg2 arg3 harg3 arg4 harg4 arg5 harg5 arg6 harg6 arg7 harg7 arg8 harg8 arg9 harg9 arg10 harg10 arg11 harg11 arg12 harg12 arg0 k1_h3 v9 (tab 0 1) (sc 0 1) X4 X6 k1_t2_loop.trips,
      Good v9 arg0 sc tab (arg4.view.read (Elt F) X4) (arg6.view.read (Elt F) X6) p) ∧
    Covers 0 1 (pb_k1_t2 (F := F) 𝒱 c bd i arg2 harg2 arg3 harg3 arg4 harg4 arg5 harg5 arg6 harg6 arg7 harg7 arg8 harg8 arg9 harg9 arg10 harg10 arg11 harg11 arg12 harg12 arg0 k1_h3 v9 (tab 0 1) (sc 0 1) X4 X6 k1_t2_loop.trips) := by
  obtain ⟨hn, hg⟩ := geo_t2
  constructor
  · refine pb_all _ (tripL_k1_t2 (F := F) 𝒱 c bd i arg2 harg2 arg3 harg3 arg4 harg4 arg5 harg5 arg6 harg6 arg7 harg7 arg8 harg8 arg9 harg9 arg10 harg10 arg11 harg11 arg12 harg12 arg0 k1_h3 v9 (tab 0 1) (sc 0 1) X4 X6) rfl
      (fun k => pb_k1_t2_succ 𝒱 c bd i arg2 harg2 arg3 harg3 arg4 harg4 arg5 harg5 arg6 harg6 arg7 harg7 arg8 harg8 arg9 harg9 arg10 harg10 arg11 harg11 arg12 harg12 arg0 k1_h3 v9 (tab 0 1) (sc 0 1) X4 X6 k) _ ?_ _ le_rfl
    intro k p hp
    obtain ⟨g4, ⟨r0, r1, r2, r3⟩, s0, s1, s2, s3⟩ := hg k
    have hk : k.val < 12 := hn ▸ k.isLt
    unfold tripL_k1_t2 trip_k1_t2 at hp
    dsimp only at hp
    simp only [List.mem_cons, List.not_mem_nil, or_false] at hp
    rcases hp with rfl | rfl | rfl | rfl
    · exact piece_good v9 arg0 sc tab arg4.view X4 arg6.view X6 0 k.val 3 1 (by omega) hk (by omega) (by omega)
        s3 g4 r3 (offs := ![24, 0]) rfl _ _ slices_S32x128_o24_0_S8x128 64#32 (Scalar.addi (Scalar.muli 2#32 arg0) 1#32) rfl rfl rfl
    · exact piece_good v9 arg0 sc tab arg4.view X4 arg6.view X6 0 k.val 2 1 (by omega) hk (by omega) (by omega)
        s2 g4 r2 (offs := ![16, 0]) rfl _ _ slices_S32x128_o16_0_S8x128 64#32 (Scalar.addi (Scalar.muli 2#32 arg0) 1#32) rfl rfl rfl
    · exact piece_good v9 arg0 sc tab arg4.view X4 arg6.view X6 0 k.val 1 1 (by omega) hk (by omega) (by omega)
        s1 g4 r1 (offs := ![8, 0]) rfl _ _ slices_S32x128_o8_0_S8x128 64#32 (Scalar.addi (Scalar.muli 2#32 arg0) 1#32) rfl rfl rfl
    · exact piece_good v9 arg0 sc tab arg4.view X4 arg6.view X6 0 k.val 0 1 (by omega) hk (by omega) (by omega)
        s0 g4 r0 (offs := ![0, 0]) rfl _ _ slices_S32x128_o0_0_S8x128 64#32 (Scalar.addi (Scalar.muli 2#32 arg0) 1#32) rfl rfl rfl
  · refine covers_of hn _ (tripL_k1_t2 (F := F) 𝒱 c bd i arg2 harg2 arg3 harg3 arg4 harg4 arg5 harg5 arg6 harg6 arg7 harg7 arg8 harg8 arg9 harg9 arg10 harg10 arg11 harg11 arg12 harg12 arg0 k1_h3 v9 (tab 0 1) (sc 0 1) X4 X6)
      (fun k => pb_k1_t2_succ 𝒱 c bd i arg2 harg2 arg3 harg3 arg4 harg4 arg5 harg5 arg6 harg6 arg7 harg7 arg8 harg8 arg9 harg9 arg10 harg10 arg11 harg11 arg12 harg12 arg0 k1_h3 v9 (tab 0 1) (sc 0 1) X4 X6 k) 0 1 ?_
    intro k j
    obtain ⟨-, -, s0, s1, s2, s3⟩ := hg k
    unfold tripL_k1_t2 trip_k1_t2
    dsimp only
    fin_cases j
    · refine ⟨_, List.mem_cons_of_mem _ (List.mem_cons_of_mem _ (List.mem_cons_of_mem _ List.mem_cons_self)), ?_⟩; intro y hy; dsimp only; exact mem_piece s0 y hy
    · refine ⟨_, List.mem_cons_of_mem _ (List.mem_cons_of_mem _ List.mem_cons_self), ?_⟩; intro y hy; dsimp only; exact mem_piece s1 y hy
    · refine ⟨_, List.mem_cons_of_mem _ List.mem_cons_self, ?_⟩; intro y hy; dsimp only; exact mem_piece s2 y hy
    · refine ⟨_, List.mem_cons_self, ?_⟩; intro y hy; dsimp only; exact mem_piece s3 y hy

/-- The rectangles of loop 3 in coordinates. -/
theorem geo_t3 : k1_t3_loop.trips = 12 ∧ ∀ k : Fin k1_t3_loop.trips,
    k1_off12 k = ![32 * (12 * 1 + k.val), 0] ∧
    (k1_off13 k 0#32 = ![8 * (48 * 1 + 4 * k.val + 0), 0] ∧ k1_off13 k 8#32 = ![8 * (48 * 1 + 4 * k.val + 1), 0] ∧
     k1_off13 k 16#32 = ![8 * (48 * 1 + 4 * k.val + 2), 0] ∧ k1_off13 k 24#32 = ![8 * (48 * 1 + 4 * k.val + 3), 0]) ∧
    (k1_off14 k 0#32 = ![384 * 1 + 32 * k.val + 8 * 0, 128 * 0] ∧ k1_off14 k 8#32 = ![384 * 1 + 32 * k.val + 8 * 1, 128 * 0] ∧
     k1_off14 k 16#32 = ![384 * 1 + 32 * k.val + 8 * 2, 128 * 0] ∧ k1_off14 k 24#32 = ![384 * 1 + 32 * k.val + 8 * 3, 128 * 0]) := by
  decide +kernel

/-- Loop 3 writes pieces of the dequantised block, and reaches codebook 1's rows in half 0. -/
theorem loop_t3 :
    (∀ p ∈ pb_k1_t3 (F := F) 𝒱 c bd i arg2 harg2 arg3 harg3 arg4 harg4 arg5 harg5 arg6 harg6 arg7 harg7 arg8 harg8 arg9 harg9 arg10 harg10 arg11 harg11 arg12 harg12 arg0 k1_h3 v9 (k1_pay104 (tab 1 0)) (sc 1 0) X4 X6 k1_t3_loop.trips,
      Good v9 arg0 sc tab (arg4.view.read (Elt F) X4) (arg6.view.read (Elt F) X6) p) ∧
    Covers 1 0 (pb_k1_t3 (F := F) 𝒱 c bd i arg2 harg2 arg3 harg3 arg4 harg4 arg5 harg5 arg6 harg6 arg7 harg7 arg8 harg8 arg9 harg9 arg10 harg10 arg11 harg11 arg12 harg12 arg0 k1_h3 v9 (k1_pay104 (tab 1 0)) (sc 1 0) X4 X6 k1_t3_loop.trips) := by
  obtain ⟨hn, hg⟩ := geo_t3
  constructor
  · refine pb_all _ (tripL_k1_t3 (F := F) 𝒱 c bd i arg2 harg2 arg3 harg3 arg4 harg4 arg5 harg5 arg6 harg6 arg7 harg7 arg8 harg8 arg9 harg9 arg10 harg10 arg11 harg11 arg12 harg12 arg0 k1_h3 v9 (k1_pay104 (tab 1 0)) (sc 1 0) X4 X6) rfl
      (fun k => pb_k1_t3_succ 𝒱 c bd i arg2 harg2 arg3 harg3 arg4 harg4 arg5 harg5 arg6 harg6 arg7 harg7 arg8 harg8 arg9 harg9 arg10 harg10 arg11 harg11 arg12 harg12 arg0 k1_h3 v9 (k1_pay104 (tab 1 0)) (sc 1 0) X4 X6 k) _ ?_ _ le_rfl
    intro k p hp
    obtain ⟨g4, ⟨r0, r1, r2, r3⟩, s0, s1, s2, s3⟩ := hg k
    have hk : k.val < 12 := hn ▸ k.isLt
    unfold tripL_k1_t3 trip_k1_t3 at hp
    dsimp only at hp
    simp only [List.mem_cons, List.not_mem_nil, or_false] at hp
    rcases hp with rfl | rfl | rfl | rfl
    · exact piece_good v9 arg0 sc tab arg4.view X4 arg6.view X6 1 k.val 3 0 (by omega) hk (by omega) (by omega)
        s3 g4 r3 (offs := ![24, 0]) rfl _ _ slices_S32x128_o24_0_S8x128 0#32 (Scalar.addi (Scalar.muli 2#32 arg0) 0#32) rfl rfl rfl
    · exact piece_good v9 arg0 sc tab arg4.view X4 arg6.view X6 1 k.val 2 0 (by omega) hk (by omega) (by omega)
        s2 g4 r2 (offs := ![16, 0]) rfl _ _ slices_S32x128_o16_0_S8x128 0#32 (Scalar.addi (Scalar.muli 2#32 arg0) 0#32) rfl rfl rfl
    · exact piece_good v9 arg0 sc tab arg4.view X4 arg6.view X6 1 k.val 1 0 (by omega) hk (by omega) (by omega)
        s1 g4 r1 (offs := ![8, 0]) rfl _ _ slices_S32x128_o8_0_S8x128 0#32 (Scalar.addi (Scalar.muli 2#32 arg0) 0#32) rfl rfl rfl
    · exact piece_good v9 arg0 sc tab arg4.view X4 arg6.view X6 1 k.val 0 0 (by omega) hk (by omega) (by omega)
        s0 g4 r0 (offs := ![0, 0]) rfl _ _ slices_S32x128_o0_0_S8x128 0#32 (Scalar.addi (Scalar.muli 2#32 arg0) 0#32) rfl rfl rfl
  · refine covers_of hn _ (tripL_k1_t3 (F := F) 𝒱 c bd i arg2 harg2 arg3 harg3 arg4 harg4 arg5 harg5 arg6 harg6 arg7 harg7 arg8 harg8 arg9 harg9 arg10 harg10 arg11 harg11 arg12 harg12 arg0 k1_h3 v9 (k1_pay104 (tab 1 0)) (sc 1 0) X4 X6)
      (fun k => pb_k1_t3_succ 𝒱 c bd i arg2 harg2 arg3 harg3 arg4 harg4 arg5 harg5 arg6 harg6 arg7 harg7 arg8 harg8 arg9 harg9 arg10 harg10 arg11 harg11 arg12 harg12 arg0 k1_h3 v9 (k1_pay104 (tab 1 0)) (sc 1 0) X4 X6 k) 1 0 ?_
    intro k j
    obtain ⟨-, -, s0, s1, s2, s3⟩ := hg k
    unfold tripL_k1_t3 trip_k1_t3
    dsimp only
    fin_cases j
    · refine ⟨_, List.mem_cons_of_mem _ (List.mem_cons_of_mem _ (List.mem_cons_of_mem _ List.mem_cons_self)), ?_⟩; intro y hy; dsimp only; exact mem_piece s0 y hy
    · refine ⟨_, List.mem_cons_of_mem _ (List.mem_cons_of_mem _ List.mem_cons_self), ?_⟩; intro y hy; dsimp only; exact mem_piece s1 y hy
    · refine ⟨_, List.mem_cons_of_mem _ List.mem_cons_self, ?_⟩; intro y hy; dsimp only; exact mem_piece s2 y hy
    · refine ⟨_, List.mem_cons_self, ?_⟩; intro y hy; dsimp only; exact mem_piece s3 y hy

/-- The rectangles of loop 4 in coordinates. -/
theorem geo_t4 : k1_t4_loop.trips = 12 ∧ ∀ k : Fin k1_t4_loop.trips,
    k1_off15 k = ![32 * (12 * 1 + k.val), 0] ∧
    (k1_off16 k 0#32 = ![8 * (48 * 1 + 4 * k.val + 0), 0] ∧ k1_off16 k 8#32 = ![8 * (48 * 1 + 4 * k.val + 1), 0] ∧
     k1_off16 k 16#32 = ![8 * (48 * 1 + 4 * k.val + 2), 0] ∧ k1_off16 k 24#32 = ![8 * (48 * 1 + 4 * k.val + 3), 0]) ∧
    (k1_off17 k 0#32 = ![384 * 1 + 32 * k.val + 8 * 0, 128 * 1] ∧ k1_off17 k 8#32 = ![384 * 1 + 32 * k.val + 8 * 1, 128 * 1] ∧
     k1_off17 k 16#32 = ![384 * 1 + 32 * k.val + 8 * 2, 128 * 1] ∧ k1_off17 k 24#32 = ![384 * 1 + 32 * k.val + 8 * 3, 128 * 1]) := by
  decide +kernel

/-- Loop 4 writes pieces of the dequantised block, and reaches codebook 1's rows in half 1. -/
theorem loop_t4 (v40 : IVec S1x1x128 32) :
    (∀ p ∈ pb_k1_t4 (F := F) 𝒱 c bd i arg2 harg2 arg3 harg3 arg4 harg4 arg5 harg5 arg6 harg6 arg7 harg7 arg8 harg8 arg9 harg9 arg10 harg10 arg11 harg11 arg12 harg12 arg0 k1_h3 v9 v40 (tab 1 1) (sc 1 1) X4 X6 k1_t4_loop.trips,
      Good v9 arg0 sc tab (arg4.view.read (Elt F) X4) (arg6.view.read (Elt F) X6) p) ∧
    Covers 1 1 (pb_k1_t4 (F := F) 𝒱 c bd i arg2 harg2 arg3 harg3 arg4 harg4 arg5 harg5 arg6 harg6 arg7 harg7 arg8 harg8 arg9 harg9 arg10 harg10 arg11 harg11 arg12 harg12 arg0 k1_h3 v9 v40 (tab 1 1) (sc 1 1) X4 X6 k1_t4_loop.trips) := by
  obtain ⟨hn, hg⟩ := geo_t4
  constructor
  · refine pb_all _ (tripL_k1_t4 (F := F) 𝒱 c bd i arg2 harg2 arg3 harg3 arg4 harg4 arg5 harg5 arg6 harg6 arg7 harg7 arg8 harg8 arg9 harg9 arg10 harg10 arg11 harg11 arg12 harg12 arg0 k1_h3 v9 v40 (tab 1 1) (sc 1 1) X4 X6) rfl
      (fun k => pb_k1_t4_succ 𝒱 c bd i arg2 harg2 arg3 harg3 arg4 harg4 arg5 harg5 arg6 harg6 arg7 harg7 arg8 harg8 arg9 harg9 arg10 harg10 arg11 harg11 arg12 harg12 arg0 k1_h3 v9 v40 (tab 1 1) (sc 1 1) X4 X6 k) _ ?_ _ le_rfl
    intro k p hp
    obtain ⟨g4, ⟨r0, r1, r2, r3⟩, s0, s1, s2, s3⟩ := hg k
    have hk : k.val < 12 := hn ▸ k.isLt
    unfold tripL_k1_t4 trip_k1_t4 at hp
    dsimp only at hp
    simp only [List.mem_cons, List.not_mem_nil, or_false] at hp
    rcases hp with rfl | rfl | rfl | rfl
    · exact piece_good v9 arg0 sc tab arg4.view X4 arg6.view X6 1 k.val 3 1 (by omega) hk (by omega) (by omega)
        s3 g4 r3 (offs := ![24, 0]) rfl _ _ slices_S32x128_o24_0_S8x128 64#32 (Scalar.addi (Scalar.muli 2#32 arg0) 1#32) rfl rfl rfl
    · exact piece_good v9 arg0 sc tab arg4.view X4 arg6.view X6 1 k.val 2 1 (by omega) hk (by omega) (by omega)
        s2 g4 r2 (offs := ![16, 0]) rfl _ _ slices_S32x128_o16_0_S8x128 64#32 (Scalar.addi (Scalar.muli 2#32 arg0) 1#32) rfl rfl rfl
    · exact piece_good v9 arg0 sc tab arg4.view X4 arg6.view X6 1 k.val 1 1 (by omega) hk (by omega) (by omega)
        s1 g4 r1 (offs := ![8, 0]) rfl _ _ slices_S32x128_o8_0_S8x128 64#32 (Scalar.addi (Scalar.muli 2#32 arg0) 1#32) rfl rfl rfl
    · exact piece_good v9 arg0 sc tab arg4.view X4 arg6.view X6 1 k.val 0 1 (by omega) hk (by omega) (by omega)
        s0 g4 r0 (offs := ![0, 0]) rfl _ _ slices_S32x128_o0_0_S8x128 64#32 (Scalar.addi (Scalar.muli 2#32 arg0) 1#32) rfl rfl rfl
  · refine covers_of hn _ (tripL_k1_t4 (F := F) 𝒱 c bd i arg2 harg2 arg3 harg3 arg4 harg4 arg5 harg5 arg6 harg6 arg7 harg7 arg8 harg8 arg9 harg9 arg10 harg10 arg11 harg11 arg12 harg12 arg0 k1_h3 v9 v40 (tab 1 1) (sc 1 1) X4 X6)
      (fun k => pb_k1_t4_succ 𝒱 c bd i arg2 harg2 arg3 harg3 arg4 harg4 arg5 harg5 arg6 harg6 arg7 harg7 arg8 harg8 arg9 harg9 arg10 harg10 arg11 harg11 arg12 harg12 arg0 k1_h3 v9 v40 (tab 1 1) (sc 1 1) X4 X6 k) 1 1 ?_
    intro k j
    obtain ⟨-, -, s0, s1, s2, s3⟩ := hg k
    unfold tripL_k1_t4 trip_k1_t4
    dsimp only
    fin_cases j
    · refine ⟨_, List.mem_cons_of_mem _ (List.mem_cons_of_mem _ (List.mem_cons_of_mem _ List.mem_cons_self)), ?_⟩; intro y hy; dsimp only; exact mem_piece s0 y hy
    · refine ⟨_, List.mem_cons_of_mem _ (List.mem_cons_of_mem _ List.mem_cons_self), ?_⟩; intro y hy; dsimp only; exact mem_piece s1 y hy
    · refine ⟨_, List.mem_cons_of_mem _ List.mem_cons_self, ?_⟩; intro y hy; dsimp only; exact mem_piece s2 y hy
    · refine ⟨_, List.mem_cons_self, ?_⟩; intro y hy; dsimp only; exact mem_piece s3 y hy

/-- The rectangles of loop 5 in coordinates. -/
theorem geo_t5 : k1_t5_loop.trips = 12 ∧ ∀ k : Fin k1_t5_loop.trips,
    k1_off20 k = ![32 * (12 * 2 + k.val), 0] ∧
    (k1_off21 k 0#32 = ![8 * (48 * 2 + 4 * k.val + 0), 0] ∧ k1_off21 k 8#32 = ![8 * (48 * 2 + 4 * k.val + 1), 0] ∧
     k1_off21 k 16#32 = ![8 * (48 * 2 + 4 * k.val + 2), 0] ∧ k1_off21 k 24#32 = ![8 * (48 * 2 + 4 * k.val + 3), 0]) ∧
    (k1_off22 k 0#32 = ![384 * 2 + 32 * k.val + 8 * 0, 128 * 0] ∧ k1_off22 k 8#32 = ![384 * 2 + 32 * k.val + 8 * 1, 128 * 0] ∧
     k1_off22 k 16#32 = ![384 * 2 + 32 * k.val + 8 * 2, 128 * 0] ∧ k1_off22 k 24#32 = ![384 * 2 + 32 * k.val + 8 * 3, 128 * 0]) := by
  decide +kernel

/-- Loop 5 writes pieces of the dequantised block, and reaches codebook 2's rows in half 0. -/
theorem loop_t5 :
    (∀ p ∈ pb_k1_t5 (F := F) 𝒱 c bd i arg2 harg2 arg3 harg3 arg4 harg4 arg5 harg5 arg6 harg6 arg7 harg7 arg8 harg8 arg9 harg9 arg10 harg10 arg11 harg11 arg12 harg12 arg0 k1_h3 v9 (k1_pay109 (tab 2 0)) (sc 2 0) X4 X6 k1_t5_loop.trips,
      Good v9 arg0 sc tab (arg4.view.read (Elt F) X4) (arg6.view.read (Elt F) X6) p) ∧
    Covers 2 0 (pb_k1_t5 (F := F) 𝒱 c bd i arg2 harg2 arg3 harg3 arg4 harg4 arg5 harg5 arg6 harg6 arg7 harg7 arg8 harg8 arg9 harg9 arg10 harg10 arg11 harg11 arg12 harg12 arg0 k1_h3 v9 (k1_pay109 (tab 2 0)) (sc 2 0) X4 X6 k1_t5_loop.trips) := by
  obtain ⟨hn, hg⟩ := geo_t5
  constructor
  · refine pb_all _ (tripL_k1_t5 (F := F) 𝒱 c bd i arg2 harg2 arg3 harg3 arg4 harg4 arg5 harg5 arg6 harg6 arg7 harg7 arg8 harg8 arg9 harg9 arg10 harg10 arg11 harg11 arg12 harg12 arg0 k1_h3 v9 (k1_pay109 (tab 2 0)) (sc 2 0) X4 X6) rfl
      (fun k => pb_k1_t5_succ 𝒱 c bd i arg2 harg2 arg3 harg3 arg4 harg4 arg5 harg5 arg6 harg6 arg7 harg7 arg8 harg8 arg9 harg9 arg10 harg10 arg11 harg11 arg12 harg12 arg0 k1_h3 v9 (k1_pay109 (tab 2 0)) (sc 2 0) X4 X6 k) _ ?_ _ le_rfl
    intro k p hp
    obtain ⟨g4, ⟨r0, r1, r2, r3⟩, s0, s1, s2, s3⟩ := hg k
    have hk : k.val < 12 := hn ▸ k.isLt
    unfold tripL_k1_t5 trip_k1_t5 at hp
    dsimp only at hp
    simp only [List.mem_cons, List.not_mem_nil, or_false] at hp
    rcases hp with rfl | rfl | rfl | rfl
    · exact piece_good v9 arg0 sc tab arg4.view X4 arg6.view X6 2 k.val 3 0 (by omega) hk (by omega) (by omega)
        s3 g4 r3 (offs := ![24, 0]) rfl _ _ slices_S32x128_o24_0_S8x128 0#32 (Scalar.addi (Scalar.muli 2#32 arg0) 0#32) rfl rfl rfl
    · exact piece_good v9 arg0 sc tab arg4.view X4 arg6.view X6 2 k.val 2 0 (by omega) hk (by omega) (by omega)
        s2 g4 r2 (offs := ![16, 0]) rfl _ _ slices_S32x128_o16_0_S8x128 0#32 (Scalar.addi (Scalar.muli 2#32 arg0) 0#32) rfl rfl rfl
    · exact piece_good v9 arg0 sc tab arg4.view X4 arg6.view X6 2 k.val 1 0 (by omega) hk (by omega) (by omega)
        s1 g4 r1 (offs := ![8, 0]) rfl _ _ slices_S32x128_o8_0_S8x128 0#32 (Scalar.addi (Scalar.muli 2#32 arg0) 0#32) rfl rfl rfl
    · exact piece_good v9 arg0 sc tab arg4.view X4 arg6.view X6 2 k.val 0 0 (by omega) hk (by omega) (by omega)
        s0 g4 r0 (offs := ![0, 0]) rfl _ _ slices_S32x128_o0_0_S8x128 0#32 (Scalar.addi (Scalar.muli 2#32 arg0) 0#32) rfl rfl rfl
  · refine covers_of hn _ (tripL_k1_t5 (F := F) 𝒱 c bd i arg2 harg2 arg3 harg3 arg4 harg4 arg5 harg5 arg6 harg6 arg7 harg7 arg8 harg8 arg9 harg9 arg10 harg10 arg11 harg11 arg12 harg12 arg0 k1_h3 v9 (k1_pay109 (tab 2 0)) (sc 2 0) X4 X6)
      (fun k => pb_k1_t5_succ 𝒱 c bd i arg2 harg2 arg3 harg3 arg4 harg4 arg5 harg5 arg6 harg6 arg7 harg7 arg8 harg8 arg9 harg9 arg10 harg10 arg11 harg11 arg12 harg12 arg0 k1_h3 v9 (k1_pay109 (tab 2 0)) (sc 2 0) X4 X6 k) 2 0 ?_
    intro k j
    obtain ⟨-, -, s0, s1, s2, s3⟩ := hg k
    unfold tripL_k1_t5 trip_k1_t5
    dsimp only
    fin_cases j
    · refine ⟨_, List.mem_cons_of_mem _ (List.mem_cons_of_mem _ (List.mem_cons_of_mem _ List.mem_cons_self)), ?_⟩; intro y hy; dsimp only; exact mem_piece s0 y hy
    · refine ⟨_, List.mem_cons_of_mem _ (List.mem_cons_of_mem _ List.mem_cons_self), ?_⟩; intro y hy; dsimp only; exact mem_piece s1 y hy
    · refine ⟨_, List.mem_cons_of_mem _ List.mem_cons_self, ?_⟩; intro y hy; dsimp only; exact mem_piece s2 y hy
    · refine ⟨_, List.mem_cons_self, ?_⟩; intro y hy; dsimp only; exact mem_piece s3 y hy

/-- The rectangles of loop 6 in coordinates. -/
theorem geo_t6 : k1_t6_loop.trips = 12 ∧ ∀ k : Fin k1_t6_loop.trips,
    k1_off23 k = ![32 * (12 * 2 + k.val), 0] ∧
    (k1_off24 k 0#32 = ![8 * (48 * 2 + 4 * k.val + 0), 0] ∧ k1_off24 k 8#32 = ![8 * (48 * 2 + 4 * k.val + 1), 0] ∧
     k1_off24 k 16#32 = ![8 * (48 * 2 + 4 * k.val + 2), 0] ∧ k1_off24 k 24#32 = ![8 * (48 * 2 + 4 * k.val + 3), 0]) ∧
    (k1_off25 k 0#32 = ![384 * 2 + 32 * k.val + 8 * 0, 128 * 1] ∧ k1_off25 k 8#32 = ![384 * 2 + 32 * k.val + 8 * 1, 128 * 1] ∧
     k1_off25 k 16#32 = ![384 * 2 + 32 * k.val + 8 * 2, 128 * 1] ∧ k1_off25 k 24#32 = ![384 * 2 + 32 * k.val + 8 * 3, 128 * 1]) := by
  decide +kernel

/-- Loop 6 writes pieces of the dequantised block, and reaches codebook 2's rows in half 1. -/
theorem loop_t6 (v69 : IVec S8x128 32) (v73 : Elt F .f32) :
    (∀ p ∈ pb_k1_t6 (F := F) 𝒱 c bd i arg2 harg2 arg3 harg3 arg4 harg4 arg5 harg5 arg6 harg6 arg7 harg7 arg8 harg8 arg9 harg9 arg10 harg10 arg11 harg11 arg12 harg12 arg0 k1_h3 v9 v69 v73 (tab 2 1) (sc 2 1) X4 X6 k1_t6_loop.trips,
      Good v9 arg0 sc tab (arg4.view.read (Elt F) X4) (arg6.view.read (Elt F) X6) p) ∧
    Covers 2 1 (pb_k1_t6 (F := F) 𝒱 c bd i arg2 harg2 arg3 harg3 arg4 harg4 arg5 harg5 arg6 harg6 arg7 harg7 arg8 harg8 arg9 harg9 arg10 harg10 arg11 harg11 arg12 harg12 arg0 k1_h3 v9 v69 v73 (tab 2 1) (sc 2 1) X4 X6 k1_t6_loop.trips) := by
  obtain ⟨hn, hg⟩ := geo_t6
  constructor
  · refine pb_all _ (tripL_k1_t6 (F := F) 𝒱 c bd i arg2 harg2 arg3 harg3 arg4 harg4 arg5 harg5 arg6 harg6 arg7 harg7 arg8 harg8 arg9 harg9 arg10 harg10 arg11 harg11 arg12 harg12 arg0 k1_h3 v9 v69 v73 (tab 2 1) (sc 2 1) X4 X6) rfl
      (fun k => pb_k1_t6_succ 𝒱 c bd i arg2 harg2 arg3 harg3 arg4 harg4 arg5 harg5 arg6 harg6 arg7 harg7 arg8 harg8 arg9 harg9 arg10 harg10 arg11 harg11 arg12 harg12 arg0 k1_h3 v9 v69 v73 (tab 2 1) (sc 2 1) X4 X6 k) _ ?_ _ le_rfl
    intro k p hp
    obtain ⟨g4, ⟨r0, r1, r2, r3⟩, s0, s1, s2, s3⟩ := hg k
    have hk : k.val < 12 := hn ▸ k.isLt
    unfold tripL_k1_t6 trip_k1_t6 at hp
    dsimp only at hp
    simp only [List.mem_cons, List.not_mem_nil, or_false] at hp
    rcases hp with rfl | rfl | rfl | rfl
    · exact piece_good v9 arg0 sc tab arg4.view X4 arg6.view X6 2 k.val 3 1 (by omega) hk (by omega) (by omega)
        s3 g4 r3 (offs := ![24, 0]) rfl _ _ slices_S32x128_o24_0_S8x128 64#32 (Scalar.addi (Scalar.muli 2#32 arg0) 1#32) rfl rfl rfl
    · exact piece_good v9 arg0 sc tab arg4.view X4 arg6.view X6 2 k.val 2 1 (by omega) hk (by omega) (by omega)
        s2 g4 r2 (offs := ![16, 0]) rfl _ _ slices_S32x128_o16_0_S8x128 64#32 (Scalar.addi (Scalar.muli 2#32 arg0) 1#32) rfl rfl rfl
    · exact piece_good v9 arg0 sc tab arg4.view X4 arg6.view X6 2 k.val 1 1 (by omega) hk (by omega) (by omega)
        s1 g4 r1 (offs := ![8, 0]) rfl _ _ slices_S32x128_o8_0_S8x128 64#32 (Scalar.addi (Scalar.muli 2#32 arg0) 1#32) rfl rfl rfl
    · exact piece_good v9 arg0 sc tab arg4.view X4 arg6.view X6 2 k.val 0 1 (by omega) hk (by omega) (by omega)
        s0 g4 r0 (offs := ![0, 0]) rfl _ _ slices_S32x128_o0_0_S8x128 64#32 (Scalar.addi (Scalar.muli 2#32 arg0) 1#32) rfl rfl rfl
  · refine covers_of hn _ (tripL_k1_t6 (F := F) 𝒱 c bd i arg2 harg2 arg3 harg3 arg4 harg4 arg5 harg5 arg6 harg6 arg7 harg7 arg8 harg8 arg9 harg9 arg10 harg10 arg11 harg11 arg12 harg12 arg0 k1_h3 v9 v69 v73 (tab 2 1) (sc 2 1) X4 X6)
      (fun k => pb_k1_t6_succ 𝒱 c bd i arg2 harg2 arg3 harg3 arg4 harg4 arg5 harg5 arg6 harg6 arg7 harg7 arg8 harg8 arg9 harg9 arg10 harg10 arg11 harg11 arg12 harg12 arg0 k1_h3 v9 v69 v73 (tab 2 1) (sc 2 1) X4 X6 k) 2 1 ?_
    intro k j
    obtain ⟨-, -, s0, s1, s2, s3⟩ := hg k
    unfold tripL_k1_t6 trip_k1_t6
    dsimp only
    fin_cases j
    · refine ⟨_, List.mem_cons_of_mem _ (List.mem_cons_of_mem _ (List.mem_cons_of_mem _ List.mem_cons_self)), ?_⟩; intro y hy; dsimp only; exact mem_piece s0 y hy
    · refine ⟨_, List.mem_cons_of_mem _ (List.mem_cons_of_mem _ List.mem_cons_self), ?_⟩; intro y hy; dsimp only; exact mem_piece s1 y hy
    · refine ⟨_, List.mem_cons_of_mem _ List.mem_cons_self, ?_⟩; intro y hy; dsimp only; exact mem_piece s2 y hy
    · refine ⟨_, List.mem_cons_self, ?_⟩; intro y hy; dsimp only; exact mem_piece s3 y hy

end Loops

/-- Six lists of good pieces that between them reach every place, written over anything, leave the
dequantised block. -/
theorem writes_six {v : View sig .tc .vmem S1152x256 .f32} (v9 : IVec S8x128 32) (arg0 : BitVec 32) (sc : ℕ → ℕ → Elt F .f32)
    (tab : ℕ → ℕ → Vec F S1x1x128 .i32) (x2 : Vec F S1152x128 .i8) (x4 : Vec F S1152x128 .f32)
    (f : BufTy.Contents (Elt F) v.ty) (L : List (View.Piece (Elt F) S1152x256 .f32))
    (hg : ∀ p ∈ L, Good v9 arg0 sc tab x2 x4 p)
    (hc : ∀ m < 3, ∀ h < 2, Covers m h L) :
    v.read (Elt F) (v.writes (Elt F) f L) = dqG v9 arg0 sc tab x2 x4 := by
  funext y
  have h0 : (y 0).val < 1152 := (y 0).isLt
  have h1 : (y 1).val < 256 := (y 1).isLt
  exact View.read_writes_apply_of_pieces v f _ L hg y
    (hc ((y 0).val / 384) (by omega) ((y 1).val / 128) (by omega) y rfl rfl)

end Cert.Kernel.Gen
-- ==== Proof.K.Region1Six.lean ====
module

public import proofs.«01_k».proof.Proof.K.Region1Dq
public import proofs.«01_k».proof.Proof.K.Region0
public import Idealize.ShloMosaic.Lib.VecWindow

/-! # The six loops together

The values the loops read — table rows and codebook scales — by their coordinates, and the block the
six loops leave. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The place (`p`, `q`, `r`) of a three-dimensional array, each coordinate modulo the size. -/
def ix3 {m n o : ℕ} (hm : 0 < m) (hn : 0 < n) (ho : 0 < o) (p q r : ℕ) : (⟨3, ![m, n, o]⟩ : Shape).Idx :=
  Fin.cons (α := fun a : Fin 3 => Fin ((⟨3, ![m, n, o]⟩ : Shape).size a)) ⟨p % m, Nat.mod_lt _ hm⟩
    (Fin.cons (α := fun a : Fin 2 => Fin ((⟨3, ![m, n, o]⟩ : Shape).size a.succ)) ⟨q % n, Nat.mod_lt _ hn⟩
      (Fin.cons (α := fun a : Fin 1 => Fin ((⟨3, ![m, n, o]⟩ : Shape).size a.succ.succ)) ⟨r % o, Nat.mod_lt _ ho⟩ (fun a => a.elim0)))

/-- Two places of a three-dimensional array with the same coordinates are the same place. -/
theorem idx3_ext {m n o : ℕ} {x y : (⟨3, ![m, n, o]⟩ : Shape).Idx} (h0 : (x 0).val = (y 0).val)
    (h1 : (x 1).val = (y 1).val) (h2 : (x 2).val = (y 2).val) : x = y := by
  funext a; apply Fin.ext; fin_cases a
  · exact h0
  · exact h1
  · exact h2

theorem ix3_zero {m n o : ℕ} (hm : 0 < m) (hn : 0 < n) (ho : 0 < o) (p q r : ℕ) : ((ix3 hm hn ho p q r) 0).val = p % m := rfl
theorem ix3_one {m n o : ℕ} (hm : 0 < m) (hn : 0 < n) (ho : 0 < o) (p q r : ℕ) : ((ix3 hm hn ho p q r) 1).val = q % n := rfl
theorem ix3_two {m n o : ℕ} (hm : 0 < m) (hn : 0 < n) (ho : 0 < o) (p q r : ℕ) : ((ix3 hm hn ho p q r) 2).val = r % o := rfl

/-- The table row of codebook `m` and column group `2 * b + h`. -/
def tabOf (x3 : Vec F S3x32x128 .i32) (b m h : ℕ) : Vec F S1x1x128 .i32 := fun y =>
  x3 (ix3 (by decide) (by decide) (by decide) m (2 * b + h) (y 2).val)

/-- The codebook scale of codebook `m` and column group `2 * b + h`. -/
def scOf (x0 : Vec F S3x32 .f32) (b m h : ℕ) : Elt F .f32 := x0 (ix2 (by decide) (by decide) m (2 * b + h))

/-- The dequantised block of column tile `b`. -/
def dq (b : ℕ) (x0 : Vec F S3x32 .f32) (x2 : Vec F S1152x128 .i8) (x3 : Vec F S3x32x128 .i32)
    (x4 : Vec F S1152x128 .f32) : Vec F S1152x256 .f32 :=
  dqG (iota Kind.tc S8x128 32 [1] iota_S8x128_d1_w32) (BitVec.ofNat 32 b) (scOf x0 b) (tabOf x3 b) x2 x4

/-- A table row, loaded. -/
theorem load_tab (v : View sig .tc .vmem S3x32x128 .i32) (X : BufTy.Contents (Elt F) v.ty) (b m h : ℕ) (hm : m < 3)
    (hb : 2 * b + h < 32) (off : Fin 3 → ℕ) (ho : off = ![m, 2 * b + h, 0])
    (inb : ∀ a, off a + S1x1x128.size a ≤ S3x32x128.size a) :
    View.readAt (Elt F) v (Rect.unit (s := S3x32x128) off S1x1x128.size inb).toLoadRect X = tabOf (v.read (Elt F) X) b m h := by
  subst ho; funext y; unfold tabOf
  have h0 : (y 0).val < 1 := (y 0).isLt
  have h1 : (y 1).val < 1 := (y 1).isLt
  have h2 : (y 2).val < 128 := (y 2).isLt
  refine congrArg (v.read (Elt F) X) (idx3_ext ?_ ?_ ?_)
  · rw [ix3_zero, Nat.mod_eq_of_lt (by omega)]; exact (Rect.idx_unit_val _ _ _ _ _).trans (by show m + (y 0).val = m; omega)
  · rw [ix3_one, Nat.mod_eq_of_lt (by omega)]; exact (Rect.idx_unit_val _ _ _ _ _).trans (by show 2 * b + h + (y 1).val = 2 * b + h; omega)
  · rw [ix3_two, Nat.mod_eq_of_lt (by omega)]; exact (Rect.idx_unit_val _ _ _ _ _).trans (Nat.zero_add _)

/-- A codebook scale, loaded. -/
theorem load_sc (v : View sig .tc .smem S3x32 .f32) (X : BufTy.Contents (Elt F) v.ty) (b m h : ℕ) (hm : m < 3)
    (hb : 2 * b + h < 32) (off : Fin 2 → ℕ) (ho : off = ![m, 2 * b + h])
    (inb : ∀ a, off a + S1x1.size a ≤ S3x32.size a) (y : S1x1.Idx) :
    View.readAt (Elt F) v (Rect.unit (s := S3x32) off S1x1.size inb).toLoadRect X y = scOf (v.read (Elt F) X) b m h := by
  subst ho; unfold scOf
  have h0 : (y 0).val < 1 := (y 0).isLt
  have h1 : (y 1).val < 1 := (y 1).isLt
  refine congrArg (v.read (Elt F) X) (idx2_ext ?_ ?_)
  · rw [ix2_zero, Nat.mod_eq_of_lt (by omega)]; exact (Rect.idx_unit_val _ _ _ _ _).trans (by show m + (y 0).val = m; omega)
  · rw [ix2_one, Nat.mod_eq_of_lt (by omega)]; exact (Rect.idx_unit_val _ _ _ _ _).trans (by show 2 * b + h + (y 1).val = 2 * b + h; omega)

/-- The places of the table rows and scales read at grid column `b`, in coordinates. -/
theorem geo_tab : ∀ b : Fin 16, ∀ i : grid1.Coords, (i 0).val = b.val →
    (k1_off2 i 0#32 = ![0, 2 * b.val + 0, 0] ∧ k1_off2 i 1#32 = ![0, 2 * b.val + 1, 0] ∧
     k1_off10 i 0#32 = ![1, 2 * b.val + 0, 0] ∧ k1_off10 i 1#32 = ![1, 2 * b.val + 1, 0] ∧
     k1_off18 i 0#32 = ![2, 2 * b.val + 0, 0] ∧ k1_off18 i 1#32 = ![2, 2 * b.val + 1, 0]) ∧
    (k1_off3 i 0#32 = ![0, 2 * b.val + 0] ∧ k1_off3 i 1#32 = ![0, 2 * b.val + 1] ∧
     k1_off11 i 0#32 = ![1, 2 * b.val + 0] ∧ k1_off11 i 1#32 = ![1, 2 * b.val + 1] ∧
     k1_off19 i 0#32 = ![2, 2 * b.val + 0] ∧ k1_off19 i 1#32 = ![2, 2 * b.val + 1]) := by
  intro b i hi
  unfold k1_off2 k1_off10 k1_off18 k1_off3 k1_off11 k1_off19
  rw [hi]
  clear hi i; revert b
  decide +kernel

/-- A list covers what a part of it covers. -/
theorem Covers.mono {m h : ℕ} {L L' : List (View.Piece (Elt F) S1152x256 .f32)} (hc : Covers m h L)
    (hs : ∀ p ∈ L, p ∈ L') : Covers m h L' := fun y h0 h1 =>
  let ⟨p, hp, hy⟩ := hc y h0 h1; ⟨p, hs p hp, hy⟩

/-- After the six loops the block reads as the dequantised block. -/
theorem read_six (c : Dev nD) (i : grid1.Coords) (arg2 : Memref sig .tc .smem S3x32 .f32) (harg2 : arg2.IsWhole) (arg3 : Memref sig .tc .vmem S1152x256 .bf16) (harg3 : arg3.IsWhole) (arg4 : Memref sig .tc .vmem S1152x128 .i8) (harg4 : arg4.IsWhole) (arg5 : Memref sig .tc .vmem S3x32x128 .i32) (harg5 : arg5.IsWhole) (arg6 : Memref sig .tc .vmem S1152x128 .f32) (harg6 : arg6.IsWhole) (arg7 : Memref sig .tc .vmem S256x256 .f32) (harg7 : arg7.IsWhole) (arg8 : Memref sig .tc .vmem S1x256x256 .f32) (harg8 : arg8.IsWhole) (arg9 : Memref sig .tc .vmem S1152x256 .bf16) (harg9 : arg9.IsWhole) (arg10 : Memref sig .tc .vmem S1152x256 .f32) (harg10 : arg10.IsWhole) (arg11 : Memref sig .tc .vmem S1152x256 .f32) (harg11 : arg11.IsWhole) (arg12 : Memref sig .tc .vmem S16x1152x256 .f32) (harg12 : arg12.IsWhole) (h3 : k1_cond3 i = 1#1)
    (f2 : BufTy.Contents (Elt F) arg2.view.ty) (f4 : BufTy.Contents (Elt F) arg4.view.ty) (f5 : BufTy.Contents (Elt F) arg5.view.ty)
    (f6 : BufTy.Contents (Elt F) arg6.view.ty) (f10 : BufTy.Contents (Elt F) arg10.view.ty) :
    arg10.view.read (Elt F) (arg10.view.writes (Elt F) f10 (pb_k1_t6 (F := F) Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) (k1_pay109 (View.readAt (Elt F) arg5.view (Rect.unit (s := S3x32x128) (k1_off18 i 0#32) S1x1x128.size (k1_off18_inb i h3 0)).toLoadRect f5)) (View.readAt (Elt F) arg2.view (Rect.unit (s := S3x32) (k1_off19 i 0#32) S1x1.size (k1_off19_inb i h3 0)).toLoadRect f2 (Shape.Idx.first (s := S1x1) (by decide))) (View.readAt (Elt F) arg5.view (Rect.unit (s := S3x32x128) (k1_off18 i 1#32) S1x1x128.size (k1_off18_inb i h3 1)).toLoadRect f5) (View.readAt (Elt F) arg2.view (Rect.unit (s := S3x32) (k1_off19 i 1#32) S1x1.size (k1_off19_inb i h3 1)).toLoadRect f2 (Shape.Idx.first (s := S1x1) (by decide))) f4 f6 k1_t6_loop.trips ++ (pb_k1_t5 (F := F) Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) (k1_pay109 (View.readAt (Elt F) arg5.view (Rect.unit (s := S3x32x128) (k1_off18 i 0#32) S1x1x128.size (k1_off18_inb i h3 0)).toLoadRect f5)) (View.readAt (Elt F) arg2.view (Rect.unit (s := S3x32) (k1_off19 i 0#32) S1x1.size (k1_off19_inb i h3 0)).toLoadRect f2 (Shape.Idx.first (s := S1x1) (by decide))) f4 f6 k1_t5_loop.trips ++ (pb_k1_t4 (F := F) Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) (k1_pay104 (View.readAt (Elt F) arg5.view (Rect.unit (s := S3x32x128) (k1_off10 i 0#32) S1x1x128.size (k1_off10_inb i h3 0)).toLoadRect f5)) (View.readAt (Elt F) arg5.view (Rect.unit (s := S3x32x128) (k1_off10 i 1#32) S1x1x128.size (k1_off10_inb i h3 1)).toLoadRect f5) (View.readAt (Elt F) arg2.view (Rect.unit (s := S3x32) (k1_off11 i 1#32) S1x1.size (k1_off11_inb i h3 1)).toLoadRect f2 (Shape.Idx.first (s := S1x1) (by decide))) f4 f6 k1_t4_loop.trips ++ (pb_k1_t3 (F := F) Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) (k1_pay104 (View.readAt (Elt F) arg5.view (Rect.unit (s := S3x32x128) (k1_off10 i 0#32) S1x1x128.size (k1_off10_inb i h3 0)).toLoadRect f5)) (View.readAt (Elt F) arg2.view (Rect.unit (s := S3x32) (k1_off11 i 0#32) S1x1.size (k1_off11_inb i h3 0)).toLoadRect f2 (Shape.Idx.first (s := S1x1) (by decide))) f4 f6 k1_t3_loop.trips ++ (pb_k1_t2 (F := F) Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) (View.readAt (Elt F) arg5.view (Rect.unit (s := S3x32x128) (k1_off2 i 1#32) S1x1x128.size (k1_off2_inb i h3 1)).toLoadRect f5) (View.readAt (Elt F) arg2.view (Rect.unit (s := S3x32) (k1_off3 i 1#32) S1x1.size (k1_off3_inb i h3 1)).toLoadRect f2 (Shape.Idx.first (s := S1x1) (by decide))) f4 f6 k1_t2_loop.trips ++ (pb_k1_t1 (F := F) Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) (View.readAt (Elt F) arg5.view (Rect.unit (s := S3x32x128) (k1_off2 i 0#32) S1x1x128.size (k1_off2_inb i h3 0)).toLoadRect f5) (View.readAt (Elt F) arg2.view (Rect.unit (s := S3x32) (k1_off3 i 0#32) S1x1.size (k1_off3_inb i h3 0)).toLoadRect f2 (Shape.Idx.first (s := S1x1) (by decide))) f4 f6 k1_t1_loop.trips)))))))
      = dq (i 0).val (arg2.view.read (Elt F) f2) (arg4.view.read (Elt F) f4) (arg5.view.read (Elt F) f5) (arg6.view.read (Elt F) f6) := by
  have hb : (i 0).val < 16 := (i 0).isLt
  obtain ⟨⟨t0, t1, t2, t3, t4, t5⟩, s0, s1, s2, s3, s4, s5⟩ := geo_tab ⟨(i 0).val, hb⟩ i rfl
  rw [load_tab arg5.view f5 (i 0).val 0 0 (by omega) (by omega) _ t0, load_sc arg2.view f2 (i 0).val 0 0 (by omega) (by omega) _ s0]
  rw [load_tab arg5.view f5 (i 0).val 0 1 (by omega) (by omega) _ t1, load_sc arg2.view f2 (i 0).val 0 1 (by omega) (by omega) _ s1]
  rw [load_tab arg5.view f5 (i 0).val 1 0 (by omega) (by omega) _ t2, load_sc arg2.view f2 (i 0).val 1 0 (by omega) (by omega) _ s2]
  rw [load_tab arg5.view f5 (i 0).val 1 1 (by omega) (by omega) _ t3, load_sc arg2.view f2 (i 0).val 1 1 (by omega) (by omega) _ s3]
  rw [load_tab arg5.view f5 (i 0).val 2 0 (by omega) (by omega) _ t4, load_sc arg2.view f2 (i 0).val 2 0 (by omega) (by omega) _ s4]
  rw [load_tab arg5.view f5 (i 0).val 2 1 (by omega) (by omega) _ t5, load_sc arg2.view f2 (i 0).val 2 1 (by omega) (by omega) _ s5]
  generalize hT : tabOf (arg5.view.read (Elt F) f5) (i 0).val = tab
  generalize hS : scOf (arg2.view.read (Elt F) f2) (i 0).val = sc
  have l1 := loop_t1 Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) sc tab f4 f6
  have l2 := loop_t2 Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) sc tab f4 f6
  have l3 := loop_t3 Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) sc tab f4 f6
  have l4 := loop_t4 Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) sc tab f4 f6 (k1_pay104 (tab 1 0))
  have l5 := loop_t5 Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) sc tab f4 f6
  have l6 := loop_t6 Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) sc tab f4 f6 (k1_pay109 (tab 2 0)) (sc 2 0)
  unfold dq
  rw [hT, hS]
  apply writes_six
  · intro p hp
    simp only [List.mem_append] at hp
    rcases hp with hp | hp | hp | hp | hp | hp
    · exact l6.1 p hp
    · exact l5.1 p hp
    · exact l4.1 p hp
    · exact l3.1 p hp
    · exact l2.1 p hp
    · exact l1.1 p hp
  · intro m hm h hh
    obtain rfl | rfl | rfl : m = 0 ∨ m = 1 ∨ m = 2 := by omega
    all_goals obtain rfl | rfl : h = 0 ∨ h = 1 := by omega
    · exact l1.2.mono fun p hp => by simp only [List.mem_append]; tauto
    · exact l2.2.mono fun p hp => by simp only [List.mem_append]; tauto
    · exact l3.2.mono fun p hp => by simp only [List.mem_append]; tauto
    · exact l4.2.mono fun p hp => by simp only [List.mem_append]; tauto
    · exact l5.2.mono fun p hp => by simp only [List.mem_append]; tauto
    · exact l6.2.mono fun p hp => by simp only [List.mem_append]; tauto

end Cert.Kernel.Gen
-- ==== Proof.K.Region1Step.lean ====
module

public import proofs.«01_k».proof.Proof.K.Region1Six

/-! # What one grid step of the solve call does

The body at a step off the diagonal adds one product to the accumulator; the body at a diagonal step
dequantises a column tile, solves it, and keeps the result. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word that is one exactly at the first step of a row of the grid. -/
def k1_cond1 (i : grid1.Coords) : BitVec 1 :=
  Scalar.cmpi .ne (Scalar.extui (Scalar.cmpi .eq (BitVec.ofNat 32 (i 1).val) 0#32) : BitVec 32) 0#32

/-- Slot `j` of the kept results. -/
def slotOf (j : ℕ) (X : Vec F S16x1152x256 .f32) : Vec F S1x1152x256 .f32 := fun y =>
  X (ix3 (by decide) (by decide) (by decide) j (y 1).val (y 2).val)

/-- A slot, loaded. -/
theorem load_slot (v : View sig .tc .vmem S16x1152x256 .f32) (X : BufTy.Contents (Elt F) v.ty) (j : ℕ) (hj : j < 16)
    (off : Fin 3 → ℕ) (ho : off = ![j, 0, 0]) (inb : ∀ a, off a + S1x1152x256.size a ≤ S16x1152x256.size a) :
    View.readAt (Elt F) v (Rect.unit (s := S16x1152x256) off S1x1152x256.size inb).toLoadRect X = slotOf j (v.read (Elt F) X) := by
  subst ho; funext y; unfold slotOf
  have h0 : (y 0).val < 1 := (y 0).isLt
  have h1 : (y 1).val < 1152 := (y 1).isLt
  have h2 : (y 2).val < 256 := (y 2).isLt
  refine congrArg (v.read (Elt F) X) (idx3_ext ?_ ?_ ?_)
  · rw [ix3_zero, Nat.mod_eq_of_lt (by omega)]; exact (Rect.idx_unit_val _ _ _ _ _).trans (by show j + (y 0).val = j; omega)
  · rw [ix3_one, Nat.mod_eq_of_lt (by omega)]; exact (Rect.idx_unit_val _ _ _ _ _).trans (Nat.zero_add _)
  · rw [ix3_two, Nat.mod_eq_of_lt (by omega)]; exact (Rect.idx_unit_val _ _ _ _ _).trans (Nat.zero_add _)

/-- A slot stored: that slot is the value stored, the others are as they were. -/
theorem store_slot (v : View sig .tc .vmem S16x1152x256 .f32) (X : BufTy.Contents (Elt F) v.ty) (b : ℕ) (hb : b < 16)
    (off : Fin 3 → ℕ) (ho : off = ![b, 0, 0]) (inb : ∀ a, off a + S1x1152x256.size a ≤ S16x1152x256.size a)
    (w : Vec F S1x1152x256 .f32) (j : ℕ) (hj : j < 16) :
    slotOf j (v.read (Elt F) (v.writes (Elt F) X [⟨Rect.unit (s := S16x1152x256) off S1x1152x256.size inb, w⟩]))
      = if j = b then w else slotOf j (v.read (Elt F) X) := by
  subst ho; funext y
  have h0 : (y 0).val < 1 := (y 0).isLt
  have h1 : (y 1).val < 1152 := (y 1).isLt
  have h2 : (y 2).val < 256 := (y 2).isLt
  by_cases hjb : j = b
  · subst hjb
    rw [if_pos rfl]
    refine View.read_writes_cons_unit_of_mem v X inb w [] _ y rfl ?_
    intro a
    match a with
    | 0 => rw [ix3_zero, Nat.mod_eq_of_lt (by omega)]; show j = j + (y 0).val; omega
    | 1 => rw [ix3_one, Nat.mod_eq_of_lt (by omega)]; show (y 1).val = 0 + (y 1).val; omega
    | 2 => rw [ix3_two, Nat.mod_eq_of_lt (by omega)]; show (y 2).val = 0 + (y 2).val; omega
  · rw [if_neg hjb]
    refine View.read_writes_cons_unit_of_not_mem v X inb w [] _ rfl 0 ?_
    rw [ix3_zero, Nat.mod_eq_of_lt (by omega)]
    show j < b ∨ b + 1 ≤ j
    omega

/-- The place of the slot stored at grid column `b`. -/
theorem geo_off26 : ∀ b : Fin 16, ∀ i : grid1.Coords, (i 0).val = b.val → k1_off26 i = ![b.val, 0, 0] := by
  intro b i hi
  unfold k1_off26
  rw [hi]
  clear hi i; revert b
  decide +kernel

/-- The place of the slot read at grid row `a`. -/
theorem geo_off1 : ∀ a : Fin 16, ∀ i : grid1.Coords, (i 1).val = a.val → k1_off1 i = ![a.val, 0, 0] := by
  intro b i hi
  unfold k1_off1
  rw [hi]
  clear hi i; revert b
  decide +kernel

/-- The accumulator once the first conditional has run: zero at the first step of a row. -/
def acc0 (i : grid1.Coords) (A : Vec F S1152x256 .f32) : Vec F S1152x256 .f32 :=
  if k1_cond1 i = 1#1 then k1_pay1 (F := F) else A

/-- The solved block depends on its four values only. -/
theorem pay114_congr {a a' c c' : Vec F S1152x256 .f32} {b b' : Vec F S1152x256 .bf16} {d d' : Vec F S1x256x256 .f32}
    (ha : a = a') (hb : b = b') (hc : c = c') (hd : d = d') : k1_pay114 a b c d = k1_pay114 a' b' c' d' := by
  subst ha hb hc hd; rfl

set_option maxHeartbeats 1000000 in
/-- The body at a diagonal step: the first output is the rounded dequantised block, the second the solved
block, which is also kept in its slot. -/
theorem sound_q (c : Dev nD) (E : Set ℕ) (i : grid1.Coords) (arg2 : Memref sig .tc .smem S3x32 .f32) (harg2 : arg2.IsWhole) (arg3 : Memref sig .tc .vmem S1152x256 .bf16) (harg3 : arg3.IsWhole) (arg4 : Memref sig .tc .vmem S1152x128 .i8) (harg4 : arg4.IsWhole) (arg5 : Memref sig .tc .vmem S3x32x128 .i32) (harg5 : arg5.IsWhole) (arg6 : Memref sig .tc .vmem S1152x128 .f32) (harg6 : arg6.IsWhole) (arg7 : Memref sig .tc .vmem S256x256 .f32) (harg7 : arg7.IsWhole) (arg8 : Memref sig .tc .vmem S1x256x256 .f32) (harg8 : arg8.IsWhole) (arg9 : Memref sig .tc .vmem S1152x256 .bf16) (harg9 : arg9.IsWhole) (arg10 : Memref sig .tc .vmem S1152x256 .f32) (harg10 : arg10.IsWhole) (arg11 : Memref sig .tc .vmem S1152x256 .f32) (harg11 : arg11.IsWhole) (arg12 : Memref sig .tc .vmem S16x1152x256 .f32) (harg12 : arg12.IsWhole)
    (h2 : ¬ k1_cond2 i = 1#1) (h3 : k1_cond3 i = 1#1)
    (x0 : Vec F S3x32 .f32) (x1 : Vec F S1152x256 .bf16) (x2 : Vec F S1152x128 .i8) (x3 : Vec F S3x32x128 .i32)
    (x4 : Vec F S1152x128 .f32) (x6 : Vec F S1x256x256 .f32) (A : Vec F S1152x256 .f32) (X : Vec F S16x1152x256 .f32)
    (e : Vec F S1152x256 .f32) (he : e = k1_pay114 (dq (i 0).val x0 x2 x3 x4) x1 (acc0 i A) x6)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg8 fullShare x6
        ∗ (∃ d, owns (c : Thread nD τ) arg9 fullShare d) ∗ (∃ d, owns (c : Thread nD τ) arg10 fullShare d)
        ∗ owns (c : Thread nD τ) arg11 fullShare A ∗ owns (c : Thread nD τ) arg12 fullShare X
        ∗ ((iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg8 fullShare x6
        ∗ owns (c : Thread nD τ) arg9 fullShare (k1_pay113 (dq (i 0).val x0 x2 x3 x4))
        ∗ owns (c : Thread nD τ) arg10 fullShare e
        ∗ owns (c : Thread nD τ) arg11 fullShare (acc0 i A)
        ∗ (∃ X', ⌜∀ j < 16, slotOf j X' = if j = (i 0).val then k1_pay3 e else slotOf j X⌝ ∗ owns (c : Thread nD τ) arg12 fullShare X'))) -∗ K ⟨⟩))
      ⊢ wp frame (wpE (defs₀ (F := F)) Variants.none c none) E (cc1_solve i arg2 harg2 arg3 harg3 arg4 harg4 arg5 harg5 arg6 harg6 arg7 harg7 arg8 harg8 arg9 harg9 arg10 harg10 arg11 harg11 arg12 harg12) K := by
  have hb : (i 0).val < 16 := (i 0).isLt
  have g26 := geo_off26 ⟨(i 0).val, hb⟩ i rfl
  simp only [cc1_solve_eq_skeleton]; unfold cc1_solve_skel
  simp only [dif_neg h2, dif_pos h3]
  by_cases h1 : (Scalar.cmpi .ne (Scalar.extui (Scalar.cmpi .eq (BitVec.ofNat 32 (i 1).val) 0#32) : BitVec 32) 0#32) = 1#1
  all_goals
    first
    | simp only [dif_pos h1]
    | simp only [dif_neg h1]
    simp only [k1_part37_eq_skeleton, k1_part38_eq_skeleton, k1_part39_eq_skeleton]
    unfold k1_part37_skel k1_part38_skel k1_part39_skel
    simp only [bind_assoc, pure_bind]
    unfold owns
    iintro ⟨⟨%f2, %hf2, H2⟩, ⟨%f3, %hf3, H3⟩, ⟨%f4, %hf4, H4⟩, ⟨%f5, %hf5, H5⟩, ⟨%f6, %hf6, H6⟩, ⟨%f8, %hf8, H8⟩, ⟨%d9, %f9, -, H9⟩, ⟨%d10, %f10, -, H10⟩, ⟨%f11, %hf11, H11⟩, ⟨%f12, %hf12, H12⟩, Hk⟩
    subst hf2 hf3 hf4 hf5 hf6 hf8 hf11 hf12
    have hq := read_six c i arg2 harg2 arg3 harg3 arg4 harg4 arg5 harg5 arg6 harg6 arg7 harg7 arg8 harg8 arg9 harg9 arg10 harg10 arg11 harg11 arg12 harg12 h3 f2 f4 f5 f6 f10
    sl_exec
    sl_step
    iapply Hk
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H8]; · iexists f8; isplitr; · ipureintro; rfl
                    iexact H8
    isplitl [H9]
    · iexists _; isplitr
      swap; · iexact H9
      ipureintro
      refine (View.read_writes_full _ _ _ _ _).trans ?_
      exact congrArg k1_pay113 ((View.readAt_full arg10.view _ _).trans hq)
    isplitl [H10]
    · iexists _; isplitr
      swap; · iexact H10
      ipureintro
      refine (View.read_writes_full _ _ _ _ _).trans ?_
      exact (pay114_congr ((View.readAt_full arg10.view _ _).trans hq) (View.readAt_full arg3.view _ _) (by
        first
        | exact (View.readAt_writes_full arg11.view _ _ _ _ _).trans (if_pos h1).symm
        | exact (View.readAt_full arg11.view _ _).trans (if_neg h1).symm
        | (unfold acc0 k1_cond1; rw [if_pos h1])) (View.readAt_full arg8.view _ _)).trans he.symm
    isplitl [H11]
    · iexists _; isplitr
      swap; · iexact H11
      ipureintro
      first
      | exact (View.read_writes_full arg11.view _ _ _ _).trans (if_pos h1).symm
      | exact (if_neg h1).symm
    iexists _; isplitr
    swap
    · iexists _; isplitr
      swap; · iexact H12
      ipureintro; rfl
    ipureintro
    intro j hj
    refine (store_slot _ _ (i 0).val hb _ g26 _ _ j hj).trans ?_
    refine congrArg (fun w => if j = (i 0).val then w else slotOf j (arg12.view.read (Elt F) f12)) ?_
    exact congrArg k1_pay3 ((pay114_congr ((View.readAt_full arg10.view _ _).trans hq) (View.readAt_full arg3.view _ _) (by
        first
        | exact (View.readAt_writes_full arg11.view _ _ _ _ _).trans (if_pos h1).symm
        | exact (View.readAt_full arg11.view _ _).trans (if_neg h1).symm
        | (unfold acc0 k1_cond1; rw [if_pos h1])) (View.readAt_full arg8.view _ _)).trans he.symm)

/-- The accumulator's next value depends on its three values only. -/
theorem pay2_congr {a a' : Vec F S1152x256 .f32} {b b' : Vec F S1x1152x256 .f32} {d d' : Vec F S256x256 .f32}
    (ha : a = a') (hb : b = b') (hd : d = d') : k1_pay2 a b d = k1_pay2 a' b' d' := by
  subst ha hb hd; rfl

set_option maxHeartbeats 1000000 in
/-- The body at a step off the diagonal: the accumulator, zeroed at the first step of a row, and left of the
diagonal one product added to it; the kept results as they were. -/
theorem sound_a (c : Dev nD) (E : Set ℕ) (i : grid1.Coords) (arg2 : Memref sig .tc .smem S3x32 .f32) (harg2 : arg2.IsWhole) (arg3 : Memref sig .tc .vmem S1152x256 .bf16) (harg3 : arg3.IsWhole) (arg4 : Memref sig .tc .vmem S1152x128 .i8) (harg4 : arg4.IsWhole) (arg5 : Memref sig .tc .vmem S3x32x128 .i32) (harg5 : arg5.IsWhole) (arg6 : Memref sig .tc .vmem S1152x128 .f32) (harg6 : arg6.IsWhole) (arg7 : Memref sig .tc .vmem S256x256 .f32) (harg7 : arg7.IsWhole) (arg8 : Memref sig .tc .vmem S1x256x256 .f32) (harg8 : arg8.IsWhole) (arg9 : Memref sig .tc .vmem S1152x256 .bf16) (harg9 : arg9.IsWhole) (arg10 : Memref sig .tc .vmem S1152x256 .f32) (harg10 : arg10.IsWhole) (arg11 : Memref sig .tc .vmem S1152x256 .f32) (harg11 : arg11.IsWhole) (arg12 : Memref sig .tc .vmem S16x1152x256 .f32) (harg12 : arg12.IsWhole)
    (h3 : ¬ k1_cond3 i = 1#1)
    (x5 : Vec F S256x256 .f32) (A : Vec F S1152x256 .f32) (X : Vec F S16x1152x256 .f32)
    (A' : Vec F S1152x256 .f32) (hA : A' = if k1_cond2 i = 1#1 then k1_pay2 (acc0 i A) (slotOf (i 1).val X) x5 else acc0 i A)
    (K : PUnit → sProp 𝕄) :
    iprop(owns (c : Thread nD τ) arg7 fullShare x5
        ∗ owns (c : Thread nD τ) arg11 fullShare A ∗ owns (c : Thread nD τ) arg12 fullShare X
        ∗ ((iprop(owns (c : Thread nD τ) arg7 fullShare x5
        ∗ owns (c : Thread nD τ) arg11 fullShare A' ∗ owns (c : Thread nD τ) arg12 fullShare X)) -∗ K ⟨⟩))
      ⊢ wp frame (wpE (defs₀ (F := F)) Variants.none c none) E (cc1_solve i arg2 harg2 arg3 harg3 arg4 harg4 arg5 harg5 arg6 harg6 arg7 harg7 arg8 harg8 arg9 harg9 arg10 harg10 arg11 harg11 arg12 harg12) K := by
  have hb : (i 1).val < 16 := (i 1).isLt
  have g1 := geo_off1 ⟨(i 1).val, hb⟩ i rfl
  simp only [cc1_solve_eq_skeleton]; unfold cc1_solve_skel
  simp only [dif_neg h3]
  by_cases h1 : (Scalar.cmpi .ne (Scalar.extui (Scalar.cmpi .eq (BitVec.ofNat 32 (i 1).val) 0#32) : BitVec 32) 0#32) = 1#1 <;> by_cases h2 : k1_cond2 i = 1#1
  all_goals
    first
    | simp only [dif_pos h1, dif_pos h2]
    | simp only [dif_pos h1, dif_neg h2]
    | simp only [dif_neg h1, dif_pos h2]
    | simp only [dif_neg h1, dif_neg h2]
    first
    | rw [if_pos h2] at hA
    | rw [if_neg h2] at hA
    try simp only [bind_assoc, pure_bind]
    unfold owns
    iintro ⟨⟨%f7, %hf7, H7⟩, ⟨%f11, %hf11, H11⟩, ⟨%f12, %hf12, H12⟩, Hk⟩
    subst hf7 hf11 hf12
    first
    | sl_exec
    | skip
    sl_step
    iapply Hk
    isplitl [H7]; · iexists f7; isplitr; · ipureintro; rfl
                    iexact H7
    isplitl [H11]
    · iexists _; isplitr
      swap; · iexact H11
      ipureintro
      rw [hA]
      first
      | exact (if_neg h1).symm
      | exact (View.read_writes_full arg11.view _ _ _ _).trans (if_pos h1).symm
      | (refine (View.read_writes_full arg11.view _ _ _ _).trans ?_
         refine pay2_congr ?_ (load_slot arg12.view f12 (i 1).val hb _ g1 _) (View.readAt_full arg7.view _ _)
         first
         | exact (View.readAt_writes_full arg11.view _ _ _ _ _).trans (if_pos h1).symm
         | exact (View.readAt_full arg11.view _ _).trans (if_neg h1).symm
         | (unfold acc0 k1_cond1; rw [if_pos h1]))
    iexists _; isplitr
    swap; · iexact H12
    ipureintro; rfl

end Cert.Kernel.Gen
-- ==== Proof.K.Region1.lean ====
module

public import proofs.«01_k».proof.Proof.K.Region1Step
public import proofs.«01_k».proof.Proof.Gen.Kernel.Launch
public import proofs.«01_k».proof.Proof.Gen.Kernel.Points
public import Idealize.ShloMosaic.Lib.Pipeline.FrameBody
public import Idealize.ShloMosaic.Lib.Pipeline.Frame

/-! # The solve call: what its buffers hold at every grid point

The grid has 16 rows of 16 steps. In row `b` the first `b` steps gather the solved tiles to the left, step
`b` dequantises and solves tile `b`, and the steps after it do nothing. This module states what the
accumulator and the kept tiles hold before every step, and proves that the body keeps to it. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- `W c`: the contents of core `c`'s buffers when the region is entered
variable (W : Dev nD → Valuation τ sig (Elt F))

/-! ## The grid's points -/

/-- The coordinates of a point: its row and its step. -/
theorem coords1 : ∀ t : Fin grid1.N, ((grid1.coords t) 0).val = t.val / 16 ∧ ((grid1.coords t) 1).val = t.val % 16 := by
  decide +kernel

/-- The three conditions of the body, in terms of the point. -/
theorem conds1 : ∀ t : Fin grid1.N, (k1_cond1 (grid1.coords t) = 1#1 ↔ t.val % 16 = 0) ∧
    (k1_cond2 (grid1.coords t) = 1#1 ↔ t.val % 16 < t.val / 16) ∧ (k1_cond3 (grid1.coords t) = 1#1 ↔ t.val % 16 = t.val / 16) := by
  decide +kernel

/-- The point of row `b` and step `k`. -/
def pt (b k : ℕ) : Fin cfg1.N := ⟨(16 * b + k) % 256, by rw [show cfg1.N = 256 from N_1]; exact Nat.mod_lt _ (by decide)⟩

/-- A point is the point of its row and step. -/
theorem pt_eq (t : Fin cfg1.N) : pt (t.val / 16) (t.val % 16) = t := by
  have h : t.val < 256 := N_1 ▸ t.isLt
  refine Fin.ext ?_
  show (16 * (t.val / 16) + t.val % 16) % 256 = t.val
  omega

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- The dequantised column tile `b`. -/
def dqAt (c : Dev nD) (b : ℕ) : Vec F S1152x256 .f32 :=
  dq b (iblk1 W c 0 (pt b b)) (iblk1 W c 2 (pt b b)) (iblk1 W c 3 (pt b b)) (iblk1 W c 4 (pt b b))

/-- The accumulator of row `b` before step `k`, from the solved tiles `T`. -/
def accOf (c : Dev nD) (T : ℕ → Vec F S1152x256 .f32) (b : ℕ) : ℕ → Vec F S1152x256 .f32
  | 0 => k1_pay1
  | k + 1 => k1_pay2 (accOf c T b k) (k1_pay3 (T k)) (iblk1 W c 5 (pt b k))

/-- The accumulator before step `k` reads the tiles below `k` only. -/
theorem accOf_congr (c : Dev nD) (T T' : ℕ → Vec F S1152x256 .f32) (b k : ℕ) (h : ∀ j < k, T j = T' j) :
    accOf W c T b k = accOf W c T' b k := by
  induction k with
  | zero => rfl
  | succ k ih =>
    unfold accOf
    rw [ih fun j hj => h j (by omega), h k (by omega)]

/-- Tile `b` solved, from the accumulator. -/
def solve1 (c : Dev nD) (b : ℕ) (acc : Vec F S1152x256 .f32) : Vec F S1152x256 .f32 :=
  k1_pay114 (dqAt W c b) (iblk1 W c 1 (pt b b)) acc (iblk1 W c 6 (pt b b))

/-- The tiles solved after `n` rows. -/
def eTab (c : Dev nD) : ℕ → ℕ → Vec F S1152x256 .f32
  | 0 => fun _ => k1_pay1
  | n + 1 => fun j => if j = n then solve1 W c n (accOf W c (eTab c n) n n) else eTab c n j

/-- Solved tile `j`. -/
def eAt (c : Dev nD) (j : ℕ) : Vec F S1152x256 .f32 := eTab W c (j + 1) j

/-- A solved tile stays. -/
theorem eTab_lt (c : Dev nD) (n j : ℕ) (h : j < n) : eTab W c n j = eAt W c j := by
  induction n with
  | zero => omega
  | succ n ih =>
    by_cases hj : j = n
    · subst hj; rfl
    · show (if j = n then _ else eTab W c n j) = _
      rw [if_neg hj]; exact ih (by omega)

/-- The equation of the solved tiles. -/
theorem eAt_eq (c : Dev nD) (b : ℕ) : eAt W c b = solve1 W c b (accOf W c (eAt W c) b b) := by
  show (if b = b then solve1 W c b (accOf W c (eTab W c b) b b) else eTab W c b b) = _
  rw [if_pos rfl, accOf_congr W c (eTab W c b) (eAt W c) b b fun j hj => eTab_lt W c b j hj]

/-! ## The pipeline's proof data -/

/-- What the accumulator and the kept tiles hold before point `n`. -/
def Inv (c : Dev nD) (n : ℕ) (A : Vec F S1152x256 .f32) (X : Vec F S16x1152x256 .f32) : Prop :=
  (∀ j < 16, (j < n / 16 ∨ (j = n / 16 ∧ n / 16 < n % 16)) → slotOf j X = k1_pay3 (eAt W c j)) ∧
  (n % 16 ≠ 0 → A = accOf W c (eAt W c) (n / 16) (min (n % 16) (n / 16)))

/-- The accumulator and the kept tiles, at what they hold before point `n`. -/
def scr (c : Dev nD) (n : ℕ) : sProp 𝕄 :=
  iprop(∃ A X, ⌜Inv W c n A X⌝ ∗ owns (c : Thread nD τ) (Memref.whole cc1_scratch0) fullShare A
    ∗ owns (c : Thread nD τ) (Memref.whole cc1_scratch1) fullShare X)

/-- The first call's staging buffers, at anything. -/
def oth (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The proof data of the solve call on core `c`: every input's buffer at its block, the two results' buffers at
the dequantised and the solved tile of the row. -/
def dat1 (c : Dev nD) : Dat τ (Elt F) Unit ℕ (UR sig nD τ) ℕ cfg1 c where
  A w := W c (Pipeline.arrRef spec1 w)
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => iblk1 W c 4 t
    | ⟨5, _⟩ => iblk1 W c 5 t
    | ⟨6, _⟩ => iblk1 W c 6 t
    | ⟨7, _⟩ => k1_pay113 (dqAt W c (t.val / 16))
    | ⟨8, _⟩ => eAt W c (t.val / 16)
  Φ t := iprop(oth c ∗ scr W c t.val)
  q _ := fullShare
  owed _ := 0

/-- The data's arrays are what the region finds. -/
theorem A_eq1 (c : Dev nD) (w : Fin cfg1.W) : (dat1 W c).A w = W c (Pipeline.arrRef spec1 w) := by
  dsimp only [dat1]

/-- What the body leaves in each window. -/
theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = iblk1 W c 4 t := by dsimp only [dat1]
theorem after1_5 (c : Dev nD) (t : Fin cfg1.N) : (dat1 W c).after 5 t = iblk1 W c 5 t := by dsimp only [dat1]
theorem after1_6 (c : Dev nD) (t : Fin cfg1.N) : (dat1 W c).after 6 t = iblk1 W c 6 t := by dsimp only [dat1]
theorem after1_7 (c : Dev nD) (t : Fin cfg1.N) : (dat1 W c).after 7 t = k1_pay113 (dqAt W c (t.val / 16)) := by dsimp only [dat1]
theorem after1_8 (c : Dev nD) (t : Fin cfg1.N) : (dat1 W c).after 8 t = eAt W c (t.val / 16) := by dsimp only [dat1]

/-- Input window 0's buffer holds its block at every point. -/
theorem before1_0 (c : Dev nD) (t : Fin cfg1.N) (d) : (dat1 W c).before 0 t d = iblk1 W c 0 t :=
  ((dat1 W c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's buffer holds its block at every point. -/
theorem before1_1 (c : Dev nD) (t : Fin cfg1.N) (d) : (dat1 W c).before 1 t d = iblk1 W c 1 t :=
  ((dat1 W c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's buffer holds its block at every point. -/
theorem before1_2 (c : Dev nD) (t : Fin cfg1.N) (d) : (dat1 W c).before 2 t d = iblk1 W c 2 t :=
  ((dat1 W c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3's buffer holds its block at every point. -/
theorem before1_3 (c : Dev nD) (t : Fin cfg1.N) (d) : (dat1 W c).before 3 t d = iblk1 W c 3 t :=
  ((dat1 W c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Input window 4's buffer holds its block at every point. -/
theorem before1_4 (c : Dev nD) (t : Fin cfg1.N) (d) : (dat1 W c).before 4 t d = iblk1 W c 4 t :=
  ((dat1 W c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- Input window 5's buffer holds its block at every point. -/
theorem before1_5 (c : Dev nD) (t : Fin cfg1.N) (d) : (dat1 W c).before 5 t d = iblk1 W c 5 t :=
  ((dat1 W c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- Input window 6's buffer holds its block at every point. -/
theorem before1_6 (c : Dev nD) (t : Fin cfg1.N) (d) : (dat1 W c).before 6 t d = iblk1 W c 6 t :=
  ((dat1 W c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-! ## The two results' windows -/

/-- A result's window that the body writes at the diagonal step only holds, at every later step of the row, what
the diagonal step left. -/
theorem before_out (c : Dev nD) (w : Fin cfg1.W) (hfe : ∀ t : Fin cfg1.N, (cfg1.win w).fetch t = false)
    (hfl : ∀ t : Fin cfg1.N, (cfg1.win w).flush t = true ↔ t.val % 16 = 15)
    (hid : ∀ t : Fin cfg1.N, cfg1.idle w (cfg1.grid.coords t) = !(k1_cond3 (grid1.coords t) == 1#1))
    (hcl : ∀ i a, (cfg1.win w).clip i a = none)
    (haf : ∀ t t' : Fin cfg1.N, t.val / 16 = t'.val / 16 → HEq ((dat1 W c).after w t) ((dat1 W c).after w t'))
    (t : Fin cfg1.N) (d) (ht : t.val / 16 < t.val % 16) : (dat1 W c).before w t d = (dat1 W c).after w t := by
  have h256 : t.val < 256 := N_1 ▸ t.isLt
  obtain ⟨n, hn⟩ := t
  induction n with
  | zero => simp at ht
  | succ n ih =>
    have hn' : n < cfg1.N := by omega
    have hne : (⟨n + 1, hn⟩ : Fin cfg1.N).val ≠ 0 := Nat.succ_ne_zero n
    dsimp only at ht h256
    have hrow : n / 16 = (n + 1) / 16 := by omega
    rw [Dat.before_of_pos _ w ⟨n + 1, hn⟩ hne (hfe _) d]
    have hp : (⟨(⟨n + 1, hn⟩ : Fin cfg1.N).val - 1, Nat.lt_of_le_of_lt (Nat.sub_le _ _) (⟨n + 1, hn⟩ : Fin cfg1.N).isLt⟩ : Fin cfg1.N) = ⟨n, hn'⟩ := rfl
    rw [hp, if_neg (by rw [hfl]; dsimp only; omega)]
    refine Eq.trans ?_ (eq_of_heq (haf ⟨n, hn'⟩ ⟨n + 1, hn⟩ hrow))
    have hc := (conds1 ⟨n, hn'⟩).2.2
    unfold Dat.left
    by_cases hd : n % 16 = n / 16
    · have hi : cfg1.idle w (cfg1.grid.coords ⟨n, hn'⟩) = false := by rw [hid, hc.mpr hd]; rfl
      rw [hi]
      show (dat1 W c).kept w ⟨n, hn'⟩ d = _
      unfold Dat.kept
      rw [Pipeline.fill_of_clip_none w _ (hcl _) d ((dat1 W c).after w ⟨n, hn'⟩), Window.fill_cut]
    · have hi : cfg1.idle w (cfg1.grid.coords ⟨n, hn'⟩) = true := by
        rw [hid]
        have : ¬ k1_cond3 (grid1.coords ⟨n, hn'⟩) = 1#1 := fun h => hd (hc.mp h)
        simp [this]
      rw [hi]
      exact ih hn' (by dsimp only; omega) (by dsimp only; omega)

/-- What the body owes of a result's buffer after a point. -/
def outPost (c : Dev nD) (w : Fin cfg1.W) (t : Fin cfg1.N) : sProp 𝕄 :=
  match cfg1.idle w (cfg1.grid.coords t) with
  | true =>
    match (cfg1.win w).flush t with
    | false => iprop(∃ d, owns (c : Thread nD τ) ((cfg1.win w).stage (cfg1.slots t w)) fullShare ((dat1 W c).before w t d))
    | true => owns (c : Thread nD τ) ((cfg1.win w).stage (cfg1.slots t w)) fullShare ((dat1 W c).after w t)
  | false => owns (c : Thread nD τ) ((cfg1.win w).stage (cfg1.slots t w)) fullShare ((dat1 W c).after w t)

/-- At a step that leaves the window alone, giving back what was found is enough. -/
theorem outPost_idle (c : Dev nD) (w : Fin cfg1.W) (t : Fin cfg1.N) (hi : cfg1.idle w (cfg1.grid.coords t) = true)
    (hb : (cfg1.win w).flush t = true → ∀ d, (dat1 W c).before w t d = (dat1 W c).after w t) :
    iprop(∃ d, owns (c : Thread nD τ) ((cfg1.win w).stage (cfg1.slots t w)) fullShare ((dat1 W c).before w t d)) ⊢ outPost W c w t := by
  unfold outPost
  rw [hi]
  cases hf : (cfg1.win w).flush t
  · exact .rfl
  · dsimp only
    iintro ⟨%d, H⟩
    rw [hb hf d]
    iexact H

/-- At a step that writes the window, it is left at the stated contents. -/
theorem outPost_live (c : Dev nD) (w : Fin cfg1.W) (t : Fin cfg1.N) (hi : cfg1.idle w (cfg1.grid.coords t) = false) :
    owns (c : Thread nD τ) ((cfg1.win w).stage (cfg1.slots t w)) fullShare ((dat1 W c).after w t) ⊢ outPost W c w t := by
  unfold outPost
  rw [hi]

/-- The two results' windows are never fetched. -/
theorem fetch_out1 : ∀ t : Fin cfg1.N, (cfg1.win 7).fetch t = false ∧ (cfg1.win 8).fetch t = false := fun t => ⟨rfl, rfl⟩

/-- The first result's buffer after the diagonal. -/
theorem before1_7 (c : Dev nD) (t : Fin cfg1.N) (d) (ht : t.val / 16 < t.val % 16) : (dat1 W c).before 7 t d = (dat1 W c).after 7 t :=
  before_out W c 7 (fun t => (fetch_out1 t).1) flush1_7 (fun _ => rfl) (fun _ _ => rfl)
    (fun t t' h => heq_of_eq (by rw [after1_7, after1_7, h])) t d ht

/-- The second result's buffer after the diagonal. -/
theorem before1_8 (c : Dev nD) (t : Fin cfg1.N) (d) (ht : t.val / 16 < t.val % 16) : (dat1 W c).before 8 t d = (dat1 W c).after 8 t :=
  before_out W c 8 (fun t => (fetch_out1 t).2) flush1_8 (fun _ => rfl) (fun _ _ => rfl)
    (fun t t' h => heq_of_eq (by rw [after1_8, after1_8, h])) t d ht

/-! ## The body obligation -/

/-- What the body is called with at point `t`. -/
def bodyPre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d))
    ∗ (∃ d, owns (c : Thread nD τ) (st1_4 t) fullShare ((dat1 W c).before 4 t d))
    ∗ (∃ d, owns (c : Thread nD τ) (st1_5 t) fullShare ((dat1 W c).before 5 t d))
    ∗ (∃ d, owns (c : Thread nD τ) (st1_6 t) fullShare ((dat1 W c).before 6 t d))
    ∗ (∃ d, owns (c : Thread nD τ) (st1_7 t) fullShare ((dat1 W c).before 7 t d))
    ∗ (∃ d, owns (c : Thread nD τ) (st1_8 t) fullShare ((dat1 W c).before 8 t d)))

/-- What it returns. -/
def bodyPost1 (c : Dev nD) (t : Fin cfg1.N) : sProp 𝕄 :=
  iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t)
    ∗ owns (c : Thread nD τ) (st1_2 t) fullShare ((dat1 W c).after 2 t)
    ∗ owns (c : Thread nD τ) (st1_3 t) fullShare ((dat1 W c).after 3 t)
    ∗ owns (c : Thread nD τ) (st1_4 t) fullShare ((dat1 W c).after 4 t)
    ∗ owns (c : Thread nD τ) (st1_5 t) fullShare ((dat1 W c).after 5 t)
    ∗ owns (c : Thread nD τ) (st1_6 t) fullShare ((dat1 W c).after 6 t)
    ∗ outPost W c 7 t ∗ outPost W c 8 t)

/-- The accumulator after the first branch, before step `t` of its row: that of the row, zero at the start. -/
theorem acc0_inv (c : Dev nD) (t : Fin cfg1.N) (A : Vec F S1152x256 .f32) (X : Vec F S16x1152x256 .f32)
    (h : Inv W c t.val A X) : acc0 (grid1.coords t) A = accOf W c (eAt W c) (t.val / 16) (min (t.val % 16) (t.val / 16)) := by
  unfold acc0
  have h1 := (conds1 t).1
  by_cases h0 : t.val % 16 = 0
  · rw [if_pos (h1.mpr h0), h0, Nat.zero_min]; rfl
  · rw [if_neg fun hh => h0 (h1.mp hh)]; exact h.2 h0

/-- The body at any point. -/
theorem sound_body1 (c : Dev nD) (t : Fin cfg1.N) :
    bodyPre1 W c t ⊢ wp frame (wpE (defs₀ (F := F)) Variants.none c none) Set.univ (bodyAt1 t) (fun _ => bodyPost1 W c t) := by
  have h256 : t.val < 256 := N_1 ▸ t.isLt
  obtain ⟨hc0, hc1⟩ := coords1 t
  obtain ⟨-, h2, h3⟩ := conds1 t
  unfold bodyPre1 bodyPost1 bodyAt1
  simp only [before1_0, before1_1, before1_2, before1_3, before1_4, before1_5, before1_6]
  rw [show (dat1 W c).Φ t.castSucc = iprop(oth c ∗ scr W c t.val) from rfl,
    show (dat1 W c).Φ t.succ = iprop(oth c ∗ scr W c (t.val + 1)) from rfl,
    show (dat1 W c).owesAt () t.succ = (dat1 W c).owesAt () t.castSucc from rfl,
    after1_0, after1_1, after1_2, after1_3, after1_4, after1_5, after1_6]
  unfold scr
  by_cases hd : t.val % 16 = t.val / 16
  · have hpt : t = pt (t.val / 16) (t.val / 16) := by
      have := pt_eq t; rw [hd] at this; exact this.symm
    iintro ⟨⟨HO, %A, %X, %hI, HA, HX⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hacc := acc0_inv W c t A X hI
    rw [hd, min_self] at hacc
    have hdq : dq ((grid1.coords t) 0).val (iblk1 W c 0 t) (iblk1 W c 2 t) (iblk1 W c 3 t) (iblk1 W c 4 t) = dqAt W c (t.val / 16) := by
      unfold dqAt; rw [hc0, ← hpt]
    have he : eAt W c (t.val / 16) = k1_pay114 (dq ((grid1.coords t) 0).val (iblk1 W c 0 t) (iblk1 W c 2 t) (iblk1 W c 3 t) (iblk1 W c 4 t))
        (iblk1 W c 1 t) (acc0 (grid1.coords t) A) (iblk1 W c 6 t) := by
      rw [eAt_eq, hdq, hacc]; unfold solve1; rw [← hpt]
    iapply (sound_q c Set.univ (grid1.coords t) _ _ _ _ _ _ _ _ _ _ _ _ _ _ _ _ _ _ _ _ _ _
      (fun h => by have := h2.mp h; omega) (h3.mpr hd) (iblk1 W c 0 t) (iblk1 W c 1 t) (iblk1 W c 2 t) (iblk1 W c 3 t) (iblk1 W c 4 t) (iblk1 W c 6 t)
      A X (eAt W c (t.val / 16)) he _)
    isplitl [H0]; · iexact H0
    isplitl [H1]; · iexact H1
    isplitl [H2]; · iexact H2
    isplitl [H3]; · iexact H3
    isplitl [H4]; · iexact H4
    isplitl [H6]; · iexact H6
    isplitl [H7]; · iexists _; iexact H7
    isplitl [H8]; · iexists _; iexact H8
    isplitl [HA]; · iexact HA
    isplitl [HX]; · iexact HX
    iintro ⟨H0, H1, H2, H3, H4, H6, H7, H8, HA, ⟨%X', %hX, HX⟩⟩
    rw [hdq]
    isplitl [HO HA HX]
    · isplitl [HO]; · iexact HO
      iexists _; iexists X'
      isplitr
      swap
      · isplitl [HA]; · iexact HA
        iexact HX
      ipureintro
      rw [hc0] at hX
      refine ⟨fun j hj hjn => ?_, fun hn => ?_⟩
      · rw [hX j hj]
        by_cases hjb : j = t.val / 16
        · rw [if_pos hjb, hjb]
        · rw [if_neg hjb]; exact hI.1 j hj (by omega)
      · rw [hacc, show (t.val + 1) / 16 = t.val / 16 by omega, show min ((t.val + 1) % 16) (t.val / 16) = t.val / 16 by omega]
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    have hi : (!(k1_cond3 (grid1.coords t) == 1#1)) = false := by rw [h3.mpr hd]; rfl
    isplitl [H7]
    · iapply (outPost_live W c 7 t hi); rw [after1_7]; iexact H7
    · iapply (outPost_live W c 8 t hi); rw [after1_8]; iexact H8
  · have hn3 : ¬ k1_cond3 (grid1.coords t) = 1#1 := fun h => hd (h3.mp h)
    iintro ⟨⟨HO, %A, %X, %hI, HA, HX⟩, Ho, ⟨%d0, H0⟩, ⟨%d1, H1⟩, ⟨%d2, H2⟩, ⟨%d3, H3⟩, ⟨%d4, H4⟩, ⟨%d5, H5⟩, ⟨%d6, H6⟩, H7, H8⟩
    have hacc := acc0_inv W c t A X hI
    iapply (sound_a c Set.univ (grid1.coords t) _ _ _ _ _ _ _ _ _ _ _ _ _ _ _ _ _ _ _ _ _ _
      hn3 (iblk1 W c 5 t) A X _ rfl _)
    isplitl [H5]; · iexact H5
    isplitl [HA]; · iexact HA
    isplitl [HX]; · iexact HX
    iintro ⟨H5, HA, HX⟩
    isplitl [HO HA HX]
    · isplitl [HO]; · iexact HO
      iexists _; iexists X
      isplitr
      swap
      · isplitl [HA]; · iexact HA
        iexact HX
      ipureintro
      refine ⟨fun j hj hjn => hI.1 j hj (by omega), fun hn => ?_⟩
      rw [hacc, show (t.val + 1) / 16 = t.val / 16 by omega, hc1]
      by_cases hlt : t.val % 16 < t.val / 16
      · rw [if_pos (h2.mpr hlt), show min ((t.val + 1) % 16) (t.val / 16) = t.val % 16 + 1 by omega, min_eq_left (le_of_lt hlt)]
        rw [hI.1 (t.val % 16) (by omega) (Or.inl hlt)]
        conv_rhs => unfold accOf
        rw [pt_eq]
      · rw [if_neg fun h => hlt (h2.mp h), show min ((t.val + 1) % 16) (t.val / 16) = t.val / 16 by omega, min_eq_right (by omega)]
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    have hi : (!(k1_cond3 (grid1.coords t) == 1#1)) = true := by simp [hn3]
    isplitl [H7]
    · iapply (outPost_idle W c 7 t hi fun hf d => before1_7 W c t d (by have := (flush1_7 t).mp hf; omega)); iexact H7
    · iapply (outPost_idle W c 8 t hi fun hf d => before1_8 W c t d (by have := (flush1_8 t).mp hf; omega)); iexact H8

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The body keeps to the proof data, at every point. -/
theorem body_obligation1 (c : Dev nD) : BodyObligation (dat1 (F := F) W c) (defs₀ (F := F)) Variants.none () Set.univ := fun t => by
  rw [bigSep_W1, bigSep_W1, defs₀_row1]
  exact triple_restated (sound_body1 W c t) rfl .rfl fun _ => .rfl

/-! ## Entering and leaving -/

/-- Two whole scratch buffers, held at anything, are the accumulator and the kept tiles before the first point. -/
theorem scr_zero (c : Dev nD) (f : Buf (Elt F) ((c : Thread nD τ).loc cc1_scratch0)) (g : Buf (Elt F) ((c : Thread nD τ).loc cc1_scratch1)) :
    iprop((((c : Thread nD τ).loc cc1_scratch0) ↦{fullShare} f) ∗ (((c : Thread nD τ).loc cc1_scratch1) ↦{fullShare} g)) ⊢ (scr W c 0 : sProp 𝕄) := by
  unfold scr
  rw [← owns_whole (c : Thread nD τ) cc1_scratch0 fullShare f, ← owns_whole (c : Thread nD τ) cc1_scratch1 fullShare g]
  iintro ⟨He, Hf⟩
  iexists f; iexists g
  isplitr
  · ipureintro
    exact ⟨fun j hj h => by omega, fun h => absurd rfl h⟩
  isplitl [He]; · iexact He
  iexact Hf

/-- The accumulator and the kept tiles are two whole scratch buffers. -/
theorem scr_any (c : Dev nD) (n : ℕ) : (scr W c n : sProp 𝕄)
    ⊢ iprop((∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f)) := by
  unfold scr
  iintro ⟨%A, %X, -, He, Hf⟩
  isplitl [He]
  · iexists A; rw [← owns_whole (c : Thread nD τ) cc1_scratch0 fullShare A]; iexact He
  · iexists X; rw [← owns_whole (c : Thread nD τ) cc1_scratch1 fullShare X]; iexact Hf

/-- The region's scoped rest, at entry, gives the invariant before the first point. -/
theorem enter1 (c : Dev nD) : Pipeline.scopedRest (Ix := Unit) (Name := ℕ) (U := UR sig nD τ) (Lvl := ℕ) (Val := Elt F) spec1 c
    ⊢ iprop(oth c ∗ scr W c 0) := by
  rw [scopedRest1_eq]
  unfold oth
  iintro ⟨Ha, Hb, Hc, Hd, ⟨%f, He⟩, ⟨%g, Hf⟩⟩
  isplitl [Ha Hb Hc Hd]
  · isplitl [Ha]; · iexact Ha
    isplitl [Hb]; · iexact Hb
    isplitl [Hc]; · iexact Hc
    iexact Hd
  iapply (scr_zero W c f g)
  isplitl [He]; · iexact He
  iexact Hf

/-- The invariant after the last point gives the scoped rest back. -/
theorem leave1 (c : Dev nD) (n : ℕ) : iprop(oth c ∗ scr W c n)
    ⊢ Pipeline.scopedRest (Ix := Unit) (Name := ℕ) (U := UR sig nD τ) (Lvl := ℕ) (Val := Elt F) spec1 c := by
  rw [scopedRest1_eq]
  unfold oth
  iintro ⟨⟨Ha, Hb, Hc, Hd⟩, He⟩
  ihave Hs := (scr_any W c n) $$ He
  icases Hs with ⟨He, Hf⟩
  isplitl [Ha]; · iexact Ha
  isplitl [Hb]; · iexact Hb
  isplitl [Hc]; · iexact Hc
  isplitl [Hd]; · iexact Hd
  isplitl [He]; · iexact He
  iexact Hf

end Cert.Kernel.Gen
-- ==== Proof.K.Run.lean ====
module

public import proofs.«01_k».proof.Proof.K.Region0
public import proofs.«01_k».proof.Proof.K.Region1
public import proofs.«01_k».proof.Proof.Gen.Kernel.Regions
public import Idealize.ShloMosaic.Lib.Pipeline.RegionArraysS

/-! # The whole run

The two calls, entered from what the host operations before them leave, and the run of the program: it ends, with
every argument as it was, every counter at zero, and the two results at the values the calls' proof data give. -/

@[expose] public section

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)

variable {F : FTy → Type} [FloatOps F]

local notation "𝕄" => MT nD τ sig Unit (Elt F) ℕ (UR sig nD τ) ℕ

variable (m : (ℓ : Loc nD τ sig) → Buf (Elt F) ℓ)

/-! ## What the calls are entered from and what they leave -/

/-- The buffers when the first call is left. -/
def W3 (c : Dev nD) : Valuation τ sig (Elt F) :=
  Function.update (V2 m c) main_v6 (afterRegion (dat0 (V2 m) c) (V2 m c) main_v6)

/-- The buffers when the second call is entered. -/
def W4 (c : Dev nD) : Valuation τ sig (Elt F) := StableHlo.after hostOps1 (W3 m c)

/-- What the calls leave in their results. -/
def outsW : Outs (F := F) := fun J r c =>
  match J with
  | 3 => afterRegion (dat0 (V2 m) c) (V2 m c) r
  | _ => afterRegion (dat1 (W4 m) c) (W4 m c) r

/-- The second call is entered from the generated state before it. -/
theorem W4_eq (c : Dev nD) : V4 m (outsW m) c = W4 m c := rfl

/-- The proof data of the two calls. -/
def pdatsW : (p : Fin 2) → (c : Dev nD) → Dat τ (Elt F) Unit ℕ (UR sig nD τ) ℕ (cfgs p) c
  | ⟨0, _⟩ => dat0 (V2 m)
  | ⟨1, _⟩ => dat1 (W4 m)

/-- No core owes another anything: no level is assigned. -/
abbrev Lw : GSem nD τ sig → Finset Unit := fun _ => ∅
abbrev lvw : GSem nD τ sig → Unit → ℕ := fun _ _ => 0

/-- What rides beside the buffers: what the core owes, which is nothing. -/
abbrev Rw (c : Dev nD) : sProp 𝕄 := iprop(∃ W, owes (c : Thread nD τ) (0 : CellTallies nD τ sig Unit) W)

set_option backward.isDefEq.respectTransparency.types false in
/-- A call as a segment: entered from every unscoped buffer at `W`, left with them at `W'`. -/
def regOf (p : Fin 2) (kit : Pipeline.LaunchFacts (nD := nD) (τ := τ) cfgs p) (hK : (pcfgs (F := F) p).pre.K = 0)
    (W W' : Dev nD → Valuation τ sig (Elt F))
    (hbody : ∀ c, Pipeline.BodyObligation (pdatsW m p c) (defs₀ (F := F)) Variants.none () Set.univ)
    (howed : ∀ c t, (pdatsW m p c).owed t = 0) (hrec : ∀ c, (pdatsW m p c).recorded 0 = Set.univ)
    (hshare : ∀ c w, (pdatsW m p c).share w = fullShare)
    (hin : ∀ c, Pipeline.scopedRest (Ix := Unit) (Name := ℕ) (U := UR sig nD τ) (Lvl := ℕ) (Val := Elt F) (cfgs p).spec c ⊢ (pdatsW m p c).Φ 0)
    (hout : ∀ c, (pdatsW m p c).Φ (Fin.last (cfgs p).N) ⊢ Pipeline.scopedRest (Ix := Unit) (Name := ℕ) (U := UR sig nD τ) (Lvl := ℕ) (Val := Elt F) (cfgs p).spec c)
    (hW : ∀ c w, (pdatsW m p c).arrAt w 0 = W c (Proc.devRef .tc (Pipeline.arrRef (cfgs p).spec w)))
    (hS : Pipeline.arrRefs (τ := τ) (cfgs p).spec ⊆ Pipeline.ucRefs τ sig)
    (hW' : ∀ c, ∀ b ∈ Pipeline.ucRefs τ sig, afterRegion (pdatsW m p c) (W c) b = W' c b) :
    RegionSeg (pcfgs (F := F)) adm (pdatsW m) () defs₀ Variants.none Lw lvw p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ Lw lvw p howed
  pre c := iprop(StableHlo.held (c : Thread nD τ) (Pipeline.ucRefs τ sig) (W c) ∗ Rw c)
  post c := iprop(StableHlo.held (c : Thread nD τ) (Pipeline.ucRefs τ sig) (W' c) ∗ Rw c)
  X c := iprop(emp)
  Y c := iprop(emp)
  Z c := StableHlo.held (c : Thread nD τ) (Pipeline.ucRefs τ sig \ Pipeline.arrRefs (τ := τ) (cfgs p).spec) (W c)
  hentry c := by
    rw [Pipeline.ownSems0_none, Pipeline.prefHeld_of_none _ hK, StableHlo.held_sub_split (c : Thread nD τ) hS (W c),
      ← Pipeline.arrays_held (pcfgs (F := F)) adm (pdatsW m) p kit.toP c (hshare c) ((pdatsW m p c).arrAt · 0) (W c) (hW c)]
    iintro ⟨⟨⟨Ha, HZ⟩, HO⟩, -, -⟩
    imodintro
    isplitl [Ha]; · iexact Ha
    isplitr; · iempintro
    isplitl [HO]
    · unfold Dat.owesAt Pipeline.owesWithin Dat.bound
      rw [howed c 0, hrec c]
      icases HO with ⟨%W, HO⟩; iexists W; isplitr; · ipureintro; exact fun _ _ => Or.inl trivial
      iexact HO
    isplitr; · iempintro
    iexact HZ
  hin c := by
    iintro ⟨-, -, Hr⟩
    iapply (hin c); iexact Hr
  hout c := by
    rw [Pipeline.ownSems0_none]
    refine (hout c).trans ?_
    iintro Hr
    isplitr; · iempintro
    isplitr; · iempintro
    iexact Hr
  hexit c := by
    rw [← StableHlo.held_congr (c : Thread nD τ) (hW' c), StableHlo.held_sub_split (c : Thread nD τ) hS (afterRegion (pdatsW m p c) (W c)),
      StableHlo.held_congr (c : Thread nD τ) (S := Pipeline.ucRefs τ sig \ Pipeline.arrRefs (τ := τ) (cfgs p).spec) (V := afterRegion (pdatsW m p c) (W c)) (V' := W c)
        (Pipeline.afterRegion_off (pdatsW m p c) (W c) _),
      ← Pipeline.arrays_held (pcfgs (F := F)) adm (pdatsW m) p kit.toP c (hshare c) ((pdatsW m p c).arrAt · (cfgs p).N)
        (afterRegion (pdatsW m p c) (W c)) (fun w => (Pipeline.afterRegion_arr (pdatsW m p c) (W c) kit.win.arr_inj w).symm)]
    iintro ⟨Ha, HO, -, HZ⟩
    imodintro
    isplitl [Ha HZ]
    · isplitl [Ha]; · iexact Ha
      iexact HZ
    unfold Dat.owesAt Pipeline.owesWithin
    rw [howed c (Fin.last _)]
    icases HO with ⟨%W, -, HO⟩; iexists W; iexact HO

/-- An unscoped buffer of a device is one of the core's. -/
theorem ucRefs_ref {b : DevRef τ sig} (h : b ∈ Pipeline.ucRefs τ sig) : ∃ r : Ref sig .tc, b = Proc.devRef .tc r := by
  obtain ⟨r, -, e⟩ := Finset.mem_map.mp (Finset.mem_filter.mp h).1
  exact ⟨r, e.symm⟩

/-- The first call changes its result only. -/
theorem after0 (c : Dev nD) (b : DevRef τ sig) (hb : b ∈ Pipeline.ucRefs τ sig) :
    afterRegion (dat0 (V2 m) c) (V2 m c) b = V3 m (outsW m) c b := by
  obtain ⟨r, rfl⟩ := ucRefs_ref hb
  by_cases h : r = main_v6
  · subst h
    exact (Function.update_self (Proc.devRef .tc main_v6 : DevRef τ sig) _ (V2 m c)).symm
  · rw [V3_of m (outsW m) c r (by simp [h])]
    refine Pipeline.afterRegion_keeps (dat0 (V2 m) c) (V2 m c) winFacts0.arr_inj (A_eq0 (V2 m) c) r fun w hw => ?_
    match w, hw with
    | ⟨0, _⟩, _ => rfl
    | ⟨1, _⟩, hw => exact absurd hw.symm h

/-- The second call changes its two results only. -/
theorem after1 (c : Dev nD) (b : DevRef τ sig) (hb : b ∈ Pipeline.ucRefs τ sig) :
    afterRegion (dat1 (W4 m) c) (W4 m c) b = V5 m (outsW m) c b := by
  obtain ⟨r, rfl⟩ := ucRefs_ref hb
  by_cases h : r = main_v9_1
  · subst h
    refine Eq.symm ?_
    refine (Function.update_self (Proc.devRef .tc main_v9_1 : DevRef τ sig) _ _).trans ?_
    rfl
  by_cases h' : r = main_v9_0
  · subst h'
    refine Eq.symm ?_
    refine (Function.update_of_ne (StableHlo.devRef_ne_of_ne h : (Proc.devRef .tc main_v9_0 : DevRef τ sig) ≠ Proc.devRef .tc main_v9_1) _ _).trans ?_
    exact Function.update_self (Proc.devRef .tc main_v9_0 : DevRef τ sig) _ _
  · rw [V5_of m (outsW m) c r (by simp [h, h'])]
    refine Pipeline.afterRegion_keeps (dat1 (W4 m) c) (W4 m c) winFacts1.arr_inj (A_eq1 (W4 m) c) r fun w hw => ?_
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, hw => exact absurd hw.symm h'
    | ⟨8, _⟩, hw => exact absurd hw.symm h

/-- The first call as a segment. -/
def reg0 : RegionSeg (pcfgs (F := F)) adm (pdatsW m) () defs₀ Variants.none Lw lvw 0 :=
  regOf m 0 launch0 rfl (V2 m) (V3 m (outsW m)) (fun c => body_obligation0 (V2 m) c) (fun _ _ => rfl) (fun _ => rfl)
    (fun c w => (dat0 (V2 m) c).share_full (fun _ => rfl) w) (fun _ => .rfl) (fun _ => .rfl) (fun c w => A_eq0 (V2 m) c w)
    (Pipeline.arrRefs_sub_ucRefs spec0 (by decide)) (fun c b hb => after0 m c b hb)

/-- The second call as a segment. -/
def reg1 : RegionSeg (pcfgs (F := F)) adm (pdatsW m) () defs₀ Variants.none Lw lvw 1 :=
  regOf m 1 launch1 rfl (V4 m (outsW m)) (V5 m (outsW m)) (fun c => body_obligation1 (W4 m) c) (fun _ _ => rfl) (fun _ => rfl)
    (fun c w => (dat1 (W4 m) c).share_full (fun _ => rfl) w) (fun c => enter1 (W4 m) c) (fun c => leave1 (W4 m) c _) (fun c w => A_eq1 (W4 m) c w)
    (Pipeline.arrRefs_sub_ucRefs spec1 (by decide)) (fun c b hb => after1 m c b hb)

variable (ρ : Dev nD → PrngReg)

set_option backward.isDefEq.respectTransparency.types false in
/-- The run: it ends, every argument is as it was, the two results are at the last valuation's, every counter is zero. -/
theorem run_main :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v10) = V6 m (outsW m) c main_v10
      ∧ r.2.mem ((c.tc : Thread nD τ).loc main_v11) = V6 m (outsW m) c main_v11)
      ∧ r.2.sem = fun _ => 0) := by
  refine Pipeline.θ_run_regions_kit_dev_sems (pcfgs (F := F)) adm (pdatsW m) () cellOf_inj emb₁ defs₀ Variants.none Lw lvw m ρ main
    (segs m (outsW m) Variants.none Lw lvw (fun _ => Rw) () (pdatsW m) (reg0 m) (reg1 m))
    (fun c Q => by
      rewrite [main_chain c, Seg.run_eq_chain,
        show (segs m (outsW m) Variants.none Lw lvw (fun _ => Rw) () (pdatsW m) (reg0 m) (reg1 m) c).map Seg.prog = [
          StableHlo.seq hostOps0,
          StableHlo.seq hostOps0_1,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ Rw c))
    (Tₙ := fun c => StableHlo.held (c : Thread nD τ) (Pipeline.ucRefs τ sig) (V6 m (outsW m) c))
    (hch := fun c => ⟨.rfl, .rfl, .rfl, .rfl, .rfl, .rfl, sep_mono .rfl .rfl⟩)
    (hinit := ?_)
    (QY := fun c s =>
      (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
      ∧ s.mem ((c.tc : Thread nD τ).loc main_v10) = V6 m (outsW m) c main_v10
      ∧ s.mem ((c.tc : Thread nD τ).loc main_v11) = V6 m (outsW m) c main_v11)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells (Pipeline.pin pcfgs adm) cellOf_inj) (Pipeline.launchToks (Pipeline.pin pcfgs adm) cellOf_inj))) from .rfl)
      iexact Hu
    · iapply (show (BI.emp : sProp 𝕄) ⊢ bigSep Finset.univ (fun _ : Dev nD => (BI.emp : sProp 𝕄)) from by rw [BI.bigSep_emp_const])
      iempintro
  · refine Pipeline.initEach Lw lvw fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V6 m (outsW m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V6_main_arg0 m (outsW m) c),
        (h (Proc.devRef .tc main_arg1) (Finset.mem_filter.mpr ⟨StableHlo.devRef_mem_tcRefs main_arg1, by decide⟩)).trans (V6_main_arg1 m (outsW m) c),
        (h (Proc.devRef .tc main_arg2) (Finset.mem_filter.mpr ⟨StableHlo.devRef_mem_tcRefs main_arg2, by decide⟩)).trans (V6_main_arg2 m (outsW m) c),
        (h (Proc.devRef .tc main_arg3) (Finset.mem_filter.mpr ⟨StableHlo.devRef_mem_tcRefs main_arg3, by decide⟩)).trans (V6_main_arg3 m (outsW m) c),
        (h (Proc.devRef .tc main_arg4) (Finset.mem_filter.mpr ⟨StableHlo.devRef_mem_tcRefs main_arg4, by decide⟩)).trans (V6_main_arg4 m (outsW m) c),
        (h (Proc.devRef .tc main_arg5) (Finset.mem_filter.mpr ⟨StableHlo.devRef_mem_tcRefs main_arg5, by decide⟩)).trans (V6_main_arg5 m (outsW m) c)⟩,
        h (Proc.devRef .tc main_v10) (Finset.mem_filter.mpr ⟨StableHlo.devRef_mem_tcRefs main_v10, by decide⟩),
        h (Proc.devRef .tc main_v11) (Finset.mem_filter.mpr ⟨StableHlo.devRef_mem_tcRefs main_v11, by decide⟩)⟩
    · iexact HSI

end Cert.Kernel.Gen
-- ==== Proof.KI.Region0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- `W c`: the contents of core `c`'s buffers when the region is entered
variable (W : Dev nD → Valuation τ sig (Elt F))

/-! ## The windows' blocks -/

/-- Window `w`'s block at point `t`, read off its array as the region finds it (`W`). -/
def iblk0 (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- Input window 0's current staging buffer holds its block at every point, fetched there or not, for ANY proof
    data whose array is `W`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = W c (Pipeline.arrRef spec0 0))
    (hafter : ∀ t, dat.after 0 t = iblk0 W c 0 t) (t : Fin cfg0.N) (d) : dat.before 0 t d = iblk0 W c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x256 := Rect.unit (s := S256x256) ![0, 0] S256x256.size inb_S256x256_S256x256_0_0
abbrev r0_1 : Rect S1x256x256 := Rect.unit (s := S1x256x256) ![0, 0, 0] S1x256x256.size inb_S1x256x256_S1x256x256_0_0_0

/-! ## What the body leaves in each output window's buffer -/

/-! ### Values of the body that the stores' payloads, spelt out, would write more than once

    Each is a vector the body binds (often a part call's result), stated over the input windows' blocks and
    numbered on from the skeleton's payload functions (`k0_pay168` …, after `k0_pay167`), so that
    `out0_1` and the values after it name it instead of spelling it out (`unfold_out out0_1` opens a canon
    with them, `unfold_payloads` opens them with the payloads); the comment after each is the printed function's
    name for the value (a count appended where that name is bound again). -/

def k0_pay168 (x0 : Vec F S256x256 .f32) : IVec S256x256 32 :=
  iota .tc S256x256 32 [0] iota_S256x256_d0_w32 -- `v1`
def k0_pay169 (x0 : Vec F S256x256 .f32) : IVec S256x256 32 :=
  iota .tc S256x256 32 [1] iota_S256x256_d1_w32 -- `v2`
def k0_pay170 (x0 : Vec F S256x256 .f32) : IVec S32x256 32 :=
  iota .tc S32x256 32 [1] iota_S32x256_d1_w32 -- `v4`
def k0_pay171 (x0 : Vec F S256x256 .f32) : FVec F S32x256 .f32 :=
  k0_pay10 (View.ld x0 r0_0) (k0_pay170 x0) (k0_pay7 (View.ld x0 r0_0) (k0_pay170 x0) (k0_pay5 (View.ld x0 r0_0) (k0_pay170 x0) (k0_pay2 (View.ld x0 r0_0)) 32#32 k0_pay3 k0_pay4 (Scalar.extui (Scalar.cmpi .sgt 32#32 0#32))) 32#32 (k0_pay6 (k0_pay170 x0))) (k0_pay8 (k0_pay170 x0)) (k0_pay9 (k0_pay170 x0)) -- `v172`
def k0_pay172 (x0 : Vec F S256x256 .f32) : IVec S32x256 32 :=
  k0_pay11 (k0_pay170 x0) -- `v174`
def k0_pay173 (x0 : Vec F S256x256 .f32) : IVec S32x256 32 :=
  k0_pay12 (k0_pay170 x0) -- `v181`
def k0_pay174 (x0 : Vec F S256x256 .f32) : IVec S32x128 32 :=
  iota .tc S32x128 32 [1] iota_S32x128_d1_w32 -- `v230`
def k0_pay175 (x0 : Vec F S256x256 .f32) : IVec S32x128 32 :=
  iota .tc S32x128 32 [0] iota_S32x128_d0_w32 -- `v231`
def k0_pay176 (x0 : Vec F S256x256 .f32) : FVec F S32x128 .f32 :=
  k0_pay14 (View.ld x0 r0_0) (k0_pay170 x0) (k0_pay171 x0) 32#32 (k0_pay172 x0) (k0_pay173 x0) (Scalar.extui (Scalar.cmpi .sgt 32#32 0#32)) -- `v229`
def k0_pay177 (x0 : Vec F S256x256 .f32) : IVec S32x128 32 :=
  k0_pay16 (k0_pay174 x0) -- `v268`
def k0_pay178 (x0 : Vec F S256x256 .f32) : FVec F S32x128 .f32 :=
  k0_pay22 (k0_pay176 x0) (k0_pay175 x0) (k0_pay177 x0) (k0_pay20 (k0_pay176 x0) (k0_pay175 x0) (k0_pay15 (F := F) (k0_pay174 x0) (k0_pay175 x0)) (k0_pay177 x0) (k0_pay17 (k0_pay174 x0)) (k0_pay18 (k0_pay174 x0)) (k0_pay19 (k0_pay174 x0))) (k0_pay21 (k0_pay177 x0)) -- `v364`
def k0_pay179 (x0 : Vec F S256x256 .f32) : FVec F S32x128 .f32 :=
  k0_pay23 (k0_pay176 x0) (k0_pay177 x0) -- `v374`
def k0_pay180 (x0 : Vec F S256x256 .f32) : FVec F S32x128 .f32 :=
  k0_pay24 (k0_pay176 x0) (k0_pay175 x0) (k0_pay177 x0) (k0_pay178 x0) (k0_pay179 x0) -- `v412`
def k0_pay181 (x0 : Vec F S256x256 .f32) : FVec F S32x128 .f32 :=
  k0_pay25 (k0_pay176 x0) (k0_pay177 x0) -- `v422`
def k0_pay182 (x0 : Vec F S256x256 .f32) : FVec F S1x128 .f32 :=
  k0_pay26 (k0_pay176 x0) (k0_pay175 x0) (k0_pay177 x0) (k0_pay178 x0) (k0_pay179 x0) -- `v423`
def k0_pay183 (x0 : Vec F S256x256 .f32) : FVec F S1x128 .f32 :=
  k0_pay27 (k0_pay176 x0) (k0_pay177 x0) -- `v424`
def k0_pay184 (x0 : Vec F S256x256 .f32) : FVec F S32x128 .f32 :=
  k0_pay28 (k0_pay176 x0) (k0_pay175 x0) (k0_pay177 x0) (k0_pay180 x0) (k0_pay181 x0) (k0_pay182 x0) (k0_pay183 x0) -- `v460`
def k0_pay185 (x0 : Vec F S256x256 .f32) : FVec F S32x128 .f32 :=
  k0_pay29 (k0_pay176 x0) (k0_pay177 x0) -- `v470`
def k0_pay186 (x0 : Vec F S256x256 .f32) : FVec F S1x128 .f32 :=
  k0_pay30 (k0_pay176 x0) (k0_pay175 x0) (k0_pay177 x0) (k0_pay180 x0) (k0_pay181 x0) (k0_pay182 x0) (k0_pay183 x0) -- `v473`
def k0_pay187 (x0 : Vec F S256x256 .f32) : FVec F S32x128 .f32 :=
  k0_pay31 (k0_pay176 x0) (k0_pay175 x0) (k0_pay177 x0) (k0_pay184 x0) (k0_pay185 x0) (k0_pay186 x0) 23#32 -- `v508`
def k0_pay188 (x0 : Vec F S256x256 .f32) : FVec F S32x128 .f32 :=
  k0_pay32 (k0_pay176 x0) (k0_pay177 x0) -- `v518`
def k0_pay189 (x0 : Vec F S256x256 .f32) : FVec F S1x128 .f32 :=
  k0_pay33 (k0_pay176 x0) (k0_pay175 x0) (k0_pay177 x0) (k0_pay184 x0) (k0_pay185 x0) (k0_pay186 x0) 23#32 -- `v521`
def k0_pay190 (x0 : Vec F S256x256 .f32) : IVec S32x128 1 :=
  k0_pay34 (k0_pay175 x0) -- `v523`
def k0_pay191 (x0 : Vec F S256x256 .f32) : FVec F S32x128 .f32 :=
  k0_pay35 (k0_pay176 x0) (k0_pay175 x0) (k0_pay177 x0) (k0_pay187 x0) (k0_pay188 x0) (k0_pay189 x0) (k0_pay190 x0) -- `v556`
def k0_pay192 (x0 : Vec F S256x256 .f32) : FVec F S32x128 .f32 :=
  k0_pay36 (k0_pay176 x0) (k0_pay177 x0) -- `v566`
def k0_pay193 (x0 : Vec F S256x256 .f32) : FVec F S1x128 .f32 :=
  k0_pay37 (k0_pay176 x0) (k0_pay175 x0) (k0_pay177 x0) (k0_pay187 x0) (k0_pay188 x0) (k0_pay189 x0) (k0_pay190 x0) -- `v569`
def k0_pay194 (x0 : Vec F S256x256 .f32) : IVec S32x128 1 :=
  k0_pay38 (k0_pay175 x0) -- `v571`
def k0_pay195 (x0 : Vec F S256x256 .f32) : IVec S32x128 32 :=
  k0_pay39 -- `v572`
def k0_pay196 (x0 : Vec F S256x256 .f32) : FVec F S32x128 .f32 :=
  k0_pay40 (k0_pay176 x0) (k0_pay175 x0) (k0_pay177 x0) (k0_pay191 x0) (k0_pay192 x0) (k0_pay193 x0) (k0_pay194 x0) (k0_pay195 x0) -- `v604`
def k0_pay197 (x0 : Vec F S256x256 .f32) : FVec F S32x128 .f32 :=
  k0_pay41 (k0_pay176 x0) (k0_pay177 x0) -- `v614`
def k0_pay198 (x0 : Vec F S256x256 .f32) : FVec F S1x128 .f32 :=
  k0_pay42 (k0_pay176 x0) (k0_pay175 x0) (k0_pay177 x0) (k0_pay191 x0) (k0_pay192 x0) (k0_pay193 x0) (k0_pay194 x0) (k0_pay195 x0) -- `v617`
def k0_pay199 (x0 : Vec F S256x256 .f32) : IVec S32x128 1 :=
  k0_pay43 (k0_pay175 x0) -- `v619`
def k0_pay200 (x0 : Vec F S256x256 .f32) : IVec S32x128 1 :=
  k0_pay44 (k0_pay175 x0) -- `v621`
def k0_pay201 (x0 : Vec F S256x256 .f32) : FVec F S32x128 .f32 :=
  k0_pay45 (k0_pay176 x0) (k0_pay175 x0) (k0_pay177 x0) (k0_pay191 x0) (k0_pay192 x0) (k0_pay193 x0) (k0_pay194 x0) (k0_pay195 x0) -- `v622`
def k0_pay202 (x0 : Vec F S256x256 .f32) : FVec F S32x128 .f32 :=
  k0_pay46 (k0_pay176 x0) (k0_pay175 x0) (k0_pay177 x0) (k0_pay196 x0) (k0_pay197 x0) (k0_pay198 x0) (k0_pay199 x0) (k0_pay200 x0) (k0_pay201 x0) -- `v652`
def k0_pay203 (x0 : Vec F S256x256 .f32) : FVec F S1x128 .f32 :=
  k0_pay48 (k0_pay176 x0) (k0_pay175 x0) (k0_pay177 x0) (k0_pay196 x0) (k0_pay197 x0) (k0_pay198 x0) (k0_pay199 x0) (k0_pay200 x0) (k0_pay201 x0) -- `v665`
def k0_pay204 (x0 : Vec F S256x256 .f32) : IVec S32x128 1 :=
  k0_pay49 (k0_pay175 x0) -- `v667`
def k0_pay205 (x0 : Vec F S256x256 .f32) : IVec S32x128 1 :=
  k0_pay50 (k0_pay175 x0) -- `v669`
def k0_pay206 (x0 : Vec F S256x256 .f32) : FVec F S32x128 .f32 :=
  k0_pay51 (k0_pay176 x0) (k0_pay175 x0) (k0_pay177 x0) (k0_pay196 x0) (k0_pay197 x0) (k0_pay198 x0) (k0_pay199 x0) (k0_pay200 x0) (k0_pay201 x0) -- `v672`
def k0_pay207 (x0 : Vec F S256x256 .f32) : IVec S32x128 32 :=
  iota .tc S32x128 32 [1] iota_S32x128_d1_w32 -- `v1038`
def k0_pay208 (x0 : Vec F S256x256 .f32) : IVec S32x128 32 :=
  iota .tc S32x128 32 [0] iota_S32x128_d0_w32 -- `v1039`
def k0_pay209 (x0 : Vec F S256x256 .f32) : FVec F S32x128 .f32 :=
  k0_pay73 (k0_pay13 (View.ld x0 r0_0) (k0_pay170 x0) (k0_pay171 x0) 32#32 (k0_pay172 x0) (k0_pay173 x0) (Scalar.extui (Scalar.cmpi .sgt 32#32 0#32))) -- `v1037`
def k0_pay210 (x0 : Vec F S256x256 .f32) : FVec F S32x128 .f32 :=
  k0_pay74 (F := F) -- `v1059`
def k0_pay211 (x0 : Vec F S256x256 .f32) : IVec S32x128 32 :=
  k0_pay75 -- `v1063`
def k0_pay212 (x0 : Vec F S256x256 .f32) : IVec S32x128 1 :=
  k0_pay76 -- `v1065`
def k0_pay213 (x0 : Vec F S256x256 .f32) : IVec S32x128 32 :=
  k0_pay77 (k0_pay207 x0) (Scalar.select (Scalar.cmpi .eq 32#32 0#32) 1#32 32#32) (k0_pay211 x0) (k0_pay212 x0) -- `v1076`
def k0_pay214 (x0 : Vec F S256x256 .f32) : FVec F S32x128 .f32 :=
  k0_pay78 (k0_pay209 x0) (k0_pay207 x0) (k0_pay208 x0) (k0_pay210 x0) (Scalar.select (Scalar.cmpi .eq 32#32 0#32) 1#32 32#32) (k0_pay211 x0) (k0_pay212 x0) -- `v1100`
def k0_pay215 (x0 : Vec F S256x256 .f32) : FVec F S32x128 .f32 :=
  k0_pay79 (k0_pay209 x0) (k0_pay207 x0) (Scalar.select (Scalar.cmpi .eq 32#32 0#32) 1#32 32#32) (k0_pay211 x0) (k0_pay212 x0) -- `v1110`
def k0_pay216 (x0 : Vec F S256x256 .f32) : FVec F S1x128 .f32 :=
  k0_pay80 (k0_pay209 x0) (k0_pay207 x0) (k0_pay208 x0) (k0_pay210 x0) (Scalar.select (Scalar.cmpi .eq 32#32 0#32) 1#32 32#32) (k0_pay211 x0) (k0_pay212 x0) -- `v1113`
def k0_pay217 (x0 : Vec F S256x256 .f32) : IVec S32x128 32 :=
  k0_pay81 -- `v1114`
def k0_pay218 (x0 : Vec F S256x256 .f32) : FVec F S32x128 .f32 :=
  k0_pay82 (k0_pay209 x0) (k0_pay208 x0) (k0_pay213 x0) (k0_pay214 x0) (k0_pay215 x0) (k0_pay216 x0) (k0_pay217 x0) -- `v1148`
def k0_pay219 (x0 : Vec F S256x256 .f32) : FVec F S32x128 .f32 :=
  k0_pay83 (k0_pay209 x0) (k0_pay213 x0) -- `v1158`
def k0_pay220 (x0 : Vec F S256x256 .f32) : FVec F S1x128 .f32 :=
  k0_pay84 (k0_pay209 x0) (k0_pay208 x0) (k0_pay213 x0) (k0_pay214 x0) (k0_pay215 x0) (k0_pay216 x0) (k0_pay217 x0) -- `v1161`
def k0_pay221 (x0 : Vec F S256x256 .f32) : IVec S32x128 1 :=
  k0_pay85 (k0_pay208 x0) -- `v1163`
def k0_pay222 (x0 : Vec F S256x256 .f32) : FVec F S32x128 .f32 :=
  k0_pay86 (k0_pay209 x0) (k0_pay208 x0) (k0_pay213 x0) (k0_pay218 x0) (k0_pay219 x0) (k0_pay220 x0) (k0_pay221 x0) 28#32 -- `v1196`
def k0_pay223 (x0 : Vec F S256x256 .f32) : FVec F S32x128 .f32 :=
  k0_pay87 (k0_pay209 x0) (k0_pay213 x0) -- `v1206`
def k0_pay224 (x0 : Vec F S256x256 .f32) : FVec F S1x128 .f32 :=
  k0_pay88 (k0_pay209 x0) (k0_pay208 x0) (k0_pay213 x0) (k0_pay218 x0) (k0_pay219 x0) (k0_pay220 x0) (k0_pay221 x0) 28#32 -- `v1209`
def k0_pay225 (x0 : Vec F S256x256 .f32) : IVec S32x128 1 :=
  k0_pay89 (k0_pay208 x0) -- `v1211`
def k0_pay226 (x0 : Vec F S256x256 .f32) : IVec S32x128 1 :=
  k0_pay90 (k0_pay208 x0) -- `v1213`
def k0_pay227 (x0 : Vec F S256x256 .f32) : FVec F S32x128 .f32 :=
  k0_pay91 (k0_pay209 x0) (k0_pay208 x0) (k0_pay213 x0) (k0_pay222 x0) (k0_pay223 x0) (k0_pay224 x0) (k0_pay225 x0) (k0_pay226 x0) -- `v1244`
def k0_pay228 (x0 : Vec F S256x256 .f32) : FVec F S1x128 .f32 :=
  k0_pay93 (k0_pay209 x0) (k0_pay208 x0) (k0_pay213 x0) (k0_pay222 x0) (k0_pay223 x0) (k0_pay224 x0) (k0_pay225 x0) (k0_pay226 x0) -- `v1257`
def k0_pay229 (x0 : Vec F S256x256 .f32) : IVec S32x128 1 :=
  k0_pay94 (k0_pay208 x0) -- `v1259`
def k0_pay230 (x0 : Vec F S256x256 .f32) : IVec S32x128 1 :=
  k0_pay95 (k0_pay208 x0) -- `v1261`
def k0_pay231 (x0 : Vec F S256x256 .f32) : FVec F S32x128 .f32 :=
  k0_pay96 (k0_pay209 x0) (k0_pay208 x0) (k0_pay213 x0) (k0_pay222 x0) (k0_pay223 x0) (k0_pay224 x0) (k0_pay225 x0) (k0_pay226 x0) -- `v1263`
def k0_pay232 (x0 : Vec F S256x256 .f32) : FVec F S1x128 .f32 :=
  k0_pay99 (k0_pay209 x0) (k0_pay208 x0) (k0_pay213 x0) (k0_pay227 x0) (k0_pay228 x0) (k0_pay229 x0) (k0_pay230 x0) (k0_pay231 x0) -- `v1305`
def k0_pay233 (x0 : Vec F S256x256 .f32) : IVec S32x128 1 :=
  k0_pay100 (k0_pay208 x0) -- `v1307`
def k0_pay234 (x0 : Vec F S256x256 .f32) : FVec F S32x128 .f32 :=
  k0_pay101 (k0_pay209 x0) (k0_pay208 x0) (k0_pay213 x0) (k0_pay227 x0) (k0_pay228 x0) (k0_pay229 x0) (k0_pay230 x0) (k0_pay231 x0) -- `v1313`
def k0_pay235 (x0 : Vec F S256x256 .f32) : FVec F S32x128 .f32 :=
  k0_pay123 (k0_pay209 x0) (k0_pay208 x0) (k0_pay213 x0) (k0_pay121 (k0_pay209 x0) (k0_pay208 x0) (k0_pay213 x0) (k0_pay117 (k0_pay209 x0) (k0_pay208 x0) (k0_pay213 x0) (k0_pay114 (k0_pay209 x0) (k0_pay208 x0) (k0_pay213 x0) (k0_pay111 (k0_pay209 x0) (k0_pay208 x0) (k0_pay213 x0) (k0_pay109 (k0_pay209 x0) (k0_pay208 x0) (k0_pay213 x0) (k0_pay108 (k0_pay209 x0) (k0_pay208 x0) (k0_pay213 x0) (k0_pay105 (k0_pay208 x0)) (k0_pay106 (k0_pay209 x0) (k0_pay208 x0) (k0_pay213 x0) (k0_pay232 x0) (k0_pay233 x0) (k0_pay234 x0)) (k0_pay107 (k0_pay209 x0) (k0_pay208 x0) (k0_pay213 x0) (k0_pay232 x0) (k0_pay233 x0) (k0_pay234 x0))) 17#32) (k0_pay110 (k0_pay213 x0))) (k0_pay112 (k0_pay213 x0)) k0_pay113) (k0_pay115 (k0_pay213 x0)) (k0_pay116 (k0_pay213 x0)) 128#32) (k0_pay118 (k0_pay213 x0)) (k0_pay119 (k0_pay213 x0)) (k0_pay120 (k0_pay213 x0))) (k0_pay122 (k0_pay213 x0)) -- `v1700`
def k0_pay236 (x0 : Vec F S256x256 .f32) : FVec F S32x128 .f32 :=
  k0_pay124 (k0_pay209 x0) (k0_pay213 x0) -- `v1710`
def k0_pay237 (x0 : Vec F S256x256 .f32) : FVec F S32x128 .f32 :=
  k0_pay125 (k0_pay209 x0) (k0_pay208 x0) (k0_pay213 x0) (k0_pay235 x0) (k0_pay236 x0) -- `v1748`
def k0_pay238 (x0 : Vec F S256x256 .f32) : FVec F S32x128 .f32 :=
  k0_pay126 (k0_pay209 x0) (k0_pay213 x0) -- `v1758`
def k0_pay239 (x0 : Vec F S256x256 .f32) : FVec F S1x128 .f32 :=
  k0_pay127 (k0_pay209 x0) (k0_pay208 x0) (k0_pay213 x0) (k0_pay235 x0) (k0_pay236 x0) -- `v1759`
def k0_pay240 (x0 : Vec F S256x256 .f32) : FVec F S1x128 .f32 :=
  k0_pay128 (k0_pay209 x0) (k0_pay213 x0) -- `v1760`
def k0_pay241 (x0 : Vec F S256x256 .f32) : FVec F S32x256 .f32 :=
  k0_pay132 (k0_pay72 (k0_pay176 x0) (k0_pay175 x0) (k0_pay70 (k0_pay176 x0) (k0_pay175 x0) (k0_pay177 x0) (k0_pay66 (k0_pay176 x0) (k0_pay175 x0) (k0_pay177 x0) (k0_pay63 (k0_pay176 x0) (k0_pay175 x0) (k0_pay177 x0) (k0_pay61 (k0_pay176 x0) (k0_pay175 x0) (k0_pay177 x0) (k0_pay59 (k0_pay176 x0) (k0_pay175 x0) (k0_pay177 x0) (k0_pay58 (k0_pay176 x0) (k0_pay175 x0) (k0_pay177 x0) (k0_pay55 (k0_pay175 x0)) (k0_pay56 (k0_pay176 x0) (k0_pay175 x0) (k0_pay177 x0) (k0_pay202 x0) (k0_pay203 x0) (k0_pay204 x0) (k0_pay205 x0) (k0_pay206 x0)) (k0_pay57 (k0_pay176 x0) (k0_pay175 x0) (k0_pay177 x0) (k0_pay202 x0) (k0_pay203 x0) (k0_pay204 x0) (k0_pay205 x0) (k0_pay206 x0)))) k0_pay60) (k0_pay62 (k0_pay177 x0)) 0#32) (k0_pay64 (k0_pay177 x0)) (k0_pay65 (k0_pay177 x0))) (k0_pay67 (k0_pay177 x0)) (k0_pay68 (k0_pay177 x0)) k0_pay69) (k0_pay71 (k0_pay177 x0))) (k0_pay209 x0) (k0_pay208 x0) (k0_pay213 x0) (k0_pay129 (k0_pay209 x0) (k0_pay208 x0) (k0_pay213 x0) (k0_pay237 x0) (k0_pay238 x0) (k0_pay239 x0) (k0_pay240 x0)) (k0_pay130 (k0_pay209 x0) (k0_pay213 x0)) (k0_pay131 (k0_pay209 x0) (k0_pay208 x0) (k0_pay213 x0) (k0_pay237 x0) (k0_pay238 x0) (k0_pay239 x0) (k0_pay240 x0)) 1#32 -- `v1845`
def k0_pay242 (x0 : Vec F S256x256 .f32) : IVec S256x256 1 :=
  k0_pay135 (k0_pay169 x0) 32#32 (k0_pay133 (k0_pay169 x0)) (k0_pay134 (k0_pay169 x0)) (Scalar.extui (Scalar.cmpi .sgt 32#32 0#32)) (Scalar.extui (Scalar.cmpi .slt 32#32 0#32)) -- `v1887`
def k0_pay243 (x0 : Vec F S256x256 .f32) : IVec S256x256 1 :=
  k0_pay147 (k0_pay144 (k0_pay169 x0)) (k0_pay145 (k0_pay169 x0)) k0_pay146 -- `v2045`
def k0_pay244 (x0 : Vec F S256x256 .f32) : FVec F S128x256 .f32 :=
  k0_pay156 (View.ld x0 r0_0) (k0_pay169 x0) (k0_pay143 (k0_pay241 x0) (k0_pay242 x0) (k0_pay142 (View.ld x0 r0_0) (k0_pay168 x0) (k0_pay169 x0) (k0_pay241 x0) (k0_pay242 x0) (k0_pay139 (k0_pay168 x0) (k0_pay169 x0) (k0_pay242 x0) (k0_pay136 (k0_pay168 x0)) (k0_pay137 (k0_pay168 x0)) k0_pay138) 32#32 (k0_pay140 (k0_pay168 x0)) (k0_pay141 (k0_pay168 x0)) (Scalar.extui (Scalar.cmpi .sgt 32#32 0#32)))) (k0_pay243 x0) (k0_pay152 (k0_pay243 x0) (k0_pay148 (k0_pay168 x0)) (k0_pay149 (k0_pay169 x0)) (k0_pay150 (k0_pay169 x0)) (k0_pay151 (k0_pay169 x0)) 0#32) (k0_pay153 (k0_pay168 x0)) 64#32 (k0_pay154 (k0_pay169 x0)) (k0_pay155 (k0_pay169 x0)) (Scalar.extui (Scalar.cmpi .sgt 64#32 0#32)) (Scalar.cmpi .slt 64#32 0#32) -- `v2161`
def k0_pay245 (x0 : Vec F S256x256 .f32) : IVec S256x256 1 :=
  k0_pay160 (k0_pay157 (k0_pay169 x0)) (k0_pay158 (k0_pay169 x0)) (k0_pay159 (k0_pay169 x0)) 0#32 -- `v2203`

/-- Window 1's staging buffer after the body, from the input windows' blocks: its 1 store as pieces, LAST
    FIRST (Lib/Pipeline/FrameBody.lean `View.canon`; the payloads are the skeleton's and the values stated above). -/
def out0_1 (x0 : Vec F S256x256 .f32) : Vec F S1x256x256 .f32 :=
  View.canon [⟨r0_1, k0_pay1 (k0_pay244 x0) (k0_pay166 (k0_pay245 x0)) (k0_pay167 (View.ld x0 r0_0) (k0_pay168 x0) (k0_pay169 x0) (k0_pay244 x0) (k0_pay245 x0) (k0_pay163 (k0_pay169 x0) (k0_pay245 x0) (k0_pay161 (k0_pay168 x0)) (k0_pay162 (k0_pay168 x0)) 1#32) 128#32 (k0_pay164 (k0_pay168 x0)) (k0_pay165 (k0_pay168 x0))) (Scalar.ofBits .f32 0x00000000#32)⟩]

/-- Its stores tile the buffer (checked by evaluation), so they cover it. -/
theorem cover0_1 (p0 : Vec F S1x256x256 .f32) (y : S1x256x256.Idx) :
    ∃ pc ∈ ([⟨r0_1, p0⟩] : List (View.Piece (Elt F) S1x256x256 .f32)), y ∈ pc.1.set :=
  View.cover_of_tiled [⟨r0_1, p0⟩] S1x256x256.size (by rfl) y

/-! ## The body's triple -/

set_option maxHeartbeats 539674950 in
/-- The kernel body on whole staging memrefs, the inputs' at read contents `xW` and the outputs' at anything, runs to
    the continuation holding the inputs' as they were and each output's at `out0_1` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x256 .f32) (harg1 : arg1.IsWhole) (arg2 : Memref sig .tc .vmem S1x256x256 .f32) (harg2 : arg2.IsWhole)
    (x0 : Vec F S256x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_diag_inverse i arg1 harg1 arg2 harg2) K := by
  simp only [cc0_diag_inverse_eq_skeleton]; unfold cc0_diag_inverse_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover0_1 _)).trans ?_
  rfl

/-! ## The pipeline's proof data -/

/-- The proof data of the one pipeline on core `c`: the arrays as the region finds them (`W`); after the body at
    point `t` each input's buffer at its block and each output's at `out0_1` of the input blocks; the invariant the
    scoped buffers the call does not stage, untouched; nothing owed; full shares. -/
def dat0 (c : Dev nD) : Dat τ (Elt F) Unit ℕ (UR sig nD τ) ℕ cfg0 c where
  A w := W c (Pipeline.arrRef spec0 w)
  after w t := match w with
    | ⟨0, _⟩ => iblk0 W c 0 t
    | ⟨1, _⟩ => out0_1 (iblk0 W c 0 t)
  Φ _ := Pipeline.scopedRest (Ix := Unit) (Name := ℕ) (U := UR sig nD τ) (Lvl := ℕ) (Val := Elt F) spec0 c
  q _ := fullShare
  owed _ := 0

/-- The proof data's arrays are the region-entry contents: the proof data's definition projected (`dsimp`), so that
    `W` is never unfolded to check it. -/
theorem A_eq0 (c : Dev nD) (w : Fin cfg0.W) : (dat0 W c).A w = W c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 W c).after 0 t = iblk0 W c 0 t := by dsimp only [dat0]
theorem after0_1 (c : Dev nD) (t : Fin cfg0.N) : (dat0 W c).after 1 t = out0_1 (iblk0 W c 0 t) := by dsimp only [dat0]

/-- Each input's current staging buffer holds its block at every point, fetched there or not (`beforeK_W_of`). -/
theorem before0_0 (c : Dev nD) (t : Fin cfg0.N) (d) : (dat0 W c).before 0 t d = iblk0 W c 0 t :=
  before0_0_of W (dat0 W c) (A_eq0 W c 0) (after0_0 W c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d)))

/-- and what it returns. -/
def bodyPost0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t))

/-- The body at any point: the inputs' memrefs hold their blocks (`before0_W`), so `sound_kernel0` applies; the invariant and
    the core's `owes` pass through unread. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0]
  rw [show (dat0 W c).Φ t.succ = (dat0 W c).Φ t.castSucc from rfl,
    show (dat0 W c).owesAt () t.succ = (dat0 W c).owesAt () t.castSucc from rfl,
    after0_0, after0_1]
  iintro ⟨HΦ, Ho, ⟨%d0, H0⟩, ⟨%d1, H1⟩⟩
  iapply (sound_kernel0 c Set.univ (grid0.coords t) _ _ _ _ (iblk0 W c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) W c) (defs₀ (F := F)) Variants.none () Set.univ := fun t => by
  rw [bigSep_W0, bigSep_W0, defs₀_row0]
  exact triple_restated (sound_body0 W c t) rfl .rfl fun _ => .rfl

end Cert.KernelIdeal.Gen

end
-- ==== Proof.KI.Region1Dq.lean ====
module

public import proofs.«01_k».proof.Proof.Gen.KernelIdeal.Loops
public import Idealize.ShloMosaic.Lib.Pipeline.FrameBody
public import Idealize.ShloMosaic.Lib.Writes
public import Idealize.ShloMosaic.Lib.Pipeline.ValueKit.Tiles

/-! # The dequantised block of the solve step

Six counted loops fill a block of 1152 rows and 256 columns with dequantised weights, eight rows and
128 columns at a time. This module gives the value of the whole filled block as one function of the
coordinates (`dqG`), and proves that every piece the loops write agrees with it and that the pieces
reach every place. -/

@[expose] public section
set_option maxRecDepth 16384
noncomputable section
namespace Cert.KernelIdeal.Gen
open Idealize.ShloMosaic Idealize.ShloMosaic.TcCoe Idealize.ShloMosaic.Tactic
variable {F : FTy → Type} [FloatOps F]

/-- The place (row `p`, column `q`) of an `m` by `n` array, both taken modulo the size, so that no
bound has to be carried along. -/
def ix2 {m n : ℕ} (hm : 0 < m) (hn : 0 < n) (p q : ℕ) : (⟨2, ![m, n]⟩ : Shape).Idx :=
  Fin.cons (α := fun a : Fin 2 => Fin ((⟨2, ![m, n]⟩ : Shape).size a)) ⟨p % m, Nat.mod_lt _ hm⟩
    (Fin.cons (α := fun a : Fin 1 => Fin ((⟨2, ![m, n]⟩ : Shape).size a.succ)) ⟨q % n, Nat.mod_lt _ hn⟩ (fun a => a.elim0))

/-- Two places of a two-dimensional array with the same coordinates are the same place. -/
theorem idx2_ext {m n : ℕ} {x y : (⟨2, ![m, n]⟩ : Shape).Idx} (h0 : (x 0).val = (y 0).val)
    (h1 : (x 1).val = (y 1).val) : x = y := by
  funext a; apply Fin.ext; fin_cases a
  · exact h0
  · exact h1

/-- The row of `ix2`. -/
theorem ix2_zero {m n : ℕ} (hm : 0 < m) (hn : 0 < n) (p q : ℕ) : ((ix2 hm hn p q) 0).val = p % m := rfl
/-- The column of `ix2`. -/
theorem ix2_one {m n : ℕ} (hm : 0 < m) (hn : 0 < n) (p q : ℕ) : ((ix2 hm hn p q) 1).val = q % n := rfl

/-- The decoded indices of 32 rows of packed codes: the words of four rows, gathered along the lanes
at half the lane number plus the word offset `hoff`, cut into bytes again. -/
def decIdx (hoff : BitVec 32) (v9 : IVec S8x128 32) (v111 : Vec F S32x128 .i8) : IVec S32x128 32 :=
  have v112 : IVec S32x128 8 := shapeCast S32x128 v111 shapeCasts_S32x128_S32x128
  have v113 : IVec S8x128 32 := bitcast S8x128 32 v112 bitcasts_S32x128_w8_S8x128_w32
  have v114 : IVec S8x128 32 := broadcast S8x128 2#32
  have v115 : IVec S8x128 32 := divsi v9 v114
  have v116 : IVec S8x128 32 := broadcast S8x128 0#32
  have v117 : IVec S8x128 1 := cmpi .sgt v9 v116
  have v118 : IVec S8x128 32 := extui 32 v117 natLt_1_32
  have v119 : IVec S8x128 32 := broadcast S8x128 0#32
  have v120 : IVec S8x128 1 := cmpi .slt v9 v119
  have v121 : IVec S8x128 32 := extui 32 v120 natLt_1_32
  have v122 : IVec S8x128 32 := subi v118 v121
  let v123 : BitVec 1 := Scalar.cmpi .sgt 2#32 0#32
  let v124 : BitVec 32 := Scalar.extui v123
  let v125 : BitVec 1 := Scalar.cmpi .slt 2#32 0#32
  let v126 : BitVec 32 := Scalar.extui v125
  let v127 : BitVec 32 := Scalar.subi v124 v126
  have v128 : IVec S8x128 32 := broadcast S8x128 v127
  have v129 : IVec S8x128 1 := cmpi .ne v122 v128
  have v130 : IVec S8x128 32 := broadcast S8x128 2#32
  have v131 : IVec S8x128 32 := remsi v9 v130
  have v132 : IVec S8x128 32 := broadcast S8x128 0#32
  have v133 : IVec S8x128 1 := cmpi .ne v131 v132
  have v134 : IVec S8x128 1 := andi v129 v133
  have v135 : IVec S8x128 32 := broadcast S8x128 1#32
  have v136 : IVec S8x128 32 := subi v115 v135
  have v137 : IVec S8x128 32 := select v134 v136 v115
  have v138 : IVec S8x128 32 := broadcast S8x128 hoff
  have v139 : IVec S8x128 32 := addi v137 v138
  have v140 : IVec S8x128 32 := broadcast S8x128 0#32
  have v141 : IVec S8x128 1 := cmpi .slt v139 v140
  have v142 : IVec S8x128 32 := broadcast S8x128 128#32
  have v143 : IVec S8x128 32 := addi v139 v142
  have v144 : IVec S8x128 32 := select v141 v143 v139
  have v145 : IVec S8x128x1 32 := shapeCast S8x128x1 v144 shapeCasts_S8x128_S8x128x1
  have v146 : IVec S8x128 32 := shapeCast S8x128 v145 shapeCasts_S8x128x1_S8x128
  have v147 : IVec S8x128 32 := dynamicGather 1 v113 v146
  have v148 : IVec S32x128 8 := bitcast S32x128 8 v147 bitcasts_S8x128_w32_S32x128_w8
  have v149 : IVec S32x128 32 := extui 32 v148 natLt_8_32
  v149

/-- Eight consecutive rows of the decoded indices. -/
def rows8 (j : ℕ) (v : IVec S32x128 32) : IVec S8x128 32 := fun y =>
  v (ix2 (by decide) (by decide) (8 * j + (y 0).val) (y 1).val)

/-- Thirty-two consecutive rows of the packed codes. -/
def rows32 (R : ℕ) (x : Vec F S1152x128 .i8) : Vec F S32x128 .i8 := fun y =>
  x (ix2 (by decide) (by decide) (32 * R + (y 0).val) (y 1).val)

/-- Eight consecutive rows of the row scales. -/
def rowsF (R : ℕ) (x : Vec F S1152x128 .f32) : Vec F S8x128 .f32 := fun y =>
  x (ix2 (by decide) (by decide) (8 * R + (y 0).val) (y 1).val)

/-- The dequantised piece of eight rows and 128 columns: the table entry at each index, as a float,
times the codebook scale, times the row scale of column `w`. -/
def pieceV (w : BitVec 32) (sc : Elt F .f32) (v9 : IVec S8x128 32) (tab : Vec F S1x1x128 .i32)
    (idx : IVec S8x128 32) (rs : Vec F S8x128 .f32) : FVec F S8x128 .f32 :=
  k1_pay9 sc (k1_pay7 v9 (k1_pay102 tab) idx k1_pay6) (k1_pay8 rs) w

/-- The whole dequantised block, by coordinates. Row `r` belongs to codebook `r / 384`; column `l`
to the column group `2 * arg0 + l / 128`. -/
def dqG (v9 : IVec S8x128 32) (arg0 : BitVec 32) (sc : ℕ → ℕ → Elt F .f32)
    (tab : ℕ → ℕ → Vec F S1x1x128 .i32) (x2 : Vec F S1152x128 .i8) (x4 : Vec F S1152x128 .f32) :
    Vec F S1152x256 .f32 := fun y =>
  pieceV (Scalar.addi (Scalar.muli 2#32 arg0) (BitVec.ofNat 32 ((y 1).val / 128)))
    (sc ((y 0).val / 384) ((y 1).val / 128)) v9 (tab ((y 0).val / 384) ((y 1).val / 128))
    (rows8 (((y 0).val % 32) / 8) (decIdx (BitVec.ofNat 32 (64 * ((y 1).val / 128))) v9 (rows32 ((y 0).val / 32) x2)))
    (rowsF ((y 0).val / 8) x4) (ix2 (by decide) (by decide) ((y 0).val % 8) ((y 1).val % 128))

/-- A slice of eight rows is `rows8`. -/
theorem slice_rows8 (j : ℕ) (hj : j < 4) (v : IVec S32x128 32) (off : Fin 2 → ℕ) (ho : off = ![8 * j, 0])
    (h : S32x128.Slices off S8x128) : extractStridedSlice S8x128 off v h = rows8 j v := by
  subst ho; funext y; unfold rows8 extractStridedSlice
  have h0 : (y 0).val < 8 := (y 0).isLt
  have h1 : (y 1).val < 128 := (y 1).isLt
  refine congrArg v (idx2_ext ?_ ?_)
  · rw [ix2_zero, Nat.mod_eq_of_lt (by omega)]; rfl
  · rw [ix2_one, Nat.mod_eq_of_lt (by omega)]; exact Nat.zero_add _

/-- Thirty-two rows of the codes, loaded at a row offset. -/
theorem load_rows32 (v : View sig .tc .vmem S1152x128 .i8) (X : BufTy.Contents (Elt F) v.ty) (R : ℕ) (hR : R < 36)
    (off : Fin 2 → ℕ) (ho : off = ![32 * R, 0]) (inb : ∀ a, off a + S32x128.size a ≤ S1152x128.size a) :
    View.readAt (Elt F) v (Rect.unit (s := S1152x128) off S32x128.size inb).toLoadRect X = rows32 R (v.read (Elt F) X) := by
  subst ho; funext y; unfold rows32
  have h0 : (y 0).val < 32 := (y 0).isLt
  have h1 : (y 1).val < 128 := (y 1).isLt
  refine congrArg (v.read (Elt F) X) (idx2_ext ?_ ?_)
  · rw [ix2_zero, Nat.mod_eq_of_lt (by omega)]; exact Rect.idx_unit_val _ _ _ _ _
  · rw [ix2_one, Nat.mod_eq_of_lt (by omega)]; exact (Rect.idx_unit_val _ _ _ _ _).trans (Nat.zero_add _)

/-- Eight rows of the row scales, loaded at a row offset. -/
theorem load_rowsF (v : View sig .tc .vmem S1152x128 .f32) (X : BufTy.Contents (Elt F) v.ty) (R : ℕ) (hR : R < 144)
    (off : Fin 2 → ℕ) (ho : off = ![8 * R, 0]) (inb : ∀ a, off a + S8x128.size a ≤ S1152x128.size a) :
    View.readAt (Elt F) v (Rect.unit (s := S1152x128) off S8x128.size inb).toLoadRect X = rowsF R (v.read (Elt F) X) := by
  subst ho; funext y; unfold rowsF
  have h0 : (y 0).val < 8 := (y 0).isLt
  have h1 : (y 1).val < 128 := (y 1).isLt
  refine congrArg (v.read (Elt F) X) (idx2_ext ?_ ?_)
  · rw [ix2_zero, Nat.mod_eq_of_lt (by omega)]; exact Rect.idx_unit_val _ _ _ _ _
  · rw [ix2_one, Nat.mod_eq_of_lt (by omega)]; exact (Rect.idx_unit_val _ _ _ _ _).trans (Nat.zero_add _)

/-- A piece agrees with the dequantised block on its rectangle. -/
def Good (v9 : IVec S8x128 32) (arg0 : BitVec 32) (sc : ℕ → ℕ → Elt F .f32)
    (tab : ℕ → ℕ → Vec F S1x1x128 .i32) (x2 : Vec F S1152x128 .i8) (x4 : Vec F S1152x128 .f32)
    (p : View.Piece (Elt F) S1152x256 .f32) : Prop :=
  ∀ x, p.2 x = dqG v9 arg0 sc tab x2 x4 (p.1.emb x)

/-- The piece of codebook `m`, loop step `k`, byte `j` and half `h`, written at its own rectangle from
values loaded at the matching rows, agrees with the dequantised block. -/
theorem piece_good (v9 : IVec S8x128 32) (arg0 : BitVec 32) (sc : ℕ → ℕ → Elt F .f32)
    (tab : ℕ → ℕ → Vec F S1x1x128 .i32) (v4 : View sig .tc .vmem S1152x128 .i8) (X4 : BufTy.Contents (Elt F) v4.ty)
    (v6 : View sig .tc .vmem S1152x128 .f32) (X6 : BufTy.Contents (Elt F) v6.ty)
    (m k j h : ℕ) (hm : m < 3) (hk : k < 12) (hj : j < 4) (hh : h < 2)
    {off off4 off6 offs : Fin 2 → ℕ} (ho : off = ![384 * m + 32 * k + 8 * j, 128 * h])
    (ho4 : off4 = ![32 * (12 * m + k), 0]) (ho6 : off6 = ![8 * (48 * m + 4 * k + j), 0]) (hos : offs = ![8 * j, 0])
    {inb : ∀ a, off a + S8x128.size a ≤ S1152x256.size a}
    (inb4 : ∀ a, off4 a + S32x128.size a ≤ S1152x128.size a)
    (inb6 : ∀ a, off6 a + S8x128.size a ≤ S1152x128.size a)
    (hs : S32x128.Slices offs S8x128) (hoff w : BitVec 32) (hhoff : hoff = BitVec.ofNat 32 (64 * h))
    (hw : w = Scalar.addi (Scalar.muli 2#32 arg0) (BitVec.ofNat 32 h))
    {val : FVec F S8x128 .f32}
    (hv : val = pieceV w (sc m h) v9 (tab m h) (extractStridedSlice S8x128 offs (decIdx hoff v9
        (View.readAt (Elt F) v4 (Rect.unit (s := S1152x128) off4 S32x128.size inb4).toLoadRect X4)) hs)
        (View.readAt (Elt F) v6 (Rect.unit (s := S1152x128) off6 S8x128.size inb6).toLoadRect X6)) :
    Good v9 arg0 sc tab (v4.read (Elt F) X4) (v6.read (Elt F) X6)
      ⟨Rect.unit (s := S1152x256) off S8x128.size inb, val⟩ := by
  rw [slice_rows8 j hj _ _ hos, load_rows32 v4 X4 _ (by omega) _ ho4, load_rowsF v6 X6 _ (by omega) _ ho6] at hv
  subst hv hhoff hw ho
  intro (x : S8x128.Idx)
  have h0 : (x 0).val < 8 := (x 0).isLt
  have h1 : (x 1).val < 128 := (x 1).isLt
  have e0 : (((Rect.unit (s := S1152x256) ![384 * m + 32 * k + 8 * j, 128 * h] S8x128.size inb).emb x) 0).val
      = 384 * m + 32 * k + 8 * j + (x 0).val := Rect.idx_unit_val _ _ _ _ _
  have e1 : (((Rect.unit (s := S1152x256) ![384 * m + 32 * k + 8 * j, 128 * h] S8x128.size inb).emb x) 1).val
      = 128 * h + (x 1).val := Rect.idx_unit_val _ _ _ _ _
  unfold dqG
  rw [e0, e1]
  have a1 : (384 * m + 32 * k + 8 * j + (x 0).val) / 384 = m := by omega
  have a2 : (384 * m + 32 * k + 8 * j + (x 0).val) / 32 = 12 * m + k := by omega
  have a3 : (384 * m + 32 * k + 8 * j + (x 0).val) % 32 / 8 = j := by omega
  have a4 : (384 * m + 32 * k + 8 * j + (x 0).val) / 8 = 48 * m + 4 * k + j := by omega
  have a5 : (128 * h + (x 1).val) / 128 = h := by omega
  rw [a1, a2, a3, a4, a5]
  refine congrArg _ (idx2_ext ?_ ?_)
  · rw [ix2_zero]; omega
  · rw [ix2_one]; omega

/-- A property of every piece of every trip is a property of every piece of the trips so far. -/
theorem pb_all {α : Type} {n : ℕ} (pb : ℕ → List α) (trip : Fin n → List α) (h0 : pb 0 = [])
    (hs : ∀ k : Fin n, pb (k.val + 1) = trip k ++ pb k.val) (P : α → Prop) (hP : ∀ k, ∀ p ∈ trip k, P p) :
    ∀ k ≤ n, ∀ p ∈ pb k, P p := by
  intro k
  induction k with
  | zero => intro _ p hp; rw [h0] at hp; exact absurd hp List.not_mem_nil
  | succ k ih =>
    intro hk p hp
    rw [hs ⟨k, hk⟩] at hp
    rcases List.mem_append.mp hp with h | h
    · exact hP _ _ h
    · exact ih (by omega) _ h

/-- The pieces of one trip are among the pieces of all the trips. -/
theorem pb_mem {α : Type} {n : ℕ} (pb : ℕ → List α) (trip : Fin n → List α)
    (hs : ∀ k : Fin n, pb (k.val + 1) = trip k ++ pb k.val) (i : Fin n) (p : α) (hp : p ∈ trip i) :
    ∀ k ≤ n, i.val < k → p ∈ pb k := by
  intro k
  induction k with
  | zero => intro _ h; omega
  | succ k ih =>
    intro hk hi
    rw [hs ⟨k, hk⟩]
    rcases Nat.lt_or_ge i.val k with h | h
    · exact List.mem_append_right _ (ih (by omega) h)
    · have : i = ⟨k, hk⟩ := Fin.ext (by simp; omega)
      exact List.mem_append_left _ (this ▸ hp)

/-- The list reaches every place of codebook `m`'s rows in the column half `h`. -/
def Covers (m h : ℕ) (L : List (View.Piece (Elt F) S1152x256 .f32)) : Prop :=
  ∀ y : S1152x256.Idx, (y 0).val / 384 = m → (y 1).val / 128 = h → ∃ p ∈ L, y ∈ p.1.set

/-- Pieces at the rectangles of the trips reach the rows of codebook `m` in half `h`. -/
theorem covers_of {n : ℕ} (hn : n = 12) (pb : ℕ → List (View.Piece (Elt F) S1152x256 .f32))
    (trip : Fin n → List (View.Piece (Elt F) S1152x256 .f32))
    (hs : ∀ k : Fin n, pb (k.val + 1) = trip k ++ pb k.val) (m h : ℕ)
    (ht : ∀ k : Fin n, ∀ j : Fin 4, ∃ p ∈ trip k, ∀ y : S1152x256.Idx,
      ((384 * m + 32 * k.val + 8 * j.val ≤ (y 0).val ∧ (y 0).val < 384 * m + 32 * k.val + 8 * j.val + 8) ∧
        128 * h ≤ (y 1).val ∧ (y 1).val < 128 * h + 128) → y ∈ p.1.set) : Covers m h (pb n) := by
  intro y h0 h1
  have hlt : (y 0).val < 1152 := (y 0).isLt
  obtain ⟨p, hp, hy⟩ := ht ⟨(y 0).val % 384 / 32, by omega⟩ ⟨(y 0).val % 32 / 8, by omega⟩
  refine ⟨p, pb_mem pb trip hs _ p hp n le_rfl (by simp; omega), hy y ?_⟩
  simp only
  omega

/-- Membership in the rectangle of one piece, in coordinates. -/
theorem mem_piece {off : Fin 2 → ℕ} {R C : ℕ} (ho : off = ![R, C]) {inb : ∀ a, off a + S8x128.size a ≤ S1152x256.size a}
    (y : S1152x256.Idx) (hy : (R ≤ (y 0).val ∧ (y 0).val < R + 8) ∧ C ≤ (y 1).val ∧ (y 1).val < C + 128) :
    y ∈ (Rect.unit (s := S1152x256) off S8x128.size inb).set := by
  subst ho
  rw [Rect.mem_set_unit]
  intro a; fin_cases a
  · exact hy.1
  · exact hy.2

section Loops
variable (𝒱 : Variants) (c : Dev nD) (bd : Option 𝒱.V) (i : grid1.Coords)
  (arg2 : Memref sig .tc .smem S3x32 .f32) (harg2 : arg2.IsWhole) (arg3 : Memref sig .tc .vmem S1152x256 .bf16) (harg3 : arg3.IsWhole) (arg4 : Memref sig .tc .vmem S1152x128 .i8) (harg4 : arg4.IsWhole) (arg5 : Memref sig .tc .vmem S3x32x128 .i32) (harg5 : arg5.IsWhole) (arg6 : Memref sig .tc .vmem S1152x128 .f32) (harg6 : arg6.IsWhole) (arg7 : Memref sig .tc .vmem S256x256 .f32) (harg7 : arg7.IsWhole) (arg8 : Memref sig .tc .vmem S1x256x256 .f32) (harg8 : arg8.IsWhole) (arg9 : Memref sig .tc .vmem S1152x256 .bf16) (harg9 : arg9.IsWhole) (arg10 : Memref sig .tc .vmem S1152x256 .f32) (harg10 : arg10.IsWhole) (arg11 : Memref sig .tc .vmem S1152x256 .f32) (harg11 : arg11.IsWhole) (arg12 : Memref sig .tc .vmem S16x1152x256 .f32) (harg12 : arg12.IsWhole)
  (arg0 : BitVec 32) (k1_h3 : k1_cond3 i = 1#1) (v9 : IVec S8x128 32) (sc : ℕ → ℕ → Elt F .f32)
  (tab : ℕ → ℕ → Vec F S1x1x128 .i32)
  (X4 : BufTy.Contents (Elt F) arg4.view.ty) (X6 : BufTy.Contents (Elt F) arg6.view.ty)

/-- The rectangles of loop 1 in coordinates. -/
theorem geo_t1 : k1_t1_loop.trips = 12 ∧ ∀ k : Fin k1_t1_loop.trips,
    k1_off4 k = ![32 * (12 * 0 + k.val), 0] ∧
    (k1_off5 k 0#32 = ![8 * (48 * 0 + 4 * k.val + 0), 0] ∧ k1_off5 k 8#32 = ![8 * (48 * 0 + 4 * k.val + 1), 0] ∧
     k1_off5 k 16#32 = ![8 * (48 * 0 + 4 * k.val + 2), 0] ∧ k1_off5 k 24#32 = ![8 * (48 * 0 + 4 * k.val + 3), 0]) ∧
    (k1_off6 k 0#32 = ![384 * 0 + 32 * k.val + 8 * 0, 128 * 0] ∧ k1_off6 k 8#32 = ![384 * 0 + 32 * k.val + 8 * 1, 128 * 0] ∧
     k1_off6 k 16#32 = ![384 * 0 + 32 * k.val + 8 * 2, 128 * 0] ∧ k1_off6 k 24#32 = ![384 * 0 + 32 * k.val + 8 * 3, 128 * 0]) := by
  decide +kernel

/-- Loop 1 writes pieces of the dequantised block, and reaches codebook 0's rows in half 0. -/
theorem loop_t1 :
    (∀ p ∈ pb_k1_t1 (F := F) 𝒱 c bd i arg2 harg2 arg3 harg3 arg4 harg4 arg5 harg5 arg6 harg6 arg7 harg7 arg8 harg8 arg9 harg9 arg10 harg10 arg11 harg11 arg12 harg12 arg0 k1_h3 v9 (tab 0 0) (sc 0 0) X4 X6 k1_t1_loop.trips,
      Good v9 arg0 sc tab (arg4.view.read (Elt F) X4) (arg6.view.read (Elt F) X6) p) ∧
    Covers 0 0 (pb_k1_t1 (F := F) 𝒱 c bd i arg2 harg2 arg3 harg3 arg4 harg4 arg5 harg5 arg6 harg6 arg7 harg7 arg8 harg8 arg9 harg9 arg10 harg10 arg11 harg11 arg12 harg12 arg0 k1_h3 v9 (tab 0 0) (sc 0 0) X4 X6 k1_t1_loop.trips) := by
  obtain ⟨hn, hg⟩ := geo_t1
  constructor
  · refine pb_all _ (tripL_k1_t1 (F := F) 𝒱 c bd i arg2 harg2 arg3 harg3 arg4 harg4 arg5 harg5 arg6 harg6 arg7 harg7 arg8 harg8 arg9 harg9 arg10 harg10 arg11 harg11 arg12 harg12 arg0 k1_h3 v9 (tab 0 0) (sc 0 0) X4 X6) rfl
      (fun k => pb_k1_t1_succ 𝒱 c bd i arg2 harg2 arg3 harg3 arg4 harg4 arg5 harg5 arg6 harg6 arg7 harg7 arg8 harg8 arg9 harg9 arg10 harg10 arg11 harg11 arg12 harg12 arg0 k1_h3 v9 (tab 0 0) (sc 0 0) X4 X6 k) _ ?_ _ le_rfl
    intro k p hp
    obtain ⟨g4, ⟨r0, r1, r2, r3⟩, s0, s1, s2, s3⟩ := hg k
    have hk : k.val < 12 := hn ▸ k.isLt
    unfold tripL_k1_t1 trip_k1_t1 at hp
    dsimp only at hp
    simp only [List.mem_cons, List.not_mem_nil, or_false] at hp
    rcases hp with rfl | rfl | rfl | rfl
    · exact piece_good v9 arg0 sc tab arg4.view X4 arg6.view X6 0 k.val 3 0 (by omega) hk (by omega) (by omega)
        s3 g4 r3 (offs := ![24, 0]) rfl _ _ slices_S32x128_o24_0_S8x128 0#32 (Scalar.addi (Scalar.muli 2#32 arg0) 0#32) rfl rfl rfl
    · exact piece_good v9 arg0 sc tab arg4.view X4 arg6.view X6 0 k.val 2 0 (by omega) hk (by omega) (by omega)
        s2 g4 r2 (offs := ![16, 0]) rfl _ _ slices_S32x128_o16_0_S8x128 0#32 (Scalar.addi (Scalar.muli 2#32 arg0) 0#32) rfl rfl rfl
    · exact piece_good v9 arg0 sc tab arg4.view X4 arg6.view X6 0 k.val 1 0 (by omega) hk (by omega) (by omega)
        s1 g4 r1 (offs := ![8, 0]) rfl _ _ slices_S32x128_o8_0_S8x128 0#32 (Scalar.addi (Scalar.muli 2#32 arg0) 0#32) rfl rfl rfl
    · exact piece_good v9 arg0 sc tab arg4.view X4 arg6.view X6 0 k.val 0 0 (by omega) hk (by omega) (by omega)
        s0 g4 r0 (offs := ![0, 0]) rfl _ _ slices_S32x128_o0_0_S8x128 0#32 (Scalar.addi (Scalar.muli 2#32 arg0) 0#32) rfl rfl rfl
  · refine covers_of hn _ (tripL_k1_t1 (F := F) 𝒱 c bd i arg2 harg2 arg3 harg3 arg4 harg4 arg5 harg5 arg6 harg6 arg7 harg7 arg8 harg8 arg9 harg9 arg10 harg10 arg11 harg11 arg12 harg12 arg0 k1_h3 v9 (tab 0 0) (sc 0 0) X4 X6)
      (fun k => pb_k1_t1_succ 𝒱 c bd i arg2 harg2 arg3 harg3 arg4 harg4 arg5 harg5 arg6 harg6 arg7 harg7 arg8 harg8 arg9 harg9 arg10 harg10 arg11 harg11 arg12 harg12 arg0 k1_h3 v9 (tab 0 0) (sc 0 0) X4 X6 k) 0 0 ?_
    intro k j
    obtain ⟨-, -, s0, s1, s2, s3⟩ := hg k
    unfold tripL_k1_t1 trip_k1_t1
    dsimp only
    fin_cases j
    · refine ⟨_, List.mem_cons_of_mem _ (List.mem_cons_of_mem _ (List.mem_cons_of_mem _ List.mem_cons_self)), ?_⟩; intro y hy; dsimp only; exact mem_piece s0 y hy
    · refine ⟨_, List.mem_cons_of_mem _ (List.mem_cons_of_mem _ List.mem_cons_self), ?_⟩; intro y hy; dsimp only; exact mem_piece s1 y hy
    · refine ⟨_, List.mem_cons_of_mem _ List.mem_cons_self, ?_⟩; intro y hy; dsimp only; exact mem_piece s2 y hy
    · refine ⟨_, List.mem_cons_self, ?_⟩; intro y hy; dsimp only; exact mem_piece s3 y hy

/-- The rectangles of loop 2 in coordinates. -/
theorem geo_t2 : k1_t2_loop.trips = 12 ∧ ∀ k : Fin k1_t2_loop.trips,
    k1_off7 k = ![32 * (12 * 0 + k.val), 0] ∧
    (k1_off8 k 0#32 = ![8 * (48 * 0 + 4 * k.val + 0), 0] ∧ k1_off8 k 8#32 = ![8 * (48 * 0 + 4 * k.val + 1), 0] ∧
     k1_off8 k 16#32 = ![8 * (48 * 0 + 4 * k.val + 2), 0] ∧ k1_off8 k 24#32 = ![8 * (48 * 0 + 4 * k.val + 3), 0]) ∧
    (k1_off9 k 0#32 = ![384 * 0 + 32 * k.val + 8 * 0, 128 * 1] ∧ k1_off9 k 8#32 = ![384 * 0 + 32 * k.val + 8 * 1, 128 * 1] ∧
     k1_off9 k 16#32 = ![384 * 0 + 32 * k.val + 8 * 2, 128 * 1] ∧ k1_off9 k 24#32 = ![384 * 0 + 32 * k.val + 8 * 3, 128 * 1]) := by
  decide +kernel

/-- Loop 2 writes pieces of the dequantised block, and reaches codebook 0's rows in half 1. -/
theorem loop_t2 :
    (∀ p ∈ pb_k1_t2 (F := F) 𝒱 c bd i arg2 harg2 arg3 harg3 arg4 harg4 arg5 harg5 arg6 harg6 arg7 harg7 arg8 harg8 arg9 harg9 arg10 harg10 arg11 harg11 arg12 harg12 arg0 k1_h3 v9 (tab 0 1) (sc 0 1) X4 X6 k1_t2_loop.trips,
      Good v9 arg0 sc tab (arg4.view.read (Elt F) X4) (arg6.view.read (Elt F) X6) p) ∧
    Covers 0 1 (pb_k1_t2 (F := F) 𝒱 c bd i arg2 harg2 arg3 harg3 arg4 harg4 arg5 harg5 arg6 harg6 arg7 harg7 arg8 harg8 arg9 harg9 arg10 harg10 arg11 harg11 arg12 harg12 arg0 k1_h3 v9 (tab 0 1) (sc 0 1) X4 X6 k1_t2_loop.trips) := by
  obtain ⟨hn, hg⟩ := geo_t2
  constructor
  · refine pb_all _ (tripL_k1_t2 (F := F) 𝒱 c bd i arg2 harg2 arg3 harg3 arg4 harg4 arg5 harg5 arg6 harg6 arg7 harg7 arg8 harg8 arg9 harg9 arg10 harg10 arg11 harg11 arg12 harg12 arg0 k1_h3 v9 (tab 0 1) (sc 0 1) X4 X6) rfl
      (fun k => pb_k1_t2_succ 𝒱 c bd i arg2 harg2 arg3 harg3 arg4 harg4 arg5 harg5 arg6 harg6 arg7 harg7 arg8 harg8 arg9 harg9 arg10 harg10 arg11 harg11 arg12 harg12 arg0 k1_h3 v9 (tab 0 1) (sc 0 1) X4 X6 k) _ ?_ _ le_rfl
    intro k p hp
    obtain ⟨g4, ⟨r0, r1, r2, r3⟩, s0, s1, s2, s3⟩ := hg k
    have hk : k.val < 12 := hn ▸ k.isLt
    unfold tripL_k1_t2 trip_k1_t2 at hp
    dsimp only at hp
    simp only [List.mem_cons, List.not_mem_nil, or_false] at hp
    rcases hp with rfl | rfl | rfl | rfl
    · exact piece_good v9 arg0 sc tab arg4.view X4 arg6.view X6 0 k.val 3 1 (by omega) hk (by omega) (by omega)
        s3 g4 r3 (offs := ![24, 0]) rfl _ _ slices_S32x128_o24_0_S8x128 64#32 (Scalar.addi (Scalar.muli 2#32 arg0) 1#32) rfl rfl rfl
    · exact piece_good v9 arg0 sc tab arg4.view X4 arg6.view X6 0 k.val 2 1 (by omega) hk (by omega) (by omega)
        s2 g4 r2 (offs := ![16, 0]) rfl _ _ slices_S32x128_o16_0_S8x128 64#32 (Scalar.addi (Scalar.muli 2#32 arg0) 1#32) rfl rfl rfl
    · exact piece_good v9 arg0 sc tab arg4.view X4 arg6.view X6 0 k.val 1 1 (by omega) hk (by omega) (by omega)
        s1 g4 r1 (offs := ![8, 0]) rfl _ _ slices_S32x128_o8_0_S8x128 64#32 (Scalar.addi (Scalar.muli 2#32 arg0) 1#32) rfl rfl rfl
    · exact piece_good v9 arg0 sc tab arg4.view X4 arg6.view X6 0 k.val 0 1 (by omega) hk (by omega) (by omega)
        s0 g4 r0 (offs := ![0, 0]) rfl _ _ slices_S32x128_o0_0_S8x128 64#32 (Scalar.addi (Scalar.muli 2#32 arg0) 1#32) rfl rfl rfl
  · refine covers_of hn _ (tripL_k1_t2 (F := F) 𝒱 c bd i arg2 harg2 arg3 harg3 arg4 harg4 arg5 harg5 arg6 harg6 arg7 harg7 arg8 harg8 arg9 harg9 arg10 harg10 arg11 harg11 arg12 harg12 arg0 k1_h3 v9 (tab 0 1) (sc 0 1) X4 X6)
      (fun k => pb_k1_t2_succ 𝒱 c bd i arg2 harg2 arg3 harg3 arg4 harg4 arg5 harg5 arg6 harg6 arg7 harg7 arg8 harg8 arg9 harg9 arg10 harg10 arg11 harg11 arg12 harg12 arg0 k1_h3 v9 (tab 0 1) (sc 0 1) X4 X6 k) 0 1 ?_
    intro k j
    obtain ⟨-, -, s0, s1, s2, s3⟩ := hg k
    unfold tripL_k1_t2 trip_k1_t2
    dsimp only
    fin_cases j
    · refine ⟨_, List.mem_cons_of_mem _ (List.mem_cons_of_mem _ (List.mem_cons_of_mem _ List.mem_cons_self)), ?_⟩; intro y hy; dsimp only; exact mem_piece s0 y hy
    · refine ⟨_, List.mem_cons_of_mem _ (List.mem_cons_of_mem _ List.mem_cons_self), ?_⟩; intro y hy; dsimp only; exact mem_piece s1 y hy
    · refine ⟨_, List.mem_cons_of_mem _ List.mem_cons_self, ?_⟩; intro y hy; dsimp only; exact mem_piece s2 y hy
    · refine ⟨_, List.mem_cons_self, ?_⟩; intro y hy; dsimp only; exact mem_piece s3 y hy

/-- The rectangles of loop 3 in coordinates. -/
theorem geo_t3 : k1_t3_loop.trips = 12 ∧ ∀ k : Fin k1_t3_loop.trips,
    k1_off12 k = ![32 * (12 * 1 + k.val), 0] ∧
    (k1_off13 k 0#32 = ![8 * (48 * 1 + 4 * k.val + 0), 0] ∧ k1_off13 k 8#32 = ![8 * (48 * 1 + 4 * k.val + 1), 0] ∧
     k1_off13 k 16#32 = ![8 * (48 * 1 + 4 * k.val + 2), 0] ∧ k1_off13 k 24#32 = ![8 * (48 * 1 + 4 * k.val + 3), 0]) ∧
    (k1_off14 k 0#32 = ![384 * 1 + 32 * k.val + 8 * 0, 128 * 0] ∧ k1_off14 k 8#32 = ![384 * 1 + 32 * k.val + 8 * 1, 128 * 0] ∧
     k1_off14 k 16#32 = ![384 * 1 + 32 * k.val + 8 * 2, 128 * 0] ∧ k1_off14 k 24#32 = ![384 * 1 + 32 * k.val + 8 * 3, 128 * 0]) := by
  decide +kernel

/-- Loop 3 writes pieces of the dequantised block, and reaches codebook 1's rows in half 0. -/
theorem loop_t3 :
    (∀ p ∈ pb_k1_t3 (F := F) 𝒱 c bd i arg2 harg2 arg3 harg3 arg4 harg4 arg5 harg5 arg6 harg6 arg7 harg7 arg8 harg8 arg9 harg9 arg10 harg10 arg11 harg11 arg12 harg12 arg0 k1_h3 v9 (k1_pay104 (tab 1 0)) (sc 1 0) X4 X6 k1_t3_loop.trips,
      Good v9 arg0 sc tab (arg4.view.read (Elt F) X4) (arg6.view.read (Elt F) X6) p) ∧
    Covers 1 0 (pb_k1_t3 (F := F) 𝒱 c bd i arg2 harg2 arg3 harg3 arg4 harg4 arg5 harg5 arg6 harg6 arg7 harg7 arg8 harg8 arg9 harg9 arg10 harg10 arg11 harg11 arg12 harg12 arg0 k1_h3 v9 (k1_pay104 (tab 1 0)) (sc 1 0) X4 X6 k1_t3_loop.trips) := by
  obtain ⟨hn, hg⟩ := geo_t3
  constructor
  · refine pb_all _ (tripL_k1_t3 (F := F) 𝒱 c bd i arg2 harg2 arg3 harg3 arg4 harg4 arg5 harg5 arg6 harg6 arg7 harg7 arg8 harg8 arg9 harg9 arg10 harg10 arg11 harg11 arg12 harg12 arg0 k1_h3 v9 (k1_pay104 (tab 1 0)) (sc 1 0) X4 X6) rfl
      (fun k => pb_k1_t3_succ 𝒱 c bd i arg2 harg2 arg3 harg3 arg4 harg4 arg5 harg5 arg6 harg6 arg7 harg7 arg8 harg8 arg9 harg9 arg10 harg10 arg11 harg11 arg12 harg12 arg0 k1_h3 v9 (k1_pay104 (tab 1 0)) (sc 1 0) X4 X6 k) _ ?_ _ le_rfl
    intro k p hp
    obtain ⟨g4, ⟨r0, r1, r2, r3⟩, s0, s1, s2, s3⟩ := hg k
    have hk : k.val < 12 := hn ▸ k.isLt
    unfold tripL_k1_t3 trip_k1_t3 at hp
    dsimp only at hp
    simp only [List.mem_cons, List.not_mem_nil, or_false] at hp
    rcases hp with rfl | rfl | rfl | rfl
    · exact piece_good v9 arg0 sc tab arg4.view X4 arg6.view X6 1 k.val 3 0 (by omega) hk (by omega) (by omega)
        s3 g4 r3 (offs := ![24, 0]) rfl _ _ slices_S32x128_o24_0_S8x128 0#32 (Scalar.addi (Scalar.muli 2#32 arg0) 0#32) rfl rfl rfl
    · exact piece_good v9 arg0 sc tab arg4.view X4 arg6.view X6 1 k.val 2 0 (by omega) hk (by omega) (by omega)
        s2 g4 r2 (offs := ![16, 0]) rfl _ _ slices_S32x128_o16_0_S8x128 0#32 (Scalar.addi (Scalar.muli 2#32 arg0) 0#32) rfl rfl rfl
    · exact piece_good v9 arg0 sc tab arg4.view X4 arg6.view X6 1 k.val 1 0 (by omega) hk (by omega) (by omega)
        s1 g4 r1 (offs := ![8, 0]) rfl _ _ slices_S32x128_o8_0_S8x128 0#32 (Scalar.addi (Scalar.muli 2#32 arg0) 0#32) rfl rfl rfl
    · exact piece_good v9 arg0 sc tab arg4.view X4 arg6.view X6 1 k.val 0 0 (by omega) hk (by omega) (by omega)
        s0 g4 r0 (offs := ![0, 0]) rfl _ _ slices_S32x128_o0_0_S8x128 0#32 (Scalar.addi (Scalar.muli 2#32 arg0) 0#32) rfl rfl rfl
  · refine covers_of hn _ (tripL_k1_t3 (F := F) 𝒱 c bd i arg2 harg2 arg3 harg3 arg4 harg4 arg5 harg5 arg6 harg6 arg7 harg7 arg8 harg8 arg9 harg9 arg10 harg10 arg11 harg11 arg12 harg12 arg0 k1_h3 v9 (k1_pay104 (tab 1 0)) (sc 1 0) X4 X6)
      (fun k => pb_k1_t3_succ 𝒱 c bd i arg2 harg2 arg3 harg3 arg4 harg4 arg5 harg5 arg6 harg6 arg7 harg7 arg8 harg8 arg9 harg9 arg10 harg10 arg11 harg11 arg12 harg12 arg0 k1_h3 v9 (k1_pay104 (tab 1 0)) (sc 1 0) X4 X6 k) 1 0 ?_
    intro k j
    obtain ⟨-, -, s0, s1, s2, s3⟩ := hg k
    unfold tripL_k1_t3 trip_k1_t3
    dsimp only
    fin_cases j
    · refine ⟨_, List.mem_cons_of_mem _ (List.mem_cons_of_mem _ (List.mem_cons_of_mem _ List.mem_cons_self)), ?_⟩; intro y hy; dsimp only; exact mem_piece s0 y hy
    · refine ⟨_, List.mem_cons_of_mem _ (List.mem_cons_of_mem _ List.mem_cons_self), ?_⟩; intro y hy; dsimp only; exact mem_piece s1 y hy
    · refine ⟨_, List.mem_cons_of_mem _ List.mem_cons_self, ?_⟩; intro y hy; dsimp only; exact mem_piece s2 y hy
    · refine ⟨_, List.mem_cons_self, ?_⟩; intro y hy; dsimp only; exact mem_piece s3 y hy

/-- The rectangles of loop 4 in coordinates. -/
theorem geo_t4 : k1_t4_loop.trips = 12 ∧ ∀ k : Fin k1_t4_loop.trips,
    k1_off15 k = ![32 * (12 * 1 + k.val), 0] ∧
    (k1_off16 k 0#32 = ![8 * (48 * 1 + 4 * k.val + 0), 0] ∧ k1_off16 k 8#32 = ![8 * (48 * 1 + 4 * k.val + 1), 0] ∧
     k1_off16 k 16#32 = ![8 * (48 * 1 + 4 * k.val + 2), 0] ∧ k1_off16 k 24#32 = ![8 * (48 * 1 + 4 * k.val + 3), 0]) ∧
    (k1_off17 k 0#32 = ![384 * 1 + 32 * k.val + 8 * 0, 128 * 1] ∧ k1_off17 k 8#32 = ![384 * 1 + 32 * k.val + 8 * 1, 128 * 1] ∧
     k1_off17 k 16#32 = ![384 * 1 + 32 * k.val + 8 * 2, 128 * 1] ∧ k1_off17 k 24#32 = ![384 * 1 + 32 * k.val + 8 * 3, 128 * 1]) := by
  decide +kernel

/-- Loop 4 writes pieces of the dequantised block, and reaches codebook 1's rows in half 1. -/
theorem loop_t4 (v40 : IVec S1x1x128 32) :
    (∀ p ∈ pb_k1_t4 (F := F) 𝒱 c bd i arg2 harg2 arg3 harg3 arg4 harg4 arg5 harg5 arg6 harg6 arg7 harg7 arg8 harg8 arg9 harg9 arg10 harg10 arg11 harg11 arg12 harg12 arg0 k1_h3 v9 v40 (tab 1 1) (sc 1 1) X4 X6 k1_t4_loop.trips,
      Good v9 arg0 sc tab (arg4.view.read (Elt F) X4) (arg6.view.read (Elt F) X6) p) ∧
    Covers 1 1 (pb_k1_t4 (F := F) 𝒱 c bd i arg2 harg2 arg3 harg3 arg4 harg4 arg5 harg5 arg6 harg6 arg7 harg7 arg8 harg8 arg9 harg9 arg10 harg10 arg11 harg11 arg12 harg12 arg0 k1_h3 v9 v40 (tab 1 1) (sc 1 1) X4 X6 k1_t4_loop.trips) := by
  obtain ⟨hn, hg⟩ := geo_t4
  constructor
  · refine pb_all _ (tripL_k1_t4 (F := F) 𝒱 c bd i arg2 harg2 arg3 harg3 arg4 harg4 arg5 harg5 arg6 harg6 arg7 harg7 arg8 harg8 arg9 harg9 arg10 harg10 arg11 harg11 arg12 harg12 arg0 k1_h3 v9 v40 (tab 1 1) (sc 1 1) X4 X6) rfl
      (fun k => pb_k1_t4_succ 𝒱 c bd i arg2 harg2 arg3 harg3 arg4 harg4 arg5 harg5 arg6 harg6 arg7 harg7 arg8 harg8 arg9 harg9 arg10 harg10 arg11 harg11 arg12 harg12 arg0 k1_h3 v9 v40 (tab 1 1) (sc 1 1) X4 X6 k) _ ?_ _ le_rfl
    intro k p hp
    obtain ⟨g4, ⟨r0, r1, r2, r3⟩, s0, s1, s2, s3⟩ := hg k
    have hk : k.val < 12 := hn ▸ k.isLt
    unfold tripL_k1_t4 trip_k1_t4 at hp
    dsimp only at hp
    simp only [List.mem_cons, List.not_mem_nil, or_false] at hp
    rcases hp with rfl | rfl | rfl | rfl
    · exact piece_good v9 arg0 sc tab arg4.view X4 arg6.view X6 1 k.val 3 1 (by omega) hk (by omega) (by omega)
        s3 g4 r3 (offs := ![24, 0]) rfl _ _ slices_S32x128_o24_0_S8x128 64#32 (Scalar.addi (Scalar.muli 2#32 arg0) 1#32) rfl rfl rfl
    · exact piece_good v9 arg0 sc tab arg4.view X4 arg6.view X6 1 k.val 2 1 (by omega) hk (by omega) (by omega)
        s2 g4 r2 (offs := ![16, 0]) rfl _ _ slices_S32x128_o16_0_S8x128 64#32 (Scalar.addi (Scalar.muli 2#32 arg0) 1#32) rfl rfl rfl
    · exact piece_good v9 arg0 sc tab arg4.view X4 arg6.view X6 1 k.val 1 1 (by omega) hk (by omega) (by omega)
        s1 g4 r1 (offs := ![8, 0]) rfl _ _ slices_S32x128_o8_0_S8x128 64#32 (Scalar.addi (Scalar.muli 2#32 arg0) 1#32) rfl rfl rfl
    · exact piece_good v9 arg0 sc tab arg4.view X4 arg6.view X6 1 k.val 0 1 (by omega) hk (by omega) (by omega)
        s0 g4 r0 (offs := ![0, 0]) rfl _ _ slices_S32x128_o0_0_S8x128 64#32 (Scalar.addi (Scalar.muli 2#32 arg0) 1#32) rfl rfl rfl
  · refine covers_of hn _ (tripL_k1_t4 (F := F) 𝒱 c bd i arg2 harg2 arg3 harg3 arg4 harg4 arg5 harg5 arg6 harg6 arg7 harg7 arg8 harg8 arg9 harg9 arg10 harg10 arg11 harg11 arg12 harg12 arg0 k1_h3 v9 v40 (tab 1 1) (sc 1 1) X4 X6)
      (fun k => pb_k1_t4_succ 𝒱 c bd i arg2 harg2 arg3 harg3 arg4 harg4 arg5 harg5 arg6 harg6 arg7 harg7 arg8 harg8 arg9 harg9 arg10 harg10 arg11 harg11 arg12 harg12 arg0 k1_h3 v9 v40 (tab 1 1) (sc 1 1) X4 X6 k) 1 1 ?_
    intro k j
    obtain ⟨-, -, s0, s1, s2, s3⟩ := hg k
    unfold tripL_k1_t4 trip_k1_t4
    dsimp only
    fin_cases j
    · refine ⟨_, List.mem_cons_of_mem _ (List.mem_cons_of_mem _ (List.mem_cons_of_mem _ List.mem_cons_self)), ?_⟩; intro y hy; dsimp only; exact mem_piece s0 y hy
    · refine ⟨_, List.mem_cons_of_mem _ (List.mem_cons_of_mem _ List.mem_cons_self), ?_⟩; intro y hy; dsimp only; exact mem_piece s1 y hy
    · refine ⟨_, List.mem_cons_of_mem _ List.mem_cons_self, ?_⟩; intro y hy; dsimp only; exact mem_piece s2 y hy
    · refine ⟨_, List.mem_cons_self, ?_⟩; intro y hy; dsimp only; exact mem_piece s3 y hy

/-- The rectangles of loop 5 in coordinates. -/
theorem geo_t5 : k1_t5_loop.trips = 12 ∧ ∀ k : Fin k1_t5_loop.trips,
    k1_off20 k = ![32 * (12 * 2 + k.val), 0] ∧
    (k1_off21 k 0#32 = ![8 * (48 * 2 + 4 * k.val + 0), 0] ∧ k1_off21 k 8#32 = ![8 * (48 * 2 + 4 * k.val + 1), 0] ∧
     k1_off21 k 16#32 = ![8 * (48 * 2 + 4 * k.val + 2), 0] ∧ k1_off21 k 24#32 = ![8 * (48 * 2 + 4 * k.val + 3), 0]) ∧
    (k1_off22 k 0#32 = ![384 * 2 + 32 * k.val + 8 * 0, 128 * 0] ∧ k1_off22 k 8#32 = ![384 * 2 + 32 * k.val + 8 * 1, 128 * 0] ∧
     k1_off22 k 16#32 = ![384 * 2 + 32 * k.val + 8 * 2, 128 * 0] ∧ k1_off22 k 24#32 = ![384 * 2 + 32 * k.val + 8 * 3, 128 * 0]) := by
  decide +kernel

/-- Loop 5 writes pieces of the dequantised block, and reaches codebook 2's rows in half 0. -/
theorem loop_t5 :
    (∀ p ∈ pb_k1_t5 (F := F) 𝒱 c bd i arg2 harg2 arg3 harg3 arg4 harg4 arg5 harg5 arg6 harg6 arg7 harg7 arg8 harg8 arg9 harg9 arg10 harg10 arg11 harg11 arg12 harg12 arg0 k1_h3 v9 (k1_pay109 (tab 2 0)) (sc 2 0) X4 X6 k1_t5_loop.trips,
      Good v9 arg0 sc tab (arg4.view.read (Elt F) X4) (arg6.view.read (Elt F) X6) p) ∧
    Covers 2 0 (pb_k1_t5 (F := F) 𝒱 c bd i arg2 harg2 arg3 harg3 arg4 harg4 arg5 harg5 arg6 harg6 arg7 harg7 arg8 harg8 arg9 harg9 arg10 harg10 arg11 harg11 arg12 harg12 arg0 k1_h3 v9 (k1_pay109 (tab 2 0)) (sc 2 0) X4 X6 k1_t5_loop.trips) := by
  obtain ⟨hn, hg⟩ := geo_t5
  constructor
  · refine pb_all _ (tripL_k1_t5 (F := F) 𝒱 c bd i arg2 harg2 arg3 harg3 arg4 harg4 arg5 harg5 arg6 harg6 arg7 harg7 arg8 harg8 arg9 harg9 arg10 harg10 arg11 harg11 arg12 harg12 arg0 k1_h3 v9 (k1_pay109 (tab 2 0)) (sc 2 0) X4 X6) rfl
      (fun k => pb_k1_t5_succ 𝒱 c bd i arg2 harg2 arg3 harg3 arg4 harg4 arg5 harg5 arg6 harg6 arg7 harg7 arg8 harg8 arg9 harg9 arg10 harg10 arg11 harg11 arg12 harg12 arg0 k1_h3 v9 (k1_pay109 (tab 2 0)) (sc 2 0) X4 X6 k) _ ?_ _ le_rfl
    intro k p hp
    obtain ⟨g4, ⟨r0, r1, r2, r3⟩, s0, s1, s2, s3⟩ := hg k
    have hk : k.val < 12 := hn ▸ k.isLt
    unfold tripL_k1_t5 trip_k1_t5 at hp
    dsimp only at hp
    simp only [List.mem_cons, List.not_mem_nil, or_false] at hp
    rcases hp with rfl | rfl | rfl | rfl
    · exact piece_good v9 arg0 sc tab arg4.view X4 arg6.view X6 2 k.val 3 0 (by omega) hk (by omega) (by omega)
        s3 g4 r3 (offs := ![24, 0]) rfl _ _ slices_S32x128_o24_0_S8x128 0#32 (Scalar.addi (Scalar.muli 2#32 arg0) 0#32) rfl rfl rfl
    · exact piece_good v9 arg0 sc tab arg4.view X4 arg6.view X6 2 k.val 2 0 (by omega) hk (by omega) (by omega)
        s2 g4 r2 (offs := ![16, 0]) rfl _ _ slices_S32x128_o16_0_S8x128 0#32 (Scalar.addi (Scalar.muli 2#32 arg0) 0#32) rfl rfl rfl
    · exact piece_good v9 arg0 sc tab arg4.view X4 arg6.view X6 2 k.val 1 0 (by omega) hk (by omega) (by omega)
        s1 g4 r1 (offs := ![8, 0]) rfl _ _ slices_S32x128_o8_0_S8x128 0#32 (Scalar.addi (Scalar.muli 2#32 arg0) 0#32) rfl rfl rfl
    · exact piece_good v9 arg0 sc tab arg4.view X4 arg6.view X6 2 k.val 0 0 (by omega) hk (by omega) (by omega)
        s0 g4 r0 (offs := ![0, 0]) rfl _ _ slices_S32x128_o0_0_S8x128 0#32 (Scalar.addi (Scalar.muli 2#32 arg0) 0#32) rfl rfl rfl
  · refine covers_of hn _ (tripL_k1_t5 (F := F) 𝒱 c bd i arg2 harg2 arg3 harg3 arg4 harg4 arg5 harg5 arg6 harg6 arg7 harg7 arg8 harg8 arg9 harg9 arg10 harg10 arg11 harg11 arg12 harg12 arg0 k1_h3 v9 (k1_pay109 (tab 2 0)) (sc 2 0) X4 X6)
      (fun k => pb_k1_t5_succ 𝒱 c bd i arg2 harg2 arg3 harg3 arg4 harg4 arg5 harg5 arg6 harg6 arg7 harg7 arg8 harg8 arg9 harg9 arg10 harg10 arg11 harg11 arg12 harg12 arg0 k1_h3 v9 (k1_pay109 (tab 2 0)) (sc 2 0) X4 X6 k) 2 0 ?_
    intro k j
    obtain ⟨-, -, s0, s1, s2, s3⟩ := hg k
    unfold tripL_k1_t5 trip_k1_t5
    dsimp only
    fin_cases j
    · refine ⟨_, List.mem_cons_of_mem _ (List.mem_cons_of_mem _ (List.mem_cons_of_mem _ List.mem_cons_self)), ?_⟩; intro y hy; dsimp only; exact mem_piece s0 y hy
    · refine ⟨_, List.mem_cons_of_mem _ (List.mem_cons_of_mem _ List.mem_cons_self), ?_⟩; intro y hy; dsimp only; exact mem_piece s1 y hy
    · refine ⟨_, List.mem_cons_of_mem _ List.mem_cons_self, ?_⟩; intro y hy; dsimp only; exact mem_piece s2 y hy
    · refine ⟨_, List.mem_cons_self, ?_⟩; intro y hy; dsimp only; exact mem_piece s3 y hy

/-- The rectangles of loop 6 in coordinates. -/
theorem geo_t6 : k1_t6_loop.trips = 12 ∧ ∀ k : Fin k1_t6_loop.trips,
    k1_off23 k = ![32 * (12 * 2 + k.val), 0] ∧
    (k1_off24 k 0#32 = ![8 * (48 * 2 + 4 * k.val + 0), 0] ∧ k1_off24 k 8#32 = ![8 * (48 * 2 + 4 * k.val + 1), 0] ∧
     k1_off24 k 16#32 = ![8 * (48 * 2 + 4 * k.val + 2), 0] ∧ k1_off24 k 24#32 = ![8 * (48 * 2 + 4 * k.val + 3), 0]) ∧
    (k1_off25 k 0#32 = ![384 * 2 + 32 * k.val + 8 * 0, 128 * 1] ∧ k1_off25 k 8#32 = ![384 * 2 + 32 * k.val + 8 * 1, 128 * 1] ∧
     k1_off25 k 16#32 = ![384 * 2 + 32 * k.val + 8 * 2, 128 * 1] ∧ k1_off25 k 24#32 = ![384 * 2 + 32 * k.val + 8 * 3, 128 * 1]) := by
  decide +kernel

/-- Loop 6 writes pieces of the dequantised block, and reaches codebook 2's rows in half 1. -/
theorem loop_t6 (v69 : IVec S8x128 32) (v73 : Elt F .f32) :
    (∀ p ∈ pb_k1_t6 (F := F) 𝒱 c bd i arg2 harg2 arg3 harg3 arg4 harg4 arg5 harg5 arg6 harg6 arg7 harg7 arg8 harg8 arg9 harg9 arg10 harg10 arg11 harg11 arg12 harg12 arg0 k1_h3 v9 v69 v73 (tab 2 1) (sc 2 1) X4 X6 k1_t6_loop.trips,
      Good v9 arg0 sc tab (arg4.view.read (Elt F) X4) (arg6.view.read (Elt F) X6) p) ∧
    Covers 2 1 (pb_k1_t6 (F := F) 𝒱 c bd i arg2 harg2 arg3 harg3 arg4 harg4 arg5 harg5 arg6 harg6 arg7 harg7 arg8 harg8 arg9 harg9 arg10 harg10 arg11 harg11 arg12 harg12 arg0 k1_h3 v9 v69 v73 (tab 2 1) (sc 2 1) X4 X6 k1_t6_loop.trips) := by
  obtain ⟨hn, hg⟩ := geo_t6
  constructor
  · refine pb_all _ (tripL_k1_t6 (F := F) 𝒱 c bd i arg2 harg2 arg3 harg3 arg4 harg4 arg5 harg5 arg6 harg6 arg7 harg7 arg8 harg8 arg9 harg9 arg10 harg10 arg11 harg11 arg12 harg12 arg0 k1_h3 v9 v69 v73 (tab 2 1) (sc 2 1) X4 X6) rfl
      (fun k => pb_k1_t6_succ 𝒱 c bd i arg2 harg2 arg3 harg3 arg4 harg4 arg5 harg5 arg6 harg6 arg7 harg7 arg8 harg8 arg9 harg9 arg10 harg10 arg11 harg11 arg12 harg12 arg0 k1_h3 v9 v69 v73 (tab 2 1) (sc 2 1) X4 X6 k) _ ?_ _ le_rfl
    intro k p hp
    obtain ⟨g4, ⟨r0, r1, r2, r3⟩, s0, s1, s2, s3⟩ := hg k
    have hk : k.val < 12 := hn ▸ k.isLt
    unfold tripL_k1_t6 trip_k1_t6 at hp
    dsimp only at hp
    simp only [List.mem_cons, List.not_mem_nil, or_false] at hp
    rcases hp with rfl | rfl | rfl | rfl
    · exact piece_good v9 arg0 sc tab arg4.view X4 arg6.view X6 2 k.val 3 1 (by omega) hk (by omega) (by omega)
        s3 g4 r3 (offs := ![24, 0]) rfl _ _ slices_S32x128_o24_0_S8x128 64#32 (Scalar.addi (Scalar.muli 2#32 arg0) 1#32) rfl rfl rfl
    · exact piece_good v9 arg0 sc tab arg4.view X4 arg6.view X6 2 k.val 2 1 (by omega) hk (by omega) (by omega)
        s2 g4 r2 (offs := ![16, 0]) rfl _ _ slices_S32x128_o16_0_S8x128 64#32 (Scalar.addi (Scalar.muli 2#32 arg0) 1#32) rfl rfl rfl
    · exact piece_good v9 arg0 sc tab arg4.view X4 arg6.view X6 2 k.val 1 1 (by omega) hk (by omega) (by omega)
        s1 g4 r1 (offs := ![8, 0]) rfl _ _ slices_S32x128_o8_0_S8x128 64#32 (Scalar.addi (Scalar.muli 2#32 arg0) 1#32) rfl rfl rfl
    · exact piece_good v9 arg0 sc tab arg4.view X4 arg6.view X6 2 k.val 0 1 (by omega) hk (by omega) (by omega)
        s0 g4 r0 (offs := ![0, 0]) rfl _ _ slices_S32x128_o0_0_S8x128 64#32 (Scalar.addi (Scalar.muli 2#32 arg0) 1#32) rfl rfl rfl
  · refine covers_of hn _ (tripL_k1_t6 (F := F) 𝒱 c bd i arg2 harg2 arg3 harg3 arg4 harg4 arg5 harg5 arg6 harg6 arg7 harg7 arg8 harg8 arg9 harg9 arg10 harg10 arg11 harg11 arg12 harg12 arg0 k1_h3 v9 v69 v73 (tab 2 1) (sc 2 1) X4 X6)
      (fun k => pb_k1_t6_succ 𝒱 c bd i arg2 harg2 arg3 harg3 arg4 harg4 arg5 harg5 arg6 harg6 arg7 harg7 arg8 harg8 arg9 harg9 arg10 harg10 arg11 harg11 arg12 harg12 arg0 k1_h3 v9 v69 v73 (tab 2 1) (sc 2 1) X4 X6 k) 2 1 ?_
    intro k j
    obtain ⟨-, -, s0, s1, s2, s3⟩ := hg k
    unfold tripL_k1_t6 trip_k1_t6
    dsimp only
    fin_cases j
    · refine ⟨_, List.mem_cons_of_mem _ (List.mem_cons_of_mem _ (List.mem_cons_of_mem _ List.mem_cons_self)), ?_⟩; intro y hy; dsimp only; exact mem_piece s0 y hy
    · refine ⟨_, List.mem_cons_of_mem _ (List.mem_cons_of_mem _ List.mem_cons_self), ?_⟩; intro y hy; dsimp only; exact mem_piece s1 y hy
    · refine ⟨_, List.mem_cons_of_mem _ List.mem_cons_self, ?_⟩; intro y hy; dsimp only; exact mem_piece s2 y hy
    · refine ⟨_, List.mem_cons_self, ?_⟩; intro y hy; dsimp only; exact mem_piece s3 y hy

end Loops

/-- Six lists of good pieces that between them reach every place, written over anything, leave the
dequantised block. -/
theorem writes_six {v : View sig .tc .vmem S1152x256 .f32} (v9 : IVec S8x128 32) (arg0 : BitVec 32) (sc : ℕ → ℕ → Elt F .f32)
    (tab : ℕ → ℕ → Vec F S1x1x128 .i32) (x2 : Vec F S1152x128 .i8) (x4 : Vec F S1152x128 .f32)
    (f : BufTy.Contents (Elt F) v.ty) (L : List (View.Piece (Elt F) S1152x256 .f32))
    (hg : ∀ p ∈ L, Good v9 arg0 sc tab x2 x4 p)
    (hc : ∀ m < 3, ∀ h < 2, Covers m h L) :
    v.read (Elt F) (v.writes (Elt F) f L) = dqG v9 arg0 sc tab x2 x4 := by
  funext y
  have h0 : (y 0).val < 1152 := (y 0).isLt
  have h1 : (y 1).val < 256 := (y 1).isLt
  exact View.read_writes_apply_of_pieces v f _ L hg y
    (hc ((y 0).val / 384) (by omega) ((y 1).val / 128) (by omega) y rfl rfl)

end Cert.KernelIdeal.Gen
-- ==== Proof.KI.Region1Six.lean ====
module

public import proofs.«01_k».proof.Proof.KI.Region1Dq
public import proofs.«01_k».proof.Proof.KI.Region0
public import Idealize.ShloMosaic.Lib.VecWindow

/-! # The six loops together

The values the loops read — table rows and codebook scales — by their coordinates, and the block the
six loops leave. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The place (`p`, `q`, `r`) of a three-dimensional array, each coordinate modulo the size. -/
def ix3 {m n o : ℕ} (hm : 0 < m) (hn : 0 < n) (ho : 0 < o) (p q r : ℕ) : (⟨3, ![m, n, o]⟩ : Shape).Idx :=
  Fin.cons (α := fun a : Fin 3 => Fin ((⟨3, ![m, n, o]⟩ : Shape).size a)) ⟨p % m, Nat.mod_lt _ hm⟩
    (Fin.cons (α := fun a : Fin 2 => Fin ((⟨3, ![m, n, o]⟩ : Shape).size a.succ)) ⟨q % n, Nat.mod_lt _ hn⟩
      (Fin.cons (α := fun a : Fin 1 => Fin ((⟨3, ![m, n, o]⟩ : Shape).size a.succ.succ)) ⟨r % o, Nat.mod_lt _ ho⟩ (fun a => a.elim0)))

/-- Two places of a three-dimensional array with the same coordinates are the same place. -/
theorem idx3_ext {m n o : ℕ} {x y : (⟨3, ![m, n, o]⟩ : Shape).Idx} (h0 : (x 0).val = (y 0).val)
    (h1 : (x 1).val = (y 1).val) (h2 : (x 2).val = (y 2).val) : x = y := by
  funext a; apply Fin.ext; fin_cases a
  · exact h0
  · exact h1
  · exact h2

theorem ix3_zero {m n o : ℕ} (hm : 0 < m) (hn : 0 < n) (ho : 0 < o) (p q r : ℕ) : ((ix3 hm hn ho p q r) 0).val = p % m := rfl
theorem ix3_one {m n o : ℕ} (hm : 0 < m) (hn : 0 < n) (ho : 0 < o) (p q r : ℕ) : ((ix3 hm hn ho p q r) 1).val = q % n := rfl
theorem ix3_two {m n o : ℕ} (hm : 0 < m) (hn : 0 < n) (ho : 0 < o) (p q r : ℕ) : ((ix3 hm hn ho p q r) 2).val = r % o := rfl

/-- The table row of codebook `m` and column group `2 * b + h`. -/
def tabOf (x3 : Vec F S3x32x128 .i32) (b m h : ℕ) : Vec F S1x1x128 .i32 := fun y =>
  x3 (ix3 (by decide) (by decide) (by decide) m (2 * b + h) (y 2).val)

/-- The codebook scale of codebook `m` and column group `2 * b + h`. -/
def scOf (x0 : Vec F S3x32 .f32) (b m h : ℕ) : Elt F .f32 := x0 (ix2 (by decide) (by decide) m (2 * b + h))

/-- The dequantised block of column tile `b`. -/
def dq (b : ℕ) (x0 : Vec F S3x32 .f32) (x2 : Vec F S1152x128 .i8) (x3 : Vec F S3x32x128 .i32)
    (x4 : Vec F S1152x128 .f32) : Vec F S1152x256 .f32 :=
  dqG (iota Kind.tc S8x128 32 [1] iota_S8x128_d1_w32) (BitVec.ofNat 32 b) (scOf x0 b) (tabOf x3 b) x2 x4

/-- A table row, loaded. -/
theorem load_tab (v : View sig .tc .vmem S3x32x128 .i32) (X : BufTy.Contents (Elt F) v.ty) (b m h : ℕ) (hm : m < 3)
    (hb : 2 * b + h < 32) (off : Fin 3 → ℕ) (ho : off = ![m, 2 * b + h, 0])
    (inb : ∀ a, off a + S1x1x128.size a ≤ S3x32x128.size a) :
    View.readAt (Elt F) v (Rect.unit (s := S3x32x128) off S1x1x128.size inb).toLoadRect X = tabOf (v.read (Elt F) X) b m h := by
  subst ho; funext y; unfold tabOf
  have h0 : (y 0).val < 1 := (y 0).isLt
  have h1 : (y 1).val < 1 := (y 1).isLt
  have h2 : (y 2).val < 128 := (y 2).isLt
  refine congrArg (v.read (Elt F) X) (idx3_ext ?_ ?_ ?_)
  · rw [ix3_zero, Nat.mod_eq_of_lt (by omega)]; exact (Rect.idx_unit_val _ _ _ _ _).trans (by show m + (y 0).val = m; omega)
  · rw [ix3_one, Nat.mod_eq_of_lt (by omega)]; exact (Rect.idx_unit_val _ _ _ _ _).trans (by show 2 * b + h + (y 1).val = 2 * b + h; omega)
  · rw [ix3_two, Nat.mod_eq_of_lt (by omega)]; exact (Rect.idx_unit_val _ _ _ _ _).trans (Nat.zero_add _)

/-- A codebook scale, loaded. -/
theorem load_sc (v : View sig .tc .smem S3x32 .f32) (X : BufTy.Contents (Elt F) v.ty) (b m h : ℕ) (hm : m < 3)
    (hb : 2 * b + h < 32) (off : Fin 2 → ℕ) (ho : off = ![m, 2 * b + h])
    (inb : ∀ a, off a + S1x1.size a ≤ S3x32.size a) (y : S1x1.Idx) :
    View.readAt (Elt F) v (Rect.unit (s := S3x32) off S1x1.size inb).toLoadRect X y = scOf (v.read (Elt F) X) b m h := by
  subst ho; unfold scOf
  have h0 : (y 0).val < 1 := (y 0).isLt
  have h1 : (y 1).val < 1 := (y 1).isLt
  refine congrArg (v.read (Elt F) X) (idx2_ext ?_ ?_)
  · rw [ix2_zero, Nat.mod_eq_of_lt (by omega)]; exact (Rect.idx_unit_val _ _ _ _ _).trans (by show m + (y 0).val = m; omega)
  · rw [ix2_one, Nat.mod_eq_of_lt (by omega)]; exact (Rect.idx_unit_val _ _ _ _ _).trans (by show 2 * b + h + (y 1).val = 2 * b + h; omega)

/-- The places of the table rows and scales read at grid column `b`, in coordinates. -/
theorem geo_tab : ∀ b : Fin 16, ∀ i : grid1.Coords, (i 0).val = b.val →
    (k1_off2 i 0#32 = ![0, 2 * b.val + 0, 0] ∧ k1_off2 i 1#32 = ![0, 2 * b.val + 1, 0] ∧
     k1_off10 i 0#32 = ![1, 2 * b.val + 0, 0] ∧ k1_off10 i 1#32 = ![1, 2 * b.val + 1, 0] ∧
     k1_off18 i 0#32 = ![2, 2 * b.val + 0, 0] ∧ k1_off18 i 1#32 = ![2, 2 * b.val + 1, 0]) ∧
    (k1_off3 i 0#32 = ![0, 2 * b.val + 0] ∧ k1_off3 i 1#32 = ![0, 2 * b.val + 1] ∧
     k1_off11 i 0#32 = ![1, 2 * b.val + 0] ∧ k1_off11 i 1#32 = ![1, 2 * b.val + 1] ∧
     k1_off19 i 0#32 = ![2, 2 * b.val + 0] ∧ k1_off19 i 1#32 = ![2, 2 * b.val + 1]) := by
  intro b i hi
  unfold k1_off2 k1_off10 k1_off18 k1_off3 k1_off11 k1_off19
  rw [hi]
  clear hi i; revert b
  decide +kernel

/-- A list covers what a part of it covers. -/
theorem Covers.mono {m h : ℕ} {L L' : List (View.Piece (Elt F) S1152x256 .f32)} (hc : Covers m h L)
    (hs : ∀ p ∈ L, p ∈ L') : Covers m h L' := fun y h0 h1 =>
  let ⟨p, hp, hy⟩ := hc y h0 h1; ⟨p, hs p hp, hy⟩

/-- After the six loops the block reads as the dequantised block. -/
theorem read_six (c : Dev nD) (i : grid1.Coords) (arg2 : Memref sig .tc .smem S3x32 .f32) (harg2 : arg2.IsWhole) (arg3 : Memref sig .tc .vmem S1152x256 .bf16) (harg3 : arg3.IsWhole) (arg4 : Memref sig .tc .vmem S1152x128 .i8) (harg4 : arg4.IsWhole) (arg5 : Memref sig .tc .vmem S3x32x128 .i32) (harg5 : arg5.IsWhole) (arg6 : Memref sig .tc .vmem S1152x128 .f32) (harg6 : arg6.IsWhole) (arg7 : Memref sig .tc .vmem S256x256 .f32) (harg7 : arg7.IsWhole) (arg8 : Memref sig .tc .vmem S1x256x256 .f32) (harg8 : arg8.IsWhole) (arg9 : Memref sig .tc .vmem S1152x256 .bf16) (harg9 : arg9.IsWhole) (arg10 : Memref sig .tc .vmem S1152x256 .f32) (harg10 : arg10.IsWhole) (arg11 : Memref sig .tc .vmem S1152x256 .f32) (harg11 : arg11.IsWhole) (arg12 : Memref sig .tc .vmem S16x1152x256 .f32) (harg12 : arg12.IsWhole) (h3 : k1_cond3 i = 1#1)
    (f2 : BufTy.Contents (Elt F) arg2.view.ty) (f4 : BufTy.Contents (Elt F) arg4.view.ty) (f5 : BufTy.Contents (Elt F) arg5.view.ty)
    (f6 : BufTy.Contents (Elt F) arg6.view.ty) (f10 : BufTy.Contents (Elt F) arg10.view.ty) :
    arg10.view.read (Elt F) (arg10.view.writes (Elt F) f10 (pb_k1_t6 (F := F) Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) (k1_pay109 (View.readAt (Elt F) arg5.view (Rect.unit (s := S3x32x128) (k1_off18 i 0#32) S1x1x128.size (k1_off18_inb i h3 0)).toLoadRect f5)) (View.readAt (Elt F) arg2.view (Rect.unit (s := S3x32) (k1_off19 i 0#32) S1x1.size (k1_off19_inb i h3 0)).toLoadRect f2 (Shape.Idx.first (s := S1x1) (by decide))) (View.readAt (Elt F) arg5.view (Rect.unit (s := S3x32x128) (k1_off18 i 1#32) S1x1x128.size (k1_off18_inb i h3 1)).toLoadRect f5) (View.readAt (Elt F) arg2.view (Rect.unit (s := S3x32) (k1_off19 i 1#32) S1x1.size (k1_off19_inb i h3 1)).toLoadRect f2 (Shape.Idx.first (s := S1x1) (by decide))) f4 f6 k1_t6_loop.trips ++ (pb_k1_t5 (F := F) Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) (k1_pay109 (View.readAt (Elt F) arg5.view (Rect.unit (s := S3x32x128) (k1_off18 i 0#32) S1x1x128.size (k1_off18_inb i h3 0)).toLoadRect f5)) (View.readAt (Elt F) arg2.view (Rect.unit (s := S3x32) (k1_off19 i 0#32) S1x1.size (k1_off19_inb i h3 0)).toLoadRect f2 (Shape.Idx.first (s := S1x1) (by decide))) f4 f6 k1_t5_loop.trips ++ (pb_k1_t4 (F := F) Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) (k1_pay104 (View.readAt (Elt F) arg5.view (Rect.unit (s := S3x32x128) (k1_off10 i 0#32) S1x1x128.size (k1_off10_inb i h3 0)).toLoadRect f5)) (View.readAt (Elt F) arg5.view (Rect.unit (s := S3x32x128) (k1_off10 i 1#32) S1x1x128.size (k1_off10_inb i h3 1)).toLoadRect f5) (View.readAt (Elt F) arg2.view (Rect.unit (s := S3x32) (k1_off11 i 1#32) S1x1.size (k1_off11_inb i h3 1)).toLoadRect f2 (Shape.Idx.first (s := S1x1) (by decide))) f4 f6 k1_t4_loop.trips ++ (pb_k1_t3 (F := F) Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) (k1_pay104 (View.readAt (Elt F) arg5.view (Rect.unit (s := S3x32x128) (k1_off10 i 0#32) S1x1x128.size (k1_off10_inb i h3 0)).toLoadRect f5)) (View.readAt (Elt F) arg2.view (Rect.unit (s := S3x32) (k1_off11 i 0#32) S1x1.size (k1_off11_inb i h3 0)).toLoadRect f2 (Shape.Idx.first (s := S1x1) (by decide))) f4 f6 k1_t3_loop.trips ++ (pb_k1_t2 (F := F) Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) (View.readAt (Elt F) arg5.view (Rect.unit (s := S3x32x128) (k1_off2 i 1#32) S1x1x128.size (k1_off2_inb i h3 1)).toLoadRect f5) (View.readAt (Elt F) arg2.view (Rect.unit (s := S3x32) (k1_off3 i 1#32) S1x1.size (k1_off3_inb i h3 1)).toLoadRect f2 (Shape.Idx.first (s := S1x1) (by decide))) f4 f6 k1_t2_loop.trips ++ (pb_k1_t1 (F := F) Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) (View.readAt (Elt F) arg5.view (Rect.unit (s := S3x32x128) (k1_off2 i 0#32) S1x1x128.size (k1_off2_inb i h3 0)).toLoadRect f5) (View.readAt (Elt F) arg2.view (Rect.unit (s := S3x32) (k1_off3 i 0#32) S1x1.size (k1_off3_inb i h3 0)).toLoadRect f2 (Shape.Idx.first (s := S1x1) (by decide))) f4 f6 k1_t1_loop.trips)))))))
      = dq (i 0).val (arg2.view.read (Elt F) f2) (arg4.view.read (Elt F) f4) (arg5.view.read (Elt F) f5) (arg6.view.read (Elt F) f6) := by
  have hb : (i 0).val < 16 := (i 0).isLt
  obtain ⟨⟨t0, t1, t2, t3, t4, t5⟩, s0, s1, s2, s3, s4, s5⟩ := geo_tab ⟨(i 0).val, hb⟩ i rfl
  rw [load_tab arg5.view f5 (i 0).val 0 0 (by omega) (by omega) _ t0, load_sc arg2.view f2 (i 0).val 0 0 (by omega) (by omega) _ s0]
  rw [load_tab arg5.view f5 (i 0).val 0 1 (by omega) (by omega) _ t1, load_sc arg2.view f2 (i 0).val 0 1 (by omega) (by omega) _ s1]
  rw [load_tab arg5.view f5 (i 0).val 1 0 (by omega) (by omega) _ t2, load_sc arg2.view f2 (i 0).val 1 0 (by omega) (by omega) _ s2]
  rw [load_tab arg5.view f5 (i 0).val 1 1 (by omega) (by omega) _ t3, load_sc arg2.view f2 (i 0).val 1 1 (by omega) (by omega) _ s3]
  rw [load_tab arg5.view f5 (i 0).val 2 0 (by omega) (by omega) _ t4, load_sc arg2.view f2 (i 0).val 2 0 (by omega) (by omega) _ s4]
  rw [load_tab arg5.view f5 (i 0).val 2 1 (by omega) (by omega) _ t5, load_sc arg2.view f2 (i 0).val 2 1 (by omega) (by omega) _ s5]
  generalize hT : tabOf (arg5.view.read (Elt F) f5) (i 0).val = tab
  generalize hS : scOf (arg2.view.read (Elt F) f2) (i 0).val = sc
  have l1 := loop_t1 Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) sc tab f4 f6
  have l2 := loop_t2 Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) sc tab f4 f6
  have l3 := loop_t3 Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) sc tab f4 f6
  have l4 := loop_t4 Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) sc tab f4 f6 (k1_pay104 (tab 1 0))
  have l5 := loop_t5 Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) sc tab f4 f6
  have l6 := loop_t6 Variants.none c none i arg2 harg2 arg3 harg3 arg4 harg4 arg5 harg5 arg6 harg6 arg7 harg7 arg8 harg8 arg9 harg9 arg10 harg10 arg11 harg11 arg12 harg12 (BitVec.ofNat 32 (i 0).val) h3 (iota Kind.tc S8x128 32 [1] iota_S8x128_d1_w32) sc tab f4 f6 (k1_pay109 (tab 2 0)) (sc 2 0)
  unfold dq
  rw [hT, hS]
  apply writes_six
  · intro p hp
    simp only [List.mem_append] at hp
    rcases hp with hp | hp | hp | hp | hp | hp
    · exact l6.1 p hp
    · exact l5.1 p hp
    · exact l4.1 p hp
    · exact l3.1 p hp
    · exact l2.1 p hp
    · exact l1.1 p hp
  · intro m hm h hh
    obtain rfl | rfl | rfl : m = 0 ∨ m = 1 ∨ m = 2 := by omega
    all_goals obtain rfl | rfl : h = 0 ∨ h = 1 := by omega
    · exact l1.2.mono fun p hp => by simp only [List.mem_append]; tauto
    · exact l2.2.mono fun p hp => by simp only [List.mem_append]; tauto
    · exact l3.2.mono fun p hp => by simp only [List.mem_append]; tauto
    · exact l4.2.mono fun p hp => by simp only [List.mem_append]; tauto
    · exact l5.2.mono fun p hp => by simp only [List.mem_append]; tauto
    · exact l6.2.mono fun p hp => by simp only [List.mem_append]; tauto

end Cert.KernelIdeal.Gen
-- ==== Proof.KI.Region1Step.lean ====
module

public import proofs.«01_k».proof.Proof.KI.Region1Six

/-! # What one grid step of the solve call does

The body at a step off the diagonal adds one product to the accumulator; the body at a diagonal step
dequantises a column tile, solves it, and keeps the result. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word that is one exactly at the first step of a row of the grid. -/
def k1_cond1 (i : grid1.Coords) : BitVec 1 :=
  Scalar.cmpi .ne (Scalar.extui (Scalar.cmpi .eq (BitVec.ofNat 32 (i 1).val) 0#32) : BitVec 32) 0#32

/-- Slot `j` of the kept results. -/
def slotOf (j : ℕ) (X : Vec F S16x1152x256 .f32) : Vec F S1x1152x256 .f32 := fun y =>
  X (ix3 (by decide) (by decide) (by decide) j (y 1).val (y 2).val)

/-- A slot, loaded. -/
theorem load_slot (v : View sig .tc .vmem S16x1152x256 .f32) (X : BufTy.Contents (Elt F) v.ty) (j : ℕ) (hj : j < 16)
    (off : Fin 3 → ℕ) (ho : off = ![j, 0, 0]) (inb : ∀ a, off a + S1x1152x256.size a ≤ S16x1152x256.size a) :
    View.readAt (Elt F) v (Rect.unit (s := S16x1152x256) off S1x1152x256.size inb).toLoadRect X = slotOf j (v.read (Elt F) X) := by
  subst ho; funext y; unfold slotOf
  have h0 : (y 0).val < 1 := (y 0).isLt
  have h1 : (y 1).val < 1152 := (y 1).isLt
  have h2 : (y 2).val < 256 := (y 2).isLt
  refine congrArg (v.read (Elt F) X) (idx3_ext ?_ ?_ ?_)
  · rw [ix3_zero, Nat.mod_eq_of_lt (by omega)]; exact (Rect.idx_unit_val _ _ _ _ _).trans (by show j + (y 0).val = j; omega)
  · rw [ix3_one, Nat.mod_eq_of_lt (by omega)]; exact (Rect.idx_unit_val _ _ _ _ _).trans (Nat.zero_add _)
  · rw [ix3_two, Nat.mod_eq_of_lt (by omega)]; exact (Rect.idx_unit_val _ _ _ _ _).trans (Nat.zero_add _)

/-- A slot stored: that slot is the value stored, the others are as they were. -/
theorem store_slot (v : View sig .tc .vmem S16x1152x256 .f32) (X : BufTy.Contents (Elt F) v.ty) (b : ℕ) (hb : b < 16)
    (off : Fin 3 → ℕ) (ho : off = ![b, 0, 0]) (inb : ∀ a, off a + S1x1152x256.size a ≤ S16x1152x256.size a)
    (w : Vec F S1x1152x256 .f32) (j : ℕ) (hj : j < 16) :
    slotOf j (v.read (Elt F) (v.writes (Elt F) X [⟨Rect.unit (s := S16x1152x256) off S1x1152x256.size inb, w⟩]))
      = if j = b then w else slotOf j (v.read (Elt F) X) := by
  subst ho; funext y
  have h0 : (y 0).val < 1 := (y 0).isLt
  have h1 : (y 1).val < 1152 := (y 1).isLt
  have h2 : (y 2).val < 256 := (y 2).isLt
  by_cases hjb : j = b
  · subst hjb
    rw [if_pos rfl]
    refine View.read_writes_cons_unit_of_mem v X inb w [] _ y rfl ?_
    intro a
    match a with
    | 0 => rw [ix3_zero, Nat.mod_eq_of_lt (by omega)]; show j = j + (y 0).val; omega
    | 1 => rw [ix3_one, Nat.mod_eq_of_lt (by omega)]; show (y 1).val = 0 + (y 1).val; omega
    | 2 => rw [ix3_two, Nat.mod_eq_of_lt (by omega)]; show (y 2).val = 0 + (y 2).val; omega
  · rw [if_neg hjb]
    refine View.read_writes_cons_unit_of_not_mem v X inb w [] _ rfl 0 ?_
    rw [ix3_zero, Nat.mod_eq_of_lt (by omega)]
    show j < b ∨ b + 1 ≤ j
    omega

/-- The place of the slot stored at grid column `b`. -/
theorem geo_off26 : ∀ b : Fin 16, ∀ i : grid1.Coords, (i 0).val = b.val → k1_off26 i = ![b.val, 0, 0] := by
  intro b i hi
  unfold k1_off26
  rw [hi]
  clear hi i; revert b
  decide +kernel

/-- The place of the slot read at grid row `a`. -/
theorem geo_off1 : ∀ a : Fin 16, ∀ i : grid1.Coords, (i 1).val = a.val → k1_off1 i = ![a.val, 0, 0] := by
  intro b i hi
  unfold k1_off1
  rw [hi]
  clear hi i; revert b
  decide +kernel

/-- The accumulator once the first conditional has run: zero at the first step of a row. -/
def acc0 (i : grid1.Coords) (A : Vec F S1152x256 .f32) : Vec F S1152x256 .f32 :=
  if k1_cond1 i = 1#1 then k1_pay1 (F := F) else A

/-- The solved block depends on its four values only. -/
theorem pay114_congr {a a' c c' : Vec F S1152x256 .f32} {b b' : Vec F S1152x256 .bf16} {d d' : Vec F S1x256x256 .f32}
    (ha : a = a') (hb : b = b') (hc : c = c') (hd : d = d') : k1_pay114 a b c d = k1_pay114 a' b' c' d' := by
  subst ha hb hc hd; rfl

set_option maxHeartbeats 1000000 in
/-- The body at a diagonal step: the first output is the rounded dequantised block, the second the solved
block, which is also kept in its slot. -/
theorem sound_q (c : Dev nD) (E : Set ℕ) (i : grid1.Coords) (arg2 : Memref sig .tc .smem S3x32 .f32) (harg2 : arg2.IsWhole) (arg3 : Memref sig .tc .vmem S1152x256 .bf16) (harg3 : arg3.IsWhole) (arg4 : Memref sig .tc .vmem S1152x128 .i8) (harg4 : arg4.IsWhole) (arg5 : Memref sig .tc .vmem S3x32x128 .i32) (harg5 : arg5.IsWhole) (arg6 : Memref sig .tc .vmem S1152x128 .f32) (harg6 : arg6.IsWhole) (arg7 : Memref sig .tc .vmem S256x256 .f32) (harg7 : arg7.IsWhole) (arg8 : Memref sig .tc .vmem S1x256x256 .f32) (harg8 : arg8.IsWhole) (arg9 : Memref sig .tc .vmem S1152x256 .bf16) (harg9 : arg9.IsWhole) (arg10 : Memref sig .tc .vmem S1152x256 .f32) (harg10 : arg10.IsWhole) (arg11 : Memref sig .tc .vmem S1152x256 .f32) (harg11 : arg11.IsWhole) (arg12 : Memref sig .tc .vmem S16x1152x256 .f32) (harg12 : arg12.IsWhole)
    (h2 : ¬ k1_cond2 i = 1#1) (h3 : k1_cond3 i = 1#1)
    (x0 : Vec F S3x32 .f32) (x1 : Vec F S1152x256 .bf16) (x2 : Vec F S1152x128 .i8) (x3 : Vec F S3x32x128 .i32)
    (x4 : Vec F S1152x128 .f32) (x6 : Vec F S1x256x256 .f32) (A : Vec F S1152x256 .f32) (X : Vec F S16x1152x256 .f32)
    (e : Vec F S1152x256 .f32) (he : e = k1_pay114 (dq (i 0).val x0 x2 x3 x4) x1 (acc0 i A) x6)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg8 fullShare x6
        ∗ (∃ d, owns (c : Thread nD τ) arg9 fullShare d) ∗ (∃ d, owns (c : Thread nD τ) arg10 fullShare d)
        ∗ owns (c : Thread nD τ) arg11 fullShare A ∗ owns (c : Thread nD τ) arg12 fullShare X
        ∗ ((iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg8 fullShare x6
        ∗ owns (c : Thread nD τ) arg9 fullShare (k1_pay113 (dq (i 0).val x0 x2 x3 x4))
        ∗ owns (c : Thread nD τ) arg10 fullShare e
        ∗ owns (c : Thread nD τ) arg11 fullShare (acc0 i A)
        ∗ (∃ X', ⌜∀ j < 16, slotOf j X' = if j = (i 0).val then k1_pay3 e else slotOf j X⌝ ∗ owns (c : Thread nD τ) arg12 fullShare X'))) -∗ K ⟨⟩))
      ⊢ wp frame (wpE (defs₀ (F := F)) Variants.none c none) E (cc1_solve i arg2 harg2 arg3 harg3 arg4 harg4 arg5 harg5 arg6 harg6 arg7 harg7 arg8 harg8 arg9 harg9 arg10 harg10 arg11 harg11 arg12 harg12) K := by
  have hb : (i 0).val < 16 := (i 0).isLt
  have g26 := geo_off26 ⟨(i 0).val, hb⟩ i rfl
  simp only [cc1_solve_eq_skeleton]; unfold cc1_solve_skel
  simp only [dif_neg h2, dif_pos h3]
  by_cases h1 : (Scalar.cmpi .ne (Scalar.extui (Scalar.cmpi .eq (BitVec.ofNat 32 (i 1).val) 0#32) : BitVec 32) 0#32) = 1#1
  all_goals
    first
    | simp only [dif_pos h1]
    | simp only [dif_neg h1]
    simp only [k1_part37_eq_skeleton, k1_part38_eq_skeleton, k1_part39_eq_skeleton]
    unfold k1_part37_skel k1_part38_skel k1_part39_skel
    simp only [bind_assoc, pure_bind]
    unfold owns
    iintro ⟨⟨%f2, %hf2, H2⟩, ⟨%f3, %hf3, H3⟩, ⟨%f4, %hf4, H4⟩, ⟨%f5, %hf5, H5⟩, ⟨%f6, %hf6, H6⟩, ⟨%f8, %hf8, H8⟩, ⟨%d9, %f9, -, H9⟩, ⟨%d10, %f10, -, H10⟩, ⟨%f11, %hf11, H11⟩, ⟨%f12, %hf12, H12⟩, Hk⟩
    subst hf2 hf3 hf4 hf5 hf6 hf8 hf11 hf12
    have hq := read_six c i arg2 harg2 arg3 harg3 arg4 harg4 arg5 harg5 arg6 harg6 arg7 harg7 arg8 harg8 arg9 harg9 arg10 harg10 arg11 harg11 arg12 harg12 h3 f2 f4 f5 f6 f10
    sl_exec
    sl_step
    iapply Hk
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H8]; · iexists f8; isplitr; · ipureintro; rfl
                    iexact H8
    isplitl [H9]
    · iexists _; isplitr
      swap; · iexact H9
      ipureintro
      refine (View.read_writes_full _ _ _ _ _).trans ?_
      exact congrArg k1_pay113 ((View.readAt_full arg10.view _ _).trans hq)
    isplitl [H10]
    · iexists _; isplitr
      swap; · iexact H10
      ipureintro
      refine (View.read_writes_full _ _ _ _ _).trans ?_
      exact (pay114_congr ((View.readAt_full arg10.view _ _).trans hq) (View.readAt_full arg3.view _ _) (by
        first
        | exact (View.readAt_writes_full arg11.view _ _ _ _ _).trans (if_pos h1).symm
        | exact (View.readAt_full arg11.view _ _).trans (if_neg h1).symm
        | (unfold acc0 k1_cond1; rw [if_pos h1])) (View.readAt_full arg8.view _ _)).trans he.symm
    isplitl [H11]
    · iexists _; isplitr
      swap; · iexact H11
      ipureintro
      first
      | exact (View.read_writes_full arg11.view _ _ _ _).trans (if_pos h1).symm
      | exact (if_neg h1).symm
    iexists _; isplitr
    swap
    · iexists _; isplitr
      swap; · iexact H12
      ipureintro; rfl
    ipureintro
    intro j hj
    refine (store_slot _ _ (i 0).val hb _ g26 _ _ j hj).trans ?_
    refine congrArg (fun w => if j = (i 0).val then w else slotOf j (arg12.view.read (Elt F) f12)) ?_
    exact congrArg k1_pay3 ((pay114_congr ((View.readAt_full arg10.view _ _).trans hq) (View.readAt_full arg3.view _ _) (by
        first
        | exact (View.readAt_writes_full arg11.view _ _ _ _ _).trans (if_pos h1).symm
        | exact (View.readAt_full arg11.view _ _).trans (if_neg h1).symm
        | (unfold acc0 k1_cond1; rw [if_pos h1])) (View.readAt_full arg8.view _ _)).trans he.symm)

/-- The accumulator's next value depends on its three values only. -/
theorem pay2_congr {a a' : Vec F S1152x256 .f32} {b b' : Vec F S1x1152x256 .f32} {d d' : Vec F S256x256 .f32}
    (ha : a = a') (hb : b = b') (hd : d = d') : k1_pay2 a b d = k1_pay2 a' b' d' := by
  subst ha hb hd; rfl

set_option maxHeartbeats 1000000 in
/-- The body at a step off the diagonal: the accumulator, zeroed at the first step of a row, and left of the
diagonal one product added to it; the kept results as they were. -/
theorem sound_a (c : Dev nD) (E : Set ℕ) (i : grid1.Coords) (arg2 : Memref sig .tc .smem S3x32 .f32) (harg2 : arg2.IsWhole) (arg3 : Memref sig .tc .vmem S1152x256 .bf16) (harg3 : arg3.IsWhole) (arg4 : Memref sig .tc .vmem S1152x128 .i8) (harg4 : arg4.IsWhole) (arg5 : Memref sig .tc .vmem S3x32x128 .i32) (harg5 : arg5.IsWhole) (arg6 : Memref sig .tc .vmem S1152x128 .f32) (harg6 : arg6.IsWhole) (arg7 : Memref sig .tc .vmem S256x256 .f32) (harg7 : arg7.IsWhole) (arg8 : Memref sig .tc .vmem S1x256x256 .f32) (harg8 : arg8.IsWhole) (arg9 : Memref sig .tc .vmem S1152x256 .bf16) (harg9 : arg9.IsWhole) (arg10 : Memref sig .tc .vmem S1152x256 .f32) (harg10 : arg10.IsWhole) (arg11 : Memref sig .tc .vmem S1152x256 .f32) (harg11 : arg11.IsWhole) (arg12 : Memref sig .tc .vmem S16x1152x256 .f32) (harg12 : arg12.IsWhole)
    (h3 : ¬ k1_cond3 i = 1#1)
    (x5 : Vec F S256x256 .f32) (A : Vec F S1152x256 .f32) (X : Vec F S16x1152x256 .f32)
    (A' : Vec F S1152x256 .f32) (hA : A' = if k1_cond2 i = 1#1 then k1_pay2 (acc0 i A) (slotOf (i 1).val X) x5 else acc0 i A)
    (K : PUnit → sProp 𝕄) :
    iprop(owns (c : Thread nD τ) arg7 fullShare x5
        ∗ owns (c : Thread nD τ) arg11 fullShare A ∗ owns (c : Thread nD τ) arg12 fullShare X
        ∗ ((iprop(owns (c : Thread nD τ) arg7 fullShare x5
        ∗ owns (c : Thread nD τ) arg11 fullShare A' ∗ owns (c : Thread nD τ) arg12 fullShare X)) -∗ K ⟨⟩))
      ⊢ wp frame (wpE (defs₀ (F := F)) Variants.none c none) E (cc1_solve i arg2 harg2 arg3 harg3 arg4 harg4 arg5 harg5 arg6 harg6 arg7 harg7 arg8 harg8 arg9 harg9 arg10 harg10 arg11 harg11 arg12 harg12) K := by
  have hb : (i 1).val < 16 := (i 1).isLt
  have g1 := geo_off1 ⟨(i 1).val, hb⟩ i rfl
  simp only [cc1_solve_eq_skeleton]; unfold cc1_solve_skel
  simp only [dif_neg h3]
  by_cases h1 : (Scalar.cmpi .ne (Scalar.extui (Scalar.cmpi .eq (BitVec.ofNat 32 (i 1).val) 0#32) : BitVec 32) 0#32) = 1#1 <;> by_cases h2 : k1_cond2 i = 1#1
  all_goals
    first
    | simp only [dif_pos h1, dif_pos h2]
    | simp only [dif_pos h1, dif_neg h2]
    | simp only [dif_neg h1, dif_pos h2]
    | simp only [dif_neg h1, dif_neg h2]
    first
    | rw [if_pos h2] at hA
    | rw [if_neg h2] at hA
    try simp only [bind_assoc, pure_bind]
    unfold owns
    iintro ⟨⟨%f7, %hf7, H7⟩, ⟨%f11, %hf11, H11⟩, ⟨%f12, %hf12, H12⟩, Hk⟩
    subst hf7 hf11 hf12
    first
    | sl_exec
    | skip
    sl_step
    iapply Hk
    isplitl [H7]; · iexists f7; isplitr; · ipureintro; rfl
                    iexact H7
    isplitl [H11]
    · iexists _; isplitr
      swap; · iexact H11
      ipureintro
      rw [hA]
      first
      | exact (if_neg h1).symm
      | exact (View.read_writes_full arg11.view _ _ _ _).trans (if_pos h1).symm
      | (refine (View.read_writes_full arg11.view _ _ _ _).trans ?_
         refine pay2_congr ?_ (load_slot arg12.view f12 (i 1).val hb _ g1 _) (View.readAt_full arg7.view _ _)
         first
         | exact (View.readAt_writes_full arg11.view _ _ _ _ _).trans (if_pos h1).symm
         | exact (View.readAt_full arg11.view _ _).trans (if_neg h1).symm
         | (unfold acc0 k1_cond1; rw [if_pos h1]))
    iexists _; isplitr
    swap; · iexact H12
    ipureintro; rfl

end Cert.KernelIdeal.Gen
-- ==== Proof.KI.Region1.lean ====
module

public import proofs.«01_k».proof.Proof.KI.Region1Step
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Frame

/-! # The solve call: what its buffers hold at every grid point

The grid has 16 rows of 16 steps. In row `b` the first `b` steps gather the solved tiles to the left, step
`b` dequantises and solves tile `b`, and the steps after it do nothing. This module states what the
accumulator and the kept tiles hold before every step, and proves that the body keeps to it. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- `W c`: the contents of core `c`'s buffers when the region is entered
variable (W : Dev nD → Valuation τ sig (Elt F))

/-! ## The grid's points -/

/-- The coordinates of a point: its row and its step. -/
theorem coords1 : ∀ t : Fin grid1.N, ((grid1.coords t) 0).val = t.val / 16 ∧ ((grid1.coords t) 1).val = t.val % 16 := by
  decide +kernel

/-- The three conditions of the body, in terms of the point. -/
theorem conds1 : ∀ t : Fin grid1.N, (k1_cond1 (grid1.coords t) = 1#1 ↔ t.val % 16 = 0) ∧
    (k1_cond2 (grid1.coords t) = 1#1 ↔ t.val % 16 < t.val / 16) ∧ (k1_cond3 (grid1.coords t) = 1#1 ↔ t.val % 16 = t.val / 16) := by
  decide +kernel

/-- The point of row `b` and step `k`. -/
def pt (b k : ℕ) : Fin cfg1.N := ⟨(16 * b + k) % 256, by rw [show cfg1.N = 256 from N_1]; exact Nat.mod_lt _ (by decide)⟩

/-- A point is the point of its row and step. -/
theorem pt_eq (t : Fin cfg1.N) : pt (t.val / 16) (t.val % 16) = t := by
  have h : t.val < 256 := N_1 ▸ t.isLt
  refine Fin.ext ?_
  show (16 * (t.val / 16) + t.val % 16) % 256 = t.val
  omega

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- The dequantised column tile `b`. -/
def dqAt (c : Dev nD) (b : ℕ) : Vec F S1152x256 .f32 :=
  dq b (iblk1 W c 0 (pt b b)) (iblk1 W c 2 (pt b b)) (iblk1 W c 3 (pt b b)) (iblk1 W c 4 (pt b b))

/-- The accumulator of row `b` before step `k`, from the solved tiles `T`. -/
def accOf (c : Dev nD) (T : ℕ → Vec F S1152x256 .f32) (b : ℕ) : ℕ → Vec F S1152x256 .f32
  | 0 => k1_pay1
  | k + 1 => k1_pay2 (accOf c T b k) (k1_pay3 (T k)) (iblk1 W c 5 (pt b k))

/-- The accumulator before step `k` reads the tiles below `k` only. -/
theorem accOf_congr (c : Dev nD) (T T' : ℕ → Vec F S1152x256 .f32) (b k : ℕ) (h : ∀ j < k, T j = T' j) :
    accOf W c T b k = accOf W c T' b k := by
  induction k with
  | zero => rfl
  | succ k ih =>
    unfold accOf
    rw [ih fun j hj => h j (by omega), h k (by omega)]

/-- Tile `b` solved, from the accumulator. -/
def solve1 (c : Dev nD) (b : ℕ) (acc : Vec F S1152x256 .f32) : Vec F S1152x256 .f32 :=
  k1_pay114 (dqAt W c b) (iblk1 W c 1 (pt b b)) acc (iblk1 W c 6 (pt b b))

/-- The tiles solved after `n` rows. -/
def eTab (c : Dev nD) : ℕ → ℕ → Vec F S1152x256 .f32
  | 0 => fun _ => k1_pay1
  | n + 1 => fun j => if j = n then solve1 W c n (accOf W c (eTab c n) n n) else eTab c n j

/-- Solved tile `j`. -/
def eAt (c : Dev nD) (j : ℕ) : Vec F S1152x256 .f32 := eTab W c (j + 1) j

/-- A solved tile stays. -/
theorem eTab_lt (c : Dev nD) (n j : ℕ) (h : j < n) : eTab W c n j = eAt W c j := by
  induction n with
  | zero => omega
  | succ n ih =>
    by_cases hj : j = n
    · subst hj; rfl
    · show (if j = n then _ else eTab W c n j) = _
      rw [if_neg hj]; exact ih (by omega)

/-- The equation of the solved tiles. -/
theorem eAt_eq (c : Dev nD) (b : ℕ) : eAt W c b = solve1 W c b (accOf W c (eAt W c) b b) := by
  show (if b = b then solve1 W c b (accOf W c (eTab W c b) b b) else eTab W c b b) = _
  rw [if_pos rfl, accOf_congr W c (eTab W c b) (eAt W c) b b fun j hj => eTab_lt W c b j hj]

/-! ## The pipeline's proof data -/

/-- What the accumulator and the kept tiles hold before point `n`. -/
def Inv (c : Dev nD) (n : ℕ) (A : Vec F S1152x256 .f32) (X : Vec F S16x1152x256 .f32) : Prop :=
  (∀ j < 16, (j < n / 16 ∨ (j = n / 16 ∧ n / 16 < n % 16)) → slotOf j X = k1_pay3 (eAt W c j)) ∧
  (n % 16 ≠ 0 → A = accOf W c (eAt W c) (n / 16) (min (n % 16) (n / 16)))

/-- The accumulator and the kept tiles, at what they hold before point `n`. -/
def scr (c : Dev nD) (n : ℕ) : sProp 𝕄 :=
  iprop(∃ A X, ⌜Inv W c n A X⌝ ∗ owns (c : Thread nD τ) (Memref.whole cc1_scratch0) fullShare A
    ∗ owns (c : Thread nD τ) (Memref.whole cc1_scratch1) fullShare X)

/-- The first call's staging buffers, at anything. -/
def oth (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The proof data of the solve call on core `c`: every input's buffer at its block, the two results' buffers at
the dequantised and the solved tile of the row. -/
def dat1 (c : Dev nD) : Dat τ (Elt F) Unit ℕ (UR sig nD τ) ℕ cfg1 c where
  A w := W c (Pipeline.arrRef spec1 w)
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => iblk1 W c 4 t
    | ⟨5, _⟩ => iblk1 W c 5 t
    | ⟨6, _⟩ => iblk1 W c 6 t
    | ⟨7, _⟩ => k1_pay113 (dqAt W c (t.val / 16))
    | ⟨8, _⟩ => eAt W c (t.val / 16)
  Φ t := iprop(oth c ∗ scr W c t.val)
  q _ := fullShare
  owed _ := 0

/-- The data's arrays are what the region finds. -/
theorem A_eq1 (c : Dev nD) (w : Fin cfg1.W) : (dat1 W c).A w = W c (Pipeline.arrRef spec1 w) := by
  dsimp only [dat1]

/-- What the body leaves in each window. -/
theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = iblk1 W c 4 t := by dsimp only [dat1]
theorem after1_5 (c : Dev nD) (t : Fin cfg1.N) : (dat1 W c).after 5 t = iblk1 W c 5 t := by dsimp only [dat1]
theorem after1_6 (c : Dev nD) (t : Fin cfg1.N) : (dat1 W c).after 6 t = iblk1 W c 6 t := by dsimp only [dat1]
theorem after1_7 (c : Dev nD) (t : Fin cfg1.N) : (dat1 W c).after 7 t = k1_pay113 (dqAt W c (t.val / 16)) := by dsimp only [dat1]
theorem after1_8 (c : Dev nD) (t : Fin cfg1.N) : (dat1 W c).after 8 t = eAt W c (t.val / 16) := by dsimp only [dat1]

/-- Input window 0's buffer holds its block at every point. -/
theorem before1_0 (c : Dev nD) (t : Fin cfg1.N) (d) : (dat1 W c).before 0 t d = iblk1 W c 0 t :=
  ((dat1 W c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's buffer holds its block at every point. -/
theorem before1_1 (c : Dev nD) (t : Fin cfg1.N) (d) : (dat1 W c).before 1 t d = iblk1 W c 1 t :=
  ((dat1 W c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's buffer holds its block at every point. -/
theorem before1_2 (c : Dev nD) (t : Fin cfg1.N) (d) : (dat1 W c).before 2 t d = iblk1 W c 2 t :=
  ((dat1 W c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3's buffer holds its block at every point. -/
theorem before1_3 (c : Dev nD) (t : Fin cfg1.N) (d) : (dat1 W c).before 3 t d = iblk1 W c 3 t :=
  ((dat1 W c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Input window 4's buffer holds its block at every point. -/
theorem before1_4 (c : Dev nD) (t : Fin cfg1.N) (d) : (dat1 W c).before 4 t d = iblk1 W c 4 t :=
  ((dat1 W c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- Input window 5's buffer holds its block at every point. -/
theorem before1_5 (c : Dev nD) (t : Fin cfg1.N) (d) : (dat1 W c).before 5 t d = iblk1 W c 5 t :=
  ((dat1 W c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- Input window 6's buffer holds its block at every point. -/
theorem before1_6 (c : Dev nD) (t : Fin cfg1.N) (d) : (dat1 W c).before 6 t d = iblk1 W c 6 t :=
  ((dat1 W c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-! ## The two results' windows -/

/-- A result's window that the body writes at the diagonal step only holds, at every later step of the row, what
the diagonal step left. -/
theorem before_out (c : Dev nD) (w : Fin cfg1.W) (hfe : ∀ t : Fin cfg1.N, (cfg1.win w).fetch t = false)
    (hfl : ∀ t : Fin cfg1.N, (cfg1.win w).flush t = true ↔ t.val % 16 = 15)
    (hid : ∀ t : Fin cfg1.N, cfg1.idle w (cfg1.grid.coords t) = !(k1_cond3 (grid1.coords t) == 1#1))
    (hcl : ∀ i a, (cfg1.win w).clip i a = none)
    (haf : ∀ t t' : Fin cfg1.N, t.val / 16 = t'.val / 16 → HEq ((dat1 W c).after w t) ((dat1 W c).after w t'))
    (t : Fin cfg1.N) (d) (ht : t.val / 16 < t.val % 16) : (dat1 W c).before w t d = (dat1 W c).after w t := by
  have h256 : t.val < 256 := N_1 ▸ t.isLt
  obtain ⟨n, hn⟩ := t
  induction n with
  | zero => simp at ht
  | succ n ih =>
    have hn' : n < cfg1.N := by omega
    have hne : (⟨n + 1, hn⟩ : Fin cfg1.N).val ≠ 0 := Nat.succ_ne_zero n
    dsimp only at ht h256
    have hrow : n / 16 = (n + 1) / 16 := by omega
    rw [Dat.before_of_pos _ w ⟨n + 1, hn⟩ hne (hfe _) d]
    have hp : (⟨(⟨n + 1, hn⟩ : Fin cfg1.N).val - 1, Nat.lt_of_le_of_lt (Nat.sub_le _ _) (⟨n + 1, hn⟩ : Fin cfg1.N).isLt⟩ : Fin cfg1.N) = ⟨n, hn'⟩ := rfl
    rw [hp, if_neg (by rw [hfl]; dsimp only; omega)]
    refine Eq.trans ?_ (eq_of_heq (haf ⟨n, hn'⟩ ⟨n + 1, hn⟩ hrow))
    have hc := (conds1 ⟨n, hn'⟩).2.2
    unfold Dat.left
    by_cases hd : n % 16 = n / 16
    · have hi : cfg1.idle w (cfg1.grid.coords ⟨n, hn'⟩) = false := by rw [hid, hc.mpr hd]; rfl
      rw [hi]
      show (dat1 W c).kept w ⟨n, hn'⟩ d = _
      unfold Dat.kept
      rw [Pipeline.fill_of_clip_none w _ (hcl _) d ((dat1 W c).after w ⟨n, hn'⟩), Window.fill_cut]
    · have hi : cfg1.idle w (cfg1.grid.coords ⟨n, hn'⟩) = true := by
        rw [hid]
        have : ¬ k1_cond3 (grid1.coords ⟨n, hn'⟩) = 1#1 := fun h => hd (hc.mp h)
        simp [this]
      rw [hi]
      exact ih hn' (by dsimp only; omega) (by dsimp only; omega)

/-- What the body owes of a result's buffer after a point. -/
def outPost (c : Dev nD) (w : Fin cfg1.W) (t : Fin cfg1.N) : sProp 𝕄 :=
  match cfg1.idle w (cfg1.grid.coords t) with
  | true =>
    match (cfg1.win w).flush t with
    | false => iprop(∃ d, owns (c : Thread nD τ) ((cfg1.win w).stage (cfg1.slots t w)) fullShare ((dat1 W c).before w t d))
    | true => owns (c : Thread nD τ) ((cfg1.win w).stage (cfg1.slots t w)) fullShare ((dat1 W c).after w t)
  | false => owns (c : Thread nD τ) ((cfg1.win w).stage (cfg1.slots t w)) fullShare ((dat1 W c).after w t)

/-- At a step that leaves the window alone, giving back what was found is enough. -/
theorem outPost_idle (c : Dev nD) (w : Fin cfg1.W) (t : Fin cfg1.N) (hi : cfg1.idle w (cfg1.grid.coords t) = true)
    (hb : (cfg1.win w).flush t = true → ∀ d, (dat1 W c).before w t d = (dat1 W c).after w t) :
    iprop(∃ d, owns (c : Thread nD τ) ((cfg1.win w).stage (cfg1.slots t w)) fullShare ((dat1 W c).before w t d)) ⊢ outPost W c w t := by
  unfold outPost
  rw [hi]
  cases hf : (cfg1.win w).flush t
  · exact .rfl
  · dsimp only
    iintro ⟨%d, H⟩
    rw [hb hf d]
    iexact H

/-- At a step that writes the window, it is left at the stated contents. -/
theorem outPost_live (c : Dev nD) (w : Fin cfg1.W) (t : Fin cfg1.N) (hi : cfg1.idle w (cfg1.grid.coords t) = false) :
    owns (c : Thread nD τ) ((cfg1.win w).stage (cfg1.slots t w)) fullShare ((dat1 W c).after w t) ⊢ outPost W c w t := by
  unfold outPost
  rw [hi]

/-- The two results' windows are never fetched. -/
theorem fetch_out1 : ∀ t : Fin cfg1.N, (cfg1.win 7).fetch t = false ∧ (cfg1.win 8).fetch t = false := fun t => ⟨rfl, rfl⟩

/-- The first result's buffer after the diagonal. -/
theorem before1_7 (c : Dev nD) (t : Fin cfg1.N) (d) (ht : t.val / 16 < t.val % 16) : (dat1 W c).before 7 t d = (dat1 W c).after 7 t :=
  before_out W c 7 (fun t => (fetch_out1 t).1) flush1_7 (fun _ => rfl) (fun _ _ => rfl)
    (fun t t' h => heq_of_eq (by rw [after1_7, after1_7, h])) t d ht

/-- The second result's buffer after the diagonal. -/
theorem before1_8 (c : Dev nD) (t : Fin cfg1.N) (d) (ht : t.val / 16 < t.val % 16) : (dat1 W c).before 8 t d = (dat1 W c).after 8 t :=
  before_out W c 8 (fun t => (fetch_out1 t).2) flush1_8 (fun _ => rfl) (fun _ _ => rfl)
    (fun t t' h => heq_of_eq (by rw [after1_8, after1_8, h])) t d ht

/-! ## The body obligation -/

/-- What the body is called with at point `t`. -/
def bodyPre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d))
    ∗ (∃ d, owns (c : Thread nD τ) (st1_4 t) fullShare ((dat1 W c).before 4 t d))
    ∗ (∃ d, owns (c : Thread nD τ) (st1_5 t) fullShare ((dat1 W c).before 5 t d))
    ∗ (∃ d, owns (c : Thread nD τ) (st1_6 t) fullShare ((dat1 W c).before 6 t d))
    ∗ (∃ d, owns (c : Thread nD τ) (st1_7 t) fullShare ((dat1 W c).before 7 t d))
    ∗ (∃ d, owns (c : Thread nD τ) (st1_8 t) fullShare ((dat1 W c).before 8 t d)))

/-- What it returns. -/
def bodyPost1 (c : Dev nD) (t : Fin cfg1.N) : sProp 𝕄 :=
  iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t)
    ∗ owns (c : Thread nD τ) (st1_2 t) fullShare ((dat1 W c).after 2 t)
    ∗ owns (c : Thread nD τ) (st1_3 t) fullShare ((dat1 W c).after 3 t)
    ∗ owns (c : Thread nD τ) (st1_4 t) fullShare ((dat1 W c).after 4 t)
    ∗ owns (c : Thread nD τ) (st1_5 t) fullShare ((dat1 W c).after 5 t)
    ∗ owns (c : Thread nD τ) (st1_6 t) fullShare ((dat1 W c).after 6 t)
    ∗ outPost W c 7 t ∗ outPost W c 8 t)

/-- The accumulator after the first branch, before step `t` of its row: that of the row, zero at the start. -/
theorem acc0_inv (c : Dev nD) (t : Fin cfg1.N) (A : Vec F S1152x256 .f32) (X : Vec F S16x1152x256 .f32)
    (h : Inv W c t.val A X) : acc0 (grid1.coords t) A = accOf W c (eAt W c) (t.val / 16) (min (t.val % 16) (t.val / 16)) := by
  unfold acc0
  have h1 := (conds1 t).1
  by_cases h0 : t.val % 16 = 0
  · rw [if_pos (h1.mpr h0), h0, Nat.zero_min]; rfl
  · rw [if_neg fun hh => h0 (h1.mp hh)]; exact h.2 h0

/-- The body at any point. -/
theorem sound_body1 (c : Dev nD) (t : Fin cfg1.N) :
    bodyPre1 W c t ⊢ wp frame (wpE (defs₀ (F := F)) Variants.none c none) Set.univ (bodyAt1 t) (fun _ => bodyPost1 W c t) := by
  have h256 : t.val < 256 := N_1 ▸ t.isLt
  obtain ⟨hc0, hc1⟩ := coords1 t
  obtain ⟨-, h2, h3⟩ := conds1 t
  unfold bodyPre1 bodyPost1 bodyAt1
  simp only [before1_0, before1_1, before1_2, before1_3, before1_4, before1_5, before1_6]
  rw [show (dat1 W c).Φ t.castSucc = iprop(oth c ∗ scr W c t.val) from rfl,
    show (dat1 W c).Φ t.succ = iprop(oth c ∗ scr W c (t.val + 1)) from rfl,
    show (dat1 W c).owesAt () t.succ = (dat1 W c).owesAt () t.castSucc from rfl,
    after1_0, after1_1, after1_2, after1_3, after1_4, after1_5, after1_6]
  unfold scr
  by_cases hd : t.val % 16 = t.val / 16
  · have hpt : t = pt (t.val / 16) (t.val / 16) := by
      have := pt_eq t; rw [hd] at this; exact this.symm
    iintro ⟨⟨HO, %A, %X, %hI, HA, HX⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hacc := acc0_inv W c t A X hI
    rw [hd, min_self] at hacc
    have hdq : dq ((grid1.coords t) 0).val (iblk1 W c 0 t) (iblk1 W c 2 t) (iblk1 W c 3 t) (iblk1 W c 4 t) = dqAt W c (t.val / 16) := by
      unfold dqAt; rw [hc0, ← hpt]
    have he : eAt W c (t.val / 16) = k1_pay114 (dq ((grid1.coords t) 0).val (iblk1 W c 0 t) (iblk1 W c 2 t) (iblk1 W c 3 t) (iblk1 W c 4 t))
        (iblk1 W c 1 t) (acc0 (grid1.coords t) A) (iblk1 W c 6 t) := by
      rw [eAt_eq, hdq, hacc]; unfold solve1; rw [← hpt]
    iapply (sound_q c Set.univ (grid1.coords t) _ _ _ _ _ _ _ _ _ _ _ _ _ _ _ _ _ _ _ _ _ _
      (fun h => by have := h2.mp h; omega) (h3.mpr hd) (iblk1 W c 0 t) (iblk1 W c 1 t) (iblk1 W c 2 t) (iblk1 W c 3 t) (iblk1 W c 4 t) (iblk1 W c 6 t)
      A X (eAt W c (t.val / 16)) he _)
    isplitl [H0]; · iexact H0
    isplitl [H1]; · iexact H1
    isplitl [H2]; · iexact H2
    isplitl [H3]; · iexact H3
    isplitl [H4]; · iexact H4
    isplitl [H6]; · iexact H6
    isplitl [H7]; · iexists _; iexact H7
    isplitl [H8]; · iexists _; iexact H8
    isplitl [HA]; · iexact HA
    isplitl [HX]; · iexact HX
    iintro ⟨H0, H1, H2, H3, H4, H6, H7, H8, HA, ⟨%X', %hX, HX⟩⟩
    rw [hdq]
    isplitl [HO HA HX]
    · isplitl [HO]; · iexact HO
      iexists _; iexists X'
      isplitr
      swap
      · isplitl [HA]; · iexact HA
        iexact HX
      ipureintro
      rw [hc0] at hX
      refine ⟨fun j hj hjn => ?_, fun hn => ?_⟩
      · rw [hX j hj]
        by_cases hjb : j = t.val / 16
        · rw [if_pos hjb, hjb]
        · rw [if_neg hjb]; exact hI.1 j hj (by omega)
      · rw [hacc, show (t.val + 1) / 16 = t.val / 16 by omega, show min ((t.val + 1) % 16) (t.val / 16) = t.val / 16 by omega]
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    have hi : (!(k1_cond3 (grid1.coords t) == 1#1)) = false := by rw [h3.mpr hd]; rfl
    isplitl [H7]
    · iapply (outPost_live W c 7 t hi); rw [after1_7]; iexact H7
    · iapply (outPost_live W c 8 t hi); rw [after1_8]; iexact H8
  · have hn3 : ¬ k1_cond3 (grid1.coords t) = 1#1 := fun h => hd (h3.mp h)
    iintro ⟨⟨HO, %A, %X, %hI, HA, HX⟩, Ho, ⟨%d0, H0⟩, ⟨%d1, H1⟩, ⟨%d2, H2⟩, ⟨%d3, H3⟩, ⟨%d4, H4⟩, ⟨%d5, H5⟩, ⟨%d6, H6⟩, H7, H8⟩
    have hacc := acc0_inv W c t A X hI
    iapply (sound_a c Set.univ (grid1.coords t) _ _ _ _ _ _ _ _ _ _ _ _ _ _ _ _ _ _ _ _ _ _
      hn3 (iblk1 W c 5 t) A X _ rfl _)
    isplitl [H5]; · iexact H5
    isplitl [HA]; · iexact HA
    isplitl [HX]; · iexact HX
    iintro ⟨H5, HA, HX⟩
    isplitl [HO HA HX]
    · isplitl [HO]; · iexact HO
      iexists _; iexists X
      isplitr
      swap
      · isplitl [HA]; · iexact HA
        iexact HX
      ipureintro
      refine ⟨fun j hj hjn => hI.1 j hj (by omega), fun hn => ?_⟩
      rw [hacc, show (t.val + 1) / 16 = t.val / 16 by omega, hc1]
      by_cases hlt : t.val % 16 < t.val / 16
      · rw [if_pos (h2.mpr hlt), show min ((t.val + 1) % 16) (t.val / 16) = t.val % 16 + 1 by omega, min_eq_left (le_of_lt hlt)]
        rw [hI.1 (t.val % 16) (by omega) (Or.inl hlt)]
        conv_rhs => unfold accOf
        rw [pt_eq]
      · rw [if_neg fun h => hlt (h2.mp h), show min ((t.val + 1) % 16) (t.val / 16) = t.val / 16 by omega, min_eq_right (by omega)]
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    have hi : (!(k1_cond3 (grid1.coords t) == 1#1)) = true := by simp [hn3]
    isplitl [H7]
    · iapply (outPost_idle W c 7 t hi fun hf d => before1_7 W c t d (by have := (flush1_7 t).mp hf; omega)); iexact H7
    · iapply (outPost_idle W c 8 t hi fun hf d => before1_8 W c t d (by have := (flush1_8 t).mp hf; omega)); iexact H8

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The body keeps to the proof data, at every point. -/
theorem body_obligation1 (c : Dev nD) : BodyObligation (dat1 (F := F) W c) (defs₀ (F := F)) Variants.none () Set.univ := fun t => by
  rw [bigSep_W1, bigSep_W1, defs₀_row1]
  exact triple_restated (sound_body1 W c t) rfl .rfl fun _ => .rfl

/-! ## Entering and leaving -/

/-- Two whole scratch buffers, held at anything, are the accumulator and the kept tiles before the first point. -/
theorem scr_zero (c : Dev nD) (f : Buf (Elt F) ((c : Thread nD τ).loc cc1_scratch0)) (g : Buf (Elt F) ((c : Thread nD τ).loc cc1_scratch1)) :
    iprop((((c : Thread nD τ).loc cc1_scratch0) ↦{fullShare} f) ∗ (((c : Thread nD τ).loc cc1_scratch1) ↦{fullShare} g)) ⊢ (scr W c 0 : sProp 𝕄) := by
  unfold scr
  rw [← owns_whole (c : Thread nD τ) cc1_scratch0 fullShare f, ← owns_whole (c : Thread nD τ) cc1_scratch1 fullShare g]
  iintro ⟨He, Hf⟩
  iexists f; iexists g
  isplitr
  · ipureintro
    exact ⟨fun j hj h => by omega, fun h => absurd rfl h⟩
  isplitl [He]; · iexact He
  iexact Hf

/-- The accumulator and the kept tiles are two whole scratch buffers. -/
theorem scr_any (c : Dev nD) (n : ℕ) : (scr W c n : sProp 𝕄)
    ⊢ iprop((∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f)) := by
  unfold scr
  iintro ⟨%A, %X, -, He, Hf⟩
  isplitl [He]
  · iexists A; rw [← owns_whole (c : Thread nD τ) cc1_scratch0 fullShare A]; iexact He
  · iexists X; rw [← owns_whole (c : Thread nD τ) cc1_scratch1 fullShare X]; iexact Hf

/-- The region's scoped rest, at entry, gives the invariant before the first point. -/
theorem enter1 (c : Dev nD) : Pipeline.scopedRest (Ix := Unit) (Name := ℕ) (U := UR sig nD τ) (Lvl := ℕ) (Val := Elt F) spec1 c
    ⊢ iprop(oth c ∗ scr W c 0) := by
  rw [scopedRest1_eq]
  unfold oth
  iintro ⟨Ha, Hb, Hc, Hd, ⟨%f, He⟩, ⟨%g, Hf⟩⟩
  isplitl [Ha Hb Hc Hd]
  · isplitl [Ha]; · iexact Ha
    isplitl [Hb]; · iexact Hb
    isplitl [Hc]; · iexact Hc
    iexact Hd
  iapply (scr_zero W c f g)
  isplitl [He]; · iexact He
  iexact Hf

/-- The invariant after the last point gives the scoped rest back. -/
theorem leave1 (c : Dev nD) (n : ℕ) : iprop(oth c ∗ scr W c n)
    ⊢ Pipeline.scopedRest (Ix := Unit) (Name := ℕ) (U := UR sig nD τ) (Lvl := ℕ) (Val := Elt F) spec1 c := by
  rw [scopedRest1_eq]
  unfold oth
  iintro ⟨⟨Ha, Hb, Hc, Hd⟩, He⟩
  ihave Hs := (scr_any W c n) $$ He
  icases Hs with ⟨He, Hf⟩
  isplitl [Ha]; · iexact Ha
  isplitl [Hb]; · iexact Hb
  isplitl [Hc]; · iexact Hc
  isplitl [Hd]; · iexact Hd
  isplitl [He]; · iexact He
  iexact Hf

end Cert.KernelIdeal.Gen
-- ==== Proof.KI.Run.lean ====
module

public import proofs.«01_k».proof.Proof.KI.Region0
public import proofs.«01_k».proof.Proof.KI.Region1
public import proofs.«01_k».proof.Proof.Gen.KernelIdeal.Regions
public import Idealize.ShloMosaic.Lib.Pipeline.RegionArraysS

/-! # The whole run

The two calls, entered from what the host operations before them leave, and the run of the program: it ends, with
every argument as it was, every counter at zero, and the two results at the values the calls' proof data give. -/

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)

variable {F : FTy → Type} [FloatOps F]

local notation "𝕄" => MT nD τ sig Unit (Elt F) ℕ (UR sig nD τ) ℕ

variable (m : (ℓ : Loc nD τ sig) → Buf (Elt F) ℓ)

/-! ## What the calls are entered from and what they leave -/

/-- The buffers when the first call is left. -/
def W3 (c : Dev nD) : Valuation τ sig (Elt F) :=
  Function.update (V2 m c) main_v6 (afterRegion (dat0 (V2 m) c) (V2 m c) main_v6)

/-- The buffers when the second call is entered. -/
def W4 (c : Dev nD) : Valuation τ sig (Elt F) := StableHlo.after hostOps1 (W3 m c)

/-- What the calls leave in their results. -/
def outsW : Outs (F := F) := fun J r c =>
  match J with
  | 3 => afterRegion (dat0 (V2 m) c) (V2 m c) r
  | _ => afterRegion (dat1 (W4 m) c) (W4 m c) r

/-- The second call is entered from the generated state before it. -/
theorem W4_eq (c : Dev nD) : V4 m (outsW m) c = W4 m c := rfl

/-- The proof data of the two calls. -/
def pdatsW : (p : Fin 2) → (c : Dev nD) → Dat τ (Elt F) Unit ℕ (UR sig nD τ) ℕ (cfgs p) c
  | ⟨0, _⟩ => dat0 (V2 m)
  | ⟨1, _⟩ => dat1 (W4 m)

/-- No core owes another anything: no level is assigned. -/
abbrev Lw : GSem nD τ sig → Finset Unit := fun _ => ∅
abbrev lvw : GSem nD τ sig → Unit → ℕ := fun _ _ => 0

/-- What rides beside the buffers: what the core owes, which is nothing. -/
abbrev Rw (c : Dev nD) : sProp 𝕄 := iprop(∃ W, owes (c : Thread nD τ) (0 : CellTallies nD τ sig Unit) W)

set_option backward.isDefEq.respectTransparency.types false in
/-- A call as a segment: entered from every unscoped buffer at `W`, left with them at `W'`. -/
def regOf (p : Fin 2) (kit : Pipeline.LaunchFacts (nD := nD) (τ := τ) cfgs p) (hK : (pcfgs (F := F) p).pre.K = 0)
    (W W' : Dev nD → Valuation τ sig (Elt F))
    (hbody : ∀ c, Pipeline.BodyObligation (pdatsW m p c) (defs₀ (F := F)) Variants.none () Set.univ)
    (howed : ∀ c t, (pdatsW m p c).owed t = 0) (hrec : ∀ c, (pdatsW m p c).recorded 0 = Set.univ)
    (hshare : ∀ c w, (pdatsW m p c).share w = fullShare)
    (hin : ∀ c, Pipeline.scopedRest (Ix := Unit) (Name := ℕ) (U := UR sig nD τ) (Lvl := ℕ) (Val := Elt F) (cfgs p).spec c ⊢ (pdatsW m p c).Φ 0)
    (hout : ∀ c, (pdatsW m p c).Φ (Fin.last (cfgs p).N) ⊢ Pipeline.scopedRest (Ix := Unit) (Name := ℕ) (U := UR sig nD τ) (Lvl := ℕ) (Val := Elt F) (cfgs p).spec c)
    (hW : ∀ c w, (pdatsW m p c).arrAt w 0 = W c (Proc.devRef .tc (Pipeline.arrRef (cfgs p).spec w)))
    (hS : Pipeline.arrRefs (τ := τ) (cfgs p).spec ⊆ Pipeline.ucRefs τ sig)
    (hW' : ∀ c, ∀ b ∈ Pipeline.ucRefs τ sig, afterRegion (pdatsW m p c) (W c) b = W' c b) :
    RegionSeg (pcfgs (F := F)) adm (pdatsW m) () defs₀ Variants.none Lw lvw p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ Lw lvw p howed
  pre c := iprop(StableHlo.held (c : Thread nD τ) (Pipeline.ucRefs τ sig) (W c) ∗ Rw c)
  post c := iprop(StableHlo.held (c : Thread nD τ) (Pipeline.ucRefs τ sig) (W' c) ∗ Rw c)
  X c := iprop(emp)
  Y c := iprop(emp)
  Z c := StableHlo.held (c : Thread nD τ) (Pipeline.ucRefs τ sig \ Pipeline.arrRefs (τ := τ) (cfgs p).spec) (W c)
  hentry c := by
    rw [Pipeline.ownSems0_none, Pipeline.prefHeld_of_none _ hK, StableHlo.held_sub_split (c : Thread nD τ) hS (W c),
      ← Pipeline.arrays_held (pcfgs (F := F)) adm (pdatsW m) p kit.toP c (hshare c) ((pdatsW m p c).arrAt · 0) (W c) (hW c)]
    iintro ⟨⟨⟨Ha, HZ⟩, HO⟩, -, -⟩
    imodintro
    isplitl [Ha]; · iexact Ha
    isplitr; · iempintro
    isplitl [HO]
    · unfold Dat.owesAt Pipeline.owesWithin Dat.bound
      rw [howed c 0, hrec c]
      icases HO with ⟨%W, HO⟩; iexists W; isplitr; · ipureintro; exact fun _ _ => Or.inl trivial
      iexact HO
    isplitr; · iempintro
    iexact HZ
  hin c := by
    iintro ⟨-, -, Hr⟩
    iapply (hin c); iexact Hr
  hout c := by
    rw [Pipeline.ownSems0_none]
    refine (hout c).trans ?_
    iintro Hr
    isplitr; · iempintro
    isplitr; · iempintro
    iexact Hr
  hexit c := by
    rw [← StableHlo.held_congr (c : Thread nD τ) (hW' c), StableHlo.held_sub_split (c : Thread nD τ) hS (afterRegion (pdatsW m p c) (W c)),
      StableHlo.held_congr (c : Thread nD τ) (S := Pipeline.ucRefs τ sig \ Pipeline.arrRefs (τ := τ) (cfgs p).spec) (V := afterRegion (pdatsW m p c) (W c)) (V' := W c)
        (Pipeline.afterRegion_off (pdatsW m p c) (W c) _),
      ← Pipeline.arrays_held (pcfgs (F := F)) adm (pdatsW m) p kit.toP c (hshare c) ((pdatsW m p c).arrAt · (cfgs p).N)
        (afterRegion (pdatsW m p c) (W c)) (fun w => (Pipeline.afterRegion_arr (pdatsW m p c) (W c) kit.win.arr_inj w).symm)]
    iintro ⟨Ha, HO, -, HZ⟩
    imodintro
    isplitl [Ha HZ]
    · isplitl [Ha]; · iexact Ha
      iexact HZ
    unfold Dat.owesAt Pipeline.owesWithin
    rw [howed c (Fin.last _)]
    icases HO with ⟨%W, -, HO⟩; iexists W; iexact HO

/-- An unscoped buffer of a device is one of the core's. -/
theorem ucRefs_ref {b : DevRef τ sig} (h : b ∈ Pipeline.ucRefs τ sig) : ∃ r : Ref sig .tc, b = Proc.devRef .tc r := by
  obtain ⟨r, -, e⟩ := Finset.mem_map.mp (Finset.mem_filter.mp h).1
  exact ⟨r, e.symm⟩

/-- The first call changes its result only. -/
theorem after0 (c : Dev nD) (b : DevRef τ sig) (hb : b ∈ Pipeline.ucRefs τ sig) :
    afterRegion (dat0 (V2 m) c) (V2 m c) b = V3 m (outsW m) c b := by
  obtain ⟨r, rfl⟩ := ucRefs_ref hb
  by_cases h : r = main_v6
  · subst h
    exact (Function.update_self (Proc.devRef .tc main_v6 : DevRef τ sig) _ (V2 m c)).symm
  · rw [V3_of m (outsW m) c r (by simp [h])]
    refine Pipeline.afterRegion_keeps (dat0 (V2 m) c) (V2 m c) winFacts0.arr_inj (A_eq0 (V2 m) c) r fun w hw => ?_
    match w, hw with
    | ⟨0, _⟩, _ => rfl
    | ⟨1, _⟩, hw => exact absurd hw.symm h

/-- The second call changes its two results only. -/
theorem after1 (c : Dev nD) (b : DevRef τ sig) (hb : b ∈ Pipeline.ucRefs τ sig) :
    afterRegion (dat1 (W4 m) c) (W4 m c) b = V5 m (outsW m) c b := by
  obtain ⟨r, rfl⟩ := ucRefs_ref hb
  by_cases h : r = main_v9_1
  · subst h
    refine Eq.symm ?_
    refine (Function.update_self (Proc.devRef .tc main_v9_1 : DevRef τ sig) _ _).trans ?_
    rfl
  by_cases h' : r = main_v9_0
  · subst h'
    refine Eq.symm ?_
    refine (Function.update_of_ne (StableHlo.devRef_ne_of_ne h : (Proc.devRef .tc main_v9_0 : DevRef τ sig) ≠ Proc.devRef .tc main_v9_1) _ _).trans ?_
    exact Function.update_self (Proc.devRef .tc main_v9_0 : DevRef τ sig) _ _
  · rw [V5_of m (outsW m) c r (by simp [h, h'])]
    refine Pipeline.afterRegion_keeps (dat1 (W4 m) c) (W4 m c) winFacts1.arr_inj (A_eq1 (W4 m) c) r fun w hw => ?_
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, hw => exact absurd hw.symm h'
    | ⟨8, _⟩, hw => exact absurd hw.symm h

/-- The first call as a segment. -/
def reg0 : RegionSeg (pcfgs (F := F)) adm (pdatsW m) () defs₀ Variants.none Lw lvw 0 :=
  regOf m 0 launch0 rfl (V2 m) (V3 m (outsW m)) (fun c => body_obligation0 (V2 m) c) (fun _ _ => rfl) (fun _ => rfl)
    (fun c w => (dat0 (V2 m) c).share_full (fun _ => rfl) w) (fun _ => .rfl) (fun _ => .rfl) (fun c w => A_eq0 (V2 m) c w)
    (Pipeline.arrRefs_sub_ucRefs spec0 (by decide)) (fun c b hb => after0 m c b hb)

/-- The second call as a segment. -/
def reg1 : RegionSeg (pcfgs (F := F)) adm (pdatsW m) () defs₀ Variants.none Lw lvw 1 :=
  regOf m 1 launch1 rfl (V4 m (outsW m)) (V5 m (outsW m)) (fun c => body_obligation1 (W4 m) c) (fun _ _ => rfl) (fun _ => rfl)
    (fun c w => (dat1 (W4 m) c).share_full (fun _ => rfl) w) (fun c => enter1 (W4 m) c) (fun c => leave1 (W4 m) c _) (fun c w => A_eq1 (W4 m) c w)
    (Pipeline.arrRefs_sub_ucRefs spec1 (by decide)) (fun c b hb => after1 m c b hb)

variable (ρ : Dev nD → PrngReg)

set_option backward.isDefEq.respectTransparency.types false in
/-- The run: it ends, every argument is as it was, the two results are at the last valuation's, every counter is zero. -/
theorem run_main :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v10) = V6 m (outsW m) c main_v10
      ∧ r.2.mem ((c.tc : Thread nD τ).loc main_v11) = V6 m (outsW m) c main_v11)
      ∧ r.2.sem = fun _ => 0) := by
  refine Pipeline.θ_run_regions_kit_dev_sems (pcfgs (F := F)) adm (pdatsW m) () cellOf_inj emb₁ defs₀ Variants.none Lw lvw m ρ main
    (segs m (outsW m) Variants.none Lw lvw (fun _ => Rw) () (pdatsW m) (reg0 m) (reg1 m))
    (fun c Q => by
      rewrite [main_chain c, Seg.run_eq_chain,
        show (segs m (outsW m) Variants.none Lw lvw (fun _ => Rw) () (pdatsW m) (reg0 m) (reg1 m) c).map Seg.prog = [
          StableHlo.seq hostOps0,
          StableHlo.seq hostOps0_1,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ Rw c))
    (Tₙ := fun c => StableHlo.held (c : Thread nD τ) (Pipeline.ucRefs τ sig) (V6 m (outsW m) c))
    (hch := fun c => ⟨.rfl, .rfl, .rfl, .rfl, .rfl, .rfl, sep_mono .rfl .rfl⟩)
    (hinit := ?_)
    (QY := fun c s =>
      (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
      ∧ s.mem ((c.tc : Thread nD τ).loc main_v10) = V6 m (outsW m) c main_v10
      ∧ s.mem ((c.tc : Thread nD τ).loc main_v11) = V6 m (outsW m) c main_v11)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells (Pipeline.pin pcfgs adm) cellOf_inj) (Pipeline.launchToks (Pipeline.pin pcfgs adm) cellOf_inj))) from .rfl)
      iexact Hu
    · iapply (show (BI.emp : sProp 𝕄) ⊢ bigSep Finset.univ (fun _ : Dev nD => (BI.emp : sProp 𝕄)) from by rw [BI.bigSep_emp_const])
      iempintro
  · refine Pipeline.initEach Lw lvw fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V6 m (outsW m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V6_main_arg0 m (outsW m) c),
        (h (Proc.devRef .tc main_arg1) (Finset.mem_filter.mpr ⟨StableHlo.devRef_mem_tcRefs main_arg1, by decide⟩)).trans (V6_main_arg1 m (outsW m) c),
        (h (Proc.devRef .tc main_arg2) (Finset.mem_filter.mpr ⟨StableHlo.devRef_mem_tcRefs main_arg2, by decide⟩)).trans (V6_main_arg2 m (outsW m) c),
        (h (Proc.devRef .tc main_arg3) (Finset.mem_filter.mpr ⟨StableHlo.devRef_mem_tcRefs main_arg3, by decide⟩)).trans (V6_main_arg3 m (outsW m) c),
        (h (Proc.devRef .tc main_arg4) (Finset.mem_filter.mpr ⟨StableHlo.devRef_mem_tcRefs main_arg4, by decide⟩)).trans (V6_main_arg4 m (outsW m) c),
        (h (Proc.devRef .tc main_arg5) (Finset.mem_filter.mpr ⟨StableHlo.devRef_mem_tcRefs main_arg5, by decide⟩)).trans (V6_main_arg5 m (outsW m) c)⟩,
        h (Proc.devRef .tc main_v10) (Finset.mem_filter.mpr ⟨StableHlo.devRef_mem_tcRefs main_v10, by decide⟩),
        h (Proc.devRef .tc main_v11) (Finset.mem_filter.mpr ⟨StableHlo.devRef_mem_tcRefs main_v11, by decide⟩)⟩
    · iexact HSI

end Cert.KernelIdeal.Gen
-- ==== Proof.Ref.Run.lean ====
/- The reference's run: where every buffer the claims name ends. -/
module

public import proofs.«01_k».proof.Proof.Gen.ReferenceIdeal.Run
public import Idealize.ShloMosaic.Lib.Quiescent
public import Idealize.ShloMosaic.Lib.StableHlo.RunHlo

@[expose] public section

set_option maxRecDepth 16384

noncomputable section

namespace Cert.ReferenceIdeal.Value

open Idealize.ShloMosaic Idealize.ShloMosaic.TcCoe Idealize.ShloMosaic.StableHlo
open Idealize.SL Idealize.SL.Sem
open Cert.ReferenceIdeal.Gen

variable {F : FTy → Type} [FloatOps F]
variable (m : (ℓ : Loc nD τ sig) → Buf (Elt F) ℓ) (ρ : Dev nD → PrngReg)

/-- A buffer that neither the loop's condition nor its body writes holds at every trip what it held at the loop's entry. -/
theorem atK_keep (r : Ref sig .tc) (hc : r ∉ condOps_W) (h0 : r ∉ while0Ops0_W) (h1 : r ∉ while0Ops0_1_W) (h2 : r ∉ while0Ops0_2_W)
    (c : Dev nD) : ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub _ _ while0Ops0_2_writes h2, after_of_writes_sub _ _ while0Ops0_1_writes h1,
      after_of_writes_sub _ _ while0Ops0_writes h0, after_of_writes_sub _ _ condOps_writes hc]
    exact atK_keep r hc h0 h1 h2 c k

/-- Core `c`'s buffers when the reference's loop is entered. -/
abbrev entryV (c : Dev nD) : Valuation τ sig (Elt F) := entryContents preI m c

/-- A buffer written only before the loop ends at what it held at the loop's entry. -/
theorem final_keep (r : Ref sig .tc) (hc : r ∉ condOps_W) (h0 : r ∉ while0Ops0_W) (h1 : r ∉ while0Ops0_1_W) (h2 : r ∉ while0Ops0_2_W)
    (hp : r ∉ hostOps0_1_W) (c : Dev nD) :
    finalContents condOps preI bodyI postI 2048 m c (Proc.devRef .tc r) = entryV m c (Proc.devRef .tc r) := by
  show afterL postI (after condOps (atK m 2048 c)) (Proc.devRef .tc r) = _
  simp only [afterL_cons, afterL_nil]
  rw [after_of_writes_sub _ _ hostOps0_1_writes hp, after_of_writes_sub _ _ condOps_writes hc]
  exact atK_keep m r hc h0 h1 h2 c 2048

/-- An argument of the reference holds at the loop's entry what it held at the start. -/
theorem entry_keep (r : Ref sig .tc) (h : r ∉ hostOps0_W) (c : Dev nD) :
    entryV m c (Proc.devRef .tc r) = m ((c.tc : Thread nD τ).loc r) := by
  show after hostOps0 (launchContents m c) (Proc.devRef .tc r) = _
  rw [after_of_writes_sub _ _ hostOps0_writes h]

/-- The carried buffers at the loop's end: the step iterated 2048 times on the loop's entry. -/
abbrev endV (c : Dev nD) : Valuation τ sig (Elt F) := STEP^[2048] (entryV m c)

/-- The second result ends at the loop's error array, reshaped. -/
theorem final_v45 (c : Dev nD) :
    finalContents condOps preI bodyI postI 2048 m c (Proc.devRef .tc main_v45)
      = shapeCast S3x384x4096 (endV m c (Proc.devRef .tc main_v44_6)) shapeCasts_S1152x4096_S3x384x4096 := by
  have h := atK_agree m c 2048 main_v44_6 (by decide)
  show after hostOps0_1 (after condOps (atK m 2048 c)) (Proc.devRef .tc main_v45) = _
  have hk : after condOps (atK m 2048 c) (Proc.devRef .tc main_v44_6) = endV m c (Proc.devRef .tc main_v44_6) := by
    rw [after_of_writes_sub _ _ condOps_writes (by decide)]; exact h
  rw [← hk]
  rfl

/-- From any memory with zero counters the reference terminates: its arguments are unchanged, its results are the
    gathered array and the loop's error array, and every counter is zero. -/
theorem run_ref : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v37) = entryV m c (Proc.devRef .tc main_v37)
      ∧ r.2.mem ((c.tc : Thread nD τ).loc main_v45)
          = shapeCast S3x384x4096 (endV m c (Proc.devRef .tc main_v44_6)) shapeCasts_S1152x4096_S3x384x4096)
      ∧ r.2.sem = fun _ => 0) := by
  refine θ_run_mono (run_fold m ρ) fun r h => ⟨fun c => ⟨?_, ?_, ?_, ?_, ?_, ?_, ?_, ?_⟩, sem_eq_zero_of_no_sems (by decide) _⟩
  · exact (h c main_arg0 rfl).trans ((final_keep m main_arg0 (by decide) (by decide) (by decide) (by decide) (by decide) c).trans (entry_keep m main_arg0 (by decide) c))
  · exact (h c main_arg1 rfl).trans ((final_keep m main_arg1 (by decide) (by decide) (by decide) (by decide) (by decide) c).trans (entry_keep m main_arg1 (by decide) c))
  · exact (h c main_arg2 rfl).trans ((final_keep m main_arg2 (by decide) (by decide) (by decide) (by decide) (by decide) c).trans (entry_keep m main_arg2 (by decide) c))
  · exact (h c main_arg3 rfl).trans ((final_keep m main_arg3 (by decide) (by decide) (by decide) (by decide) (by decide) c).trans (entry_keep m main_arg3 (by decide) c))
  · exact (h c main_arg4 rfl).trans ((final_keep m main_arg4 (by decide) (by decide) (by decide) (by decide) (by decide) c).trans (entry_keep m main_arg4 (by decide) c))
  · exact (h c main_arg5 rfl).trans ((final_keep m main_arg5 (by decide) (by decide) (by decide) (by decide) (by decide) c).trans (entry_keep m main_arg5 (by decide) c))
  · exact (h c main_v37 rfl).trans (final_keep m main_v37 (by decide) (by decide) (by decide) (by decide) (by decide) c)
  · exact (h c main_v45 rfl).trans (final_v45 m c)

end Cert.ReferenceIdeal.Value

end
-- ==== Proof.Val.Pre.lean ====
module

public import proofs.«01_k».proof.Pre_finite_nonsingular
public import Idealize.ShloMosaic.Lib.KernelVsHost
public import Idealize.ShloMosaic.Lib.Pointwise
public import Idealize.ShloMosaic.Lib.WordCmp

/-! # What the precondition says of the arguments -/

@[expose] public section

set_option maxRecDepth 16384

noncomputable section

namespace Cert.Val

open Idealize.ShloMosaic Cert.Pre_finite_nonsingular

/-- The shape relations of the precondition's operations. -/
theorem preFacts : Cert.Pre_finite_nonsingular.Facts := ⟨by decide, by decide, by decide, by decide⟩

/-- A value whose magnitude is below infinity is a real number. -/
theorem real_of_lt (x T : EReal) (hT : T = ⊤) (h : Ideal.cmp .olt (max x (-x)) T = 1#1) : x = ((x.toReal : ℝ) : EReal) := by
  subst hT
  have h' : max x (-x) < ⊤ := by
    by_contra hc
    rw [show Ideal.cmp .olt (max x (-x)) ⊤ = 0#1 by simp [Ideal.cmp, hc]] at h
    exact absurd h (by decide)
  rw [max_lt_iff] at h'
  refine (EReal.coe_toReal h'.1.ne ?_).symm
  rintro rfl
  exact absurd h'.2 (by simp)

/-- The word of the infinity of f32. -/
theorem inf32 : Ideal.ofBits .f32 0x7F800000#32 = ⊤ := by simp [Ideal.ofBits, Ideal.ieee]
/-- The word of the infinity of bf16. -/
theorem inf16 : Ideal.ofBits .bf16 0x7F80#16 = ⊤ := by simp [Ideal.ofBits, Ideal.ieee]

section
variable [Cert.Pre_finite_nonsingular.Facts]
variable (a0 : FVec Ideal S3x384x4096 .bf16) (a1 : IVec S3x384x2048 8) (a2 : IVec S3x32x256x2 8) (a3 : FVec Ideal S3x32 .f32)
  (a4 : FVec Ideal S3x384x32 .f32) (a5 : FVec Ideal S4096x4096 .f32)

/-- The weights are real numbers. -/
theorem pre_w (h : (fn (F := Ideal) a0 a1 a2 a3 a4 a5).1 = fun _ => 1#1) (i : S3x384x4096.Idx) : (a0 i : EReal) = ((EReal.toReal (a0 i) : ℝ) : EReal) :=
  real_of_lt _ _ inf16 (congrFun h i)

/-- The codebook scales are real numbers. -/
theorem pre_sc (h : (fn (F := Ideal) a0 a1 a2 a3 a4 a5).2.1 = fun _ => 1#1) (i : S3x32.Idx) : (a3 i : EReal) = ((EReal.toReal (a3 i) : ℝ) : EReal) :=
  real_of_lt _ _ inf32 (congrFun h i)

/-- The row scales are real numbers. -/
theorem pre_rs (h : (fn (F := Ideal) a0 a1 a2 a3 a4 a5).2.2.1 = fun _ => 1#1) (i : S3x384x32.Idx) : (a4 i : EReal) = ((EReal.toReal (a4 i) : ℝ) : EReal) :=
  real_of_lt _ _ inf32 (congrFun h i)

/-- The factor's upper triangle holds real numbers. -/
theorem pre_u (h : (fn (F := Ideal) a0 a1 a2 a3 a4 a5).2.2.2.1 = fun _ => 1#1) (i j : Fin 4096) (hij : i.val ≤ j.val) :
    (a5 (ix2 i j) : EReal) = ((EReal.toReal (a5 (ix2 i j)) : ℝ) : EReal) := by
  have h1 : IntOp.ori (IntOp.cmpi .sgt (BitVec.ofNat 32 i.val) (BitVec.ofNat 32 j.val))
      (Ideal.cmp .olt (max (a5 (ix2 i j) : EReal) (-(a5 (ix2 i j) : EReal))) (Ideal.ofBits .f32 0x7F800000#32)) = 1#1 := congrFun h (ix2 i j)
  have h2 : IntOp.cmpi .sgt (BitVec.ofNat 32 i.val) (BitVec.ofNat 32 j.val) = 0#1 := by
    rw [Idealize.ShloMosaic.WordCmp.cmpi_sgt_ofNat (by have := i.isLt; omega) (by have := j.isLt; omega), decide_eq_false (by omega)]
    rfl
  rw [h2] at h1
  refine real_of_lt _ _ inf32 ?_
  have : ∀ b : BitVec 1, IntOp.ori 0#1 b = 1#1 → b = 1#1 := by decide
  exact this _ h1

/-- The factor's diagonal is nowhere zero. -/
theorem pre_diag (h : (fn (F := Ideal) a0 a1 a2 a3 a4 a5).2.2.2.2 = fun _ => 1#1) (i : Fin 4096) : (a5 (ix2 i i) : EReal) ≠ 0 := by
  have h1 : IntOp.ori (IntOp.cmpi .ne (BitVec.ofNat 32 i.val) (BitVec.ofNat 32 i.val))
      (Ideal.cmp .une (a5 (ix2 i i) : EReal) (Ideal.ofBits .f32 0x00000000#32)) = 1#1 := congrFun h (ix2 i i)
  rw [Ideal.ofBits_zero_f32, show IntOp.cmpi .ne (BitVec.ofNat 32 i.val) (BitVec.ofNat 32 i.val) = 0#1 by simp [IntOp.cmpi]] at h1
  intro h0
  rw [h0] at h1
  exact absurd h1 (by simp [Ideal.cmp, IntOp.ori])

end

end Cert.Val

end
-- ==== Proof.KI.V0Struct.lean ====
module

public import proofs.«01_k».proof.Proof.KI.Region0

/-! # The inverse of a diagonal block, step by step

The values the first call computes, as iterations of one step of back substitution on 32 rows. -/

@[expose] public section

set_option maxRecDepth 16384

noncomputable section

namespace Cert.KernelIdeal.Gen

open Idealize.ShloMosaic Idealize.ShloMosaic.TcCoe

variable {F : FTy → Type} [FloatOps F]

/-- One row of a 32-row array fits in it. -/
theorem slices_row (n : ℕ) : S32x128.Slices ![31 - n, 0] S1x128 := by
  refine ⟨rfl, fun a => ?_⟩
  fin_cases a
  · show 31 - n + 1 ≤ 32; omega
  · show 0 + 128 ≤ 128; omega

/-- Column `k` of each lane's group, copied to every lane of the group. -/
def bCol (pk : FVec F S32x128 .f32) (g0 : IVec S32x128 32) (k : BitVec 32) : FVec F S32x128 .f32 :=
  dynamicGather 1 pk (shapeCast S32x128 (shapeCast S32x128x1 (select (cmpi .slt (addi g0 (broadcast S32x128 k)) (broadcast S32x128 0#32))
    (addi (addi g0 (broadcast S32x128 k)) (broadcast S32x128 128#32)) (addi g0 (broadcast S32x128 k))) shapeCasts_S32x128_S32x128x1) shapeCasts_S32x128x1_S32x128)

/-- One step of back substitution: row `31 - n` is divided by the pivot, and its multiples leave the rows above. -/
def bStep (row : IVec S32x128 32) (pk : FVec F S32x128 .f32) (g0 : IVec S32x128 32) (n : ℕ) (inv : FVec F S32x128 .f32) : FVec F S32x128 .f32 :=
  have col : FVec F S32x128 .f32 := bCol pk g0 (BitVec.ofNat 32 (31 - n))
  have piv : FVec F S1x128 .f32 := divf (extractStridedSlice S1x128 ![31 - n, 0] inv (slices_row n)) (extractStridedSlice S1x128 ![31 - n, 0] col (slices_row n))
  select (cmpi .eq row (broadcast S32x128 (BitVec.ofNat 32 (31 - n))))
    (broadcastTo S32x128 (shapeCast S1x128 piv shapeCasts_S1x128_S1x128) broadcasts_S1x128_S32x128)
    (select (cmpi .slt row (broadcast S32x128 (BitVec.ofNat 32 (31 - n)))) (subf inv (mulf col (broadcastTo S32x128 piv broadcasts_S1x128_S32x128))) inv)

/-- The first `n` steps. -/
def bIter (row : IVec S32x128 32) (pk : FVec F S32x128 .f32) (g0 : IVec S32x128 32) (inv0 : FVec F S32x128 .f32) : ℕ → FVec F S32x128 .f32
  | 0 => inv0
  | n + 1 => bStep row pk g0 n (bIter row pk g0 inv0 n)

section
variable (x0 : Vec F S256x256 .f32)

/-- The first half's start value. -/
def first0 : FVec F S32x128 .f32 := k0_pay15 (k0_pay174 x0) (k0_pay175 x0)
/-- The first half after `n` steps. -/
def firstN (n : ℕ) : FVec F S32x128 .f32 := bIter (k0_pay175 x0) (k0_pay176 x0) (k0_pay177 x0) (first0 x0) n
/-- The second half after `n` steps. -/
def secondN (n : ℕ) : FVec F S32x128 .f32 := bIter (k0_pay208 x0) (k0_pay209 x0) (k0_pay213 x0) (k0_pay210 x0) n

/-- Both halves of the eight base inverses. -/
theorem both32 : k0_pay241 x0 = concatenate S32x256 1 [⟨S32x128, firstN x0 32⟩, ⟨S32x128, secondN x0 32⟩] concatenates_S32x128_S32x128_S32x256_d1 := rfl

end

/-- The floor of a quotient of words, as the program computes it. -/
def fdivV {S : Shape} (v : IVec S 32) (d : BitVec 32) : IVec S 32 :=
  select (andi (cmpi .ne (subi (extui 32 (cmpi .sgt v (broadcast S 0#32)) natLt_1_32) (extui 32 (cmpi .slt v (broadcast S 0#32)) natLt_1_32))
      (broadcast S (Scalar.subi (Scalar.extui (Scalar.cmpi .sgt d 0#32)) (Scalar.extui (Scalar.cmpi .slt d 0#32)))))
    (cmpi .ne (remsi v (broadcast S d)) (broadcast S 0#32)))
    (subi (divsi v (broadcast S d)) (broadcast S 1#32)) (divsi v (broadcast S d))

/-- The remainder with the sign of the divisor, as the program computes it. -/
def fmodV {S : Shape} (hb : S.Broadcasts S) (v : IVec S 32) (d : BitVec 32) : IVec S 32 :=
  have d' : BitVec 32 := Scalar.select (Scalar.cmpi .eq d 0#32) 1#32 d
  have r : IVec S 32 := remsi v (broadcast S d')
  select (andi (xori (cmpi .slt r (broadcast S 0#32)) (broadcastTo S (broadcast S (Scalar.cmpi .slt d' 0#32)) hb)) (cmpi .ne r (broadcast S 0#32)))
    (addi r (broadcast S d')) r

/-- The lanes of odd groups of `s`. -/
def oddV (v2 : IVec S256x256 32) (s : BitVec 32) : IVec S256x256 1 :=
  cmpi .eq (fmodV broadcasts_S256x256_S256x256 (fdivV v2 s) 2#32) (broadcast S256x256 1#32)
/-- The block above a diagonal block of an odd group. -/
def aboveV (v1 v2 : IVec S256x256 32) (s : BitVec 32) : IVec S256x256 1 :=
  andi (oddV v2 s) (cmpi .eq (fdivV v1 s) (subi (fdivV v2 s) (broadcast S256x256 1#32)))
/-- The diagonal block of an odd group. -/
def diagV (v1 v2 : IVec S256x256 32) (s : BitVec 32) : IVec S256x256 1 :=
  andi (oddV v2 s) (cmpi .eq (fdivV v1 s) (fdivV v2 s))

/-- Row and column numbers. -/
abbrev rowI : IVec S256x256 32 := iota .tc S256x256 32 [0] iota_S256x256_d0_w32
/-- Row and column numbers. -/
abbrev colI : IVec S256x256 32 := iota .tc S256x256 32 [1] iota_S256x256_d1_w32

/-- An array of zeros. -/
abbrev zeroV (S : Shape) : FVec F S .f32 := broadcast S (Scalar.ofBits .f32 0x00000000#32)

/-- The corner of each pair of groups of 32 lanes. -/
def corner32 (u : FVec F S256x256 .f32) (x : FVec F S32x256 .f32) : FVec F S32x256 .f32 :=
  matmul dot_S32x256_S256x256_S32x256_1_0_0_1_n_n (some .fp32)
    (matmul dot_S32x256_S256x256_S32x256_1_0_0_1_n_n (some .fp32) x (select (aboveV rowI colI 32#32) u (zeroV S256x256)) (constant S32x256 .f32 0x00000000#32))
    (select (diagV rowI colI 32#32) (concatenate S256x256 0 [⟨S32x256, x⟩, ⟨S32x256, x⟩, ⟨S32x256, x⟩, ⟨S32x256, x⟩, ⟨S32x256, x⟩, ⟨S32x256, x⟩, ⟨S32x256, x⟩, ⟨S32x256, x⟩] concatenates_S32x256_S32x256_S32x256_S32x256_S32x256_S32x256_S32x256_S32x256_S256x256_d0) (zeroV S256x256))
    (constant S32x256 .f32 0x00000000#32)
/-- From groups of 32 to groups of 64. -/
def dbl32 (u : FVec F S256x256 .f32) (x : FVec F S32x256 .f32) : FVec F S64x256 .f32 :=
  have o : IVec S32x256 1 := extractStridedSlice S32x256 ![0, 0] (oddV colI 32#32) slices_S256x256_o0_0_S32x256
  concatenate S64x256 0 [⟨S32x256, select o (subf (zeroV S32x256) (corner32 u x)) x⟩, ⟨S32x256, select o x (zeroV S32x256)⟩] concatenates_S32x256_S32x256_S64x256_d0

/-- The corner of each pair of groups of 64 lanes. -/
def corner64 (u : FVec F S256x256 .f32) (x : FVec F S64x256 .f32) : FVec F S64x256 .f32 :=
  matmul dot_S64x256_S256x256_S64x256_1_0_0_1_n_n (some .fp32)
    (matmul dot_S64x256_S256x256_S64x256_1_0_0_1_n_n (some .fp32) x (select (aboveV rowI colI 64#32) u (zeroV S256x256)) (constant S64x256 .f32 0x00000000#32))
    (select (diagV rowI colI 64#32) (concatenate S256x256 0 [⟨S64x256, x⟩, ⟨S64x256, x⟩, ⟨S64x256, x⟩, ⟨S64x256, x⟩] concatenates_S64x256_S64x256_S64x256_S64x256_S256x256_d0) (zeroV S256x256))
    (constant S64x256 .f32 0x00000000#32)
/-- From groups of 64 to groups of 128. -/
def dbl64 (u : FVec F S256x256 .f32) (x : FVec F S64x256 .f32) : FVec F S128x256 .f32 :=
  have o : IVec S64x256 1 := extractStridedSlice S64x256 ![0, 0] (oddV colI 64#32) slices_S256x256_o0_0_S64x256
  concatenate S128x256 0 [⟨S64x256, select o (subf (zeroV S64x256) (corner64 u x)) x⟩, ⟨S64x256, select o x (zeroV S64x256)⟩] concatenates_S64x256_S64x256_S128x256_d0

/-- The corner of the pair of groups of 128 lanes. -/
def corner128 (u : FVec F S256x256 .f32) (x : FVec F S128x256 .f32) : FVec F S128x256 .f32 :=
  matmul dot_S128x256_S256x256_S128x256_1_0_0_1_n_n (some .fp32)
    (matmul dot_S128x256_S256x256_S128x256_1_0_0_1_n_n (some .fp32) x (select (aboveV rowI colI 128#32) u (zeroV S256x256)) (constant S128x256 .f32 0x00000000#32))
    (select (diagV rowI colI 128#32) (concatenate S256x256 0 [⟨S128x256, x⟩, ⟨S128x256, x⟩] concatenates_S128x256_S128x256_S256x256_d0) (zeroV S256x256))
    (constant S128x256 .f32 0x00000000#32)
/-- From groups of 128 to the whole block. -/
def dbl128 (u : FVec F S256x256 .f32) (x : FVec F S128x256 .f32) : FVec F S256x256 .f32 :=
  have o : IVec S128x256 1 := extractStridedSlice S128x256 ![0, 0] (oddV colI 128#32) slices_S256x256_o0_0_S128x256
  concatenate S256x256 0 [⟨S128x256, select o (subf (zeroV S128x256) (corner128 u x)) x⟩, ⟨S128x256, select o x (zeroV S128x256)⟩] concatenates_S128x256_S128x256_S256x256_d0

/-- Lane numbers of the packed blocks. -/
abbrev planeI : IVec S32x256 32 := iota .tc S32x256 32 [1] iota_S32x256_d1_w32

/-- The diagonal blocks of 32, side by side. -/
def packV (u : FVec F S256x256 .f32) : FVec F S32x256 .f32 :=
  select (cmpi .eq (fdivV planeI 32#32) (broadcast S32x256 7#32)) (extractStridedSlice S32x256 ![224, 0] u slices_S256x256_o224_0_S32x256)
  (select (cmpi .eq (fdivV planeI 32#32) (broadcast S32x256 6#32)) (extractStridedSlice S32x256 ![192, 0] u slices_S256x256_o192_0_S32x256)
  (select (cmpi .eq (fdivV planeI 32#32) (broadcast S32x256 5#32)) (extractStridedSlice S32x256 ![160, 0] u slices_S256x256_o160_0_S32x256)
  (select (cmpi .eq (fdivV planeI 32#32) (broadcast S32x256 4#32)) (extractStridedSlice S32x256 ![128, 0] u slices_S256x256_o128_0_S32x256)
  (select (cmpi .eq (fdivV planeI 32#32) (broadcast S32x256 3#32)) (extractStridedSlice S32x256 ![96, 0] u slices_S256x256_o96_0_S32x256)
  (select (cmpi .eq (fdivV planeI 32#32) (broadcast S32x256 2#32)) (extractStridedSlice S32x256 ![64, 0] u slices_S256x256_o64_0_S32x256)
  (select (cmpi .eq (fdivV planeI 32#32) (broadcast S32x256 1#32)) (extractStridedSlice S32x256 ![32, 0] u slices_S256x256_o32_0_S32x256)
  (select (cmpi .eq (fdivV planeI 32#32) (broadcast S32x256 0#32)) (extractStridedSlice S32x256 ![0, 0] u slices_S256x256_o0_0_S32x256)
  (zeroV S32x256))))))))

/-- Row and lane numbers of a half. -/
abbrev rowH : IVec S32x128 32 := iota .tc S32x128 32 [0] iota_S32x128_d0_w32
/-- Row and lane numbers of a half. -/
abbrev laneH : IVec S32x128 32 := iota .tc S32x128 32 [1] iota_S32x128_d1_w32

/-- The identity in each group of a half. -/
def eyeH : FVec F S32x128 .f32 :=
  select (cmpi .eq rowH (fmodV broadcasts_S32x128_S32x128 laneH 32#32)) (broadcast S32x128 (Scalar.ofBits .f32 0x3F800000#32)) (zeroV S32x128)

/-- The base inverse of one half. -/
def baseH (pk : FVec F S32x128 .f32) : FVec F S32x128 .f32 :=
  bIter rowH pk (subi laneH (fmodV broadcasts_S32x128_S32x128 laneH 32#32)) eyeH 32

/-- The inverses of the diagonal blocks of 32. -/
def baseV (u : FVec F S256x256 .f32) : FVec F S32x256 .f32 :=
  concatenate S32x256 1 [⟨S32x128, baseH (extractStridedSlice S32x128 ![0, 0] (packV u) slices_S32x256_o0_0_S32x128)⟩,
    ⟨S32x128, baseH (extractStridedSlice S32x128 ![0, 128] (packV u) slices_S32x256_o0_128_S32x128)⟩] concatenates_S32x128_S32x128_S32x256_d1

/-- The inverse of the whole diagonal block. -/
def invV (u : FVec F S256x256 .f32) : FVec F S256x256 .f32 := dbl128 u (dbl64 u (dbl32 u (baseV u)))

section
variable (x0 : Vec F S256x256 .f32)

/-- The inverses of the 32 × 32 diagonal blocks, as the body has them. -/
theorem base_eq : k0_pay241 x0 = baseV (View.ld x0 r0_0) := rfl
/-- The mask of the first doubling, as the body has it. -/
theorem mask32_eq : k0_pay242 x0 = oddV colI 32#32 := rfl
/-- The second doubling, as the body has it. -/
theorem dbl64_eq : k0_pay244 x0 = dbl64 (View.ld x0 r0_0) (dbl32 (View.ld x0 r0_0) (k0_pay241 x0)) := rfl
/-- What the first call stores for one block is the inverse of the block, written out above. -/
theorem out0_eq : out0_1 x0 = View.canon [⟨r0_1, shapeCast S1x256x256 (invV (View.ld x0 r0_0)) shapeCasts_S256x256_S1x256x256⟩] := rfl

end

end Cert.KernelIdeal.Gen

end
-- ==== Proof.Val.Blocks.lean ====
module

public import proofs.«01_k».proof.Proof.KI.Run
public import proofs.«01_k».proof.Proof.KI.V0Struct
public import Idealize.ShloMosaic.Lib.Pipeline.ValueKit
public import Idealize.ShloMosaic.Lib.Pointwise

/-! # The calls' windows at an index

What each window's block is of its array, element by element, and what the calls leave in their results. -/

@[expose] public section

set_option maxRecDepth 16384

noncomputable section

namespace Cert.KernelIdeal.Gen

open Idealize.ShloMosaic Idealize.ShloMosaic.TcCoe Idealize.ShloMosaic.Tactic
open Idealize.SL Idealize.SL.RA
open Idealize.ShloMosaic.Pipeline (Dat Cfg Window afterRegion)

variable {F : FTy → Type} [FloatOps F]

variable (W : Dev nD → Valuation τ sig (Elt F)) (c : Dev nD)

/-- Where the solve call's windows stand at a point. -/
theorem idx1 : ∀ t : Fin cfg1.N,
    (win1_0.index t = ![0, 0] ∧ win1_1.index t = ![0, t.val / 16] ∧ win1_2.index t = ![0, t.val / 16] ∧
    win1_3.index t = ![0, 0, 0] ∧ win1_4.index t = ![0, 0] ∧
    win1_5.index t = ![min (t.val % 16) (t.val / 16), t.val / 16] ∧ win1_6.index t = ![t.val / 16, 0, 0]) ∧
    win1_7.index t = ![0, t.val / 16] ∧ win1_8.index t = ![0, t.val / 16] := by
  decide +kernel

/-- Where the inversion call's windows stand at a point. -/
theorem idx0 : ∀ t : Fin cfg0.N, win0_0.index t = ![t.val, t.val] ∧ win0_1.index t = ![t.val, 0, 0] := by
  decide +kernel

/-- The block of the first call at step `t`: diagonal block `t` of the factor. -/
theorem blk0_0 (t : Fin cfg0.N) (i j : Fin 256) (I J : Fin 4096) (hI : I.val = 256 * t.val + i.val) (hJ : J.val = 256 * t.val + j.val) :
    iblk0 W c 0 t (Idealize.ShloMosaic.ix2 i j) = W c main_arg5 (Idealize.ShloMosaic.ix2 I J) := by
  blk_ext [iblk0, (idx0 t).1]

/-- The weights' block of the second call. -/
theorem blk1_1 (t : Fin cfg1.N) (r : Fin 1152) (l : Fin 256) (J : Fin 4096) (hJ : J.val = 256 * (t.val / 16) + l.val) :
    iblk1 W c 1 t (Idealize.ShloMosaic.ix2 r l) = W c main_v7 (Idealize.ShloMosaic.ix2 r J) := by
  blk_ext [iblk1, (idx1 t).1.2.1]

/-- The codes' block of the second call. -/
theorem blk1_2 (t : Fin cfg1.N) (r : Fin 1152) (l : Fin 128) (J : Fin 2048) (hJ : J.val = 128 * (t.val / 16) + l.val) :
    iblk1 W c 2 t (Idealize.ShloMosaic.ix2 r l) = W c main_v8 (Idealize.ShloMosaic.ix2 r J) := by
  blk_ext [iblk1, (idx1 t).1.2.2.1]

/-- The codebook scales, whole at every step. -/
theorem blk1_0 (t : Fin cfg1.N) (a : Fin 3) (b : Fin 32) :
    iblk1 W c 0 t (Idealize.ShloMosaic.ix2 a b) = W c main_arg3 (Idealize.ShloMosaic.ix2 a b) := by
  blk_ext [iblk1, (idx1 t).1.1]

/-- The codebook table, whole at every step. -/
theorem blk1_3 (t : Fin cfg1.N) (a : Fin 3) (b : Fin 32) (d : Fin 128) :
    iblk1 W c 3 t (Idealize.ShloMosaic.ix3 a b d) = W c main_v3 (Idealize.ShloMosaic.ix3 a b d) := by
  blk_ext [iblk1, (idx1 t).1.2.2.2.1]

/-- The row scales, whole at every step. -/
theorem blk1_4 (t : Fin cfg1.N) (r : Fin 1152) (l : Fin 128) :
    iblk1 W c 4 t (Idealize.ShloMosaic.ix2 r l) = W c main_v5 (Idealize.ShloMosaic.ix2 r l) := by
  blk_ext [iblk1, (idx1 t).1.2.2.2.2.1]

/-- The factor's block of the second call. -/
theorem blk1_5 (t : Fin cfg1.N) (i j : Fin 256) (I J : Fin 4096) (hI : I.val = 256 * min (t.val % 16) (t.val / 16) + i.val)
    (hJ : J.val = 256 * (t.val / 16) + j.val) :
    iblk1 W c 5 t (Idealize.ShloMosaic.ix2 i j) = W c main_arg5 (Idealize.ShloMosaic.ix2 I J) := by
  blk_ext [iblk1, (idx1 t).1.2.2.2.2.2.1]

/-- The inverse's block of the second call. -/
theorem blk1_6 (t : Fin cfg1.N) (i j : Fin 256) (b : Fin 16) (hb : b.val = t.val / 16) :
    iblk1 W c 6 t (Idealize.ShloMosaic.ix3 (0 : Fin 1) i j) = W c main_v6 (Idealize.ShloMosaic.ix3 b i j) := by
  blk_ext [iblk1, (idx1 t).1.2.2.2.2.2.2]

/-- What the solve call leaves of the first result. -/
theorem arr1_7 : afterRegion (dat1 W c) (W c) main_v9_0 = fun x : S1152x4096.Idx =>
    k1_pay113 (dqAt W c ((x 1).val / 256)) (Idealize.ShloMosaic.ix2 (⟨(x 0).val, (x 0).isLt⟩ : Fin 1152) (⟨(x 1).val % 256, Nat.mod_lt _ (by decide)⟩ : Fin 256)) := by
  refine (Pipeline.afterRegion_arr (dat1 W c) (W c) winFacts1.arr_inj 7).trans ?_
  refine (dat1 W c).arrAt_eq_of_covers 7 _ (by decide +kernel) fun t hf y => ?_
  blk_simp
  rw [after1_7]
  have e0 : win1_7.index t 0 = 0 := congrFun (idx1 t).2.1 0
  have e1 : win1_7.index t 1 = t.val / 16 := congrFun (idx1 t).2.1 1
  have h1 : (y 1).val < 256 := (y 1).isLt
  have hd : (win1_7.index t 1 * 256 + (y 1).val) / 256 = t.val / 16 := by rw [e1]; omega
  rw [hd]
  refine congrArg (k1_pay113 (dqAt W c (t.val / 16))) (funext fun a => Fin.ext ?_)
  match a with
  | ⟨0, _⟩ => show (y 0).val = win1_7.index t 0 * 1152 + (y 0).val; rw [e0]; omega
  | ⟨1, _⟩ => show (y 1).val = (win1_7.index t 1 * 256 + (y 1).val) % 256; rw [e1]; omega

/-- What the solve call leaves of the second result. -/
theorem arr1_8 : afterRegion (dat1 W c) (W c) main_v9_1 = fun x : S1152x4096.Idx =>
    eAt W c ((x 1).val / 256) (Idealize.ShloMosaic.ix2 (⟨(x 0).val, (x 0).isLt⟩ : Fin 1152) (⟨(x 1).val % 256, Nat.mod_lt _ (by decide)⟩ : Fin 256)) := by
  refine (Pipeline.afterRegion_arr (dat1 W c) (W c) winFacts1.arr_inj 8).trans ?_
  refine (dat1 W c).arrAt_eq_of_covers 8 _ (by decide +kernel) fun t hf y => ?_
  blk_simp
  rw [after1_8]
  have e0 : win1_8.index t 0 = 0 := congrFun (idx1 t).2.2 0
  have e1 : win1_8.index t 1 = t.val / 16 := congrFun (idx1 t).2.2 1
  have h1 : (y 1).val < 256 := (y 1).isLt
  have hd : (win1_8.index t 1 * 256 + (y 1).val) / 256 = t.val / 16 := by rw [e1]; omega
  rw [hd]
  refine congrArg (eAt W c (t.val / 16)) (funext fun a => Fin.ext ?_)
  match a with
  | ⟨0, _⟩ => show (y 0).val = win1_8.index t 0 * 1152 + (y 0).val; rw [e0]; omega
  | ⟨1, _⟩ => show (y 1).val = (win1_8.index t 1 * 256 + (y 1).val) % 256; rw [e1]; omega

/-- The point of the inversion call that inverts block `b`. -/
def pt0 (b : Fin 16) : Fin cfg0.N := ⟨b.val, by rw [show cfg0.N = 16 from N_0]; exact b.isLt⟩

/-- The body of the inversion call leaves the inverse of its block. -/
theorem out0_inv (x0 : Vec F S256x256 .f32) : out0_1 x0 = shapeCast S1x256x256 (invV x0) shapeCasts_S256x256_S1x256x256 := by
  rw [out0_eq]
  refine (View.canon_unit_zero (by decide) _ _).trans ?_
  rw [show View.ld x0 r0_0 = x0 from View.ld_unit_zero (by decide) _ _]

/-- What the inversion call leaves of its result: the inverse of each diagonal block. -/
theorem arr0_1 : afterRegion (dat0 W c) (W c) main_v6 = fun x : S16x256x256.Idx =>
    invV (iblk0 W c 0 (pt0 (x 0))) (Idealize.ShloMosaic.ix2 (⟨(x 1).val, (x 1).isLt⟩ : Fin 256) (⟨(x 2).val, (x 2).isLt⟩ : Fin 256)) := by
  refine (Pipeline.afterRegion_arr (dat0 W c) (W c) winFacts0.arr_inj 1).trans ?_
  refine (dat0 W c).arrAt_eq_of_covers 1 _ (by decide +kernel) fun t hf y => ?_
  have e0 : win0_1.index t 0 = t.val := congrFun (idx0 t).2 0
  have e1 : win0_1.index t 1 = 0 := congrFun (idx0 t).2 1
  have e2 : win0_1.index t 2 = 0 := congrFun (idx0 t).2 2
  have h0 : (y 0).val < 1 := (y 0).isLt
  have ht : pt0 ((((cfg0.win 1).blk t).view.emb y) 0) = t := by
    refine Fin.ext ?_
    show ((((cfg0.win 1).blk t).view.emb y) 0).val = t.val
    blk_simp
    rw [e0]
  dsimp only
  rw [ht]
  blk_simp
  rw [after0_1, out0_inv]
  generalize invV (iblk0 W c 0 t) = V
  have hy : y = Idealize.ShloMosaic.ix3 (0 : Fin 1) (⟨(y 1).val, (y 1).isLt⟩ : Fin 256) (⟨(y 2).val, (y 2).isLt⟩ : Fin 256) := by
    funext a
    match a with
    | ⟨0, _⟩ => exact Fin.ext (show (y 0).val = 0 by omega)
    | ⟨1, _⟩ => rfl
    | ⟨2, _⟩ => rfl
  have hc : ∀ (i j : Fin 256), shapeCast S1x256x256 V shapeCasts_S256x256_S1x256x256 (Idealize.ShloMosaic.ix3 (0 : Fin 1) i j) = V (Idealize.ShloMosaic.ix2 i j) := by
    intro i j
    pointwise
  refine (congrArg (shapeCast S1x256x256 V shapeCasts_S256x256_S1x256x256) hy).trans ((hc _ _).trans ?_)
  refine congrArg V (funext fun a => Fin.ext ?_)
  match a with
  | ⟨0, _⟩ => show (y 1).val = win0_1.index t 1 * 256 + (y 1).val; rw [e1]; omega
  | ⟨1, _⟩ => show (y 2).val = win0_1.index t 2 * 256 + (y 2).val; rw [e2]; omega

end Cert.KernelIdeal.Gen
-- ==== Proof.Val.Maths.lean ====
module

public import Mathlib.LinearAlgebra.Matrix.NonsingularInverse
public import Mathlib.Data.Real.Basic
public import Mathlib.Tactic.Ring
public import Mathlib.Tactic.Linarith
public import Mathlib.Algebra.BigOperators.Intervals

/-! # Upper triangular systems over the real numbers

Back substitution, the inverse of a triangular block from the inverses of its diagonal blocks, and the uniqueness
of the solution of a triangular system. All arrays are functions of natural numbers. -/

@[expose] public section

noncomputable section

namespace Cert.Val

open Finset

/-- The upper triangle of `u`. -/
def up (u : ℕ → ℕ → ℝ) (i j : ℕ) : ℝ := if i ≤ j then u i j else 0

/-- On and above the diagonal the upper part is the matrix. -/
theorem up_le {u : ℕ → ℕ → ℝ} {i j : ℕ} (h : i ≤ j) : up u i j = u i j := if_pos h
/-- Below the diagonal the upper part is zero. -/
theorem up_gt {u : ℕ → ℕ → ℝ} {i j : ℕ} (h : j < i) : up u i j = 0 := if_neg (by omega)

/-- Back substitution of `N` rows, after `n` steps. -/
def back (N : ℕ) (T : ℕ → ℕ → ℝ) : ℕ → ℕ → ℕ → ℝ
  | 0, i, l => if i = l then 1 else 0
  | n + 1, i, l =>
    if i = N - 1 - n then back N T n (N - 1 - n) l / T (N - 1 - n) (N - 1 - n)
    else if i < N - 1 - n then back N T n i l - T i (N - 1 - n) * (back N T n (N - 1 - n) l / T (N - 1 - n) (N - 1 - n))
    else back N T n i l

/-- What back substitution keeps: the finished rows solve the system, the others hold what is left of the right side. -/
theorem back_inv (N : ℕ) (T : ℕ → ℕ → ℝ) (hT : ∀ k < N, T k k ≠ 0) (n : ℕ) (hn : n ≤ N) (i l : ℕ) (hi : i < N) :
    (if i < N - n then back N T n i l else 0) + ∑ m ∈ Ico (max i (N - n)) N, T i m * back N T n m l = if i = l then 1 else 0 := by
  induction n generalizing i with
  | zero =>
    rw [if_pos (by omega), Ico_eq_empty (by omega), sum_empty, add_zero]; rfl
  | succ n ih =>
    have ih := fun i hi => ih (by omega) i hi
    obtain ⟨k, hk⟩ : ∃ k, k = N - 1 - n := ⟨_, rfl⟩
    have e1 : N - n = k + 1 := by omega
    have e2 : N - (n + 1) = k := by omega
    have hkN : k < N := by omega
    rw [e1] at ih
    rw [e2]
    have later : ∀ m, k < m → back N T (n + 1) m l = back N T n m l := by
      intro m hm
      rw [back, ← hk, if_neg (by omega), if_neg (by omega)]
    have piv : back N T (n + 1) k l = back N T n k l / T k k := by
      rw [back, ← hk, if_pos rfl]
    have sumL : ∀ a, k < a → ∑ m ∈ Ico a N, T i m * back N T (n + 1) m l = ∑ m ∈ Ico a N, T i m * back N T n m l := by
      intro a ha
      refine sum_congr rfl fun m hm => ?_
      rw [later m (by rw [mem_Ico] at hm; omega)]
    rcases lt_trichotomy i k with h | h | h
    · rw [if_pos h, max_eq_right h.le, sum_eq_sum_Ico_succ_bot hkN, piv, sumL _ (by omega), ← ih i hi, if_pos (by omega), max_eq_right (by omega)]
      rw [back, ← hk, if_neg (by omega), if_pos h]
      ring
    · subst h
      rw [if_neg (by omega), max_eq_right le_rfl, sum_eq_sum_Ico_succ_bot hkN, piv, sumL _ (by omega), ← ih i hi, if_pos (by omega), max_eq_right (by omega)]
      rw [mul_div_cancel₀ _ (hT i hi)]
      ring
    · rw [if_neg (by omega), max_eq_left h.le, sumL _ h, ← ih i hi, if_neg (by omega), max_eq_left (by omega)]

/-- After `N` steps the rows are a right inverse of the upper triangle. -/
theorem back_right (N : ℕ) (T : ℕ → ℕ → ℝ) (hT : ∀ k < N, T k k ≠ 0) (i l : ℕ) (hi : i < N) :
    ∑ m ∈ range N, up T i m * back N T N m l = if i = l then 1 else 0 := by
  rw [← back_inv N T hT N le_rfl i l hi, if_neg (by omega), zero_add, Nat.sub_self, Nat.max_zero, ← sum_range_add_sum_Ico _ hi.le,
    sum_eq_zero (s := range i), zero_add]
  · refine sum_congr rfl fun m hm => ?_
    rw [up_le (by rw [mem_Ico] at hm; omega)]
  · intro m hm
    rw [up_gt (by rw [mem_range] at hm; omega), zero_mul]

/-- And a left inverse. -/
theorem back_left (N : ℕ) (T : ℕ → ℕ → ℝ) (hT : ∀ k < N, T k k ≠ 0) (i l : ℕ) (hi : i < N) (hl : l < N) :
    ∑ m ∈ range N, back N T N i m * up T m l = if i = l then 1 else 0 := by
  let A : Matrix (Fin N) (Fin N) ℝ := fun i j => up T i j
  let B : Matrix (Fin N) (Fin N) ℝ := fun i j => back N T N i j
  have h : A * B = 1 := by
    ext i j
    rw [Matrix.mul_apply, Matrix.one_apply]
    have := back_right N T hT i j i.2
    rw [Finset.sum_range] at this
    rw [show (∑ k, A i k * B k j) = _ from this]
    simp only [Fin.ext_iff]
  have h' : B * A = 1 := mul_eq_one_comm.mp h
  have := congrFun (congrFun h' ⟨i, hi⟩) ⟨l, hl⟩
  rw [Matrix.mul_apply, Matrix.one_apply] at this
  rw [Finset.sum_range, show (∑ k : Fin N, back N T N i k * up T k l) = _ from this]
  simp only [Fin.ext_iff]

/-- The `s` rows `x` hold, in lanes `s g` to `s g + s`, a left inverse of diagonal block `g` of `T`. -/
def LInv (s : ℕ) (x T : ℕ → ℕ → ℝ) (g : ℕ) : Prop :=
  ∀ i < s, ∀ j < s, ∑ m ∈ range s, x i (s * g + m) * T (s * g + m) (s * g + j) = if i = j then 1 else 0

/-- The left inverse of a block of two groups from those of the groups. -/
theorem LInv.double {s : ℕ} {x x' c c1 T : ℕ → ℕ → ℝ} {G : ℕ} (hT : ∀ i j, j < i → T i j = 0)
    (h0 : LInv s x T (2 * G)) (h1 : LInv s x T (2 * G + 1))
    (a0 : ∀ i < s, ∀ m < s, x' i (s * (2 * G) + m) = x i (s * (2 * G) + m))
    (a1 : ∀ i < s, ∀ m < s, x' i (s * (2 * G + 1) + m) = - c i (s * (2 * G + 1) + m))
    (b0 : ∀ i < s, ∀ m < s, x' (s + i) (s * (2 * G) + m) = 0)
    (b1 : ∀ i < s, ∀ m < s, x' (s + i) (s * (2 * G + 1) + m) = x i (s * (2 * G + 1) + m))
    (hc : ∀ i < s, ∀ m < s, c i (s * (2 * G + 1) + m) = ∑ p ∈ range s, c1 i (s * (2 * G + 1) + p) * x p (s * (2 * G + 1) + m))
    (hc1 : ∀ i < s, ∀ p < s, c1 i (s * (2 * G + 1) + p) = ∑ m ∈ range s, x i (s * (2 * G) + m) * T (s * (2 * G) + m) (s * (2 * G + 1) + p)) :
    LInv (2 * s) x' T G := by
  have e0 : 2 * s * G = s * (2 * G) := by ring
  have e1 : ∀ m, s * (2 * G) + (s + m) = s * (2 * G + 1) + m := fun m => by ring
  intro i hi j hj
  rw [e0, two_mul s, sum_range_add]
  simp only [e1]
  have lower : ∀ m, ∀ j < s, T (s * (2 * G + 1) + m) (s * (2 * G) + j) = 0 := by
    intro m j hj
    refine hT _ _ ?_
    rw [← e1]; omega
  obtain h | ⟨i', rfl⟩ : i < s ∨ ∃ i', i = s + i' := by
    rcases Nat.lt_or_ge i s with h | h
    · exact .inl h
    · exact .inr ⟨i - s, by omega⟩
  · obtain hj' | ⟨j', rfl⟩ : j < s ∨ ∃ j', j = s + j' := by
      rcases Nat.lt_or_ge j s with h | h
      · exact .inl h
      · exact .inr ⟨j - s, by omega⟩
    · rw [← h0 i h j hj']
      rw [sum_eq_zero (s := range s) (f := fun m => x' i (s * (2 * G + 1) + m) * T (s * (2 * G + 1) + m) (s * (2 * G) + j)), add_zero]
      · exact sum_congr rfl fun m hm => by rw [a0 i h m (mem_range.mp hm)]
      · intro m hm; rw [lower m j hj', mul_zero]
    · have hj2 : j' < s := by omega
      rw [e1, if_neg (by omega)]
      have : ∑ m ∈ range s, x' i (s * (2 * G + 1) + m) * T (s * (2 * G + 1) + m) (s * (2 * G + 1) + j')
          = - c1 i (s * (2 * G + 1) + j') := by
        calc _ = ∑ m ∈ range s, -∑ p ∈ range s, c1 i (s * (2 * G + 1) + p) * (x p (s * (2 * G + 1) + m) * T (s * (2 * G + 1) + m) (s * (2 * G + 1) + j')) := by
              refine sum_congr rfl fun m hm => ?_
              rw [a1 i h m (mem_range.mp hm), hc i h m (mem_range.mp hm), neg_mul, sum_mul]
              congr 1
              exact sum_congr rfl fun p _ => by ring
          _ = -∑ p ∈ range s, c1 i (s * (2 * G + 1) + p) * ∑ m ∈ range s, (x p (s * (2 * G + 1) + m) * T (s * (2 * G + 1) + m) (s * (2 * G + 1) + j')) := by
              rw [sum_neg_distrib, sum_comm]
              congr 1
              exact sum_congr rfl fun p _ => by rw [mul_sum]
          _ = -∑ p ∈ range s, c1 i (s * (2 * G + 1) + p) * (if p = j' then 1 else 0) := by
              congr 1
              exact sum_congr rfl fun p hp => by rw [h1 p (mem_range.mp hp) j' hj2]
          _ = _ := by
              simp only [mul_ite, mul_one, mul_zero]
              rw [sum_ite_eq' (range s) j', if_pos (mem_range.mpr hj2)]
      rw [this, hc1 i h j' hj2, sum_congr rfl fun m hm => by rw [a0 i h m (mem_range.mp hm)], add_neg_cancel]
  · have hi' : i' < s := by omega
    rw [sum_eq_zero (s := range s) (f := fun m => x' (s + i') (s * (2 * G) + m) * T (s * (2 * G) + m) (s * (2 * G) + j)), zero_add]
    swap
    · intro m hm; rw [b0 i' hi' m (mem_range.mp hm), zero_mul]
    obtain hj' | ⟨j', rfl⟩ : j < s ∨ ∃ j', j = s + j' := by
      rcases Nat.lt_or_ge j s with h | h
      · exact .inl h
      · exact .inr ⟨j - s, by omega⟩
    · rw [if_neg (by omega)]
      exact sum_eq_zero fun m hm => by rw [lower m j hj', mul_zero]
    · rw [e1, sum_congr rfl fun m hm => by rw [b1 i' hi' m (mem_range.mp hm)], h1 i' hi' j' (by omega)]
      simp only [Nat.add_left_cancel_iff]

/-- A triangular system has one solution. -/
theorem solve_unique {N : ℕ} {T : ℕ → ℕ → ℝ} (hT : ∀ k < N, T k k ≠ 0) {c e e' : ℕ → ℝ}
    (h : ∀ j < N, ∑ k ∈ range j, e k * T k j + e j * T j j = c j)
    (h' : ∀ j < N, ∑ k ∈ range j, e' k * T k j + e' j * T j j = c j) (j : ℕ) (hj : j < N) : e j = e' j := by
  induction j using Nat.strong_induction_on with
  | _ j ih =>
    have hs : ∑ k ∈ range j, e k * T k j = ∑ k ∈ range j, e' k * T k j :=
      sum_congr rfl fun k hk => by rw [ih k (mem_range.mp hk) (by have := mem_range.mp hk; omega)]
    have := (h j hj).trans (h' j hj).symm
    rw [hs] at this
    exact mul_right_cancel₀ (hT j hj) (add_left_cancel this)

/-- A sum over the first `b` blocks of `s`. -/
theorem sum_blocks (s b : ℕ) (f : ℕ → ℝ) : ∑ k ∈ range (s * b), f k = ∑ a ∈ range b, ∑ m ∈ range s, f (s * a + m) := by
  induction b with
  | zero => simp
  | succ b ih => rw [Nat.mul_succ, sum_range_add, ih, sum_range_succ]

/-- The blocked solution solves the system column by column. -/
theorem blocked_column {s : ℕ} {u : ℕ → ℕ → ℝ} {e c : ℕ → ℝ} {V : ℕ → ℕ → ℝ} {b : ℕ}
    (hV : LInv s V (fun i j => up u (s * b + i) (s * b + j)) 0)
    (he : ∀ i < s, e (s * b + i) = ∑ m ∈ range s, (c (s * b + m) - ∑ a ∈ range b, ∑ k ∈ range s, e (s * a + k) * u (s * a + k) (s * b + m)) * V m i)
    (j : ℕ) (hj : j < s) :
    ∑ k ∈ range (s * b + j), e k * u k (s * b + j) + e (s * b + j) * u (s * b + j) (s * b + j) = c (s * b + j) := by
  have h1 : ∑ i ∈ range s, e (s * b + i) * up u (s * b + i) (s * b + j)
      = c (s * b + j) - ∑ a ∈ range b, ∑ k ∈ range s, e (s * a + k) * u (s * a + k) (s * b + j) := by
    calc _ = ∑ i ∈ range s, ∑ m ∈ range s, (c (s * b + m) - ∑ a ∈ range b, ∑ k ∈ range s, e (s * a + k) * u (s * a + k) (s * b + m)) * (V m i * up u (s * b + i) (s * b + j)) := by
          refine sum_congr rfl fun i hi => ?_
          rw [he i (mem_range.mp hi), sum_mul]
          exact sum_congr rfl fun m _ => by ring
      _ = ∑ m ∈ range s, (c (s * b + m) - ∑ a ∈ range b, ∑ k ∈ range s, e (s * a + k) * u (s * a + k) (s * b + m)) * (if m = j then 1 else 0) := by
          rw [sum_comm]
          refine sum_congr rfl fun m hm => ?_
          rw [← mul_sum]
          congr 1
          have := hV m (mem_range.mp hm) j hj
          simpa using this
      _ = _ := by
          simp only [mul_ite, mul_one, mul_zero]
          rw [sum_ite_eq' (range s) j, if_pos (mem_range.mpr hj)]
  have h2 : ∑ i ∈ range s, e (s * b + i) * up u (s * b + i) (s * b + j)
      = ∑ i ∈ range j, e (s * b + i) * u (s * b + i) (s * b + j) + e (s * b + j) * u (s * b + j) (s * b + j) := by
    obtain ⟨r, rfl⟩ : ∃ r, s = j + 1 + r := ⟨s - (j + 1), by omega⟩
    rw [sum_range_add, sum_range_succ, up_le le_rfl]
    rw [sum_eq_zero (s := range r), add_zero]
    · congr 1
      exact sum_congr rfl fun i hi => by rw [up_le (by have := mem_range.mp hi; omega)]
    · intro i hi
      rw [up_gt (by omega), mul_zero]
  rw [sum_range_add, sum_blocks]
  rw [h2] at h1
  linarith

end Cert.Val

end
-- ==== Proof.Val.Base.lean ====
module

public import proofs.«01_k».proof.Proof.KI.V0Struct
public import proofs.«01_k».proof.Proof.Val.Maths
public import Idealize.ShloMosaic.Lib.Pointwise
public import Idealize.ShloMosaic.Lib.IdealHost

/-! # The base inverses of the first call, over the real numbers

The eight diagonal blocks of 32 rows are packed side by side, and back substitution leaves a left inverse of each. -/

@[expose] public section

set_option maxRecDepth 16384

noncomputable section

namespace Cert.Val

open Idealize.ShloMosaic Cert.KernelIdeal Cert.KernelIdeal.Gen

/-- The array `x` holds the real numbers `X`. -/
def Rep {m n : ℕ} (x : FVec Ideal ⟨2, ![m, n]⟩ .f32) (X : ℕ → ℕ → ℝ) : Prop :=
  ∀ (i : Fin m) (j : Fin n), x (Idealize.ShloMosaic.ix2 i j) = ((X i j : ℝ) : EReal)

/-- The upper triangle of the array `u` holds the real numbers `U`. -/
def RepU {m n : ℕ} (u : FVec Ideal ⟨2, ![m, n]⟩ .f32) (U : ℕ → ℕ → ℝ) : Prop :=
  ∀ (i : Fin m) (j : Fin n), i.val ≤ j.val → u (Idealize.ShloMosaic.ix2 i j) = ((U i j : ℝ) : EReal)

/-- The shape of a single word. -/
abbrev S0 : Shape := ⟨0, ![]⟩

/-- `fdivV` of one word. -/
def fdivS (x d : BitVec 32) : BitVec 32 := fdivV (S := S0) (fun _ => x) d (fun a => a.elim0)
/-- `fmodV` of one word. -/
def fmodS (x d : BitVec 32) : BitVec 32 := fmodV (S := S0) (by decide) (fun _ => x) d (fun a => a.elim0)

/-- Floored division of an array, at a place. -/
theorem fdivV_apply {S : Shape} (v : IVec S 32) (d : BitVec 32) (j : S.Idx) : fdivV v d j = fdivS (v j) d := rfl
/-- The floored remainder of an array, at a place. -/
theorem fmodV_apply {S : Shape} (hb : S.Broadcasts S) (v : IVec S 32) (d : BitVec 32) (j : S.Idx) : fmodV hb v d j = fmodS (v j) d := rfl

/-- Floored division by 32 of a small word. -/
theorem fdivS_32 : ∀ n : Fin 256, fdivS (BitVec.ofNat 32 n) 32#32 = BitVec.ofNat 32 (n / 32) := by decide +kernel
/-- Floored division by 64 of a small word. -/
theorem fdivS_64 : ∀ n : Fin 256, fdivS (BitVec.ofNat 32 n) 64#32 = BitVec.ofNat 32 (n / 64) := by decide +kernel
/-- Floored division by 128 of a small word. -/
theorem fdivS_128 : ∀ n : Fin 256, fdivS (BitVec.ofNat 32 n) 128#32 = BitVec.ofNat 32 (n / 128) := by decide +kernel
/-- The remainder by 32 of a small word. -/
theorem fmodS_32 : ∀ n : Fin 128, fmodS (BitVec.ofNat 32 n) 32#32 = BitVec.ofNat 32 (n % 32) := by decide +kernel
/-- The remainder by 2 of a small word. -/
theorem fmodS_2 : ∀ n : Fin 8, fmodS (BitVec.ofNat 32 n) 2#32 = BitVec.ofNat 32 (n % 2) := by decide +kernel

/-- A selection by the equality of two small words. -/
theorem select_eq {α : Type} (m n : ℕ) (hm : m < 256) (hn : n < 256) (a b : α) :
    Scalar.select (IntOp.cmpi .eq (BitVec.ofNat 32 m) (BitVec.ofNat 32 n)) a b = if m = n then a else b := by
  rw [WordCmp.cmpi_eq_ofNat (by omega) (by omega)]
  by_cases h : m = n <;> simp [h, Scalar.select]

/-- A selection by the order of two small words. -/
theorem select_slt {α : Type} (m n : ℕ) (hm : m < 256) (hn : n < 256) (a b : α) :
    Scalar.select (IntOp.cmpi .slt (BitVec.ofNat 32 m) (BitVec.ofNat 32 n)) a b = if m < n then a else b := by
  rw [WordCmp.cmpi_slt_ofNat (by omega) (by omega)]
  by_cases h : m < n <;> simp [h, Scalar.select]

/-- The lane a column is read from. -/
theorem colS : ∀ (l : Fin 128) (k : Fin 32),
    (Scalar.select (IntOp.cmpi .slt (IntOp.addi (IntOp.subi (BitVec.ofNat 32 l) (fmodS (BitVec.ofNat 32 l) 32#32)) (BitVec.ofNat 32 k)) 0#32)
      (IntOp.addi (IntOp.addi (IntOp.subi (BitVec.ofNat 32 l) (fmodS (BitVec.ofNat 32 l) 32#32)) (BitVec.ofNat 32 k)) 128#32)
      (IntOp.addi (IntOp.subi (BitVec.ofNat 32 l) (fmodS (BitVec.ofNat 32 l) 32#32)) (BitVec.ofNat 32 k))).toNat % 128 = 32 * (l / 32) + k := by
  decide +kernel

/-- The lane number at a place. -/
theorem laneH_apply (i : Fin 32) (l : Fin 128) : laneH (Idealize.ShloMosaic.ix2 i l) = BitVec.ofNat 32 l := by
  pointwise

/-- A column of a group, read on every lane of the group. -/
theorem bCol_apply (pk : FVec Ideal S32x128 .f32) (k : ℕ) (hk : k < 32) (i : Fin 32) (l : Fin 128) :
    bCol pk (subi laneH (fmodV broadcasts_S32x128_S32x128 laneH 32#32)) (BitVec.ofNat 32 k) (Idealize.ShloMosaic.ix2 i l)
      = pk (Idealize.ShloMosaic.ix2 i ⟨32 * (l / 32) + k, by omega⟩) := by
  have e : fmodV broadcasts_S32x128_S32x128 laneH 32#32 (Idealize.ShloMosaic.ix2 i l) = fmodS (BitVec.ofNat 32 l) 32#32 :=
    (fmodV_apply _ _ _ _).trans (congrArg (fun z => fmodS z 32#32) (laneH_apply i l))
  have h := colS l ⟨k, hk⟩
  unfold bCol
  pointwise
  refine congrArg (fun z => pk (Idealize.ShloMosaic.ix2 i z)) (Fin.ext ?_)
  rw [← e] at h
  exact h

/-- One step of back substitution at a place. -/
theorem bStep_apply (pk : FVec Ideal S32x128 .f32) (g0 : IVec S32x128 32) (n : ℕ) (inv : FVec Ideal S32x128 .f32) (i : Fin 32) (l : Fin 128) :
    bStep rowH pk g0 n inv (Idealize.ShloMosaic.ix2 i l) =
      if i.val = 31 - n then Ideal.div (inv (Idealize.ShloMosaic.ix2 ⟨31 - n, by omega⟩ l)) (bCol pk g0 (BitVec.ofNat 32 (31 - n)) (Idealize.ShloMosaic.ix2 ⟨31 - n, by omega⟩ l))
      else if i.val < 31 - n then inv (Idealize.ShloMosaic.ix2 i l) - bCol pk g0 (BitVec.ofNat 32 (31 - n)) (Idealize.ShloMosaic.ix2 i l) *
        Ideal.div (inv (Idealize.ShloMosaic.ix2 ⟨31 - n, by omega⟩ l)) (bCol pk g0 (BitVec.ofNat 32 (31 - n)) (Idealize.ShloMosaic.ix2 ⟨31 - n, by omega⟩ l))
      else inv (Idealize.ShloMosaic.ix2 i l) := by
  unfold bStep
  pointwise
  rw [select_eq _ _ (by omega) (by omega), select_slt _ _ (by omega) (by omega)]

/-- A quotient of real numbers by one that is not zero. -/
theorem div_real (x y : ℝ) (h : y ≠ 0) : Ideal.div (x : EReal) (y : EReal) = ((x / y : ℝ) : EReal) := by
  rw [Ideal.div_coe h, ← EReal.coe_mul, mul_one_div]

/-- The steps of back substitution, over the real numbers. -/
theorem bIter_apply (pk : FVec Ideal S32x128 .f32) (T : ℕ → ℕ → ℕ → ℝ)
    (hpk : ∀ (i : Fin 32) (l : Fin 128), i.val ≤ l.val % 32 → pk (Idealize.ShloMosaic.ix2 i l) = ((T (l / 32) i (l % 32) : ℝ) : EReal))
    (hT : ∀ g < 4, ∀ k < 32, T g k k ≠ 0) (n : ℕ) (hn : n ≤ 32) (i : Fin 32) (l : Fin 128) :
    bIter rowH pk (subi laneH (fmodV broadcasts_S32x128_S32x128 laneH 32#32)) eyeH n (Idealize.ShloMosaic.ix2 i l)
      = ((back 32 (T (l / 32)) n i (l % 32) : ℝ) : EReal) := by
  induction n generalizing i l with
  | zero =>
    show eyeH (F := Ideal) (Idealize.ShloMosaic.ix2 i l) = _
    unfold eyeH
    pointwise
    rw [fmodV_apply]
    pointwise
    rw [fmodS_32 l, select_eq _ _ (by omega) (by omega)]
    unfold back
    split <;> simp
  | succ n ih =>
    have ih := ih (by omega)
    have hcol : ∀ (i : Fin 32), i.val ≤ 31 - n →
        bCol pk (subi laneH (fmodV broadcasts_S32x128_S32x128 laneH 32#32)) (BitVec.ofNat 32 (31 - n)) (Idealize.ShloMosaic.ix2 i l)
          = ((T (l / 32) i (31 - n) : ℝ) : EReal) := by
      intro i hi
      have e1 : (32 * (l.val / 32) + (31 - n)) / 32 = l.val / 32 := by omega
      have e2 : (32 * (l.val / 32) + (31 - n)) % 32 = 31 - n := by omega
      rw [bCol_apply pk _ (by omega), hpk _ _ (by show i.val ≤ (32 * (l.val / 32) + (31 - n)) % 32; omega)]
      show ((T ((32 * (l.val / 32) + (31 - n)) / 32) i ((32 * (l.val / 32) + (31 - n)) % 32) : ℝ) : EReal) = _
      rw [e1, e2]
    show bStep rowH pk _ n (bIter rowH pk _ eyeH n) _ = _
    rw [bStep_apply, back, ih, hcol ⟨31 - n, by omega⟩ le_rfl, div_real _ _ (hT _ (by omega) _ (by omega))]
    show (if i.val = 31 - n then _ else if i.val < 31 - n then _ else _) = (((if i.val = 31 - n then _ else if i.val < 31 - n then _ else _) : ℝ) : EReal)
    by_cases h1 : i.val = 31 - n
    · rw [if_pos h1, if_pos h1]
    · rw [if_neg h1, if_neg h1]
      by_cases h2 : i.val < 31 - n
      · rw [if_pos h2, if_pos h2, ih, hcol i h2.le, ← EReal.coe_mul, ← EReal.coe_sub]
      · rw [if_neg h2, if_neg h2, ih]

/-- The packed diagonal blocks. -/
theorem packV_apply (u : FVec Ideal S256x256 .f32) (i : Fin 32) (l : Fin 256) :
    packV u (Idealize.ShloMosaic.ix2 i l) = u (Idealize.ShloMosaic.ix2 ⟨32 * (l / 32) + i, by omega⟩ l) := by
  unfold packV
  pointwise
  simp only [fdivV_apply]
  pointwise
  rw [fdivS_32 l]
  simp only [select_eq (l.val / 32) _ (by omega) (by decide : 7 < 256), select_eq (l.val / 32) _ (by omega) (by decide : 6 < 256),
    select_eq (l.val / 32) _ (by omega) (by decide : 5 < 256), select_eq (l.val / 32) _ (by omega) (by decide : 4 < 256),
    select_eq (l.val / 32) _ (by omega) (by decide : 3 < 256), select_eq (l.val / 32) _ (by omega) (by decide : 2 < 256),
    select_eq (l.val / 32) _ (by omega) (by decide : 1 < 256), select_eq (l.val / 32) _ (by omega) (by decide : 0 < 256)]
  rcases (by omega : l.val / 32 = 0 ∨ l.val / 32 = 1 ∨ l.val / 32 = 2 ∨ l.val / 32 = 3 ∨ l.val / 32 = 4 ∨ l.val / 32 = 5 ∨ l.val / 32 = 6 ∨ l.val / 32 = 7) with h | h | h | h | h | h | h | h <;>
  simp [h]

/-- The base inverses, over the real numbers. -/
def baseX (U : ℕ → ℕ → ℝ) (i L : ℕ) : ℝ := back 32 (fun a b => U (32 * (L / 32) + a) (32 * (L / 32) + b)) 32 i (L % 32)

/-- The kernel's inverses of the 32 × 32 diagonal blocks hold the real numbers `baseX`. -/
theorem baseV_rep (u : FVec Ideal S256x256 .f32) (U : ℕ → ℕ → ℝ) (hu : RepU u U) (hU : ∀ k < 256, U k k ≠ 0) :
    Rep (baseV u) (baseX U) := by
  intro i l
  unfold baseV
  pointwise
  unfold baseH
  by_cases h : l.val < 128
  · rw [dif_pos h]
    rw [bIter_apply _ (fun g a b => U (32 * g + a) (32 * g + b)) ?_ (fun g hg k hk => hU _ (by omega)) 32 le_rfl]
    · rfl
    · intro i l hl
      pointwise
      rw [packV_apply, hu _ _ (by show 32 * (l.val / 32) + i.val ≤ l.val; omega)]
      show ((U (32 * (l.val / 32) + i.val) l.val : ℝ) : EReal) = ((U (32 * (l.val / 32) + i.val) (32 * (l.val / 32) + l.val % 32) : ℝ) : EReal)
      rw [Nat.div_add_mod]
  · rw [dif_neg h]
    rw [bIter_apply _ (fun g a b => U (128 + 32 * g + a) (128 + 32 * g + b)) ?_ (fun g hg k hk => hU _ (by omega)) 32 le_rfl]
    · unfold baseX
      have e1 : 32 * (l.val / 32) = 128 + 32 * ((l.val - 128) / 32) := by omega
      have e2 : l.val % 32 = (l.val - 128) % 32 := by omega
      rw [e1, e2]
    · intro i l hl
      pointwise
      rw [packV_apply, hu _ _ (by show 32 * ((128 + l.val) / 32) + i.val ≤ 128 + l.val; omega)]
      show ((U (32 * ((128 + l.val) / 32) + i.val) (128 + l.val) : ℝ) : EReal) = ((U (128 + 32 * (l.val / 32) + i.val) (128 + 32 * (l.val / 32) + l.val % 32) : ℝ) : EReal)
      congr 2 <;> omega

/-- `baseX` holds left inverses of the 32 × 32 diagonal blocks. -/
theorem baseX_inv (U : ℕ → ℕ → ℝ) (hU : ∀ k < 256, U k k ≠ 0) (g : ℕ) (hg : g < 8) : LInv 32 (baseX U) (up U) g := by
  intro i hi j hj
  rw [← back_left 32 (fun a b => U (32 * g + a) (32 * g + b)) (fun k hk => hU _ (by omega)) i j hi hj]
  refine Finset.sum_congr rfl fun m hm => ?_
  have hm := Finset.mem_range.mp hm
  have e1 : (32 * g + m) / 32 = g := by omega
  have e2 : (32 * g + m) % 32 = m := by omega
  unfold baseX up
  rw [e1, e2]
  congr 1
  by_cases h : m ≤ j
  · rw [if_pos h, if_pos (by omega)]
  · rw [if_neg h, if_neg (by omega)]

end Cert.Val

end
-- ==== Proof.Val.Double.lean ====
module

public import proofs.«01_k».proof.Proof.Val.Base

/-! # The inverse of a whole diagonal block, over the real numbers

Three doublings, from groups of 32 lanes to the block of 256, each keep a left inverse of every group. -/

@[expose] public section

set_option maxRecDepth 16384

noncomputable section

namespace Cert.Val

open Idealize.ShloMosaic Cert.KernelIdeal Cert.KernelIdeal.Gen

/-- The bit of an odd group. -/
theorem odd_bit : ∀ n : Fin 9, IntOp.cmpi .eq (fmodS (BitVec.ofNat 32 n) 2#32) 1#32 = BitVec.ofBool (decide (n.val % 2 = 1)) := by decide +kernel
/-- The bit of the block above an odd diagonal block. -/
theorem above_bit : ∀ a b : Fin 9, IntOp.andi (BitVec.ofBool (decide (b.val % 2 = 1))) (IntOp.cmpi .eq (BitVec.ofNat 32 a) (IntOp.subi (BitVec.ofNat 32 b) 1#32))
    = BitVec.ofBool (decide (b.val % 2 = 1 ∧ a.val + 1 = b.val)) := by decide +kernel
/-- The bit of an odd diagonal block. -/
theorem diag_bit : ∀ a b : Fin 9, IntOp.andi (BitVec.ofBool (decide (b.val % 2 = 1))) (IntOp.cmpi .eq (BitVec.ofNat 32 a) (BitVec.ofNat 32 b))
    = BitVec.ofBool (decide (b.val % 2 = 1 ∧ a.val = b.val)) := by decide +kernel

/-- A selection by a decided bit. -/
theorem select_bit {α : Type} (p : Prop) [Decidable p] (a b : α) : Scalar.select (BitVec.ofBool (decide p)) a b = if p then a else b := by
  by_cases h : p <;> simp [h, Scalar.select]

section
variable (s : ℕ) (hs : 32 ≤ s) (hd : ∀ n : Fin 256, fdivS (BitVec.ofNat 32 n) (BitVec.ofNat 32 s) = BitVec.ofNat 32 (n / s))
include hs hd

/-- The mask of the odd groups, at a place. -/
theorem oddV_apply (i j : Fin 256) : oddV colI (BitVec.ofNat 32 s) (Idealize.ShloMosaic.ix2 i j) = BitVec.ofBool (decide (j.val / s % 2 = 1)) := by
  have hj : j.val / s < 9 := lt_of_le_of_lt (Nat.div_le_div_left hs (by omega)) (by omega)
  unfold oddV
  pointwise
  rw [fmodV_apply, fdivV_apply]
  pointwise
  rw [hd j]
  exact odd_bit ⟨_, hj⟩

/-- The mask of the blocks above the odd diagonal blocks, at a place. -/
theorem aboveV_apply (i j : Fin 256) : aboveV rowI colI (BitVec.ofNat 32 s) (Idealize.ShloMosaic.ix2 i j)
    = BitVec.ofBool (decide (j.val / s % 2 = 1 ∧ i.val / s + 1 = j.val / s)) := by
  have hi : i.val / s < 9 := lt_of_le_of_lt (Nat.div_le_div_left hs (by omega)) (by omega)
  have hj : j.val / s < 9 := lt_of_le_of_lt (Nat.div_le_div_left hs (by omega)) (by omega)
  unfold aboveV
  pointwise
  rw [oddV_apply s hs hd, fdivV_apply, fdivV_apply]
  pointwise
  rw [hd i, hd j]
  exact above_bit ⟨_, hi⟩ ⟨_, hj⟩

/-- The mask of the odd diagonal blocks, at a place. -/
theorem diagV_apply (i j : Fin 256) : diagV rowI colI (BitVec.ofNat 32 s) (Idealize.ShloMosaic.ix2 i j)
    = BitVec.ofBool (decide (j.val / s % 2 = 1 ∧ i.val / s = j.val / s)) := by
  have hi : i.val / s < 9 := lt_of_le_of_lt (Nat.div_le_div_left hs (by omega)) (by omega)
  have hj : j.val / s < 9 := lt_of_le_of_lt (Nat.div_le_div_left hs (by omega)) (by omega)
  unfold diagV
  pointwise
  rw [oddV_apply s hs hd, fdivV_apply, fdivV_apply]
  pointwise
  rw [hd i, hd j]
  exact diag_bit ⟨_, hi⟩ ⟨_, hj⟩

end

/-- The first factor of the corner: the left group times the block above the right one. -/
def cor1 (s : ℕ) (U x : ℕ → ℕ → ℝ) (i l : ℕ) : ℝ := ∑ r ∈ Finset.range 256, x i r * (if l / s % 2 = 1 ∧ r / s + 1 = l / s then U r l else 0)
/-- The corner. -/
def corX (s : ℕ) (U x : ℕ → ℕ → ℝ) (i l : ℕ) : ℝ := ∑ r ∈ Finset.range 256, cor1 s U x i r * (if l / s % 2 = 1 ∧ r / s = l / s then x (r % s) l else 0)
/-- One doubling. -/
def dblX (s : ℕ) (U x : ℕ → ℕ → ℝ) (i l : ℕ) : ℝ :=
  if i < s then (if l / s % 2 = 1 then - corX s U x i l else x i l) else (if l / s % 2 = 1 then x (i - s) l else 0)

/-- A sum of real numbers is a real number. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The corner as the program sums it. -/
theorem corner_real (s : ℕ) (hs : 32 ≤ s) (hd : ∀ n : Fin 256, fdivS (BitVec.ofNat 32 n) (BitVec.ofNat 32 s) = BitVec.ofNat 32 (n / s))
    (U X : ℕ → ℕ → ℝ) (x : Fin s → Fin 256 → EReal) (u v : Fin 256 → Fin 256 → EReal) (hx : ∀ i j, x i j = ((X i j : ℝ) : EReal))
    (hu : ∀ i j : Fin 256, i.val ≤ j.val → u i j = ((U i j : ℝ) : EReal)) (hv : ∀ r l : Fin 256, v r l = ((X (r % s) l : ℝ) : EReal)) (i : Fin s) (l : Fin 256) :
    (∑ r : Fin 256, Scalar.select (diagV rowI colI (BitVec.ofNat 32 s) (Idealize.ShloMosaic.ix2 r l))
      ((∑ r2 : Fin 256, Scalar.select (aboveV rowI colI (BitVec.ofNat 32 s) (Idealize.ShloMosaic.ix2 r2 r)) (x i r2 * u r2 r) 0) * v r l) 0)
      = ((corX s U X i l : ℝ) : EReal) := by
  have h1 : ∀ r : Fin 256, (∑ r2 : Fin 256, Scalar.select (aboveV rowI colI (BitVec.ofNat 32 s) (Idealize.ShloMosaic.ix2 r2 r)) (x i r2 * u r2 r) 0)
      = ((cor1 s U X i r : ℝ) : EReal) := by
    intro r
    unfold cor1
    rw [Finset.sum_range, coe_sum]
    refine Finset.sum_congr rfl fun r2 _ => ?_
    rw [aboveV_apply s hs hd, select_bit]
    by_cases h : r.val / s % 2 = 1 ∧ r2.val / s + 1 = r.val / s
    · have hle : r2.val ≤ r.val := by
        by_contra hc
        have := Nat.div_le_div_right (c := s) (show r.val ≤ r2.val by omega)
        omega
      rw [if_pos h, if_pos h, hx, hu _ _ hle, EReal.coe_mul]
    · rw [if_neg h, if_neg h, mul_zero, EReal.coe_zero]
  unfold corX
  rw [Finset.sum_range, coe_sum]
  refine Finset.sum_congr rfl fun r _ => ?_
  rw [diagV_apply s hs hd, select_bit, h1, hv]
  by_cases h : l.val / s % 2 = 1 ∧ r.val / s = l.val / s
  · rw [if_pos h, if_pos h, EReal.coe_mul]
  · rw [if_neg h, if_neg h, mul_zero, EReal.coe_zero]

/-- Eight copies under one another, at a place. -/
theorem stack32 (x : FVec Ideal S32x256 .f32) (r l : Fin 256) : concatenate S256x256 0 [⟨S32x256, x⟩, ⟨S32x256, x⟩, ⟨S32x256, x⟩, ⟨S32x256, x⟩, ⟨S32x256, x⟩, ⟨S32x256, x⟩, ⟨S32x256, x⟩, ⟨S32x256, x⟩] concatenates_S32x256_S32x256_S32x256_S32x256_S32x256_S32x256_S32x256_S32x256_S256x256_d0 (Idealize.ShloMosaic.ix2 r l)
    = x (Idealize.ShloMosaic.ix2 ⟨r % 32, Nat.mod_lt _ (by decide)⟩ l) := by
  pointwise
  split_ifs <;> refine congrArg (fun z => x (Idealize.ShloMosaic.ix2 z l)) (Fin.ext ?_) <;> dsimp only <;> omega

/-- The doubling from 32 to 64, over the real numbers. -/
theorem dbl32_rep (u : FVec Ideal S256x256 .f32) (x : FVec Ideal S32x256 .f32) (U X : ℕ → ℕ → ℝ) (hu : RepU u U) (hx : Rep x X) :
    Rep (dbl32 u x) (dblX 32 U X) := by
  intro i l
  have hv := stack32 x
  unfold dbl32 corner32
  generalize concatenate S256x256 0 [⟨S32x256, x⟩, ⟨S32x256, x⟩, ⟨S32x256, x⟩, ⟨S32x256, x⟩, ⟨S32x256, x⟩, ⟨S32x256, x⟩, ⟨S32x256, x⟩, ⟨S32x256, x⟩] concatenates_S32x256_S32x256_S32x256_S32x256_S32x256_S32x256_S32x256_S32x256_S256x256_d0 = v at hv ⊢
  have hc := fun i => corner_real 32 (by decide) fdivS_32 U X (fun i j => x (Idealize.ShloMosaic.ix2 i j)) (fun i j => u (Idealize.ShloMosaic.ix2 i j)) (fun i j => v (Idealize.ShloMosaic.ix2 i j))
    hx hu (fun r l => (hv r l).trans (hx _ l)) i l
  pointwise
  simp only [hc, oddV_apply 32 (by decide) fdivS_32, select_bit, hx, zero_sub, ← EReal.coe_neg]
  unfold dblX
  split_ifs <;> first | rfl | exact EReal.coe_zero.symm | exact hx _ _

/-- Four copies under one another, at a place. -/
theorem stack64 (x : FVec Ideal S64x256 .f32) (r l : Fin 256) : concatenate S256x256 0 [⟨S64x256, x⟩, ⟨S64x256, x⟩, ⟨S64x256, x⟩, ⟨S64x256, x⟩] concatenates_S64x256_S64x256_S64x256_S64x256_S256x256_d0 (Idealize.ShloMosaic.ix2 r l)
    = x (Idealize.ShloMosaic.ix2 ⟨r % 64, Nat.mod_lt _ (by decide)⟩ l) := by
  pointwise
  split_ifs <;> refine congrArg (fun z => x (Idealize.ShloMosaic.ix2 z l)) (Fin.ext ?_) <;> dsimp only <;> omega

/-- The doubling from 64 to 128, over the real numbers. -/
theorem dbl64_rep (u : FVec Ideal S256x256 .f32) (x : FVec Ideal S64x256 .f32) (U X : ℕ → ℕ → ℝ) (hu : RepU u U) (hx : Rep x X) :
    Rep (dbl64 u x) (dblX 64 U X) := by
  intro i l
  have hv := stack64 x
  unfold dbl64 corner64
  generalize concatenate S256x256 0 [⟨S64x256, x⟩, ⟨S64x256, x⟩, ⟨S64x256, x⟩, ⟨S64x256, x⟩] concatenates_S64x256_S64x256_S64x256_S64x256_S256x256_d0 = v at hv ⊢
  have hc := fun i => corner_real 64 (by decide) fdivS_64 U X (fun i j => x (Idealize.ShloMosaic.ix2 i j)) (fun i j => u (Idealize.ShloMosaic.ix2 i j)) (fun i j => v (Idealize.ShloMosaic.ix2 i j))
    hx hu (fun r l => (hv r l).trans (hx _ l)) i l
  pointwise
  simp only [hc, oddV_apply 64 (by decide) fdivS_64, select_bit, hx, zero_sub, ← EReal.coe_neg]
  unfold dblX
  split_ifs <;> first | rfl | exact EReal.coe_zero.symm | exact hx _ _

/-- Two copies under one another, at a place. -/
theorem stack128 (x : FVec Ideal S128x256 .f32) (r l : Fin 256) : concatenate S256x256 0 [⟨S128x256, x⟩, ⟨S128x256, x⟩] concatenates_S128x256_S128x256_S256x256_d0 (Idealize.ShloMosaic.ix2 r l)
    = x (Idealize.ShloMosaic.ix2 ⟨r % 128, Nat.mod_lt _ (by decide)⟩ l) := by
  pointwise
  split_ifs <;> refine congrArg (fun z => x (Idealize.ShloMosaic.ix2 z l)) (Fin.ext ?_) <;> dsimp only <;> omega

/-- The doubling from 128 to 256, over the real numbers. -/
theorem dbl128_rep (u : FVec Ideal S256x256 .f32) (x : FVec Ideal S128x256 .f32) (U X : ℕ → ℕ → ℝ) (hu : RepU u U) (hx : Rep x X) :
    Rep (dbl128 u x) (dblX 128 U X) := by
  intro i l
  have hv := stack128 x
  unfold dbl128 corner128
  generalize concatenate S256x256 0 [⟨S128x256, x⟩, ⟨S128x256, x⟩] concatenates_S128x256_S128x256_S256x256_d0 = v at hv ⊢
  have hc := fun i => corner_real 128 (by decide) fdivS_128 U X (fun i j => x (Idealize.ShloMosaic.ix2 i j)) (fun i j => u (Idealize.ShloMosaic.ix2 i j)) (fun i j => v (Idealize.ShloMosaic.ix2 i j))
    hx hu (fun r l => (hv r l).trans (hx _ l)) i l
  pointwise
  simp only [hc, oddV_apply 128 (by decide) fdivS_128, select_bit, hx, zero_sub, ← EReal.coe_neg]
  unfold dblX
  split_ifs <;> first | rfl | exact EReal.coe_zero.symm | exact hx _ _

/-- A sum over the rows of one group, out of all rows. -/
theorem sum_group (s N g : ℕ) (hs : 0 < s) (hg : s * g + s ≤ N) (f : ℕ → ℝ) : ∑ r ∈ Finset.range N, (if r / s = g then f r else 0) = ∑ m ∈ Finset.range s, f (s * g + m) := by
  obtain ⟨r, rfl⟩ : ∃ r, N = s * g + s + r := ⟨N - (s * g + s), by omega⟩
  rw [Finset.sum_range_add, Finset.sum_range_add]
  rw [Finset.sum_eq_zero (s := Finset.range (s * g)), Finset.sum_eq_zero (s := Finset.range r), zero_add, add_zero]
  · refine Finset.sum_congr rfl fun m hm => if_pos ?_
    rw [Nat.mul_add_div hs, Nat.div_eq_of_lt (Finset.mem_range.mp hm), add_zero]
  · intro m _
    refine if_neg ?_
    have : s * g + s + m = s * (g + 1) + m := by ring
    rw [this, Nat.mul_add_div hs]
    generalize m / s = q
    omega
  · intro m hm
    refine if_neg ?_
    have := (Nat.div_lt_iff_lt_mul hs).mpr (show m < g * s by rw [mul_comm]; exact Finset.mem_range.mp hm)
    omega

/-- A doubling keeps the left inverses. -/
theorem dblX_inv (s : ℕ) (hs : 0 < s) (U X : ℕ → ℕ → ℝ) (G : ℕ) (hG : s * (2 * G + 1) + s ≤ 256) (h0 : LInv s X (up U) (2 * G)) (h1 : LInv s X (up U) (2 * G + 1)) :
    LInv (2 * s) (dblX s U X) (up U) G := by
  have d0 : ∀ m < s, (s * (2 * G) + m) / s = 2 * G := fun m hm => by rw [Nat.mul_add_div hs, Nat.div_eq_of_lt hm, add_zero]
  have d1 : ∀ m < s, (s * (2 * G + 1) + m) / s = 2 * G + 1 := fun m hm => by rw [Nat.mul_add_div hs, Nat.div_eq_of_lt hm, add_zero]
  have o0 : ¬ (2 * G) % 2 = 1 := by omega
  have o1 : (2 * G + 1) % 2 = 1 := by omega
  have hG0 : s * (2 * G) + s ≤ 256 := by
    have : s * (2 * G + 1) = s * (2 * G) + s := by ring
    omega
  refine LInv.double (c := corX s U X) (c1 := cor1 s U X) (fun i j h => up_gt h) h0 h1 ?_ ?_ ?_ ?_ ?_ ?_
  · intro i hi m hm
    rw [dblX, if_pos hi, d0 m hm, if_neg o0]
  · intro i hi m hm
    rw [dblX, if_pos hi, d1 m hm, if_pos o1]
  · intro i hi m hm
    rw [dblX, if_neg (by omega), d0 m hm, if_neg o0]
  · intro i hi m hm
    rw [dblX, if_neg (by omega), d1 m hm, if_pos o1, Nat.add_sub_cancel_left]
  · intro i hi m hm
    rw [corX, d1 m hm]
    · refine (Finset.sum_congr rfl fun r _ => ?_).trans ((sum_group s 256 (2 * G + 1) hs hG (fun r => cor1 s U X i r * X (r % s) (s * (2 * G + 1) + m))).trans (Finset.sum_congr rfl fun p hp => ?_))
      · simp only [o1, true_and, mul_ite, mul_zero]
      · rw [Nat.mul_add_mod, Nat.mod_eq_of_lt (Finset.mem_range.mp hp)]
  · intro i hi p hp
    rw [cor1, d1 p hp]
    refine (Finset.sum_congr rfl fun r _ => ?_).trans ((sum_group s 256 (2 * G) hs hG0 (fun r => X i r * U r (s * (2 * G + 1) + p))).trans (Finset.sum_congr rfl fun m hm => ?_))
    · simp only [o1, true_and, Nat.add_right_cancel_iff, mul_ite, mul_zero]
    · rw [up_le]
      have : s * (2 * G + 1) = s * (2 * G) + s := by ring
      have := Finset.mem_range.mp hm
      omega

/-- The whole inverse, over the real numbers. -/
def invX (U : ℕ → ℕ → ℝ) : ℕ → ℕ → ℝ := dblX 128 U (dblX 64 U (dblX 32 U (baseX U)))

/-- The first call computes a left inverse of the block's upper triangle. -/
theorem invX_inv (U : ℕ → ℕ → ℝ) (hU : ∀ k < 256, U k k ≠ 0) : LInv 256 (invX U) (up U) 0 := by
  have h1 : ∀ G < 4, LInv 64 (dblX 32 U (baseX U)) (up U) G := fun G hG =>
    dblX_inv 32 (by decide) U _ G (by omega) (baseX_inv U hU _ (by omega)) (baseX_inv U hU _ (by omega))
  have h2 : ∀ G < 2, LInv 128 (dblX 64 U (dblX 32 U (baseX U))) (up U) G := fun G hG =>
    dblX_inv 64 (by decide) U _ G (by omega) (h1 _ (by omega)) (h1 _ (by omega))
  exact dblX_inv 128 (by decide) U _ 0 (by omega) (h2 _ (by omega)) (h2 _ (by omega))

/-- What the first call computes from a block is the real matrix `invX` of the block. -/
theorem invV_rep (u : FVec Ideal S256x256 .f32) (U : ℕ → ℕ → ℝ) (hu : RepU u U) (hU : ∀ k < 256, U k k ≠ 0) :
    Rep (invV u) (invX U) :=
  dbl128_rep u _ U _ hu (dbl64_rep u _ U _ hu (dbl32_rep u _ U _ hu (baseV_rep u U hu hU)))

end Cert.Val

end
-- ==== Proof.Val.Solve.lean ====
module

public import proofs.«01_k».proof.Proof.Val.Blocks
public import proofs.«01_k».proof.Proof.Val.Double

/-! # The blocked solve, over the real numbers

The tiles the solve call keeps are real numbers, and every row of them solves the triangular system. -/

@[expose] public section

set_option maxRecDepth 16384

noncomputable section

namespace Cert.Val

open Idealize.ShloMosaic Idealize.ShloMosaic.TcCoe Cert.KernelIdeal Cert.KernelIdeal.Gen Finset

/-- One step of the accumulator at an index. -/
theorem pay2_apply (A T : FVec Ideal S1152x256 .f32) (U : FVec Ideal S256x256 .f32) (r : Fin 1152) (l : Fin 256) :
    (k1_pay2 A (k1_pay3 T) U : FVec Ideal S1152x256 .f32) (Idealize.ShloMosaic.ix2 r l)
      = A (Idealize.ShloMosaic.ix2 r l) + ∑ k : Fin 256, T (Idealize.ShloMosaic.ix2 r k) * U (Idealize.ShloMosaic.ix2 k l) := by
  unfold k1_pay2 k1_pay3
  pointwise

/-- A solved tile at an index. -/
theorem pay114_apply (Q A : FVec Ideal S1152x256 .f32) (Wt : FVec Ideal S1152x256 .bf16) (X : FVec Ideal S1x256x256 .f32) (r : Fin 1152) (l : Fin 256) :
    (k1_pay114 Q Wt A X : FVec Ideal S1152x256 .f32) (Idealize.ShloMosaic.ix2 r l)
      = ∑ m : Fin 256, (Wt (Idealize.ShloMosaic.ix2 r m) - Q (Idealize.ShloMosaic.ix2 r m) - A (Idealize.ShloMosaic.ix2 r m)) * X (Idealize.ShloMosaic.ix3 0 m l) := by
  unfold k1_pay114 k1_pay113
  pointwise

/-- The fresh accumulator is zero. -/
theorem pay1_apply (r : Fin 1152) (l : Fin 256) : (k1_pay1 : FVec Ideal S1152x256 .f32) (Idealize.ShloMosaic.ix2 r l) = (0 : EReal) := by
  unfold k1_pay1
  pointwise

section
variable (W : Dev nD → Valuation τ sig (Elt Ideal)) (c : Dev nD) (u w q : ℕ → ℕ → ℝ)

/-- The real number at an index of the kept tiles. -/
def solE (r j : ℕ) : ℝ := EReal.toReal ((eAt W c (j / 256) : FVec Ideal S1152x256 .f32)
  (Idealize.ShloMosaic.ix2 (⟨r % 1152, Nat.mod_lt _ (by decide)⟩ : Fin 1152) (⟨j % 256, Nat.mod_lt _ (by decide)⟩ : Fin 256)))

/-- The block of the inverse. -/
def uBlk (u : ℕ → ℕ → ℝ) (b i j : ℕ) : ℝ := u (256 * b + i) (256 * b + j)

/-- The block and the inner step of a grid point. -/
theorem pt_div (b k : ℕ) (hb : b < 16) (hk : k < 16) : (pt b k).val / 16 = b ∧ (pt b k).val % 16 = k := by
  show ((16 * b + k) % 256) / 16 = b ∧ ((16 * b + k) % 256) % 16 = k
  omega

/-- The accumulator of row `b` before step `k` is the sum over the columns solved before it. -/
theorem acc_real (hu : RepU (W c main_arg5 : FVec Ideal S4096x4096 .f32) u) (b : ℕ) (hb : b < 16)
    (hE : ∀ a < b, Rep (eAt W c a : FVec Ideal S1152x256 .f32) fun r l => solE W c r (256 * a + l)) (k : ℕ) (hk : k ≤ b) :
    Rep (accOf W c (eAt W c) b k : FVec Ideal S1152x256 .f32)
      fun r l => ∑ a ∈ range k, ∑ m ∈ range 256, solE W c r (256 * a + m) * u (256 * a + m) (256 * b + l) := by
  induction k with
  | zero => intro r l; exact (pay1_apply r l).trans (by simp)
  | succ k ih =>
    intro r l
    refine (pay2_apply _ _ _ r l).trans ?_
    rw [ih (by omega) r l]
    simp only []
    rw [sum_range_succ, EReal.coe_add]
    refine congrArg (_ + ·) ?_
    rw [Finset.sum_range, coe_sum]
    refine Finset.sum_congr rfl fun m _ => ?_
    have hd := pt_div b k hb (by omega)
    rw [hE k (by omega) r m, blk1_5 W c (pt b k) m l ⟨256 * k + m.val, by omega⟩ ⟨256 * b + l.val, by omega⟩
      (by show 256 * k + m.val = _; rw [hd.1, hd.2, min_eq_left (by omega)]) (by show 256 * b + l.val = _; rw [hd.1]),
      hu _ _ (by show 256 * k + m.val ≤ 256 * b + l.val; omega), ← EReal.coe_mul]

/-- The kept tiles are real numbers, each the tile's right-hand side times the inverse of its block. -/
theorem sol_real (hu : RepU (W c main_arg5 : FVec Ideal S4096x4096 .f32) u)
    (hV : ∀ (b : Fin 16) (i j : Fin 256), (W c main_v6 : FVec Ideal S16x256x256 .f32) (Idealize.ShloMosaic.ix3 b i j) = ((invX (uBlk u b) i j : ℝ) : EReal))
    (hw : ∀ (r : Fin 1152) (j : Fin 4096), (W c main_v7 : FVec Ideal S1152x4096 .bf16) (Idealize.ShloMosaic.ix2 r j) = ((w r j : ℝ) : EReal))
    (hq : ∀ b < 16, Rep (dqAt W c b : FVec Ideal S1152x256 .f32) fun r l => q r (256 * b + l)) (b : ℕ) (hb : b < 16) :
    Rep (eAt W c b : FVec Ideal S1152x256 .f32) (fun r l => solE W c r (256 * b + l)) ∧
    ∀ r < 1152, ∀ i < 256, solE W c r (256 * b + i) = ∑ m ∈ range 256, ((w r (256 * b + m) - q r (256 * b + m))
      - ∑ a ∈ range b, ∑ k ∈ range 256, solE W c r (256 * a + k) * u (256 * a + k) (256 * b + m)) * invX (uBlk u b) m i := by
  induction b using Nat.strong_induction_on with
  | _ b ih =>
    have hA := acc_real W c u hu b hb (fun a ha => (ih a ha (by omega)).1) b le_rfl
    have hd := pt_div b b hb hb
    have key : ∀ (r : Fin 1152) (l : Fin 256), (eAt W c b : FVec Ideal S1152x256 .f32) (Idealize.ShloMosaic.ix2 r l)
        = ((∑ m ∈ range 256, ((w r (256 * b + m) - q r (256 * b + m))
      - ∑ a ∈ range b, ∑ k ∈ range 256, solE W c r (256 * a + k) * u (256 * a + k) (256 * b + m)) * invX (uBlk u b) m l : ℝ) : EReal) := by
      intro r l
      rw [eAt_eq]
      refine (pay114_apply _ _ _ _ r l).trans ?_
      rw [Finset.sum_range, coe_sum]
      refine Finset.sum_congr rfl fun m _ => ?_
      rw [hA r m, hq b hb r m, blk1_1 W c (pt b b) r m ⟨256 * b + m.val, by omega⟩ (by show 256 * b + m.val = _; rw [hd.1]), hw,
        blk1_6 W c (pt b b) m l ⟨b, hb⟩ (by rw [hd.1]), hV, ← EReal.coe_sub, ← EReal.coe_sub, ← EReal.coe_mul]
    have val : ∀ (r : Fin 1152) (l : Fin 256), solE W c r (256 * b + l)
        = ∑ m ∈ range 256, ((w r (256 * b + m) - q r (256 * b + m))
      - ∑ a ∈ range b, ∑ k ∈ range 256, solE W c r (256 * a + k) * u (256 * a + k) (256 * b + m)) * invX (uBlk u b) m l := by
      intro r l
      have e1 : (256 * b + l.val) / 256 = b := by omega
      have e2 : (⟨(256 * b + l.val) % 256, Nat.mod_lt _ (by decide)⟩ : Fin 256) = l := Fin.ext (by show (256 * b + l.val) % 256 = _; omega)
      have e3 : (⟨r.val % 1152, Nat.mod_lt _ (by decide)⟩ : Fin 1152) = r := Fin.ext (by show r.val % 1152 = _; omega)
      conv_lhs => unfold solE
      rw [e1, e2, e3, key r l, EReal.toReal_coe]
    exact ⟨fun r l => by show _ = ((solE W c r (256 * b + l) : ℝ) : EReal); rw [key r l, val r l], fun r hr i hi => val ⟨r, hr⟩ ⟨i, hi⟩⟩

/-- Every row of the kept tiles solves the triangular system. -/
theorem sol_column (hu : RepU (W c main_arg5 : FVec Ideal S4096x4096 .f32) u) (hu0 : ∀ k < 4096, u k k ≠ 0)
    (hV : ∀ (b : Fin 16) (i j : Fin 256), (W c main_v6 : FVec Ideal S16x256x256 .f32) (Idealize.ShloMosaic.ix3 b i j) = ((invX (uBlk u b) i j : ℝ) : EReal))
    (hw : ∀ (r : Fin 1152) (j : Fin 4096), (W c main_v7 : FVec Ideal S1152x4096 .bf16) (Idealize.ShloMosaic.ix2 r j) = ((w r j : ℝ) : EReal))
    (hq : ∀ b < 16, Rep (dqAt W c b : FVec Ideal S1152x256 .f32) fun r l => q r (256 * b + l)) (r : ℕ) (hr : r < 1152) (j : ℕ) (hj : j < 4096) :
    ∑ k ∈ range j, solE W c r k * u k j + solE W c r j * u j j = w r j - q r j := by
  obtain ⟨b, l, hb, hl, rfl⟩ : ∃ b l, b < 16 ∧ l < 256 ∧ j = 256 * b + l := ⟨j / 256, j % 256, by omega, by omega, by omega⟩
  have hup : (fun i j => up u (256 * b + i) (256 * b + j)) = up (uBlk u b) := by
    funext i j
    unfold up uBlk
    by_cases h : i ≤ j
    · rw [if_pos h, if_pos (by omega)]
    · rw [if_neg h, if_neg (by omega)]
  exact blocked_column (s := 256) (b := b) (V := invX (uBlk u b)) (e := fun k => solE W c r k) (c := fun k => w r k - q r k)
    (by rw [hup]; exact invX_inv _ fun k hk => hu0 _ (by omega))
    (fun i hi => (sol_real W c u w q hu hV hw hq b hb).2 r hr i hi) l hl

end

end Cert.Val

end
-- ==== Proof.Val.Decode.lean ====
module

public import proofs.«01_k».proof.Proof.Val.Solve
public import Idealize.ShloMosaic.Lib.BitcastFour
public import Idealize.ShloMosaic.Lib.BitcastPair
public import Idealize.ShloMosaic.Lib.BitcastConvert
public import Idealize.ShloMosaic.Lib.StableHlo.ReadAt

/-! # The dequantized tiles at an index

What the solve call decodes at a row and a column: the codebook entry of the code there, times both scales. -/

@[expose] public section

set_option maxRecDepth 16384

noncomputable section

namespace Cert.Val

open Idealize.ShloMosaic Idealize.ShloMosaic.TcCoe Cert.KernelIdeal Cert.KernelIdeal.Gen

/-- The lane numbers. -/
abbrev lanes : IVec S8x128 32 := iota .tc S8x128 32 [1] iota_S8x128_d1_w32

/-- The lane number at a place. -/
theorem lanes_apply (i : Fin 8) (x : Fin 128) : lanes (Idealize.ShloMosaic.ix2 i x) = BitVec.ofNat 32 x := by
  unfold lanes
  pointwise

/-- The table lane of a code. -/
theorem lane_word : ∀ C : Fin 256, (Scalar.select (IntOp.cmpi CmpIPredicate.slt (IntOp.andi (BitVec.ofNat 32 C) 127#32) 0#32)
    (IntOp.addi (IntOp.andi (BitVec.ofNat 32 C) 127#32) 128#32) (IntOp.andi (BitVec.ofNat 32 C) 127#32)).toNat % 128 = C.val % 128 := by decide +kernel

/-- The column of a scale. -/
theorem col_word : ∀ w : Fin 128, (Scalar.select (IntOp.cmpi CmpIPredicate.slt (BitVec.ofNat 32 w) 0#32)
    (IntOp.addi (BitVec.ofNat 32 w) 128#32) (BitVec.ofNat 32 w)).toNat % 128 = w.val := by decide +kernel

/-- The half of a code, times sixteen. -/
theorem half_word : ∀ C : Fin 256, IntOp.shrsi .vector (IntOp.andi (BitVec.ofNat 32 C) 128#32) 3#32 = BitVec.ofNat 32 (16 * (C.val / 128)) := by decide +kernel

/-- Twenty-four less eight for an odd lane. -/
theorem odd_word : ∀ x : Fin 128, (IntOp.subi (24#32)
    (IntOp.muli (8#32)
      (Scalar.select
        (IntOp.andi
          (IntOp.xori
            (IntOp.cmpi CmpIPredicate.slt
              (IntOp.remsi ArithUnit.vector (BitVec.ofNat 32 x) (Scalar.select (Scalar.cmpi CmpIPredicate.eq 2#32 0#32) 1#32 2#32))
              0#32)
            (Scalar.cmpi CmpIPredicate.slt (Scalar.select (Scalar.cmpi CmpIPredicate.eq 2#32 0#32) 1#32 2#32) 0#32))
          (IntOp.cmpi CmpIPredicate.ne
            (IntOp.remsi ArithUnit.vector (BitVec.ofNat 32 x) (Scalar.select (Scalar.cmpi CmpIPredicate.eq 2#32 0#32) 1#32 2#32))
            0#32))
        (IntOp.addi
          (IntOp.remsi ArithUnit.vector (BitVec.ofNat 32 x) (Scalar.select (Scalar.cmpi CmpIPredicate.eq 2#32 0#32) 1#32 2#32))
          (Scalar.select (Scalar.cmpi CmpIPredicate.eq 2#32 0#32) 1#32 2#32))
        (IntOp.remsi ArithUnit.vector (BitVec.ofNat 32 x) (Scalar.select (Scalar.cmpi CmpIPredicate.eq 2#32 0#32) 1#32 2#32)))))
    = BitVec.ofNat 32 (24 - 8 * (x.val % 2)) := by decide +kernel

/-- The amount of the shift, as a word. -/
theorem sub_word : ∀ a b : Fin 2, IntOp.subi (BitVec.ofNat 32 (24 - 8 * a.val)) (BitVec.ofNat 32 (16 * b.val)) = BitVec.ofNat 32 (24 - 8 * (2 * b.val + a.val)) := by decide +kernel

/-- The shift that brings the byte of code `C` and lane `x` to the top of its word, and back down. -/
def byteAt (t : BitVec 32) (k : ℕ) : BitVec 32 := IntOp.shrsi .vector (IntOp.shli .vector t (BitVec.ofNat 32 (24 - 8 * k))) 24#32

/-- Byte `k` of a word, sign-extended. -/
theorem byteAt_eq (t : BitVec 32) (b : BitVec 8) (k : ℕ) (hk : k < 4) (h : ∀ q < 8, t.getLsbD (8 * k + q) = b.getLsbD q) :
    byteAt t k = b.signExtend 32 := by
  have e1 : IntOp.shli .vector t (BitVec.ofNat 32 (24 - 8 * k)) = t <<< (24 - 8 * k) := by
    have e : (BitVec.ofNat 32 (24 - 8 * k)).toNat = 24 - 8 * k := by rw [BitVec.toNat_ofNat]; omega
    unfold IntOp.shli
    rw [if_pos (by rw [e]; omega), BitVec.shiftLeft_eq', e]
  have e2 : ∀ y : BitVec 32, IntOp.shrsi .vector y 24#32 = y.sshiftRight 24 := fun y => by
    unfold IntOp.shrsi
    rw [if_pos (by decide)]; rfl
  unfold byteAt
  rw [e1, e2]
  apply BitVec.eq_of_getLsbD_eq
  intro i hi
  have hm : (t <<< (24 - 8 * k)).msb = b.msb := by
    rw [BitVec.msb_eq_getLsbD_last, BitVec.msb_eq_getLsbD_last, BitVec.getLsbD_shiftLeft, ← h 7 (by omega)]
    simp only [show ¬ (32 - 1 < 24 - 8 * k) by omega, show 32 - 1 - (24 - 8 * k) = 8 * k + 7 by omega]
    simp
  rw [BitVec.getLsbD_sshiftRight, BitVec.getLsbD_signExtend, hm]
  by_cases h8 : i < 8
  · rw [if_pos (by omega), if_pos h8, BitVec.getLsbD_shiftLeft, ← h i h8, show 24 + i - (24 - 8 * k) = 8 * k + i by omega]
    simp [show ¬ (32 ≤ i) by omega, show 24 + i < 32 by omega, show ¬ (24 + i < 24 - 8 * k) by omega, hi]
  · rw [if_neg (by omega), if_neg h8]
    simp [hi]

/-- A decoded piece at an index. -/
theorem piece_apply (wd : BitVec 32) (sc : EReal) (tab : IVec S1x1x128 32) (idx : IVec S8x128 32) (rs : FVec Ideal S8x128 .f32)
    (w : Fin 128) (C : Fin 256) (i : Fin 8) (x : Fin 128) (hw : wd = BitVec.ofNat 32 w.val)
    (hC : idx (Idealize.ShloMosaic.ix2 i x) = BitVec.ofNat 32 C.val) :
    (pieceV (F := Ideal) wd sc lanes tab idx rs : FVec Ideal S8x128 .f32) (Idealize.ShloMosaic.ix2 i x)
      = FloatOps.sitofp (F := Ideal) .f32 (byteAt (tab (Idealize.ShloMosaic.ix3 0 0 ⟨C.val % 128, Nat.mod_lt _ (by decide)⟩)) (2 * (C.val / 128) + x.val % 2))
        * sc * rs (Idealize.ShloMosaic.ix2 i w) := by
  subst hw
  unfold pieceV k1_pay9 k1_pay7 k1_pay6 k1_pay8 k1_pay102 byteAt
  pointwise
  refine congrArg₂ (fun a b : EReal => a * b) (congrArg (fun z : BitVec 32 => FloatOps.sitofp (F := Ideal) .f32 z * sc)
    (congrArg₂ (fun a b => IntOp.shrsi .vector (IntOp.shli .vector a b) 24#32) ?_ ?_)) ?_
  · refine congrArg (fun z : Fin 128 => tab (Idealize.ShloMosaic.ix3 0 0 z)) (Fin.ext ?_)
    dsimp only
    rw [hC]
    exact lane_word C
  · rw [hC, odd_word, half_word]
    exact sub_word ⟨x.val % 2, by omega⟩ ⟨C.val / 128, by omega⟩
  · refine congrArg (fun z : Fin 128 => rs (Idealize.ShloMosaic.ix2 i z)) (Fin.ext ?_)
    exact col_word w

/-- A gather of words whose bytes are four rows gathers every row's bytes. -/
theorem bytes_gather (v : IVec S32x128 8) (G : IVec S8x128 32) (h : S8x128.Bitcasts 32 S32x128 8) (h' : S32x128.Bitcasts 8 S8x128 32) (x x' : Fin 128)
    (hG : ∀ a : Fin 8, G (Idealize.ShloMosaic.ix2 a x) = bitcast S8x128 32 v h' (Idealize.ShloMosaic.ix2 a x')) (i : Fin 32) :
    bitcast S32x128 8 G h (Idealize.ShloMosaic.ix2 i x) = v (Idealize.ShloMosaic.ix2 i x') := by
  apply BitVec.eq_of_getLsbD_eq
  intro q hq
  rw [bitcast_getLsbD G h _ q hq (by decide)]
  have er : S32x128.row (Idealize.ShloMosaic.ix2 i x) = i.val := rfl
  have ei : ∀ p (hp : ∀ a : Fin S8x128.rank, a.val + 2 = S8x128.rank → p < S8x128.size a) (hp8 : p < 8),
      h.srcIdx (Idealize.ShloMosaic.ix2 i x) p hp = Idealize.ShloMosaic.ix2 (⟨p, hp8⟩ : Fin 8) x := by
    intro p hp hp8
    funext a
    match a with
    | ⟨0, _⟩ => rfl
    | ⟨1, _⟩ => rfl
  rw [ei _ _ (by rw [er]; omega), hG]
  refine (bitcast_8_32_getLsbD_ix2 (R := 32) (r := 8) (n := 128) v h' _ x' _ (Nat.mod_lt _ (by decide)) i (by dsimp only; rw [er]; omega)).trans ?_
  refine congrArg (BitVec.getLsbD (v (Idealize.ShloMosaic.ix2 i x'))) ?_
  rw [er]; omega

/-- Half a lane number. -/
theorem pair_word : ∀ x : Fin 128, (Scalar.select
      (IntOp.andi
        (IntOp.cmpi CmpIPredicate.ne
          (IntOp.subi (BitVec.setWidth 32 (IntOp.cmpi CmpIPredicate.sgt (BitVec.ofNat 32 x) 0#32))
            (BitVec.setWidth 32 (IntOp.cmpi CmpIPredicate.slt (BitVec.ofNat 32 x) 0#32)))
          (Scalar.subi (Scalar.extui (Scalar.cmpi CmpIPredicate.sgt 2#32 0#32))
            (Scalar.extui (Scalar.cmpi CmpIPredicate.slt 2#32 0#32))))
        (IntOp.cmpi CmpIPredicate.ne (IntOp.remsi ArithUnit.vector (BitVec.ofNat 32 x) 2#32) 0#32))
      (IntOp.subi (IntOp.divsi ArithUnit.vector (BitVec.ofNat 32 x) 2#32) 1#32)
      (IntOp.divsi ArithUnit.vector (BitVec.ofNat 32 x) 2#32)) = BitVec.ofNat 32 (x.val / 2) := by decide +kernel

/-- The lane of a half and a number below it. -/
theorem off_word : ∀ (h : Fin 2) (m : Fin 64), (Scalar.select (IntOp.cmpi CmpIPredicate.slt (IntOp.addi (BitVec.ofNat 32 m) (BitVec.ofNat 32 (64 * h.val))) 0#32)
    (IntOp.addi (IntOp.addi (BitVec.ofNat 32 m) (BitVec.ofNat 32 (64 * h.val))) 128#32)
    (IntOp.addi (BitVec.ofNat 32 m) (BitVec.ofNat 32 (64 * h.val)))).toNat % 128 = 64 * h.val + m.val := by decide +kernel

/-- The decoded code at an index. -/
theorem decIdx_apply (hoff : BitVec 32) (v : IVec S32x128 8) (h : Fin 2) (hh : hoff = BitVec.ofNat 32 (64 * h.val)) (i : Fin 32) (x : Fin 128) :
    decIdx (F := Ideal) hoff lanes v (Idealize.ShloMosaic.ix2 i x)
      = (v (Idealize.ShloMosaic.ix2 i ⟨64 * h.val + x.val / 2, by omega⟩)).setWidth 32 := by
  subst hh
  unfold decIdx
  pointwise
  refine congrArg (BitVec.setWidth 32) (bytes_gather v _ _ bitcasts_S32x128_w8_S8x128_w32 x _ (fun a => ?_) i)
  pointwise
  refine congrArg (fun z : Fin 128 => bitcast S8x128 32 v bitcasts_S32x128_w8_S8x128_w32 (Idealize.ShloMosaic.ix2 a z)) (Fin.ext ?_)
  dsimp only
  rw [pair_word]
  exact off_word h ⟨x.val / 2, by omega⟩

section
variable (W : Dev nD → Valuation τ sig (Elt Ideal)) (c : Dev nD)

/-- A dequantized tile at an index, from the codes, the table and the scales. -/
theorem dqAt_apply (b : ℕ) (hb : b < 16) (r : Fin 1152) (h : Fin 2) (x : Fin 128) (l : Fin 256) (hl : l.val = 128 * h.val + x.val) (a : Fin 3) (ha : a.val = r.val / 384)
    (n : Fin 32) (hn : n.val = 2 * b + h.val) (J : Fin 2048) (hJ : J.val = 128 * b + (64 * h.val + x.val / 2)) (C : Fin 256)
    (hC : ((W c main_v8 : IVec S1152x2048 8) (Idealize.ShloMosaic.ix2 r J)).toNat = C.val) :
    (dqAt W c b : FVec Ideal S1152x256 .f32) (Idealize.ShloMosaic.ix2 r l)
      = FloatOps.sitofp (F := Ideal) .f32 (byteAt ((W c main_v3 : IVec S3x32x128 32) (Idealize.ShloMosaic.ix3 a n ⟨C.val % 128, Nat.mod_lt _ (by decide)⟩)) (2 * (C.val / 128) + x.val % 2))
        * (W c main_arg3 : FVec Ideal S3x32 .f32) (Idealize.ShloMosaic.ix2 a n) * (W c main_v5 : FVec Ideal S1152x128 .f32) (Idealize.ShloMosaic.ix2 r ⟨n.val, by omega⟩) := by
  have e1 : l.val / 128 = h.val := by omega
  have hp : (pt b b).val / 16 = b := (pt_div b b hb hb).1
  have ei : (Cert.KernelIdeal.Gen.ix2 (by decide) (by decide) (r.val % 8) (l.val % 128) : S8x128.Idx)
      = Idealize.ShloMosaic.ix2 (⟨r.val % 8, Nat.mod_lt _ (by decide)⟩ : Fin 8) x := by
    funext d
    match d with
    | ⟨0, _⟩ => exact Fin.ext (show r.val % 8 % 8 = r.val % 8 by omega)
    | ⟨1, _⟩ => exact Fin.ext (show l.val % 128 % 128 = x.val by omega)
  have hw : Scalar.addi (Scalar.muli 2#32 (BitVec.ofNat 32 b)) (BitVec.ofNat 32 (l.val / 128)) = BitVec.ofNat 32 (⟨n.val, by omega⟩ : Fin 128).val := by
    rw [e1, hn]
    have : ∀ (b : Fin 16) (h : Fin 2), Scalar.addi (Scalar.muli 2#32 (BitVec.ofNat 32 b.val)) (BitVec.ofNat 32 h.val) = BitVec.ofNat 32 (2 * b.val + h.val) := by decide +kernel
    exact this ⟨b, hb⟩ h
  have hidx : rows8 ((r.val % 32) / 8) (decIdx (F := Ideal) (BitVec.ofNat 32 (64 * (l.val / 128))) lanes (rows32 (F := Ideal) (r.val / 32) (iblk1 W c 2 (pt b b))))
      (Idealize.ShloMosaic.ix2 (⟨r.val % 8, Nat.mod_lt _ (by decide)⟩ : Fin 8) x) = BitVec.ofNat 32 C.val := by
    have e2 : (Cert.KernelIdeal.Gen.ix2 (by decide) (by decide) (8 * ((r.val % 32) / 8) + r.val % 8) x.val : S32x128.Idx)
        = Idealize.ShloMosaic.ix2 (⟨r.val % 32, Nat.mod_lt _ (by decide)⟩ : Fin 32) x := by
      funext d
      match d with
      | ⟨0, _⟩ => exact Fin.ext (show (8 * ((r.val % 32) / 8) + r.val % 8) % 32 = r.val % 32 by omega)
      | ⟨1, _⟩ => exact Fin.ext (show x.val % 128 = x.val by omega)
    have e3 : (Cert.KernelIdeal.Gen.ix2 (by decide) (by decide) (32 * (r.val / 32) + r.val % 32) (64 * h.val + x.val / 2) : S1152x128.Idx)
        = Idealize.ShloMosaic.ix2 r (⟨64 * h.val + x.val / 2, by omega⟩ : Fin 128) := by
      funext d
      match d with
      | ⟨0, _⟩ => exact Fin.ext (show (32 * (r.val / 32) + r.val % 32) % 1152 = r.val by omega)
      | ⟨1, _⟩ => exact Fin.ext (show (64 * h.val + x.val / 2) % 128 = 64 * h.val + x.val / 2 by omega)
    refine (congrArg _ e2).trans ?_
    rw [e1]
    refine (decIdx_apply _ _ h rfl _ x).trans ?_
    refine (congrArg (fun z => BitVec.setWidth 32 (iblk1 W c 2 (pt b b) z : BitVec 8)) e3).trans ?_
    rw [← hC]
    refine (congrArg (BitVec.setWidth 32) (blk1_2 W c (pt b b) r ⟨64 * h.val + x.val / 2, by omega⟩ J (by rw [hp]; exact hJ))).trans ?_
    exact BitVec.eq_of_toNat_eq (by rw [BitVec.toNat_setWidth, BitVec.toNat_ofNat])
  refine (congrArg (pieceV (F := Ideal) _ _ _ _ _ _) ei).trans ?_
  refine (piece_apply _ _ _ _ _ ⟨n.val, by omega⟩ C ⟨r.val % 8, Nat.mod_lt _ (by decide)⟩ x hw hidx).trans ?_
  refine congrArg₂ (fun a b : EReal => a * b) (congrArg₂ (fun (t : BitVec 32) (b : EReal) => FloatOps.sitofp (F := Ideal) .f32 (byteAt t (2 * (C.val / 128) + x.val % 2)) * b) ?_ ?_) ?_
  · refine Eq.trans (congrArg (iblk1 W c 3 (pt b b)) ?_) (blk1_3 W c (pt b b) a n _)
    funext d
    match d with
    | ⟨0, _⟩ => exact Fin.ext (show r.val / 384 % 3 = a.val by omega)
    | ⟨1, _⟩ => exact Fin.ext (show (2 * b + l.val / 128) % 32 = n.val by omega)
    | ⟨2, _⟩ => exact Fin.ext (show C.val % 128 % 128 = C.val % 128 by omega)
  · refine Eq.trans (congrArg (iblk1 W c 0 (pt b b)) ?_) (blk1_0 W c (pt b b) a n)
    funext d
    match d with
    | ⟨0, _⟩ => exact Fin.ext (show r.val / 384 % 3 = a.val by omega)
    | ⟨1, _⟩ => exact Fin.ext (show (2 * b + l.val / 128) % 32 = n.val by omega)
  · refine Eq.trans (congrArg (iblk1 W c 4 (pt b b)) ?_) (blk1_4 W c (pt b b) r _)
    funext d
    match d with
    | ⟨0, _⟩ => exact Fin.ext (show (8 * (r.val / 8) + r.val % 8) % 1152 = r.val by omega)
    | ⟨1, _⟩ => exact Fin.ext (show n.val % 128 = n.val by omega)

end

end Cert.Val

end
-- ==== Proof.Val.KHost.lean ====
module

public import proofs.«01_k».proof.Proof.Val.Decode
public import Idealize.ShloMosaic.Lib.KernelVsHost
public import Idealize.ShloMosaic.Lib.Tactic.CleanTypes

/-! # The kernel's host lines at an index

What the solve call is entered with, read from the arguments. -/

@[expose] public section

set_option maxRecDepth 16384

noncomputable section

namespace Cert.Val

open Idealize.ShloMosaic Idealize.ShloMosaic.TcCoe Idealize.ShloMosaic.Tactic Cert.KernelIdeal Cert.KernelIdeal.Gen StableHlo
open Idealize.ShloMosaic.Pipeline (afterRegion)

variable (m : (ℓ : Loc nD τ sig) → Buf (Elt Ideal) ℓ) (c : Dev nD)

/-- A buffer the host lines and the first call leave alone. -/
theorem w4_keep (r : Ref sig .tc) (h4 : r ∉ hostOps1_W) (h3 : r ∉ ([main_v6] : List (Ref sig .tc))) (h2 : r ∉ hostOps0_1_W) (h1 : r ∉ hostOps0_W) :
    W4 m c r = V0 m c r :=
  (V4_of m (outsW m) c r h4).trans ((V3_of m (outsW m) c r h3).trans ((V2_of m c r h2).trans (V1_of m c r h1)))

/-! Three matrices of rows under one another. -/

/-- Rows of three matrices under one another, 4096 columns. -/
theorem rows3_4096 {α : Type} (x : (⟨3, ![3, 384, 4096]⟩ : Shape).Idx → α) (h) (i : Fin 1152) (j : Fin 4096) (a : Fin 3) (r : Fin 384) (hi : i.val = 384 * a.val + r.val) :
    shapeCast (⟨2, ![1152, 4096]⟩ : Shape) x h (Idealize.ShloMosaic.ix2 i j) = x (Idealize.ShloMosaic.ix3 a r j) := by
  pointwise
  congr 2
  all_goals refine Fin.ext ?_; dsimp only; omega

/-- The same with 2048 columns. -/
theorem rows3_2048 {α : Type} (x : (⟨3, ![3, 384, 2048]⟩ : Shape).Idx → α) (h) (i : Fin 1152) (j : Fin 2048) (a : Fin 3) (r : Fin 384) (hi : i.val = 384 * a.val + r.val) :
    shapeCast (⟨2, ![1152, 2048]⟩ : Shape) x h (Idealize.ShloMosaic.ix2 i j) = x (Idealize.ShloMosaic.ix3 a r j) := by
  pointwise
  congr 2
  all_goals refine Fin.ext ?_; dsimp only; omega

/-- The same with 32 columns. -/
theorem rows3_32 {α : Type} (x : (⟨3, ![3, 384, 32]⟩ : Shape).Idx → α) (h) (i : Fin 1152) (j : Fin 32) (a : Fin 3) (r : Fin 384) (hi : i.val = 384 * a.val + r.val) :
    shapeCast (⟨2, ![1152, 32]⟩ : Shape) x h (Idealize.ShloMosaic.ix2 i j) = x (Idealize.ShloMosaic.ix3 a r j) := by
  pointwise
  congr 2
  all_goals refine Fin.ext ?_; dsimp only; omega

/-- The weights the second call reads. -/
theorem k_w (i : Fin 1152) (j : Fin 4096) (a : Fin 3) (r : Fin 384) (hi : i.val = 384 * a.val + r.val) :
    (W4 m c main_v7 : FVec Ideal S1152x4096 .bf16) (Idealize.ShloMosaic.ix2 i j) = (V0 m c main_arg0 : FVec Ideal S3x384x4096 .bf16) (Idealize.ShloMosaic.ix3 a r j) := by
  have e : (W3 m c main_arg0) = V0 m c main_arg0 := (V3_of m (outsW m) c main_arg0 (by decide)).trans ((V2_of m c main_arg0 (by decide)).trans (V1_of m c main_arg0 (by decide)))
  rw [← e]
  show after hostOps1 (W3 m c) (Proc.devRef .tc main_v7) _ = _
  after_reads_simp
  exact rows3_4096 _ _ i j a r hi

/-- The codes the second call reads. -/
theorem k_codes (i : Fin 1152) (j : Fin 2048) (a : Fin 3) (r : Fin 384) (hi : i.val = 384 * a.val + r.val) :
    (W4 m c main_v8 : IVec S1152x2048 8) (Idealize.ShloMosaic.ix2 i j) = (V0 m c main_arg1 : IVec S3x384x2048 8) (Idealize.ShloMosaic.ix3 a r j) := by
  have e : (W3 m c main_arg1) = V0 m c main_arg1 := (V3_of m (outsW m) c main_arg1 (by decide)).trans ((V2_of m c main_arg1 (by decide)).trans (V1_of m c main_arg1 (by decide)))
  rw [← e]
  show after hostOps1 (W3 m c) (Proc.devRef .tc main_v8) _ = _
  after_reads_simp
  exact rows3_2048 _ _ i j a r hi

/-- Below its own columns a padded array reads the array. -/
theorem pad_at {α : Type} (x : S1152x32.Idx → α) (v : S_.Idx → α) (i : Fin 1152) (n : Fin 32) (n' : Fin 128) (hn : n'.val = n.val) :
    pad S1152x128 ![0, 0] ![0, 96] ![0, 0] x v pads_S1152x32_S1152x128_000_0960 h_S_ (Idealize.ShloMosaic.ix2 i n') = x (Idealize.ShloMosaic.ix2 i n) :=
  pad_apply_of_inside ![0, 0] ![0, 96] ![0, 0] _ _ pads_S1152x32_S1152x128_000_0960 h_S_ (Idealize.ShloMosaic.ix2 i n') (Idealize.ShloMosaic.ix2 i n) fun a => by
    match a with
    | ⟨0, _⟩ => show i.val = 0 + i.val * (0 + 1); omega
    | ⟨1, _⟩ => show n'.val = 0 + n.val * (0 + 1); omega

/-- The host's line of the padded row scales. -/
theorem v5_read (V : Valuation τ sig (Elt Ideal)) (i : Fin 1152) (n : Fin 32) (n' : Fin 128) (hn : n'.val = n.val) :
    (after hostOps0_1 V main_v5 : FVec Ideal S1152x128 .f32) (Idealize.ShloMosaic.ix2 i n') = (V main_v4 : FVec Ideal S1152x32 .f32) (Idealize.ShloMosaic.ix2 i n) := by
  show after hostOps0_1 V (Proc.devRef .tc main_v5) _ = _
  after_reads_simp
  clean_types
  exact pad_at _ _ i n n' hn

/-- The host's line of the row scales. -/
theorem v4_read (V : Valuation τ sig (Elt Ideal)) (i : Fin 1152) (n : Fin 32) (a : Fin 3) (r : Fin 384) (hi : i.val = 384 * a.val + r.val) :
    (after hostOps0 V main_v4 : FVec Ideal S1152x32 .f32) (Idealize.ShloMosaic.ix2 i n) = (V main_arg4 : FVec Ideal S3x384x32 .f32) (Idealize.ShloMosaic.ix3 a r n) := by
  show after hostOps0 V (Proc.devRef .tc main_v4) _ = _
  after_reads_simp
  exact rows3_32 _ _ i n a r hi

/-- The row scales the second call reads. -/
theorem k_rs (i : Fin 1152) (n : Fin 32) (n' : Fin 128) (hn : n'.val = n.val) (a : Fin 3) (r : Fin 384) (hi : i.val = 384 * a.val + r.val) :
    (W4 m c main_v5 : FVec Ideal S1152x128 .f32) (Idealize.ShloMosaic.ix2 i n') = (V0 m c main_arg4 : FVec Ideal S3x384x32 .f32) (Idealize.ShloMosaic.ix3 a r n) := by
  have e : (W4 m c main_v5) = V2 m c main_v5 := (V4_of m (outsW m) c main_v5 (by decide)).trans (V3_of m (outsW m) c main_v5 (by decide))
  exact (congrFun e _).trans ((v5_read (V1 m c) i n n' hn).trans (v4_read (V0 m c) i n a r hi))

/-- The table word of entry `e` holds, byte by byte, the two coordinates of codes `e` and `128 + e`. -/
theorem k_table (a : Fin 3) (n : Fin 32) (e : Fin 128) (hi d : Fin 2) (C : Fin 256) (hC : C.val = 128 * hi.val + e.val) :
    byteAt ((W4 m c main_v3 : IVec S3x32x128 32) (Idealize.ShloMosaic.ix3 a n e)) (2 * hi.val + d.val)
      = ((V0 m c main_arg2 : IVec S3x32x256x2 8) (Idealize.ShloMosaic.ix4 a n C d)).signExtend 32 := by
  have h1 : (W4 m c main_v3) = V1 m c main_v3 := (V4_of m (outsW m) c main_v3 (by decide)).trans ((V3_of m (outsW m) c main_v3 (by decide)).trans (V2_of m c main_v3 (by decide)))
  refine byteAt_eq _ _ _ (by omega) fun q hq => ?_
  rw [h1]
  show BitVec.getLsbD (after hostOps0 (V0 m c) (Proc.devRef .tc main_v3) _) _ = _
  after_reads_simp
  refine (Host.bitcastConvertWiden_getLsbD S3x32x128 32 _ splits_S3x32x128_w32_S3x32x128x4_w8 (Idealize.ShloMosaic.ix3 a n e) _ (by omega)).trans ?_
  have es : splits_S3x32x128_w32_S3x32x128x4_w8.snoc (Idealize.ShloMosaic.ix3 a n e) ⟨(8 * (2 * hi.val + d.val) + q) / 8, splits_S3x32x128_w32_S3x32x128x4_w8.div_lt (by omega)⟩
      = Idealize.ShloMosaic.ix4 a n e (⟨2 * hi.val + d.val, by omega⟩ : Fin 4) := by
    funext b
    match b with
    | ⟨0, _⟩ => rfl
    | ⟨1, _⟩ => rfl
    | ⟨2, _⟩ => rfl
    | ⟨3, _⟩ => exact Fin.ext (show (8 * (2 * hi.val + d.val) + q) / 8 = 2 * hi.val + d.val by omega)
  rw [es, show (8 * (2 * hi.val + d.val) + q) % 8 = q by omega]
  pointwise
  rw [show (⟨hi.val * 128 + e.val, by omega⟩ : Fin 256) = C from Fin.ext (by show hi.val * 128 + e.val = _; omega)]

/-- The inverse the second call reads: block by block the real matrix `invX` of the factor's diagonal block. -/
theorem k_inv (u : ℕ → ℕ → ℝ) (hu : RepU (V0 m c main_arg5 : FVec Ideal S4096x4096 .f32) u) (hu0 : ∀ k < 4096, u k k ≠ 0) (b : Fin 16) (i j : Fin 256) :
    (W4 m c main_v6 : FVec Ideal S16x256x256 .f32) (Idealize.ShloMosaic.ix3 b i j) = ((invX (uBlk u b) i j : ℝ) : EReal) := by
  have h1 : (W4 m c main_v6) = W3 m c main_v6 := V4_of m (outsW m) c main_v6 (by decide)
  have h2 : (W3 m c main_v6) = afterRegion (dat0 (V2 m) c) (V2 m c) main_v6 := Function.update_self ..
  have h5 : (V2 m c main_arg5) = V0 m c main_arg5 := (V2_of m c main_arg5 (by decide)).trans (V1_of m c main_arg5 (by decide))
  rw [h1, h2, arr0_1]
  refine invV_rep _ (uBlk u b) (fun i j hij => ?_) (fun k hk => hu0 _ (by omega)) i j
  refine (blk0_0 (V2 m) c (pt0 b) i j ⟨256 * b.val + i.val, by omega⟩ ⟨256 * b.val + j.val, by omega⟩ rfl rfl).trans ?_
  rw [h5]
  exact hu _ _ (by show 256 * b.val + i.val ≤ 256 * b.val + j.val; omega)

end Cert.Val

end
-- ==== Proof.Val.KOut.lean ====
module

public import proofs.«01_k».proof.Proof.Val.KHost

/-! # The kernel's results at an index -/

@[expose] public section

set_option maxRecDepth 16384

noncomputable section

namespace Cert.Val

open Idealize.ShloMosaic Idealize.ShloMosaic.TcCoe Idealize.ShloMosaic.Tactic Cert.KernelIdeal Cert.KernelIdeal.Gen StableHlo
open Idealize.ShloMosaic.Pipeline (afterRegion)

variable (m : (ℓ : Loc nD τ sig) → Buf (Elt Ideal) ℓ) (c : Dev nD)

/-- Rows of one matrix cut in three. -/
theorem cut3 {α : Type} (x : S1152x4096.Idx → α) (h) (i : Fin 1152) (j : Fin 4096) (a : Fin 3) (r : Fin 384) (hi : i.val = 384 * a.val + r.val) :
    shapeCast S3x384x4096 x h (Idealize.ShloMosaic.ix3 a r j) = x (Idealize.ShloMosaic.ix2 i j) := by
  pointwise
  congr 2
  all_goals refine Fin.ext ?_; dsimp only; omega

/-- The host's line of the first result. -/
theorem v10_read (V : Valuation τ sig (Elt Ideal)) (i : Fin 1152) (j : Fin 4096) (a : Fin 3) (r : Fin 384) (hi : i.val = 384 * a.val + r.val) :
    (after hostOps2 V main_v10 : FVec Ideal S3x384x4096 .bf16) (Idealize.ShloMosaic.ix3 a r j) = (V main_v9_0 : FVec Ideal S1152x4096 .bf16) (Idealize.ShloMosaic.ix2 i j) := by
  show after hostOps2 V (Proc.devRef .tc main_v10) _ = _
  after_reads_simp
  exact cut3 _ _ i j a r hi

/-- The host's line of the second result. -/
theorem v11_read (V : Valuation τ sig (Elt Ideal)) (i : Fin 1152) (j : Fin 4096) (a : Fin 3) (r : Fin 384) (hi : i.val = 384 * a.val + r.val) :
    (after hostOps2 V main_v11 : FVec Ideal S3x384x4096 .f32) (Idealize.ShloMosaic.ix3 a r j) = (V main_v9_1 : FVec Ideal S1152x4096 .f32) (Idealize.ShloMosaic.ix2 i j) := by
  show after hostOps2 V (Proc.devRef .tc main_v11) _ = _
  after_reads_simp
  exact cut3 _ _ i j a r hi

/-- The rounding to the result's format changes nothing on extended reals. -/
theorem pay113_apply (Q : FVec Ideal S1152x256 .f32) (r : Fin 1152) (l : Fin 256) :
    (k1_pay113 Q : FVec Ideal S1152x256 .bf16) (Idealize.ShloMosaic.ix2 r l) = Q (Idealize.ShloMosaic.ix2 r l) := by
  unfold k1_pay113
  pointwise

/-- The first result, at an index, is the dequantized tile. -/
theorem k_q (i : Fin 1152) (j : Fin 4096) (a : Fin 3) (r : Fin 384) (hi : i.val = 384 * a.val + r.val) :
    (V6 m (outsW m) c main_v10 : FVec Ideal S3x384x4096 .bf16) (Idealize.ShloMosaic.ix3 a r j)
      = (dqAt (W4 m) c (j.val / 256) : FVec Ideal S1152x256 .f32) (Idealize.ShloMosaic.ix2 i ⟨j.val % 256, Nat.mod_lt _ (by decide)⟩) := by
  have e : V5 m (outsW m) c main_v9_0 = afterRegion (dat1 (W4 m) c) (W4 m c) main_v9_0 :=
    (Function.update_of_ne (StableHlo.devRef_ne_of_ne (by decide)) _ _).trans (Function.update_self ..)
  refine (v10_read (V5 m (outsW m) c) i j a r hi).trans ?_
  rw [e, arr1_7]
  exact pay113_apply _ i _

/-- The second result, at an index, is the solved tile. -/
theorem k_err (i : Fin 1152) (j : Fin 4096) (a : Fin 3) (r : Fin 384) (hi : i.val = 384 * a.val + r.val) :
    (V6 m (outsW m) c main_v11 : FVec Ideal S3x384x4096 .f32) (Idealize.ShloMosaic.ix3 a r j)
      = (eAt (W4 m) c (j.val / 256) : FVec Ideal S1152x256 .f32) (Idealize.ShloMosaic.ix2 i ⟨j.val % 256, Nat.mod_lt _ (by decide)⟩) := by
  have e : V5 m (outsW m) c main_v9_1 = afterRegion (dat1 (W4 m) c) (W4 m c) main_v9_1 := Function.update_self ..
  refine (v11_read (V5 m (outsW m) c) i j a r hi).trans ?_
  rw [e, arr1_8]
  rfl

end Cert.Val

end
-- ==== Proof.Val.RefLoop.lean ====
module

public import proofs.«01_k».proof.Proof.Ref.Run
public import proofs.«01_k».proof.Proof.Val.Double
public import Idealize.ShloMosaic.Lib.DynamicIndex
public import Idealize.ShloMosaic.Lib.Tactic.CleanTypes

/-! # The reference's loop over the real numbers

One trip solves two columns and takes them out of the columns to the right. After all trips every row of the error
array solves the triangular system. -/

@[expose] public section

set_option maxRecDepth 16384

noncomputable section

namespace Cert.Val.RefLoop

open Idealize.ShloMosaic Idealize.ShloMosaic.StableHlo
open Cert.ReferenceIdeal Cert.ReferenceIdeal.Gen Cert.ReferenceIdeal.Value

variable (V : Valuation τ sig (Elt Ideal))

/-- The factor. -/
abbrev aU : FVec Ideal S4096x4096 .f32 := V (Proc.devRef .tc main_v44_0)
/-- The dequantized weights. -/
abbrev aQ : FVec Ideal S1152x4096 .f32 := V (Proc.devRef .tc main_v44_1)
/-- The column numbers. -/
abbrev aI : IVec S4096 32 := V (Proc.devRef .tc main_v44_2)
/-- The counter. -/
abbrev aP : IVec S_ 32 := V (Proc.devRef .tc main_v44_4)
/-- The weights, updated from step to step. -/
abbrev aW : FVec Ideal S1152x4096 .f32 := V (Proc.devRef .tc main_v44_5)
/-- The errors found so far. -/
abbrev aE : FVec Ideal S1152x4096 .f32 := V (Proc.devRef .tc main_v44_6)

/-- The two rows of the factor that the step reads. -/
abbrev bU : FVec Ideal S2x4096 .f32 := res_main_while0b_v52 V
/-- The 2 × 2 diagonal block of the step. -/
abbrev bD : FVec Ideal S2x2 .f32 := res_main_while0b_v57 V
/-- The residuals of the two columns. -/
abbrev bR : FVec Ideal S1152x2 .f32 := res_main_while0b_v74 V
/-- The error of the first column. -/
abbrev b0 : FVec Ideal S1152 .f32 := res_main_while0b_v78 V
/-- The errors of the two columns. -/
abbrev bE : FVec Ideal S1152x2 .f32 := res_main_while0b_v88 V

/-- The column that trip `p` starts at. -/
theorem v47_eq (p : ℕ) (h : aP V = constantI S_ 32 (BitVec.ofNat 32 p)) :
    res_main_while0b_v47 V = constantI S_ 32 (BitVec.ofNat 32 (2 * p)) := by
  unfold res_main_while0b_v47
  funext x
  show 2#32 * (aP V x) = _
  rw [h]
  show BitVec.ofNat 32 2 * BitVec.ofNat 32 p = BitVec.ofNat 32 (2 * p)
  rw [BitVec.ofNat_mul]

/-- The two rows of trip `p`. -/
theorem v52_apply (p : ℕ) (hp : p < 2048) (h : aP V = constantI S_ 32 (BitVec.ofNat 32 p)) (a : Fin 2) (j : Fin 4096) (I : Fin 4096)
    (hI : I.val = 2 * p + a.val) : bU V (Idealize.ShloMosaic.ix2 a j) = aU V (Idealize.ShloMosaic.ix2 I j) := by
  unfold bU res_main_while0b_v52
  rw [v47_eq V p h]
  refine (congrFun (Host.dynamicSlice_eq_extractStridedSlice (s := S4096x4096) S2x4096 (aU V) _ ![2 * p, 0] _ ⟨rfl, by intro a; fin_cases a <;> simp <;> omega⟩ (by
    intro a; fin_cases a
    · exact toInt_wrap_ofNat (2 * p) (by omega)
    · rfl)) _).trans ?_
  refine congrArg (aU V) (funext fun a => Fin.ext ?_)
  match a with
  | ⟨0, _⟩ => exact hI.symm
  | ⟨1, _⟩ => exact Nat.zero_add _

/-- The block on the diagonal of trip `p`. -/
theorem v57_apply (p : ℕ) (hp : p < 2048) (h : aP V = constantI S_ 32 (BitVec.ofNat 32 p)) (a b : Fin 2) (I J : Fin 4096)
    (hI : I.val = 2 * p + a.val) (hJ : J.val = 2 * p + b.val) :
    bD V (Idealize.ShloMosaic.ix2 a b) = aU V (Idealize.ShloMosaic.ix2 I J) := by
  rw [← v52_apply V p hp h a J I hI]
  unfold bD res_main_while0b_v57
  rw [v47_eq V p h]
  refine (congrFun (Host.dynamicSlice_eq_extractStridedSlice (s := S2x4096) S2x2 (bU V) _ ![0, 2 * p] _ ⟨rfl, by intro a; fin_cases a <;> simp <;> omega⟩ (by
    intro a; fin_cases a
    · rfl
    · exact toInt_wrap_ofNat (2 * p) (by omega))) _).trans ?_
  refine congrArg (res_main_while0b_v52 V) (funext fun a => Fin.ext ?_)
  match a with
  | ⟨0, _⟩ => exact Nat.zero_add _
  | ⟨1, _⟩ => exact hJ.symm

/-- The two columns' residuals of trip `p`. -/
theorem v74_apply (p : ℕ) (hp : p < 2048) (h : aP V = constantI S_ 32 (BitVec.ofNat 32 p)) (i : Fin 1152) (b : Fin 2) (J : Fin 4096)
    (hJ : J.val = 2 * p + b.val) :
    bR V (Idealize.ShloMosaic.ix2 i b)
      = aW V (Idealize.ShloMosaic.ix2 i J) - aQ V (Idealize.ShloMosaic.ix2 i J) := by
  unfold bR res_main_while0b_v74
  rw [v47_eq V p h]
  have hs : S1152x4096.Slices ![0, 2 * p] S1152x2 := ⟨rfl, by intro a; fin_cases a <;> simp <;> omega⟩
  rw [Host.dynamicSlice_eq_extractStridedSlice S1152x2 (aW V) _ ![0, 2 * p] _ hs (by
    intro a; fin_cases a
    · rfl
    · exact toInt_wrap_ofNat (2 * p) (by omega)),
    Host.dynamicSlice_eq_extractStridedSlice S1152x2 (aQ V) _ ![0, 2 * p] _ hs (by
    intro a; fin_cases a
    · rfl
    · exact toInt_wrap_ofNat (2 * p) (by omega))]
  have e : ∀ x : FVec Ideal S1152x4096 .f32, extractStridedSlice S1152x2 ![0, 2 * p] x hs (Idealize.ShloMosaic.ix2 i b) = x (Idealize.ShloMosaic.ix2 i J) := by
    intro x
    refine congrArg x (funext fun a => Fin.ext ?_)
    match a with
    | ⟨0, _⟩ => exact Nat.zero_add _
    | ⟨1, _⟩ => exact hJ.symm
  rw [← e (aW V), ← e (aQ V)]
  rfl

/-- The first column's errors. -/
theorem v78_apply (i : Fin 1152) : b0 V (Idealize.ShloMosaic.ix1 i)
    = Ideal.div (bR V (Idealize.ShloMosaic.ix2 i 0))
        (bD V (Idealize.ShloMosaic.ix2 0 0)) := by
  unfold b0 res_main_while0b_v78
  clean_types
  pointwise
  done

/-- Both columns' errors. -/
theorem v88_apply (i : Fin 1152) :
    bE V (Idealize.ShloMosaic.ix2 i 0) = b0 V (Idealize.ShloMosaic.ix1 i) ∧
    bE V (Idealize.ShloMosaic.ix2 i 1)
     = Ideal.div (bR V (Idealize.ShloMosaic.ix2 i 1) -
        (b0 V (Idealize.ShloMosaic.ix1 i) : EReal) * (bD V (Idealize.ShloMosaic.ix2 0 1) : EReal))
        (bD V (Idealize.ShloMosaic.ix2 1 1)) := by
  unfold bE res_main_while0b_v88
  clean_types
  constructor
  · pointwise
    done
  · pointwise
    done

/-- The error array after trip `p`. -/
theorem step6_apply (p : ℕ) (hp : p < 2048) (h : aP V = constantI S_ 32 (BitVec.ofNat 32 p)) (i : Fin 1152) (j : Fin 4096) :
    (step_main_v44_6 V : FVec Ideal S1152x4096 .f32) (Idealize.ShloMosaic.ix2 i j) =
      if hj : 2 * p ≤ j.val ∧ j.val < 2 * p + 2 then bE V (Idealize.ShloMosaic.ix2 i ⟨j.val - 2 * p, by omega⟩)
      else aE V (Idealize.ShloMosaic.ix2 i j) := by
  unfold step_main_v44_6
  rw [v47_eq V p h]
  simp only [id_eq]
  refine (congrFun (Host.dynamicUpdateSlice_eq_updateSlice (s := S1152x4096) (u := S1152x2) (aE V) (bE V) _ _ ![0, 2 * p] (by
    intro a; fin_cases a
    · rfl
    · refine (congrArg (fun z : ℤ => (min (max z 0) ((4096 - 2 : ℕ) : ℤ)).toNat) (toInt_wrap_ofNat (2 * p) (by omega))).trans ?_
      show (min (max ((2 * p : ℕ) : ℤ) 0) ((4096 - 2 : ℕ) : ℤ)).toNat = 2 * p
      omega)
    ⟨rfl, by intro a; fin_cases a <;> simp <;> omega⟩) _).trans ?_
  pointwise
  done

/-- The remaining weights after trip `p`. -/
theorem step5_apply (p : ℕ) (hp : p < 2048) (h : aP V = constantI S_ 32 (BitVec.ofNat 32 p))
    (hI : ∀ j : Fin 4096, aI V (Idealize.ShloMosaic.ix1 j) = BitVec.ofNat 32 j.val) (i : Fin 1152) (j : Fin 4096) :
    (step_main_v44_5 V : FVec Ideal S1152x4096 .f32) (Idealize.ShloMosaic.ix2 i j) =
      aW V (Idealize.ShloMosaic.ix2 i j) - ∑ x : Fin 2, if 2 * p + 2 ≤ j.val then bE V (Idealize.ShloMosaic.ix2 i x) * bU V (Idealize.ShloMosaic.ix2 x j) else 0 := by
  unfold step_main_v44_5
  rw [v47_eq V p h]
  simp only [id_eq]
  clean_types
  pointwise
  refine congrArg (fun z => aW V (Idealize.ShloMosaic.ix2 i j) - z) (Finset.sum_congr rfl fun x _ => ?_)
  rw [show V (Proc.devRef .tc main_v44_2) (Idealize.ShloMosaic.ix1 j) = BitVec.ofNat 32 j.val from hI j,
    show IntOp.addi (BitVec.ofNat 32 (2 * p)) 2#32 = BitVec.ofNat 32 (2 * p + 2) from by rw [BitVec.ofNat_add]; rfl]
  rw [WordCmp.cmpi_sge_ofNat (by omega) (by omega)]
  exact select_bit _ _ _

/-- What the carried arrays hold when trip `p` begins: the columns below `2 p` are solved, and the solved columns are
taken out of the ones to the right. -/
structure At (u w q : ℕ → ℕ → ℝ) (p : ℕ) (V : Valuation τ sig (Elt Ideal)) : Prop where
  ctr : aP V = constantI S_ 32 (BitVec.ofNat 32 p)
  col : ∀ j : Fin 4096, aI V (Idealize.ShloMosaic.ix1 j) = BitVec.ofNat 32 j.val
  upper : RepU (aU V) u
  quant : Rep (aQ V) q
  sol : ∃ W E : ℕ → ℕ → ℝ, Rep (aW V) W ∧ Rep (aE V) E ∧
    (∀ i j, 2 * p ≤ j → W i j = w i j - ∑ k ∈ Finset.range (2 * p), E i k * u k j) ∧
    (∀ i j, j < 2 * p → ∑ k ∈ Finset.range j, E i k * u k j + E i j * u j j = w i j - q i j)

/-- One step of the loop solves two columns more. -/
theorem At.step {u w q : ℕ → ℕ → ℝ} (hu : ∀ k < 4096, u k k ≠ 0) {p : ℕ} (hp : p < 2048) {V : Valuation τ sig (Elt Ideal)} (h : At u w q p V) :
    At u w q (p + 1) (STEP V) := by
  obtain ⟨W, E, hW, hE, hw, he⟩ := h.sol
  have h1 : ∀ i, ∀ b : Fin 2, ∀ J : Fin 4096, J.val = 2 * p + b.val → bR V (Idealize.ShloMosaic.ix2 i b) = ((W i J - q i J : ℝ) : EReal) := by
    intro i b J hJ
    rw [v74_apply V p hp h.ctr i b J hJ, hW, h.quant, ← EReal.coe_sub]
  have hd : ∀ a b : Fin 2, a ≤ b → bD V (Idealize.ShloMosaic.ix2 a b) = ((u (2 * p + a) (2 * p + b) : ℝ) : EReal) := by
    intro a b hab
    rw [v57_apply V p hp h.ctr a b ⟨2 * p + a, by omega⟩ ⟨2 * p + b, by omega⟩ rfl rfl, h.upper _ _ (by simpa using hab)]
  let e0 : ℕ → ℝ := fun i => (W i (2 * p) - q i (2 * p)) / u (2 * p) (2 * p)
  let e1 : ℕ → ℝ := fun i => (W i (2 * p + 1) - q i (2 * p + 1) - e0 i * u (2 * p) (2 * p + 1)) / u (2 * p + 1) (2 * p + 1)
  have g0 : ∀ i : Fin 1152, b0 V (Idealize.ShloMosaic.ix1 i) = ((e0 i : ℝ) : EReal) := by
    intro i
    rw [v78_apply, h1 i 0 ⟨2 * p, by omega⟩ rfl, hd 0 0 (le_refl _)]
    exact div_real _ _ (hu _ (by simp; omega))
  have gE : ∀ i : Fin 1152, bE V (Idealize.ShloMosaic.ix2 i 0) = ((e0 i : ℝ) : EReal) ∧ bE V (Idealize.ShloMosaic.ix2 i 1) = ((e1 i : ℝ) : EReal) := by
    intro i
    obtain ⟨a, b⟩ := v88_apply V i
    refine ⟨a.trans (g0 i), ?_⟩
    rw [b, g0, h1 i 1 ⟨2 * p + 1, by omega⟩ rfl, hd 0 1 (by decide), hd 1 1 (le_refl _), ← EReal.coe_mul, ← EReal.coe_sub]
    exact div_real _ _ (hu _ (by simp; omega))
  let E' : ℕ → ℕ → ℝ := fun i j => if j = 2 * p then e0 i else if j = 2 * p + 1 then e1 i else E i j
  let W' : ℕ → ℕ → ℝ := fun i j => if 2 * p + 2 ≤ j then W i j - (e0 i * u (2 * p) j + e1 i * u (2 * p + 1) j) else W i j
  have hlt : ∀ i j, j < 2 * p → E' i j = E i j := by
    intro i j hj; show (if _ then _ else if _ then _ else _) = _
    rw [if_neg (by omega), if_neg (by omega)]
  have hsum : ∀ i j n, n ≤ 2 * p → ∑ k ∈ Finset.range n, E' i k * u k j = ∑ k ∈ Finset.range n, E i k * u k j := by
    intro i j n hn
    exact Finset.sum_congr rfl fun k hk => by rw [hlt i k (by have := Finset.mem_range.mp hk; omega)]
  have E0 : ∀ i, E' i (2 * p) = e0 i := fun i => if_pos rfl
  have E1 : ∀ i, E' i (2 * p + 1) = e1 i := fun i => (if_neg (by omega)).trans (if_pos rfl)
  refine ⟨?_, ?_, ?_, ?_, W', E', ?_, ?_, ?_, ?_⟩
  · show STEP V (Proc.devRef .tc main_v44_4) = _
    rw [STEP_main_v44_4]
    unfold step_main_v44_4
    funext x
    show (aP V x) + 1#32 = _
    rw [h.ctr]
    show BitVec.ofNat 32 p + BitVec.ofNat 32 1 = BitVec.ofNat 32 (p + 1)
    rw [BitVec.ofNat_add]
  · intro j
    show STEP V (Proc.devRef .tc main_v44_2) _ = _
    rw [STEP_main_v44_2]; exact h.col j
  · intro i j hij
    show STEP V (Proc.devRef .tc main_v44_0) _ = _
    rw [STEP_main_v44_0]; exact h.upper i j hij
  · intro i j
    show STEP V (Proc.devRef .tc main_v44_1) _ = _
    rw [STEP_main_v44_1]; exact h.quant i j
  · intro i j
    show STEP V (Proc.devRef .tc main_v44_5) _ = _
    rw [STEP_main_v44_5]
    refine (step5_apply V p hp h.ctr h.col i j).trans ?_
    rw [Fin.sum_univ_two, hW]
    show _ = ((if _ then _ else _ : ℝ) : EReal)
    by_cases hj : 2 * p + 2 ≤ j.val
    · rw [if_pos hj, if_pos hj, if_pos hj, (gE i).1, (gE i).2, v52_apply V p hp h.ctr 0 j ⟨2 * p, by omega⟩ rfl,
        v52_apply V p hp h.ctr 1 j ⟨2 * p + 1, by omega⟩ rfl, h.upper _ _ (by dsimp only; omega), h.upper _ _ (by dsimp only; omega),
        ← EReal.coe_mul, ← EReal.coe_mul, ← EReal.coe_add, ← EReal.coe_sub]
    · rw [if_neg hj, if_neg hj, if_neg hj, add_zero, sub_zero]
  · intro i j
    show STEP V (Proc.devRef .tc main_v44_6) _ = _
    rw [STEP_main_v44_6]
    refine (step6_apply V p hp h.ctr i j).trans ?_
    by_cases h0 : j.val = 2 * p
    · rw [dif_pos (by omega), show (⟨j.val - 2 * p, by omega⟩ : Fin 2) = 0 from Fin.ext (by simp; omega), (gE i).1, h0, E0]
    · by_cases h1 : j.val = 2 * p + 1
      · rw [dif_pos (by omega), show (⟨j.val - 2 * p, by omega⟩ : Fin 2) = 1 from Fin.ext (by simp; omega), (gE i).2, h1, E1]
      · rw [dif_neg (by omega), hE]
        exact congrArg _ ((if_neg h0).trans (if_neg h1)).symm
  · intro i j hj
    have : 2 * (p + 1) = 2 * p + 1 + 1 := by ring
    rw [this, Finset.sum_range_succ, Finset.sum_range_succ, hsum _ _ _ (le_refl _), E0, E1]
    show (if _ then _ else _) = _
    rw [if_pos (by omega), hw i j (by omega)]
    ring
  · intro i j hj
    by_cases h0 : j < 2 * p
    · rw [hsum _ _ _ (by omega), hlt i j h0]; exact he i j h0
    · by_cases h1 : j = 2 * p
      · subst h1
        rw [hsum _ _ _ (le_refl _), E0]
        show _ + (_ / _) * _ = _
        rw [div_mul_cancel₀ _ (hu _ (by omega)), hw i _ (le_refl _)]
        ring
      · obtain rfl : j = 2 * p + 1 := by omega
        rw [Finset.sum_range_succ, hsum _ _ _ (le_refl _), E0, E1]
        show _ + (_ / _) * _ = _
        rw [div_mul_cancel₀ _ (hu _ (by omega)), hw i (2 * p + 1) (by omega)]
        ring

/-- After all trips every row of the error array solves the triangular system. -/
theorem At.run {u w q : ℕ → ℕ → ℝ} (hu : ∀ k < 4096, u k k ≠ 0) {V : Valuation τ sig (Elt Ideal)} (h : At u w q 0 V) (n : ℕ) (hn : n ≤ 2048) :
    At u w q n (STEP^[n] V) := by
  induction n with
  | zero => exact h
  | succ n ih =>
    rw [Function.iterate_succ_apply']
    exact (ih (by omega)).step hu (by omega)

end Cert.Val.RefLoop
-- ==== Proof.Val.RefEntry.lean ====
module

public import proofs.«01_k».proof.Proof.Val.RefLoop
public import Idealize.ShloMosaic.Lib.StableHlo.ReadAt

/-! # What the reference's loop is entered with -/

@[expose] public section

set_option maxRecDepth 16384

noncomputable section

namespace Cert.Val.RefLoop

open Idealize.ShloMosaic Idealize.ShloMosaic.StableHlo Idealize.ShloMosaic.TcCoe
open Cert.ReferenceIdeal Cert.ReferenceIdeal.Gen Cert.ReferenceIdeal.Value

variable (m : (ℓ : Loc nD τ sig) → Buf (Elt Ideal) ℓ) (c : Dev nD)

/-- The codebook lookup, read at an index. -/
theorem gather_apply {α : Type} (x : S3x32x256x2.Idx → α) (idx : IVec S3x384x32x64x3 32) (a : Fin 3) (r : Fin 384) (n : Fin 32) (l : Fin 64) (d : Fin 2)
    (A : Fin 3) (B : Fin 32) (C : Fin 256) (hA : (idx (Idealize.ShloMosaic.ix5 a r n l 0)).toInt = A.val) (hB : (idx (Idealize.ShloMosaic.ix5 a r n l 1)).toInt = B.val)
    (hC : (idx (Idealize.ShloMosaic.ix5 a r n l 2)).toInt = C.val) :
    Host.gather gather_S3x32x256x2_S3x384x32x64x3_S3x384x32x64x2_4_012_n_n_012_4_1112 x idx (Idealize.ShloMosaic.ix5 a r n l d)
      = x (Idealize.ShloMosaic.ix4 A B C d) := by
  have key : ∀ (b : Fin 3) (h : _), gather_S3x32x256x2_S3x384x32x64x3_S3x384x32x64x2_4_012_n_n_012_4_1112.siIdx (Idealize.ShloMosaic.ix5 a r n l d) ⟨b.val, h⟩
      = Idealize.ShloMosaic.ix5 a r n l b := by
    intro b h
    funext e; refine Fin.ext ?_
    match e with
    | ⟨0, _⟩ => rfl
    | ⟨1, _⟩ => rfl
    | ⟨2, _⟩ => rfl
    | ⟨3, _⟩ => rfl
    | ⟨4, _⟩ => rfl
  unfold Host.gather
  refine congrArg x (funext fun e => Fin.ext ?_)
  match e with
  | ⟨0, _⟩ => exact (congrArg (fun z => min (idx z).toInt.toNat 2 + 0 + 0) (key 0 (by decide))).trans (by show min (idx _).toInt.toNat 2 + 0 + 0 = A.val; have := A.isLt; rw [hA]; omega)
  | ⟨1, _⟩ => exact (congrArg (fun z => min (idx z).toInt.toNat 31 + 0 + 0) (key 1 (by decide))).trans (by show min (idx _).toInt.toNat 31 + 0 + 0 = B.val; have := B.isLt; rw [hB]; omega)
  | ⟨2, _⟩ => exact (congrArg (fun z => min (idx z).toInt.toNat 255 + 0 + 0) (key 2 (by decide))).trans (by show min (idx _).toInt.toNat 255 + 0 + 0 = C.val; have := C.isLt; rw [hC]; omega)
  | ⟨3, _⟩ => show 0 + 0 + d.val = d.val; omega

/-- The wrapping of a negative index leaves a small word as it is. -/
theorem wrap_word (k n : ℕ) (hn : n < 256) (w : BitVec 32) :
    (Scalar.select (IntOp.cmpi CmpIPredicate.slt (BitVec.ofNat 32 n) 0#32) w (BitVec.ofNat 32 n)).toInt = n := by
  have h : ∀ (n : Fin 256), (IntOp.cmpi CmpIPredicate.slt (BitVec.ofNat 32 n.val) 0#32) = 0#1 ∧ (BitVec.ofNat 32 n.val).toInt = n.val := by decide +kernel
  rw [(h ⟨n, hn⟩).1]; exact (h ⟨n, hn⟩).2

set_option maxHeartbeats 600000 in
/-- The dequantized weights of the reference, read at an index. -/
theorem entry_v36 (a : Fin 3) (r : Fin 384) (n : Fin 32) (l : Fin 64) (d : Fin 2) (C : Fin 256) (J : Fin 2048)
    (hJ : J.val = 64 * n.val + l.val)
    (hC : (launchContents m c (Proc.devRef .tc main_arg1) (Idealize.ShloMosaic.ix3 a r J) : BitVec 8).toNat = C.val) :
    (entryV m c (Proc.devRef .tc main_v36) : FVec Ideal S3x384x32x64x2 .bf16) (Idealize.ShloMosaic.ix5 a r n l d)
      = FloatOps.sitofp (F := Ideal) FTy.f32 (BitVec.signExtend 32 (launchContents m c (Proc.devRef .tc main_arg2) (Idealize.ShloMosaic.ix4 a n C d) : BitVec 8))
        * (launchContents m c (Proc.devRef .tc main_arg3) (Idealize.ShloMosaic.ix2 a n) : EReal) * (launchContents m c (Proc.devRef .tc main_arg4) (Idealize.ShloMosaic.ix3 a r n) : EReal) := by
  show after hostOps0 (launchContents m c) (Proc.devRef .tc main_v36) _ = _
  after_reads_at
  rw [gather_apply _ _ a r n l d a n C ?_ ?_ ?_]
  · pointwise
    after_reads_at
    exact wrap_word 0 _ (by omega) _
  · pointwise
    after_reads_at
    exact wrap_word 0 _ (by omega) _
  · pointwise
    after_reads_at
    have e : BitVec.setWidth 32 (launchContents m c (Proc.devRef .tc main_arg1) (Idealize.ShloMosaic.ix3 a r ⟨n.val * 64 + l.val, by omega⟩) : BitVec 8) = BitVec.ofNat 32 C.val := by
      rw [← hC, show (⟨n.val * 64 + l.val, by omega⟩ : Fin 2048) = J from Fin.ext (by show n.val * 64 + l.val = _; omega)]
      exact BitVec.eq_of_toNat_eq (by rw [BitVec.toNat_setWidth, BitVec.toNat_ofNat])
    rw [e]
    exact wrap_word 0 _ C.isLt _

/-- Pairs, groups and coordinates side by side: the columns of the dequantized weights. -/
theorem shape35 {α : Type} (x : S3x384x32x64x2.Idx → α) (h) (a : Fin 3) (r : Fin 384) (n : Fin 32) (l : Fin 64) (d : Fin 2) (j : Fin 4096) (hj : j.val = 128 * n.val + 2 * l.val + d.val) :
    shapeCast S3x384x4096 x h (Idealize.ShloMosaic.ix3 a r j) = x (Idealize.ShloMosaic.ix5 a r n l d) := by
  pointwise
  congr 2
  all_goals refine Fin.ext ?_; dsimp only; omega

/-- Rows of three matrices under one another. -/
theorem shape32 {α : Type} (x : S3x384x4096.Idx → α) (h) (i : Fin 1152) (j : Fin 4096) (a : Fin 3) (r : Fin 384) (hi : i.val = 384 * a.val + r.val) :
    shapeCast S1152x4096 x h (Idealize.ShloMosaic.ix2 i j) = x (Idealize.ShloMosaic.ix3 a r j) := by
  pointwise
  congr 2
  all_goals refine Fin.ext ?_; dsimp only; omega

/-- Rows of one matrix cut in three. -/
theorem shape23 {α : Type} (x : S1152x4096.Idx → α) (h) (i : Fin 1152) (j : Fin 4096) (a : Fin 3) (r : Fin 384) (hi : i.val = 384 * a.val + r.val) :
    shapeCast S3x384x4096 x h (Idealize.ShloMosaic.ix3 a r j) = x (Idealize.ShloMosaic.ix2 i j) := by
  pointwise
  congr 2
  all_goals refine Fin.ext ?_; dsimp only; omega

/-- The first result, by group, pair and coordinate. -/
theorem entry_v37 (a : Fin 3) (r : Fin 384) (n : Fin 32) (l : Fin 64) (d : Fin 2) (j : Fin 4096) (hj : j.val = 128 * n.val + 2 * l.val + d.val) :
    (entryV m c (Proc.devRef .tc main_v37) : FVec Ideal S3x384x4096 .bf16) (Idealize.ShloMosaic.ix3 a r j)
      = (entryV m c (Proc.devRef .tc main_v36) : FVec Ideal S3x384x32x64x2 .bf16) (Idealize.ShloMosaic.ix5 a r n l d) := by
  show after hostOps0 (launchContents m c) (Proc.devRef .tc main_v37) _ = after hostOps0 (launchContents m c) (Proc.devRef .tc main_v36) _
  after_reads_simp
  exact shape35 _ _ a r n l d j hj

/-- The dequantized weights the loop reads. -/
theorem entry_q (i : Fin 1152) (j : Fin 4096) (a : Fin 3) (r : Fin 384) (hi : i.val = 384 * a.val + r.val) :
    (aQ (entryV m c)) (Idealize.ShloMosaic.ix2 i j) = (entryV m c (Proc.devRef .tc main_v37) : FVec Ideal S3x384x4096 .bf16) (Idealize.ShloMosaic.ix3 a r j) := by
  show after hostOps0 (launchContents m c) (Proc.devRef .tc main_v44_1) _ = after hostOps0 (launchContents m c) (Proc.devRef .tc main_v37) _
  after_reads_simp
  simp only [id_eq]
  exact shape32 _ _ i j a r hi

/-- The weights the loop starts from. -/
theorem entry_w (i : Fin 1152) (j : Fin 4096) (a : Fin 3) (r : Fin 384) (hi : i.val = 384 * a.val + r.val) :
    (aW (entryV m c)) (Idealize.ShloMosaic.ix2 i j) = (launchContents m c (Proc.devRef .tc main_arg0) : FVec Ideal S3x384x4096 .bf16) (Idealize.ShloMosaic.ix3 a r j) := by
  show after hostOps0 (launchContents m c) (Proc.devRef .tc main_v44_5) _ = _
  after_reads_simp
  simp only [id_eq]
  exact shape32 _ _ i j a r hi

/-- The errors the loop starts from are zero. -/
theorem entry_e (i : Fin 1152) (j : Fin 4096) : (aE (entryV m c)) (Idealize.ShloMosaic.ix2 i j) = (0 : EReal) := by
  show after hostOps0 (launchContents m c) (Proc.devRef .tc main_v44_6) _ = _
  after_reads_at
  simp only [id_eq]
  pointwise

/-- The factor the loop reads. -/
theorem entry_u : aU (entryV m c) = launchContents m c (Proc.devRef .tc main_arg5) := by
  show after hostOps0 (launchContents m c) (Proc.devRef .tc main_v44_0) = _
  after_reads_simp
  simp only [id_eq]

/-- The column numbers the loop reads. -/
theorem entry_i (j : Fin 4096) : aI (entryV m c) (Idealize.ShloMosaic.ix1 j) = BitVec.ofNat 32 j.val := by
  show after hostOps0 (launchContents m c) (Proc.devRef .tc main_v44_2) _ = _
  after_reads_at
  simp only [id_eq]
  rfl

/-- The loop's counter starts at zero. -/
theorem entry_p : aP (entryV m c) = constantI S_ 32 (BitVec.ofNat 32 0) := by
  show after hostOps0 (launchContents m c) (Proc.devRef .tc main_v44_4) = _
  after_reads_simp
  simp only [id_eq]

/-- At the entry of its loop the reference holds the weights, the dequantized weights and zeros. -/
theorem entry_at (u w q : ℕ → ℕ → ℝ) (hu : RepU (aU (entryV m c)) u) (hw : Rep (aW (entryV m c)) w) (hq : Rep (aQ (entryV m c)) q) :
    At u w q 0 (entryV m c) :=
  ⟨entry_p m c, entry_i m c, hu, hq, w, fun _ _ => 0, hw, fun i j => (entry_e m c i j).trans (by simp), fun i j _ => by simp, fun i j h => absurd h (by omega)⟩

end Cert.Val.RefLoop
-- ==== Proof.Val.Glue.lean ====
module

public import proofs.«01_k».proof.Proof.Val.KOut
public import proofs.«01_k».proof.Proof.Val.RefEntry

/-! # The kernel's results are the reference's -/

@[expose] public section

set_option maxRecDepth 16384

noncomputable section

namespace Cert.Val

open Idealize.ShloMosaic Idealize.ShloMosaic.TcCoe StableHlo
open Cert.KernelIdeal.Gen (V0 V6 W4 outsW dqAt eAt)
open Cert.ReferenceIdeal.Value (entryV endV)
open Cert.Val.RefLoop (aW aE aU aQ)

/-- An array of 3 × 384 × 4096 as a function of row and column. -/
def rows (x : (⟨3, ![3, 384, 4096]⟩ : Shape).Idx → EReal) (i j : ℕ) : ℝ :=
  EReal.toReal (x (ix3 (⟨i / 384 % 3, Nat.mod_lt _ (by decide)⟩ : Fin 3) (⟨i % 384, Nat.mod_lt _ (by decide)⟩ : Fin 384) (⟨j % 4096, Nat.mod_lt _ (by decide)⟩ : Fin 4096)))

/-- An array of 4096 × 4096 as a function of row and column. -/
def square (x : (⟨2, ![4096, 4096]⟩ : Shape).Idx → EReal) (i j : ℕ) : ℝ :=
  EReal.toReal (x (ix2 (⟨i % 4096, Nat.mod_lt _ (by decide)⟩ : Fin 4096) (⟨j % 4096, Nat.mod_lt _ (by decide)⟩ : Fin 4096)))

/-- `rows` at a row and column, by matrix and row. -/
theorem rows_at (x : (⟨3, ![3, 384, 4096]⟩ : Shape).Idx → EReal) (i j : ℕ) (a : Fin 3) (r : Fin 384) (J : Fin 4096) (hi : i = 384 * a.val + r.val) (hj : j = J.val) :
    rows x i j = EReal.toReal (x (ix3 a r J)) := by
  unfold rows
  congr 2
  congr 1
  all_goals exact Fin.ext (by dsimp only; omega)

/-- `square` at a row and column. -/
theorem square_at (x : (⟨2, ![4096, 4096]⟩ : Shape).Idx → EReal) (i j : Fin 4096) : square x i j = EReal.toReal (x (ix2 i j)) := by
  unfold square
  congr 2
  congr 1
  all_goals exact Fin.ext (by dsimp only; omega)

/-- A product of three real numbers among the extended reals is a real number. -/
theorem real_mul3 (x y z : EReal) (hx : x = ((x.toReal : ℝ) : EReal)) (hy : y = ((y.toReal : ℝ) : EReal)) (hz : z = ((z.toReal : ℝ) : EReal)) :
    x * y * z = (((x * y * z).toReal : ℝ) : EReal) := by
  rw [hx, hy, hz, ← EReal.coe_mul, ← EReal.coe_mul, EReal.toReal_coe]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two memories hold the same arguments, finite and with an invertible triangle. -/
structure Args (a0 : FVec Ideal ⟨3, ![3, 384, 4096]⟩ .bf16) (a1 : IVec ⟨3, ![3, 384, 2048]⟩ 8) (a2 : IVec ⟨4, ![3, 32, 256, 2]⟩ 8) (a3 : FVec Ideal ⟨2, ![3, 32]⟩ .f32)
    (a4 : FVec Ideal ⟨3, ![3, 384, 32]⟩ .f32) (a5 : FVec Ideal ⟨2, ![4096, 4096]⟩ .f32) : Prop where
  k0 : V0 m c Cert.KernelIdeal.main_arg0 = a0
  k1 : V0 m c Cert.KernelIdeal.main_arg1 = a1
  k2 : V0 m c Cert.KernelIdeal.main_arg2 = a2
  k3 : V0 m c Cert.KernelIdeal.main_arg3 = a3
  k4 : V0 m c Cert.KernelIdeal.main_arg4 = a4
  k5 : V0 m c Cert.KernelIdeal.main_arg5 = a5
  r0 : launchContents m' c (Proc.devRef .tc Cert.ReferenceIdeal.main_arg0) = a0
  r1 : launchContents m' c (Proc.devRef .tc Cert.ReferenceIdeal.main_arg1) = a1
  r2 : launchContents m' c (Proc.devRef .tc Cert.ReferenceIdeal.main_arg2) = a2
  r3 : launchContents m' c (Proc.devRef .tc Cert.ReferenceIdeal.main_arg3) = a3
  r4 : launchContents m' c (Proc.devRef .tc Cert.ReferenceIdeal.main_arg4) = a4
  r5 : launchContents m' c (Proc.devRef .tc Cert.ReferenceIdeal.main_arg5) = a5
  fw : ∀ i, (a0 i : EReal) = ((EReal.toReal (a0 i) : ℝ) : EReal)
  fs : ∀ i, (a3 i : EReal) = ((EReal.toReal (a3 i) : ℝ) : EReal)
  fr : ∀ i, (a4 i : EReal) = ((EReal.toReal (a4 i) : ℝ) : EReal)
  fu : ∀ i j : Fin 4096, i.val ≤ j.val → (a5 (ix2 i j) : EReal) = ((EReal.toReal (a5 (ix2 i j)) : ℝ) : EReal)
  fd : ∀ i : Fin 4096, (a5 (ix2 i i) : EReal) ≠ 0

variable {a0 : FVec Ideal ⟨3, ![3, 384, 4096]⟩ .bf16} {a1 : IVec ⟨3, ![3, 384, 2048]⟩ 8} {a2 : IVec ⟨4, ![3, 32, 256, 2]⟩ 8} {a3 : FVec Ideal ⟨2, ![3, 32]⟩ .f32}
    {a4 : FVec Ideal ⟨3, ![3, 384, 32]⟩ .f32} {a5 : FVec Ideal ⟨2, ![4096, 4096]⟩ .f32}

/-- A dequantized weight: codebook entry times codebook scale times row scale. -/
def deq (a2 : IVec ⟨4, ![3, 32, 256, 2]⟩ 8) (a3 : FVec Ideal ⟨2, ![3, 32]⟩ .f32) (a4 : FVec Ideal ⟨3, ![3, 384, 32]⟩ .f32)
    (a : Fin 3) (r : Fin 384) (n : Fin 32) (d : Fin 2) (C : Fin 256) : EReal :=
  FloatOps.sitofp (F := Ideal) FTy.f32 (BitVec.signExtend 32 (a2 (ix4 a n C d))) * (a3 (ix2 a n) : EReal) * (a4 (ix3 a r n) : EReal)

/-- The code of a pair of weights. -/
def code (a1 : IVec ⟨3, ![3, 384, 2048]⟩ 8) (a : Fin 3) (r : Fin 384) (J : Fin 2048) : Fin 256 := ⟨(a1 (ix3 a r J)).toNat, (a1 (ix3 a r J)).isLt⟩

/-- The reference's first result at an index. -/
theorem ref_deq (H : Args m m' c a0 a1 a2 a3 a4 a5) (a : Fin 3) (r : Fin 384) (n : Fin 32) (l : Fin 64) (d : Fin 2) (j : Fin 4096) (J : Fin 2048)
    (hj : j.val = 128 * n.val + 2 * l.val + d.val) (hJ : J.val = 64 * n.val + l.val) :
    (entryV m' c (Proc.devRef .tc Cert.ReferenceIdeal.main_v37) : FVec Ideal ⟨3, ![3, 384, 4096]⟩ .bf16) (ix3 a r j) = deq a2 a3 a4 a r n d (code a1 a r J) := by
  refine (RefLoop.entry_v37 m' c a r n l d j hj).trans ((RefLoop.entry_v36 m' c a r n l d (code a1 a r J) J hJ ?_).trans ?_)
  · rw [H.r1]; rfl
  · rw [H.r2, H.r3, H.r4]; rfl

/-- The kernel's dequantized tile at an index is the reference's first result. -/
theorem k_deq (H : Args m m' c a0 a1 a2 a3 a4 a5) (i : Fin 1152) (b : ℕ) (hb : b < 16) (l : Fin 256) (a : Fin 3) (r : Fin 384) (hi : i.val = 384 * a.val + r.val)
    (j : Fin 4096) (hj : j.val = 256 * b + l.val) :
    (dqAt (W4 m) c b : FVec Ideal ⟨2, ![1152, 256]⟩ .f32) (ix2 i l)
      = (entryV m' c (Proc.devRef .tc Cert.ReferenceIdeal.main_v37) : FVec Ideal ⟨3, ![3, 384, 4096]⟩ .bf16) (ix3 a r j) := by
  obtain ⟨h, x, hl⟩ : ∃ (h : Fin 2) (x : Fin 128), l.val = 128 * h.val + x.val := ⟨⟨l.val / 128, by omega⟩, ⟨l.val % 128, by omega⟩, by dsimp only; omega⟩
  obtain ⟨n, hn⟩ : ∃ n : Fin 32, n.val = 2 * b + h.val := ⟨⟨2 * b + h.val, by omega⟩, rfl⟩
  obtain ⟨y, hy⟩ : ∃ y : Fin 64, y.val = x.val / 2 := ⟨⟨x.val / 2, by omega⟩, rfl⟩
  obtain ⟨d, hd⟩ : ∃ d : Fin 2, d.val = x.val % 2 := ⟨⟨x.val % 2, by omega⟩, rfl⟩
  obtain ⟨J, hJ⟩ : ∃ J : Fin 2048, J.val = 64 * n.val + y.val := ⟨⟨64 * n.val + y.val, by omega⟩, rfl⟩
  have hC := (code a1 a r J).isLt
  obtain ⟨t, ht⟩ : ∃ t : Fin 2, t.val = (code a1 a r J).val / 128 := ⟨⟨(code a1 a r J).val / 128, by omega⟩, rfl⟩
  rw [ref_deq m m' c H a r n y d j J (by omega) hJ]
  refine (dqAt_apply (W4 m) c b hb i h x l hl a (by omega) n hn J (by omega) (code a1 a r J) ?_).trans ?_
  · rw [k_codes m c i J a r hi, H.k1]; rfl
  · have e1 := k_table m c a n ⟨(code a1 a r J).val % 128, Nat.mod_lt _ (by decide)⟩ t d (code a1 a r J) (by dsimp only; omega)
    rw [← hd, ← ht, e1, k_rs m c i n ⟨n.val, by omega⟩ rfl a r hi, w4_keep m c Cert.KernelIdeal.main_arg3 (by decide) (by decide) (by decide) (by decide), H.k2, H.k3, H.k4]
    rfl

/-- A dequantized weight is a real number. -/
theorem deq_real (H : Args m m' c a0 a1 a2 a3 a4 a5) (a : Fin 3) (r : Fin 384) (n : Fin 32) (d : Fin 2) (C : Fin 256) :
    deq a2 a3 a4 a r n d C = ((EReal.toReal (deq a2 a3 a4 a r n d C) : ℝ) : EReal) :=
  real_mul3 _ _ _ (EReal.toReal_coe _ ▸ rfl) (H.fs _) (H.fr _)

/-- The reference's first result is a real number everywhere. -/
theorem ref_real (H : Args m m' c a0 a1 a2 a3 a4 a5) (a : Fin 3) (r : Fin 384) (j : Fin 4096) :
    (entryV m' c (Proc.devRef .tc Cert.ReferenceIdeal.main_v37) : FVec Ideal ⟨3, ![3, 384, 4096]⟩ .bf16) (ix3 a r j)
      = ((EReal.toReal ((entryV m' c (Proc.devRef .tc Cert.ReferenceIdeal.main_v37) : FVec Ideal ⟨3, ![3, 384, 4096]⟩ .bf16) (ix3 a r j)) : ℝ) : EReal) := by
  rw [ref_deq m m' c H a r ⟨j.val / 128, by omega⟩ ⟨j.val % 128 / 2, by omega⟩ ⟨j.val % 2, by omega⟩ j ⟨j.val / 2, by omega⟩ (by dsimp only; omega) (by dsimp only; omega)]
  exact deq_real m m' c H _ _ _ _ _

/-- The first result of the kernel is the reference's. -/
theorem result0 (H : Args m m' c a0 a1 a2 a3 a4 a5) :
    (entryV m' c (Proc.devRef .tc Cert.ReferenceIdeal.main_v37) : FVec Ideal ⟨3, ![3, 384, 4096]⟩ .bf16) = V6 m (outsW m) c Cert.KernelIdeal.main_v10 := by
  funext x
  obtain ⟨a, r, j, rfl⟩ : ∃ (a : Fin 3) (r : Fin 384) (j : Fin 4096), x = ix3 a r j := ⟨x 0, x 1, x 2, by funext b; match b with | ⟨0, _⟩ => rfl | ⟨1, _⟩ => rfl | ⟨2, _⟩ => rfl⟩
  have hi : (⟨384 * a.val + r.val, by omega⟩ : Fin 1152).val = 384 * a.val + r.val := rfl
  exact ((k_q m c _ j a r hi).trans (k_deq m m' c H _ (j.val / 256) (by omega) _ a r hi j (by have := Nat.div_add_mod j.val 256; exact this.symm))).symm

/-- The second result of the kernel is the reference's: both solve the same triangular system. -/
theorem result1 (H : Args m m' c a0 a1 a2 a3 a4 a5) :
    (shapeCast Cert.ReferenceIdeal.S3x384x4096 (endV m' c (Proc.devRef .tc Cert.ReferenceIdeal.main_v44_6)) Cert.ReferenceIdeal.Gen.shapeCasts_S1152x4096_S3x384x4096 : FVec Ideal ⟨3, ![3, 384, 4096]⟩ .f32)
      = V6 m (outsW m) c Cert.KernelIdeal.main_v11 := by
  funext x
  obtain ⟨a, r, j, rfl⟩ : ∃ (a : Fin 3) (r : Fin 384) (j : Fin 4096), x = ix3 a r j := ⟨x 0, x 1, x 2, by funext b; match b with | ⟨0, _⟩ => rfl | ⟨1, _⟩ => rfl | ⟨2, _⟩ => rfl⟩
  obtain ⟨i, hi⟩ : ∃ i : Fin 1152, i.val = 384 * a.val + r.val := ⟨⟨384 * a.val + r.val, by omega⟩, rfl⟩
  have cut : ∀ i : Fin 1152, ∃ (a : Fin 3) (r : Fin 384), i.val = 384 * a.val + r.val := fun i => ⟨⟨i.val / 384, by omega⟩, ⟨i.val % 384, by omega⟩, by dsimp only; omega⟩
  have hu0 : ∀ k < 4096, square a5 k k ≠ 0 := fun k hk h0 => by
    rw [square_at a5 ⟨k, hk⟩ ⟨k, hk⟩] at h0
    have := H.fu ⟨k, hk⟩ ⟨k, hk⟩ le_rfl
    rw [h0] at this
    exact H.fd ⟨k, hk⟩ (this.trans (by simp))
  have hu : RepU a5 (square a5) := fun i j hij => by rw [square_at]; exact H.fu i j hij
  -- the reference
  have hat := RefLoop.At.run hu0 (RefLoop.entry_at m' c (square a5) (rows a0) (rows (entryV m' c (Proc.devRef .tc Cert.ReferenceIdeal.main_v37)))
    (by rw [RefLoop.entry_u, H.r5]; exact hu)
    (fun i j => by
      obtain ⟨a, r, hi⟩ := cut i
      rw [RefLoop.entry_w m' c i j a r hi, H.r0, rows_at a0 i j a r j hi rfl]; exact H.fw _)
    (fun i j => by
      obtain ⟨a, r, hi⟩ := cut i
      rw [RefLoop.entry_q m' c i j a r hi, rows_at _ i j a r j hi rfl]; exact ref_real m m' c H a r j)) 2048 le_rfl
  obtain ⟨W, E, -, hE, -, hs⟩ := hat.sol
  -- the kernel
  have h5 : W4 m c Cert.KernelIdeal.main_arg5 = a5 := (w4_keep m c Cert.KernelIdeal.main_arg5 (by decide) (by decide) (by decide) (by decide)).trans H.k5
  have ku : RepU (W4 m c Cert.KernelIdeal.main_arg5 : FVec Ideal ⟨2, ![4096, 4096]⟩ .f32) (square a5) := by rw [h5]; exact hu
  have kV := k_inv m c (square a5) (by rw [H.k5]; exact hu) hu0
  have kw : ∀ (r : Fin 1152) (j : Fin 4096), (W4 m c Cert.KernelIdeal.main_v7 : FVec Ideal ⟨2, ![1152, 4096]⟩ .bf16) (ix2 r j) = ((rows a0 r j : ℝ) : EReal) := fun i j => by
    obtain ⟨a, r, hi⟩ := cut i
    rw [k_w m c i j a r hi, H.k0, rows_at a0 i j a r j hi rfl]; exact H.fw _
  have kq : ∀ b < 16, Rep (dqAt (W4 m) c b : FVec Ideal ⟨2, ![1152, 256]⟩ .f32) fun r l => rows (entryV m' c (Proc.devRef .tc Cert.ReferenceIdeal.main_v37)) r (256 * b + l) := fun b hb i l => by
    obtain ⟨a, r, hi⟩ := cut i
    have hj : (⟨256 * b + l.val, by omega⟩ : Fin 4096).val = 256 * b + l.val := rfl
    show _ = ((rows _ i.val (256 * b + l.val) : ℝ) : EReal)
    rw [k_deq m m' c H i b hb l a r hi _ hj, rows_at _ i _ a r _ hi hj.symm]; exact ref_real m m' c H a r _
  have ks := fun j hj => sol_column (W4 m) c (square a5) (rows a0) _ ku hu0 kV kw kq i.val i.isLt j hj
  have kr := (sol_real (W4 m) c (square a5) (rows a0) _ ku kV kw kq (j.val / 256) (by omega)).1
  -- one solution
  have he := solve_unique hu0 ks (fun j hj => hs i.val j (by omega)) j.val j.isLt
  refine (RefLoop.shape23 _ _ i j a r hi).trans ((hE i j).trans ?_)
  rw [k_err m c i j a r hi, kr, ← he]
  congr 2
  dsimp only
  omega

end Cert.Val

end
-- ==== Proof.lean ====
module

public import proofs.«01_k».proof.Defs
public import proofs.«01_k».proof.Proof.K.Run
public import proofs.«01_k».proof.Proof.KI.Run
public import proofs.«01_k».proof.Proof.Ref.Run
public import proofs.«01_k».proof.Proof.Val.Pre
public import proofs.«01_k».proof.Proof.Val.Glue

@[expose] public section

noncomputable section

namespace Cert.Proof

open Idealize.ShloMosaic Idealize.SL.Sem

attribute [local instance] Cert.Kernel.Gen.facts Cert.KernelIdeal.Gen.facts Cert.ReferenceIdeal.Gen.facts Cert.Val.preFacts

/-- The kernel as it is, on words, ends with its arguments unchanged and its counters at zero. -/
theorem frame_kernel : Cert.quiescent_Kernel := fun m g _ =>
  θ_run_mono (Cert.Kernel.Gen.run_main m g) fun _ h => ⟨fun c => (h.1 c).1, h.2⟩

/-- The kernel on extended reals ends with its arguments unchanged and its counters at zero. -/
theorem frame_kernelIdeal : Cert.quiescent_KernelIdeal := fun m g _ =>
  θ_run_mono (Cert.KernelIdeal.Gen.run_main m g) fun _ h => ⟨fun c => (h.1 c).1, h.2⟩

/-- The reference on extended reals ends with its arguments unchanged and its counters at zero. -/
theorem frame_referenceIdeal : Cert.quiescent_ReferenceIdeal := fun m g _ =>
  θ_run_mono (Cert.ReferenceIdeal.Value.run_ref m g) fun _ h =>
    ⟨fun c => ⟨(h.1 c).1, (h.1 c).2.1, (h.1 c).2.2.1, (h.1 c).2.2.2.1, (h.1 c).2.2.2.2.1, (h.1 c).2.2.2.2.2.1⟩, h.2⟩

/-- The kernel's frame, on finite arguments with an invertible triangle. -/
theorem frame_kernelIdeal_pre : Cert.quiescent_KernelIdeal_pre_finite_nonsingular := fun m g _ =>
  θ_run_mono (Cert.KernelIdeal.Gen.run_main m g) fun _ h => ⟨fun c => (h.1 c).1, h.2⟩

/-- The reference's frame, on finite arguments with an invertible triangle. -/
theorem frame_referenceIdeal_pre : Cert.quiescent_ReferenceIdeal_pre_finite_nonsingular := fun m g _ =>
  θ_run_mono (Cert.ReferenceIdeal.Value.run_ref m g) fun _ h =>
    ⟨fun c => ⟨(h.1 c).1, (h.1 c).2.1, (h.1 c).2.2.1, (h.1 c).2.2.2.1, (h.1 c).2.2.2.2.1, (h.1 c).2.2.2.2.2.1⟩, h.2⟩

/-- What the precondition and the agreement of the two memories say on one device. -/
theorem args (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_finite_nonsingular m) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.Val.Args m m' c (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) where
  k0 := rfl
  k1 := rfl
  k2 := rfl
  k3 := rfl
  k4 := rfl
  k5 := rfl
  r0 := h.1
  r1 := h.2.1
  r2 := h.2.2.1
  r3 := h.2.2.2.1
  r4 := h.2.2.2.2.1
  r5 := h.2.2.2.2.2
  fw := Cert.Val.pre_w _ _ _ _ _ _ (hp c).1
  fs := Cert.Val.pre_sc _ _ _ _ _ _ (hp c).2.1
  fr := Cert.Val.pre_rs _ _ _ _ _ _ (hp c).2.2.1
  fu := Cert.Val.pre_u _ _ _ _ _ _ (hp c).2.2.2.1
  fd := Cert.Val.pre_diag _ _ _ _ _ _ (hp c).2.2.2.2

/-- On extended reals the kernel's two results are the reference's. -/
theorem algebraic : Cert.algebraic_KernelIdeal_ReferenceIdeal_pre_finite_nonsingular := fun m g m' g' hp hm =>
  ⟨fun c => Cert.KernelIdeal.Gen.V6 m (Cert.KernelIdeal.Gen.outsW m) c (Proc.devRef .tc Cert.KernelIdeal.main_v10),
    fun c => Cert.KernelIdeal.Gen.V6 m (Cert.KernelIdeal.Gen.outsW m) c (Proc.devRef .tc Cert.KernelIdeal.main_v11),
    θ_run_mono (Cert.KernelIdeal.Gen.run_main m g) fun _ h c => ⟨(h.1 c).2.1, (h.1 c).2.2, (h.1 c).1⟩,
    θ_run_mono (Cert.ReferenceIdeal.Value.run_ref m' g') fun _ h c =>
      ⟨(h.1 c).2.2.2.2.2.2.1.trans (Cert.Val.result0 m m' c (args m m' hp c (hm c))),
        (h.1 c).2.2.2.2.2.2.2.trans (Cert.Val.result1 m m' c (args m m' hp c (hm c))),
        (h.1 c).1, (h.1 c).2.1, (h.1 c).2.2.1, (h.1 c).2.2.2.1, (h.1 c).2.2.2.2.1, (h.1 c).2.2.2.2.2.1⟩⟩

/-- Every claim of the statement. -/
theorem claim : Cert.Claim :=
  ⟨Cert.Kernel.Gen.facts, Cert.KernelIdeal.Gen.facts, Cert.ReferenceIdeal.Gen.facts, Cert.Val.preFacts,
    frame_kernel, frame_kernelIdeal, frame_kernelIdeal_pre, frame_referenceIdeal, frame_referenceIdeal_pre, trivial, algebraic⟩

end Cert.Proof

end
